-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_numbers [hPre_numbers : Cert.Pre_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_numbers [hPre_numbers : Cert.Pre_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_numbers [hKernelIdeal : Cert.KernelIdeal.Facts] [hPre_numbers : Cert.Pre_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_numbers [hReferenceIdeal : Cert.ReferenceIdeal.Facts] [hPre_numbers : Cert.Pre_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_numbers [hKernelIdeal : Cert.KernelIdeal.Facts] [hReferenceIdeal : Cert.ReferenceIdeal.Facts] [hPre_numbers : Cert.Pre_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lengths_fit : Cert.Pre_lengths_fit.Facts) (hPre_numbers : Cert.Pre_numbers.Facts),
    quiescent_Kernel (hKernel := hKernel) (hPre_lengths_fit := hPre_lengths_fit)
    ∧ quiescent_KernelIdeal (hKernelIdeal := hKernelIdeal) (hPre_lengths_fit := hPre_lengths_fit)
    ∧ quiescent_KernelIdeal_pre_numbers (hKernelIdeal := hKernelIdeal) (hPre_numbers := hPre_numbers)
    ∧ quiescent_ReferenceIdeal (hReferenceIdeal := hReferenceIdeal)
    ∧ quiescent_ReferenceIdeal_pre_numbers (hReferenceIdeal := hReferenceIdeal) (hPre_numbers := hPre_numbers)
    ∧ preserves_Kernel_KernelIdeal
    ∧ algebraic_KernelIdeal_ReferenceIdeal_pre_numbers (hKernelIdeal := hKernelIdeal) (hReferenceIdeal := hReferenceIdeal) (hPre_numbers := hPre_numbers)
-- ==== Pre_lengths_fit.lean ====
abbrev S128x1x16x512 : Shape := ⟨4, ![128, 1, 16, 512]⟩
abbrev S128x1x16x64 : Shape := ⟨4, ![128, 1, 16, 64]⟩
abbrev S128x1x512 : Shape := ⟨3, ![128, 1, 512]⟩
abbrev S128x1x64 : Shape := ⟨3, ![128, 1, 64]⟩
abbrev S128x4096x656 : Shape := ⟨3, ![128, 4096, 656]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S128x1x16x512 .bf16) (main_arg1 : FVec F S128x1x16x64 .bf16) (main_arg2 : FVec F S128x1x512 .bf16) (main_arg3 : FVec F S128x1x64 .bf16) (main_arg4 : IVec S128x4096x656 8) (main_arg5 : IVec S128 32) : IVec S128 1 :=
  let main_c : IVec S_ 32 := constantI S_ 32 0#32
  let main_v0 : IVec S128 32 := broadcastInDim S128 ![] bcast_S_S128 main_c
  let main_v1 : IVec S128 1 := cmpi .sge main_arg5 main_v0
  let main_c_0 : IVec S_ 32 := constantI S_ 32 4096#32
  let main_v2 : IVec S128 32 := broadcastInDim S128 ![] bcast_S_S128 main_c_0
  let main_v3 : IVec S128 1 := cmpi .sle main_arg5 main_v2
  let main_v4 : IVec S128 1 := andi main_v1 main_v3
  main_v4
-- ==== Pre_numbers.lean ====
abbrev S128x1x16x512 : Shape := ⟨4, ![128, 1, 16, 512]⟩
abbrev S128x1x16x64 : Shape := ⟨4, ![128, 1, 16, 64]⟩
abbrev S128x1x512 : Shape := ⟨3, ![128, 1, 512]⟩
abbrev S128x1x64 : Shape := ⟨3, ![128, 1, 64]⟩
abbrev S128x4096x656 : Shape := ⟨3, ![128, 4096, 656]⟩
abbrev S128 : Shape := ⟨1, ![128]⟩
abbrev S4096 : Shape := ⟨1, ![4096]⟩
abbrev S1x4096 : Shape := ⟨2, ![1, 4096]⟩
abbrev S128x1 : Shape := ⟨2, ![128, 1]⟩
abbrev S128x4096 : Shape := ⟨2, ![128, 4096]⟩
abbrev S128x4096x1 : Shape := ⟨3, ![128, 4096, 1]⟩
abbrev S128x4096x512 : Shape := ⟨3, ![128, 4096, 512]⟩
abbrev S_ : Shape := ⟨0, ![]⟩
abbrev S128x4096x16 : Shape := ⟨3, ![128, 4096, 16]⟩
abbrev S128x4096x4x4 : Shape := ⟨4, ![128, 4096, 4, 4]⟩
abbrev S128x4096x4 : Shape := ⟨3, ![128, 4096, 4]⟩
abbrev S128x4096x128 : Shape := ⟨3, ![128, 4096, 128]⟩
abbrev S128x4096x64x2 : Shape := ⟨4, ![128, 4096, 64, 2]⟩
abbrev S128x4096x64 : Shape := ⟨3, ![128, 4096, 64]⟩

class Facts : Prop where
  bcast_S4096_S1x4096_1 : S4096.BroadcastsInDim S1x4096 (![1] : Fin 1 → Fin S1x4096.rank)
  bcast_S128_S128x1_0 : S128.BroadcastsInDim S128x1 (![0] : Fin 1 → Fin S128x1.rank)
  bcast_S1x4096_S128x4096_0_1 : S1x4096.BroadcastsInDim S128x4096 (![0, 1] : Fin 2 → Fin S128x4096.rank)
  bcast_S128x1_S128x4096_0_1 : S128x1.BroadcastsInDim S128x4096 (![0, 1] : Fin 2 → Fin S128x4096.rank)
  bcast_S128x4096_S128x4096x1_0_1 : S128x4096.BroadcastsInDim S128x4096x1 (![0, 1] : Fin 2 → Fin S128x4096x1.rank)
  slices_S128x4096x656_S128x4096x512_0_0_0 : S128x4096x656.Slices ![0, 0, 0] S128x4096x512
  natLt_8_32 : 8 < 32
  bcast_S_S128x4096x512 : S_.BroadcastsInDim S128x4096x512 (![] : Fin 0 → Fin S128x4096x512.rank)
  slices_S128x4096x656_S128x4096x16_0_0_512 : S128x4096x656.Slices ![0, 0, 512] S128x4096x16
  shapeCasts_S128x4096x16_S128x4096x4x4 : S128x4096x16.ShapeCasts S128x4096x4x4
  splits_S128x4096x4_w32_S128x4096x4x4_w8 : S128x4096x4.SplitsWords 32 S128x4096x4x4 8
  bcast_S_S128x4096x4 : S_.BroadcastsInDim S128x4096x4 (![] : Fin 0 → Fin S128x4096x4.rank)
  slices_S128x4096x656_S128x4096x128_0_0_528 : S128x4096x656.Slices ![0, 0, 528] S128x4096x128
  shapeCasts_S128x4096x128_S128x4096x64x2 : S128x4096x128.ShapeCasts S128x4096x64x2
  splits_S128x4096x64_w16_S128x4096x64x2_w8 : S128x4096x64.SplitsWords 16 S128x4096x64x2 8
  bcast_S_S128x4096x64 : S_.BroadcastsInDim S128x4096x64 (![] : Fin 0 → Fin S128x4096x64.rank)
  bcast_S128x4096x1_S128x4096x512_0_1_2 : S128x4096x1.BroadcastsInDim S128x4096x512 (![0, 1, 2] : Fin 3 → Fin S128x4096x512.rank)
  reducesTo_S128x4096x512_S128_d1_2 : S128x4096x512.ReducesTo [1, 2] S128
  h_S_ : 0 < S_.numel
  bcast_S128x4096x1_S128x4096x4_0_1_2 : S128x4096x1.BroadcastsInDim S128x4096x4 (![0, 1, 2] : Fin 3 → Fin S128x4096x4.rank)
  reducesTo_S128x4096x4_S128_d1_2 : S128x4096x4.ReducesTo [1, 2] S128
  bcast_S128x4096x1_S128x4096x64_0_1_2 : S128x4096x1.BroadcastsInDim S128x4096x64 (![0, 1, 2] : Fin 3 → Fin S128x4096x64.rank)
  reducesTo_S128x4096x64_S128_d1_2 : S128x4096x64.ReducesTo [1, 2] S128
  bcast_S_S128x1x16x512 : S_.BroadcastsInDim S128x1x16x512 (![] : Fin 0 → Fin S128x1x16x512.rank)
  reducesTo_S128x1x16x512_S128_d1_2_3 : S128x1x16x512.ReducesTo [1, 2, 3] S128
  bcast_S_S128x1x16x64 : S_.BroadcastsInDim S128x1x16x64 (![] : Fin 0 → Fin S128x1x16x64.rank)
  reducesTo_S128x1x16x64_S128_d1_2_3 : S128x1x16x64.ReducesTo [1, 2, 3] S128
  bcast_S_S128x1x512 : S_.BroadcastsInDim S128x1x512 (![] : Fin 0 → Fin S128x1x512.rank)
  reducesTo_S128x1x512_S128_d1_2 : S128x1x512.ReducesTo [1, 2] S128
  bcast_S_S128x1x64 : S_.BroadcastsInDim S128x1x64 (![] : Fin 0 → Fin S128x1x64.rank)
  reducesTo_S128x1x64_S128_d1_2 : S128x1x64.ReducesTo [1, 2] S128
  bcast_S_S128 : S_.BroadcastsInDim S128 (![] : Fin 0 → Fin S128.rank)

variable [Facts]

def fn_part3 {F : FTy → Type} [FloatOps F] (main_arg5 : IVec S128 32) (main_v28 : IVec S128 1) (main_v32 : IVec S128 1) (main_v36 : IVec S128 1) (main_v40 : IVec S128 1) (main_v44 : IVec S128 1) (main_v48 : IVec S128 1) (main_v52 : IVec S128 1) (main_v54 : IVec S128 1) (main_c_14 : IVec S_ 32) : IVec S128 1 :=
  let main_v55 : IVec S128 32 := broadcastInDim S128 ![] bcast_S_S128 main_c_14
  let main_v56 : IVec S128 1 := cmpi .sle main_arg5 main_v55
  let main_v57 : IVec S128 1 := andi main_v54 main_v56
  let main_v58 : IVec S128 1 := andi main_v57 main_v28
  let main_v59 : IVec S128 1 := andi main_v58 main_v32
  let main_v60 : IVec S128 1 := andi main_v59 main_v36
  let main_v61 : IVec S128 1 := andi main_v60 main_v40
  let main_v62 : IVec S128 1 := andi main_v61 main_v44
  let main_v63 : IVec S128 1 := andi main_v62 main_v48
  let main_v64 : IVec S128 1 := andi main_v63 main_v52
  main_v64

def fn_part2 {F : FTy → Type} [FloatOps F] (main_arg1 : FVec F S128x1x16x64 .bf16) (main_arg2 : FVec F S128x1x512 .bf16) (main_arg3 : FVec F S128x1x64 .bf16) (main_arg5 : IVec S128 32) (main_v28 : IVec S128 1) (main_v32 : IVec S128 1) (main_v36 : IVec S128 1) (main_v39 : IVec S128x1x16x512 1) : IVec S128 1 :=
  let main_c_6 : IVec S_ 1 := constantI S_ 1 1#1
  let main_v40 : IVec S128 1 := (fun x v => Host.reduce IntOp.andi x v reducesTo_S128x1x16x512_S128_d1_2_3 h_S_) main_v39 main_c_6
  let main_v41 : FVec F S128x1x16x64 .bf16 := Host.absf main_arg1
  let main_cst_7 : FVec F S_ .bf16 := constant S_ .bf16 0x7F80#16
  let main_v42 : FVec F S128x1x16x64 .bf16 := broadcastInDim S128x1x16x64 ![] bcast_S_S128x1x16x64 main_cst_7
  let main_v43 : IVec S128x1x16x64 1 := cmpf .olt main_v41 main_v42
  let main_c_8 : IVec S_ 1 := constantI S_ 1 1#1
  let main_v44 : IVec S128 1 := (fun x v => Host.reduce IntOp.andi x v reducesTo_S128x1x16x64_S128_d1_2_3 h_S_) main_v43 main_c_8
  let main_v45 : FVec F S128x1x512 .bf16 := Host.absf main_arg2
  let main_cst_9 : FVec F S_ .bf16 := constant S_ .bf16 0x7F80#16
  let main_v46 : FVec F S128x1x512 .bf16 := broadcastInDim S128x1x512 ![] bcast_S_S128x1x512 main_cst_9
  let main_v47 : IVec S128x1x512 1 := cmpf .olt main_v45 main_v46
  let main_c_10 : IVec S_ 1 := constantI S_ 1 1#1
  let main_v48 : IVec S128 1 := (fun x v => Host.reduce IntOp.andi x v reducesTo_S128x1x512_S128_d1_2 h_S_) main_v47 main_c_10
  let main_v49 : FVec F S128x1x64 .bf16 := Host.absf main_arg3
  let main_cst_11 : FVec F S_ .bf16 := constant S_ .bf16 0x7F80#16
  let main_v50 : FVec F S128x1x64 .bf16 := broadcastInDim S128x1x64 ![] bcast_S_S128x1x64 main_cst_11
  let main_v51 : IVec S128x1x64 1 := cmpf .olt main_v49 main_v50
  let main_c_12 : IVec S_ 1 := constantI S_ 1 1#1
  let main_v52 : IVec S128 1 := (fun x v => Host.reduce IntOp.andi x v reducesTo_S128x1x64_S128_d1_2 h_S_) main_v51 main_c_12
  let main_c_13 : IVec S_ 32 := constantI S_ 32 0#32
  let main_v53 : IVec S128 32 := broadcastInDim S128 ![] bcast_S_S128 main_c_13
  let main_v54 : IVec S128 1 := cmpi .sge main_arg5 main_v53
  let main_c_14 : IVec S_ 32 := constantI S_ 32 4096#32
  fn_part3 (F := F) main_arg5 main_v28 main_v32 main_v36 main_v40 main_v44 main_v48 main_v52 main_v54 main_c_14

def fn_part1 {F : FTy → Type} [FloatOps F] (main_arg0 : FVec F S128x1x16x512 .bf16) (main_arg1 : FVec F S128x1x16x64 .bf16) (main_arg2 : FVec F S128x1x512 .bf16) (main_arg3 : FVec F S128x1x64 .bf16) (main_arg5 : IVec S128 32) (main_v6 : IVec S128x4096x1 1) (main_v12 : IVec S128x4096x512 1) (main_v18 : IVec S128x4096x4 1) (main_v20 : IVec S128x4096x64x2 8) : IVec S128 1 :=
  let main_v21 : FVec F S128x4096x64 .bf16 := (fun x => bitcastToFloat .bf16 (Host.bitcastConvertWiden S128x4096x64 16 x splits_S128x4096x64_w16_S128x4096x64x2_w8)) main_v20
  let main_v22 : FVec F S128x4096x64 .bf16 := Host.absf main_v21
  let main_cst_1 : FVec F S_ .bf16 := constant S_ .bf16 0x7F80#16
  let main_v23 : FVec F S128x4096x64 .bf16 := broadcastInDim S128x4096x64 ![] bcast_S_S128x4096x64 main_cst_1
  let main_v24 : IVec S128x4096x64 1 := cmpf .olt main_v22 main_v23
  let main_v25 : IVec S128x4096x1 1 := noti main_v6
  let main_v26 : IVec S128x4096x512 1 := broadcastInDim S128x4096x512 ![0, 1, 2] bcast_S128x4096x1_S128x4096x512_0_1_2 main_v25
  let main_v27 : IVec S128x4096x512 1 := ori main_v26 main_v12
  let main_c_2 : IVec S_ 1 := constantI S_ 1 1#1
  let main_v28 : IVec S128 1 := (fun x v => Host.reduce IntOp.andi x v reducesTo_S128x4096x512_S128_d1_2 h_S_) main_v27 main_c_2
  let main_v29 : IVec S128x4096x1 1 := noti main_v6
  let main_v30 : IVec S128x4096x4 1 := broadcastInDim S128x4096x4 ![0, 1, 2] bcast_S128x4096x1_S128x4096x4_0_1_2 main_v29
  let main_v31 : IVec S128x4096x4 1 := ori main_v30 main_v18
  let main_c_3 : IVec S_ 1 := constantI S_ 1 1#1
  let main_v32 : IVec S128 1 := (fun x v => Host.reduce IntOp.andi x v reducesTo_S128x4096x4_S128_d1_2 h_S_) main_v31 main_c_3
  let main_v33 : IVec S128x4096x1 1 := noti main_v6
  let main_v34 : IVec S128x4096x64 1 := broadcastInDim S128x4096x64 ![0, 1, 2] bcast_S128x4096x1_S128x4096x64_0_1_2 main_v33
  let main_v35 : IVec S128x4096x64 1 := ori main_v34 main_v24
  let main_c_4 : IVec S_ 1 := constantI S_ 1 1#1
  let main_v36 : IVec S128 1 := (fun x v => Host.reduce IntOp.andi x v reducesTo_S128x4096x64_S128_d1_2 h_S_) main_v35 main_c_4
  let main_v37 : FVec F S128x1x16x512 .bf16 := Host.absf main_arg0
  let main_cst_5 : FVec F S_ .bf16 := constant S_ .bf16 0x7F80#16
  let main_v38 : FVec F S128x1x16x512 .bf16 := broadcastInDim S128x1x16x512 ![] bcast_S_S128x1x16x512 main_cst_5
  let main_v39 : IVec S128x1x16x512 1 := cmpf .olt main_v37 main_v38
  fn_part2 (F := F) main_arg1 main_arg2 main_arg3 main_arg5 main_v28 main_v32 main_v36 main_v39

def fn {F : FTy → Type} [FloatOps F] (main_arg0 : FVec F S128x1x16x512 .bf16) (main_arg1 : FVec F S128x1x16x64 .bf16) (main_arg2 : FVec F S128x1x512 .bf16) (main_arg3 : FVec F S128x1x64 .bf16) (main_arg4 : IVec S128x4096x656 8) (main_arg5 : IVec S128 32) : IVec S128 1 :=
  let main_v0 : IVec S4096 32 := iotaInDim S4096 32 0
  let main_v1 : IVec S1x4096 32 := broadcastInDim S1x4096 ![1] bcast_S4096_S1x4096_1 main_v0
  let main_v2 : IVec S128x1 32 := broadcastInDim S128x1 ![0] bcast_S128_S128x1_0 main_arg5
  let main_v3 : IVec S128x4096 32 := broadcastInDim S128x4096 ![0, 1] bcast_S1x4096_S128x4096_0_1 main_v1
  let main_v4 : IVec S128x4096 32 := broadcastInDim S128x4096 ![0, 1] bcast_S128x1_S128x4096_0_1 main_v2
  let main_v5 : IVec S128x4096 1 := cmpi .slt main_v3 main_v4
  let main_v6 : IVec S128x4096x1 1 := broadcastInDim S128x4096x1 ![0, 1] bcast_S128x4096_S128x4096x1_0_1 main_v5
  let main_v7 : IVec S128x4096x512 8 := (extractStridedSlice S128x4096x512 ![0, 0, 0] · slices_S128x4096x656_S128x4096x512_0_0_0) main_arg4
  let main_v8 : IVec S128x4096x512 32 := (extui 32 · natLt_8_32) main_v7
  let main_c : IVec S_ 32 := constantI S_ 32 127#32
  let main_v9 : IVec S128x4096x512 32 := broadcastInDim S128x4096x512 ![] bcast_S_S128x4096x512 main_c
  let main_v10 : IVec S128x4096x512 32 := andi main_v8 main_v9
  let main_c_0 : IVec S_ 32 := constantI S_ 32 127#32
  let main_v11 : IVec S128x4096x512 32 := broadcastInDim S128x4096x512 ![] bcast_S_S128x4096x512 main_c_0
  let main_v12 : IVec S128x4096x512 1 := cmpi .ne main_v10 main_v11
  let main_v13 : IVec S128x4096x16 8 := (extractStridedSlice S128x4096x16 ![0, 0, 512] · slices_S128x4096x656_S128x4096x16_0_0_512) main_arg4
  let main_v14 : IVec S128x4096x4x4 8 := shapeCast S128x4096x4x4 main_v13 shapeCasts_S128x4096x16_S128x4096x4x4
  let main_v15 : FVec F S128x4096x4 .f32 := (fun x => bitcastToFloat .f32 (Host.bitcastConvertWiden S128x4096x4 32 x splits_S128x4096x4_w32_S128x4096x4x4_w8)) main_v14
  let main_v16 : FVec F S128x4096x4 .f32 := Host.absf main_v15
  let main_cst : FVec F S_ .f32 := constant S_ .f32 0x7F800000#32
  let main_v17 : FVec F S128x4096x4 .f32 := broadcastInDim S128x4096x4 ![] bcast_S_S128x4096x4 main_cst
  let main_v18 : IVec S128x4096x4 1 := cmpf .olt main_v16 main_v17
  let main_v19 : IVec S128x4096x128 8 := (extractStridedSlice S128x4096x128 ![0, 0, 528] · slices_S128x4096x656_S128x4096x128_0_0_528) main_arg4
  let main_v20 : IVec S128x4096x64x2 8 := shapeCast S128x4096x64x2 main_v19 shapeCasts_S128x4096x128_S128x4096x64x2
  fn_part1 (F := F) main_arg0 main_arg1 main_arg2 main_arg3 main_arg5 main_v6 main_v12 main_v18 main_v20
-- ==== Kernel.lean ====
abbrev S128x1x16x512 : Shape := ⟨4, ![128, 1, 16, 512]⟩
abbrev S128x1x16x64 : Shape := ⟨4, ![128, 1, 16, 64]⟩
abbrev S128x1x512 : Shape := ⟨3, ![128, 1, 512]⟩
abbrev S128x1x64 : Shape := ⟨3, ![128, 1, 64]⟩
abbrev S128x4096x656 : Shape := ⟨3, ![128, 4096, 656]⟩
abbrev S128 : Shape := ⟨1, ![128]⟩
abbrev S128x1x16x8 : Shape := ⟨4, ![128, 1, 16, 8]⟩
abbrev S128x1x16x56 : Shape := ⟨4, ![128, 1, 16, 56]⟩
abbrev S_ : Shape := ⟨0, ![]⟩
abbrev S128x1x16x64x1 : Shape := ⟨5, ![128, 1, 16, 64, 1]⟩
abbrev S128x1x16x64x2 : Shape := ⟨5, ![128, 1, 16, 64, 2]⟩
abbrev S128x1x16x128 : Shape := ⟨4, ![128, 1, 16, 128]⟩
abbrev S128x1x16x256 : Shape := ⟨4, ![128, 1, 16, 256]⟩
abbrev S128x1x8 : Shape := ⟨3, ![128, 1, 8]⟩
abbrev S128x1x56 : Shape := ⟨3, ![128, 1, 56]⟩
abbrev S128x1x64x1 : Shape := ⟨4, ![128, 1, 64, 1]⟩
abbrev S128x1x64x2 : Shape := ⟨4, ![128, 1, 64, 2]⟩
abbrev S128x1x128 : Shape := ⟨3, ![128, 1, 128]⟩
abbrev S128x1x256 : Shape := ⟨3, ![128, 1, 256]⟩
abbrev S16x256 : Shape := ⟨2, ![16, 256]⟩
abbrev S1 : Shape := ⟨1, ![1]⟩
abbrev S2 : Shape := ⟨1, ![2]⟩
abbrev S1x1x16x512 : Shape := ⟨4, ![1, 1, 16, 512]⟩
abbrev S1x1x16x256 : Shape := ⟨4, ![1, 1, 16, 256]⟩
abbrev S1x1x512 : Shape := ⟨3, ![1, 1, 512]⟩
abbrev S1x1x256 : Shape := ⟨3, ![1, 1, 256]⟩
abbrev S2x4096x656 : Shape := ⟨3, ![2, 4096, 656]⟩
abbrev S8x16x512 : Shape := ⟨3, ![8, 16, 512]⟩
abbrev S8x8x512 : Shape := ⟨3, ![8, 8, 512]⟩
abbrev S16x512 : Shape := ⟨2, ![16, 512]⟩
abbrev S1x256x656 : Shape := ⟨3, ![1, 256, 656]⟩
abbrev S256x656 : Shape := ⟨2, ![256, 656]⟩
abbrev S16x128 : Shape := ⟨2, ![16, 128]⟩
abbrev S32x256 : Shape := ⟨2, ![32, 256]⟩
abbrev S1x512 : Shape := ⟨2, ![1, 512]⟩
abbrev S1x256 : Shape := ⟨2, ![1, 256]⟩
abbrev S16 : Shape := ⟨1, ![16]⟩
abbrev S16x1 : Shape := ⟨2, ![16, 1]⟩
abbrev S1x512x128 : Shape := ⟨3, ![1, 512, 128]⟩
abbrev S512x128 : Shape := ⟨2, ![512, 128]⟩
abbrev S128x128 : Shape := ⟨2, ![128, 128]⟩
abbrev S1x512x16 : Shape := ⟨3, ![1, 512, 16]⟩
abbrev S512x16 : Shape := ⟨2, ![512, 16]⟩
abbrev S128x16 : Shape := ⟨2, ![128, 16]⟩
abbrev S128x112 : Shape := ⟨2, ![128, 112]⟩
abbrev S256x128 : Shape := ⟨2, ![256, 128]⟩
abbrev S512x256 : Shape := ⟨2, ![512, 256]⟩
abbrev S32x512 : Shape := ⟨2, ![32, 512]⟩
abbrev S8x512 : Shape := ⟨2, ![8, 512]⟩
abbrev S1x8x512 : Shape := ⟨3, ![1, 8, 512]⟩
abbrev S1x512x256 : Shape := ⟨3, ![1, 512, 256]⟩
abbrev S1x16x512 : Shape := ⟨3, ![1, 16, 512]⟩

abbrev nBuf : Space → Nat
  | .hbm => 148
  | .vmem => 16
  | .smem => 1
  | _ => 0

abbrev hbmTy0_0 (i : Nat) : BufTy := match i % 128 with
  | 0 => ⟨S128x1x16x512, .bf16⟩
  | 1 => ⟨S128x1x16x64, .bf16⟩
  | 2 => ⟨S128x1x512, .bf16⟩
  | 3 => ⟨S128x1x64, .bf16⟩
  | 4 => ⟨S128x4096x656, .i8⟩
  | 5 => ⟨S128x1x16x8, .bf16⟩
  | 6 => ⟨S128x1x16x56, .bf16⟩
  | 7 => ⟨S128x1x16x64, .bf16⟩
  | 8 => ⟨S_, .bf16⟩
  | 9 => ⟨S128x1x16x64, .bf16⟩
  | 10 => ⟨S128x1x16x64x1, .bf16⟩
  | 11 => ⟨S128x1x16x64x1, .bf16⟩
  | 12 => ⟨S128x1x16x64x2, .bf16⟩
  | 13 => ⟨S128x1x16x128, .bf16⟩
  | 14 => ⟨S_, .bf16⟩
  | 15 => ⟨S128x1x16x64, .bf16⟩
  | 16 => ⟨S_, .bf16⟩
  | 17 => ⟨S128x1x16x64, .bf16⟩
  | 18 => ⟨S128x1x16x256, .bf16⟩
  | 19 => ⟨S128x1x8, .bf16⟩
  | 20 => ⟨S128x1x56, .bf16⟩
  | 21 => ⟨S128x1x64, .bf16⟩
  | 22 => ⟨S_, .bf16⟩
  | 23 => ⟨S128x1x64, .bf16⟩
  | 24 => ⟨S128x1x64x1, .bf16⟩
  | 25 => ⟨S128x1x64x1, .bf16⟩
  | 26 => ⟨S128x1x64x2, .bf16⟩
  | 27 => ⟨S128x1x128, .bf16⟩
  | 28 => ⟨S_, .bf16⟩
  | 29 => ⟨S128x1x64, .bf16⟩
  | 30 => ⟨S_, .bf16⟩
  | 31 => ⟨S128x1x64, .bf16⟩
  | 32 => ⟨S128x1x256, .bf16⟩
  | 33 => ⟨S_, .bf16⟩
  | 34 => ⟨S16x256, .bf16⟩
  | 35 => ⟨S_, .i32⟩
  | 36 => ⟨S1, .i32⟩
  | 37 => ⟨S_, .i32⟩
  | 38 => ⟨S1, .i32⟩
  | 39 => ⟨S2, .i32⟩
  | 40 => ⟨S_, .bf16⟩
  | 41 => ⟨S16x256, .bf16⟩
  | 42 => ⟨S_, .i32⟩
  | 43 => ⟨S1, .i32⟩
  | 44 => ⟨S_, .i32⟩
  | 45 => ⟨S1, .i32⟩
  | 46 => ⟨S2, .i32⟩
  | 47 => ⟨S_, .bf16⟩
  | 48 => ⟨S16x256, .bf16⟩
  | 49 => ⟨S_, .i32⟩
  | 50 => ⟨S1, .i32⟩
  | 51 => ⟨S_, .i32⟩
  | 52 => ⟨S1, .i32⟩
  | 53 => ⟨S2, .i32⟩
  | 54 => ⟨S_, .bf16⟩
  | 55 => ⟨S16x256, .bf16⟩
  | 56 => ⟨S_, .i32⟩
  | 57 => ⟨S1, .i32⟩
  | 58 => ⟨S_, .i32⟩
  | 59 => ⟨S1, .i32⟩
  | 60 => ⟨S2, .i32⟩
  | 61 => ⟨S_, .bf16⟩
  | 62 => ⟨S16x256, .bf16⟩
  | 63 => ⟨S_, .i32⟩
  | 64 => ⟨S1, .i32⟩
  | 65 => ⟨S_, .i32⟩
  | 66 => ⟨S1, .i32⟩
  | 67 => ⟨S2, .i32⟩
  | 68 => ⟨S_, .bf16⟩
  | 69 => ⟨S16x256, .bf16⟩
  | 70 => ⟨S_, .i32⟩
  | 71 => ⟨S1, .i32⟩
  | 72 => ⟨S_, .i32⟩
  | 73 => ⟨S1, .i32⟩
  | 74 => ⟨S2, .i32⟩
  | 75 => ⟨S_, .bf16⟩
  | 76 => ⟨S16x256, .bf16⟩
  | 77 => ⟨S_, .i32⟩
  | 78 => ⟨S1, .i32⟩
  | 79 => ⟨S_, .i32⟩
  | 80 => ⟨S1, .i32⟩
  | 81 => ⟨S2, .i32⟩
  | 82 => ⟨S_, .bf16⟩
  | 83 => ⟨S16x256, .bf16⟩
  | 84 => ⟨S_, .i32⟩
  | 85 => ⟨S1, .i32⟩
  | 86 => ⟨S_, .i32⟩
  | 87 => ⟨S1, .i32⟩
  | 88 => ⟨S2, .i32⟩
  | 89 => ⟨S_, .bf16⟩
  | 90 => ⟨S16x256, .bf16⟩
  | 91 => ⟨S_, .i32⟩
  | 92 => ⟨S1, .i32⟩
  | 93 => ⟨S_, .i32⟩
  | 94 => ⟨S1, .i32⟩
  | 95 => ⟨S2, .i32⟩
  | 96 => ⟨S_, .bf16⟩
  | 97 => ⟨S16x256, .bf16⟩
  | 98 => ⟨S_, .i32⟩
  | 99 => ⟨S1, .i32⟩
  | 100 => ⟨S_, .i32⟩
  | 101 => ⟨S1, .i32⟩
  | 102 => ⟨S2, .i32⟩
  | 103 => ⟨S_, .bf16⟩
  | 104 => ⟨S16x256, .bf16⟩
  | 105 => ⟨S_, .i32⟩
  | 106 => ⟨S1, .i32⟩
  | 107 => ⟨S_, .i32⟩
  | 108 => ⟨S1, .i32⟩
  | 109 => ⟨S2, .i32⟩
  | 110 => ⟨S_, .bf16⟩
  | 111 => ⟨S16x256, .bf16⟩
  | 112 => ⟨S_, .i32⟩
  | 113 => ⟨S1, .i32⟩
  | 114 => ⟨S_, .i32⟩
  | 115 => ⟨S1, .i32⟩
  | 116 => ⟨S2, .i32⟩
  | 117 => ⟨S_, .bf16⟩
  | 118 => ⟨S16x256, .bf16⟩
  | 119 => ⟨S_, .i32⟩
  | 120 => ⟨S1, .i32⟩
  | 121 => ⟨S_, .i32⟩
  | 122 => ⟨S1, .i32⟩
  | 123 => ⟨S2, .i32⟩
  | 124 => ⟨S_, .bf16⟩
  | 125 => ⟨S16x256, .bf16⟩
  | 126 => ⟨S_, .i32⟩
  | 127 => ⟨S1, .i32⟩
  | _ => ⟨S128x1x16x512, .bf16⟩

abbrev hbmTy0_1 (i : Nat) : BufTy := match i % 128 with
  | 0 => ⟨S_, .i32⟩
  | 1 => ⟨S1, .i32⟩
  | 2 => ⟨S2, .i32⟩
  | 3 => ⟨S_, .bf16⟩
  | 4 => ⟨S16x256, .bf16⟩
  | 5 => ⟨S_, .i32⟩
  | 6 => ⟨S1, .i32⟩
  | 7 => ⟨S_, .i32⟩
  | 8 => ⟨S1, .i32⟩
  | 9 => ⟨S2, .i32⟩
  | 10 => ⟨S_, .bf16⟩
  | 11 => ⟨S16x256, .bf16⟩
  | 12 => ⟨S_, .i32⟩
  | 13 => ⟨S1, .i32⟩
  | 14 => ⟨S_, .i32⟩
  | 15 => ⟨S1, .i32⟩
  | 16 => ⟨S2, .i32⟩
  | 17 => ⟨S_, .bf16⟩
  | 18 => ⟨S16x256, .bf16⟩
  | 19 => ⟨S128x1x16x512, .bf16⟩
  | _ => ⟨S128x1x16x512, .bf16⟩

abbrev hbmTy (i : Nat) : BufTy := match i / 128 with
  | 0 => hbmTy0_0 i
  | 1 => hbmTy0_1 i
  | _ => ⟨S128x1x16x512, .bf16⟩

abbrev bufTy : (tb : Table) → Fin (tcTables nBuf tb) → BufTy
  | .hbm, ⟨i, _⟩ => hbmTy i
  | .local _ .vmem, ⟨0, _⟩ => ⟨S1x1x16x512, .bf16⟩
  | .local _ .vmem, ⟨1, _⟩ => ⟨S1x1x16x512, .bf16⟩
  | .local _ .vmem, ⟨2, _⟩ => ⟨S1x1x16x256, .bf16⟩
  | .local _ .vmem, ⟨3, _⟩ => ⟨S1x1x16x256, .bf16⟩
  | .local _ .vmem, ⟨4, _⟩ => ⟨S1x1x512, .bf16⟩
  | .local _ .vmem, ⟨5, _⟩ => ⟨S1x1x512, .bf16⟩
  | .local _ .vmem, ⟨6, _⟩ => ⟨S1x1x256, .bf16⟩
  | .local _ .vmem, ⟨7, _⟩ => ⟨S1x1x256, .bf16⟩
  | .local _ .vmem, ⟨8, _⟩ => ⟨S16x256, .bf16⟩
  | .local _ .vmem, ⟨9, _⟩ => ⟨S1x1x16x512, .bf16⟩
  | .local _ .vmem, ⟨10, _⟩ => ⟨S1x1x16x512, .bf16⟩
  | .local _ .vmem, ⟨11, _⟩ => ⟨S2x4096x656, .i8⟩
  | .local _ .vmem, ⟨12, _⟩ => ⟨S8x16x512, .f32⟩
  | .local _ .vmem, ⟨13, _⟩ => ⟨S8x16x512, .f32⟩
  | .local _ .vmem, ⟨14, _⟩ => ⟨S8x8x512, .f32⟩
  | .local _ .vmem, ⟨15, _⟩ => ⟨S16x512, .f32⟩
  | .local _ .smem, ⟨0, _⟩ => ⟨S128, .i32⟩
  | _, _ => ⟨S128x1x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_c_8 : Ref sig .tc := ⟨.hbm, 42, rfl⟩
abbrev main_v23 : Ref sig .tc := ⟨.hbm, 43, rfl⟩
abbrev main_c_9 : Ref sig .tc := ⟨.hbm, 44, rfl⟩
abbrev main_v24 : Ref sig .tc := ⟨.hbm, 45, rfl⟩
abbrev main_v25 : Ref sig .tc := ⟨.hbm, 46, rfl⟩
abbrev main_cst_10 : Ref sig .tc := ⟨.hbm, 47, rfl⟩
abbrev main_v26 : Ref sig .tc := ⟨.hbm, 48, rfl⟩
abbrev main_c_11 : Ref sig .tc := ⟨.hbm, 49, rfl⟩
abbrev main_v27 : Ref sig .tc := ⟨.hbm, 50, rfl⟩
abbrev main_c_12 : Ref sig .tc := ⟨.hbm, 51, rfl⟩
abbrev main_v28 : Ref sig .tc := ⟨.hbm, 52, rfl⟩
abbrev main_v29 : Ref sig .tc := ⟨.hbm, 53, rfl⟩
abbrev main_cst_13 : Ref sig .tc := ⟨.hbm, 54, rfl⟩
abbrev main_v30 : Ref sig .tc := ⟨.hbm, 55, rfl⟩
abbrev main_c_14 : Ref sig .tc := ⟨.hbm, 56, rfl⟩
abbrev main_v31 : Ref sig .tc := ⟨.hbm, 57, rfl⟩
abbrev main_c_15 : Ref sig .tc := ⟨.hbm, 58, rfl⟩
abbrev main_v32 : Ref sig .tc := ⟨.hbm, 59, rfl⟩
abbrev main_v33 : Ref sig .tc := ⟨.hbm, 60, rfl⟩
abbrev main_cst_16 : Ref sig .tc := ⟨.hbm, 61, rfl⟩
abbrev main_v34 : Ref sig .tc := ⟨.hbm, 62, rfl⟩
abbrev main_c_17 : Ref sig .tc := ⟨.hbm, 63, rfl⟩
abbrev main_v35 : Ref sig .tc := ⟨.hbm, 64, rfl⟩
abbrev main_c_18 : Ref sig .tc := ⟨.hbm, 65, rfl⟩
abbrev main_v36 : Ref sig .tc := ⟨.hbm, 66, rfl⟩
abbrev main_v37 : Ref sig .tc := ⟨.hbm, 67, rfl⟩
abbrev main_cst_19 : Ref sig .tc := ⟨.hbm, 68, rfl⟩
abbrev main_v38 : Ref sig .tc := ⟨.hbm, 69, rfl⟩
abbrev main_c_20 : Ref sig .tc := ⟨.hbm, 70, rfl⟩
abbrev main_v39 : Ref sig .tc := ⟨.hbm, 71, rfl⟩
abbrev main_c_21 : Ref sig .tc := ⟨.hbm, 72, rfl⟩
abbrev main_v40 : Ref sig .tc := ⟨.hbm, 73, rfl⟩
abbrev main_v41 : Ref sig .tc := ⟨.hbm, 74, rfl⟩
abbrev main_cst_22 : Ref sig .tc := ⟨.hbm, 75, rfl⟩
abbrev main_v42 : Ref sig .tc := ⟨.hbm, 76, rfl⟩
abbrev main_c_23 : Ref sig .tc := ⟨.hbm, 77, rfl⟩
abbrev main_v43 : Ref sig .tc := ⟨.hbm, 78, rfl⟩
abbrev main_c_24 : Ref sig .tc := ⟨.hbm, 79, rfl⟩
abbrev main_v44 : Ref sig .tc := ⟨.hbm, 80, rfl⟩
abbrev main_v45 : Ref sig .tc := ⟨.hbm, 81, rfl⟩
abbrev main_cst_25 : Ref sig .tc := ⟨.hbm, 82, rfl⟩
abbrev main_v46 : Ref sig .tc := ⟨.hbm, 83, rfl⟩
abbrev main_c_26 : Ref sig .tc := ⟨.hbm, 84, rfl⟩
abbrev main_v47 : Ref sig .tc := ⟨.hbm, 85, rfl⟩
abbrev main_c_27 : Ref sig .tc := ⟨.hbm, 86, rfl⟩
abbrev main_v48 : Ref sig .tc := ⟨.hbm, 87, rfl⟩
abbrev main_v49 : Ref sig .tc := ⟨.hbm, 88, rfl⟩
abbrev main_cst_28 : Ref sig .tc := ⟨.hbm, 89, rfl⟩
abbrev main_v50 : Ref sig .tc := ⟨.hbm, 90, rfl⟩
abbrev main_c_29 : Ref sig .tc := ⟨.hbm, 91, rfl⟩
abbrev main_v51 : Ref sig .tc := ⟨.hbm, 92, rfl⟩
abbrev main_c_30 : Ref sig .tc := ⟨.hbm, 93, rfl⟩
abbrev main_v52 : Ref sig .tc := ⟨.hbm, 94, rfl⟩
abbrev main_v53 : Ref sig .tc := ⟨.hbm, 95, rfl⟩
abbrev main_cst_31 : Ref sig .tc := ⟨.hbm, 96, rfl⟩
abbrev main_v54 : Ref sig .tc := ⟨.hbm, 97, rfl⟩
abbrev main_c_32 : Ref sig .tc := ⟨.hbm, 98, rfl⟩
abbrev main_v55 : Ref sig .tc := ⟨.hbm, 99, rfl⟩
abbrev main_c_33 : Ref sig .tc := ⟨.hbm, 100, rfl⟩
abbrev main_v56 : Ref sig .tc := ⟨.hbm, 101, rfl⟩
abbrev main_v57 : Ref sig .tc := ⟨.hbm, 102, rfl⟩
abbrev main_cst_34 : Ref sig .tc := ⟨.hbm, 103, rfl⟩
abbrev main_v58 : Ref sig .tc := ⟨.hbm, 104, rfl⟩
abbrev main_c_35 : Ref sig .tc := ⟨.hbm, 105, rfl⟩
abbrev main_v59 : Ref sig .tc := ⟨.hbm, 106, rfl⟩
abbrev main_c_36 : Ref sig .tc := ⟨.hbm, 107, rfl⟩
abbrev main_v60 : Ref sig .tc := ⟨.hbm, 108, rfl⟩
abbrev main_v61 : Ref sig .tc := ⟨.hbm, 109, rfl⟩
abbrev main_cst_37 : Ref sig .tc := ⟨.hbm, 110, rfl⟩
abbrev main_v62 : Ref sig .tc := ⟨.hbm, 111, rfl⟩
abbrev main_c_38 : Ref sig .tc := ⟨.hbm, 112, rfl⟩
abbrev main_v63 : Ref sig .tc := ⟨.hbm, 113, rfl⟩
abbrev main_c_39 : Ref sig .tc := ⟨.hbm, 114, rfl⟩
abbrev main_v64 : Ref sig .tc := ⟨.hbm, 115, rfl⟩
abbrev main_v65 : Ref sig .tc := ⟨.hbm, 116, rfl⟩
abbrev main_cst_40 : Ref sig .tc := ⟨.hbm, 117, rfl⟩
abbrev main_v66 : Ref sig .tc := ⟨.hbm, 118, rfl⟩
abbrev main_c_41 : Ref sig .tc := ⟨.hbm, 119, rfl⟩
abbrev main_v67 : Ref sig .tc := ⟨.hbm, 120, rfl⟩
abbrev main_c_42 : Ref sig .tc := ⟨.hbm, 121, rfl⟩
abbrev main_v68 : Ref sig .tc := ⟨.hbm, 122, rfl⟩
abbrev main_v69 : Ref sig .tc := ⟨.hbm, 123, rfl⟩
abbrev main_cst_43 : Ref sig .tc := ⟨.hbm, 124, rfl⟩
abbrev main_v70 : Ref sig .tc := ⟨.hbm, 125, rfl⟩
abbrev main_c_44 : Ref sig .tc := ⟨.hbm, 126, rfl⟩
abbrev main_v71 : Ref sig .tc := ⟨.hbm, 127, rfl⟩
abbrev main_c_45 : Ref sig .tc := ⟨.hbm, 128, rfl⟩
abbrev main_v72 : Ref sig .tc := ⟨.hbm, 129, rfl⟩
abbrev main_v73 : Ref sig .tc := ⟨.hbm, 130, rfl⟩
abbrev main_cst_46 : Ref sig .tc := ⟨.hbm, 131, rfl⟩
abbrev main_v74 : Ref sig .tc := ⟨.hbm, 132, rfl⟩
abbrev main_c_47 : Ref sig .tc := ⟨.hbm, 133, rfl⟩
abbrev main_v75 : Ref sig .tc := ⟨.hbm, 134, rfl⟩
abbrev main_c_48 : Ref sig .tc := ⟨.hbm, 135, rfl⟩
abbrev main_v76 : Ref sig .tc := ⟨.hbm, 136, rfl⟩
abbrev main_v77 : Ref sig .tc := ⟨.hbm, 137, rfl⟩
abbrev main_cst_49 : Ref sig .tc := ⟨.hbm, 138, rfl⟩
abbrev main_v78 : Ref sig .tc := ⟨.hbm, 139, rfl⟩
abbrev main_c_50 : Ref sig .tc := ⟨.hbm, 140, rfl⟩
abbrev main_v79 : Ref sig .tc := ⟨.hbm, 141, rfl⟩
abbrev main_c_51 : Ref sig .tc := ⟨.hbm, 142, rfl⟩
abbrev main_v80 : Ref sig .tc := ⟨.hbm, 143, rfl⟩
abbrev main_v81 : Ref sig .tc := ⟨.hbm, 144, rfl⟩
abbrev main_cst_52 : Ref sig .tc := ⟨.hbm, 145, rfl⟩
abbrev main_v82 : Ref sig .tc := ⟨.hbm, 146, rfl⟩
abbrev main_v83 : Ref sig .tc := ⟨.hbm, 147, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop (v106 : BitVec 32) : Scf.Loop 32 :=
  let c0_i32_60 : BitVec 32 := 0#32
  let c256_i32_57 : BitVec 32 := 256#32
  let v107 : BitVec 32 := Scalar.addi v106 c256_i32_57
  let c1_i32_58 : BitVec 32 := 1#32
  let v108 : BitVec 32 := Scalar.subi v107 c1_i32_58
  let c8_i32_59 : BitVec 32 := 8#32
  let v109 : BitVec 32 := Scalar.shrui v108 c8_i32_59
  let v110 : BitVec 32 := Scalar.subi v109 c0_i32_60
  let c1_i32_62 : BitVec 32 := 1#32
  let v112 : BitVec 32 := Scalar.divsi v110 c1_i32_62
  let v113 : BitVec 32 := Scalar.muli v112 c1_i32_62
  let v114 : BitVec 32 := Scalar.addi c0_i32_60 v113
  let c1_i32_63 : BitVec 32 := 1#32
  ⟨c0_i32_60, v114, c1_i32_63⟩

def k0_off1 (v106 : BitVec 32) (k0_t1 : Fin (k0_t1_loop v106).trips) : Fin 3 → Nat :=
  let c0_i32_68 : BitVec 32 := 0#32
  let c0_i32_60 : BitVec 32 := 0#32
  let c1_i32_63 : BitVec 32 := 1#32
  let arg15 : BitVec 32 := Scf.iv c0_i32_60 c1_i32_63 k0_t1
  let c256_i32_66 : BitVec 32 := 256#32
  let v118 : BitVec 32 := Scalar.muli arg15 c256_i32_66
  let c0_i32_70 : BitVec 32 := 0#32
  ![0, v118.toNat, 0]
def k0_off2 (v106 : BitVec 32) (k0_t1 : Fin (k0_t1_loop v106).trips) : Fin 3 → Nat :=
  let c0_i32_67 : BitVec 32 := 0#32
  let c0_i32_60 : BitVec 32 := 0#32
  let c1_i32_63 : BitVec 32 := 1#32
  let arg15 : BitVec 32 := Scf.iv c0_i32_60 c1_i32_63 k0_t1
  let c256_i32_65 : BitVec 32 := 256#32
  let v117 : BitVec 32 := Scalar.muli arg15 c256_i32_65
  let c0_i32_71 : BitVec 32 := 0#32
  ![0, v117.toNat, 0]
@[reducible] def k0_t2_loop (v106 : BitVec 32) : Scf.Loop 32 :=
  let c0_i32_60 : BitVec 32 := 0#32
  let c256_i32_57 : BitVec 32 := 256#32
  let v107 : BitVec 32 := Scalar.addi v106 c256_i32_57
  let c1_i32_58 : BitVec 32 := 1#32
  let v108 : BitVec 32 := Scalar.subi v107 c1_i32_58
  let c8_i32_59 : BitVec 32 := 8#32
  let v109 : BitVec 32 := Scalar.shrui v108 c8_i32_59
  let v110 : BitVec 32 := Scalar.subi v109 c0_i32_60
  let c1_i32_62 : BitVec 32 := 1#32
  let v112 : BitVec 32 := Scalar.divsi v110 c1_i32_62
  let v113 : BitVec 32 := Scalar.muli v112 c1_i32_62
  let v114 : BitVec 32 := Scalar.addi c0_i32_60 v113
  let v111 : BitVec 32 := Scalar.addi c0_i32_60 v110
  let c1_i32_64 : BitVec 32 := 1#32
  ⟨v114, v111, c1_i32_64⟩
def k0_off3 (v106 : BitVec 32) (k0_t2 : Fin (k0_t2_loop v106).trips) : Fin 3 → Nat :=
  let c0_i32_68 : BitVec 32 := 0#32
  let c0_i32_60 : BitVec 32 := 0#32
  let c256_i32_57 : BitVec 32 := 256#32
  let v107 : BitVec 32 := Scalar.addi v106 c256_i32_57
  let c1_i32_58 : BitVec 32 := 1#32
  let v108 : BitVec 32 := Scalar.subi v107 c1_i32_58
  let c8_i32_59 : BitVec 32 := 8#32
  let v109 : BitVec 32 := Scalar.shrui v108 c8_i32_59
  let v110 : BitVec 32 := Scalar.subi v109 c0_i32_60
  let c1_i32_62 : BitVec 32 := 1#32
  let v112 : BitVec 32 := Scalar.divsi v110 c1_i32_62
  let v113 : BitVec 32 := Scalar.muli v112 c1_i32_62
  let v114 : BitVec 32 := Scalar.addi c0_i32_60 v113
  let c1_i32_64 : BitVec 32 := 1#32
  let arg15 : BitVec 32 := Scf.iv v114 c1_i32_64 k0_t2
  let c256_i32_66 : BitVec 32 := 256#32
  let v118 : BitVec 32 := Scalar.muli arg15 c256_i32_66
  let c0_i32_70 : BitVec 32 := 0#32
  ![0, v118.toNat, 0]
def k0_off4 (v106 : BitVec 32) (k0_t2 : Fin (k0_t2_loop v106).trips) : Fin 3 → Nat :=
  let c0_i32_67 : BitVec 32 := 0#32
  let c0_i32_60 : BitVec 32 := 0#32
  let c256_i32_57 : BitVec 32 := 256#32
  let v107 : BitVec 32 := Scalar.addi v106 c256_i32_57
  let c1_i32_58 : BitVec 32 := 1#32
  let v108 : BitVec 32 := Scalar.subi v107 c1_i32_58
  let c8_i32_59 : BitVec 32 := 8#32
  let v109 : BitVec 32 := Scalar.shrui v108 c8_i32_59
  let v110 : BitVec 32 := Scalar.subi v109 c0_i32_60
  let c1_i32_62 : BitVec 32 := 1#32
  let v112 : BitVec 32 := Scalar.divsi v110 c1_i32_62
  let v113 : BitVec 32 := Scalar.muli v112 c1_i32_62
  let v114 : BitVec 32 := Scalar.addi c0_i32_60 v113
  let c1_i32_64 : BitVec 32 := 1#32
  let arg15 : BitVec 32 := Scf.iv v114 c1_i32_64 k0_t2
  let c256_i32_65 : BitVec 32 := 256#32
  let v117 : BitVec 32 := Scalar.muli arg15 c256_i32_65
  let c0_i32_71 : BitVec 32 := 0#32
  ![0, v117.toNat, 0]

def k0_chk1 (i : grid0.Coords) (v106 : BitVec 32) : Prop :=
  (∀ (k0_h1 : k0_cond1 i = 1#1), (k0_t1_loop v106).OK) ∧
  (∀ k0_t1 : Fin (k0_t1_loop v106).trips, ∀ (k0_h1 : k0_cond1 i = 1#1), ∀ a, (k0_off1 v106 k0_t1) a + S1x256x656.size a ≤ S2x4096x656.size a) ∧
  (∀ k0_t1 : Fin (k0_t1_loop v106).trips, ∀ (k0_h1 : k0_cond1 i = 1#1), ∀ a, (k0_off2 v106 k0_t1) a + S1x256x656.size a ≤ S128x4096x656.size a) ∧
  (∀ k0_t1 : Fin (k0_t1_loop v106).trips, ∀ (k0_h1 : k0_cond1 i = 1#1), ∀ (hinb : ∀ a, (k0_off2 v106 k0_t1) a + S1x256x656.size a ≤ S128x4096x656.size a), (Rect.unit (s := S128x4096x656) (k0_off2 v106 k0_t1) S1x256x656.size hinb).WholeWords (EltTy.packing .i8)) ∧
  (∀ k0_t1 : Fin (k0_t1_loop v106).trips, ∀ (k0_h1 : k0_cond1 i = 1#1), ∀ (hinb : ∀ a, (k0_off1 v106 k0_t1) a + S1x256x656.size a ≤ S2x4096x656.size a), (Rect.unit (s := S2x4096x656) (k0_off1 v106 k0_t1) S1x256x656.size hinb).WholeWords (EltTy.packing .i8)) ∧
  (∀ (k0_h1 : k0_cond1 i = 1#1), (k0_t2_loop v106).OK) ∧
  (∀ k0_t2 : Fin (k0_t2_loop v106).trips, ∀ (k0_h1 : k0_cond1 i = 1#1), ∀ a, (k0_off3 v106 k0_t2) a + S1x256x656.size a ≤ S2x4096x656.size a) ∧
  (∀ k0_t2 : Fin (k0_t2_loop v106).trips, ∀ (k0_h1 : k0_cond1 i = 1#1), ∀ a, (k0_off4 v106 k0_t2) a + S1x256x656.size a ≤ S128x4096x656.size a) ∧
  (∀ k0_t2 : Fin (k0_t2_loop v106).trips, ∀ (k0_h1 : k0_cond1 i = 1#1), ∀ (hinb : ∀ a, (k0_off4 v106 k0_t2) a + S1x256x656.size a ≤ S128x4096x656.size a), (Rect.unit (s := S128x4096x656) (k0_off4 v106 k0_t2) S1x256x656.size hinb).WholeWords (EltTy.packing .i8)) ∧
  (∀ k0_t2 : Fin (k0_t2_loop v106).trips, ∀ (k0_h1 : k0_cond1 i = 1#1), ∀ (hinb : ∀ a, (k0_off3 v106 k0_t2) a + S1x256x656.size a ≤ S2x4096x656.size a), (Rect.unit (s := S2x4096x656) (k0_off3 v106 k0_t2) S1x256x656.size hinb).WholeWords (EltTy.packing .i8))
theorem k0_t1_ok : ∀ (i : grid0.Coords) (v106 : BitVec 32) (k0_hw1 : k0_chk1 i v106), ∀ (k0_h1 : k0_cond1 i = 1#1), (k0_t1_loop v106).OK := fun i v106 k0_hw1 k0_h1 => k0_hw1.1 k0_h1
theorem k0_off1_inb : ∀ (i : grid0.Coords) (v106 : BitVec 32) (k0_hw1 : k0_chk1 i v106) (k0_t1 : Fin (k0_t1_loop v106).trips), ∀ (k0_h1 : k0_cond1 i = 1#1), ∀ a, (k0_off1 v106 k0_t1) a + S1x256x656.size a ≤ S2x4096x656.size a := fun i v106 k0_hw1 k0_t1 k0_h1 => k0_hw1.2.1 k0_t1 k0_h1
theorem k0_off2_inb : ∀ (i : grid0.Coords) (v106 : BitVec 32) (k0_hw1 : k0_chk1 i v106) (k0_t1 : Fin (k0_t1_loop v106).trips), ∀ (k0_h1 : k0_cond1 i = 1#1), ∀ a, (k0_off2 v106 k0_t1) a + S1x256x656.size a ≤ S128x4096x656.size a := fun i v106 k0_hw1 k0_t1 k0_h1 => k0_hw1.2.2.1 k0_t1 k0_h1
theorem k0_off2_wordsi8 : ∀ (i : grid0.Coords) (v106 : BitVec 32) (k0_hw1 : k0_chk1 i v106) (k0_t1 : Fin (k0_t1_loop v106).trips), ∀ (k0_h1 : k0_cond1 i = 1#1), (Rect.unit (s := S128x4096x656) (k0_off2 v106 k0_t1) S1x256x656.size (k0_off2_inb i v106 k0_hw1 k0_t1 k0_h1)).WholeWords (EltTy.packing .i8) := fun i v106 k0_hw1 k0_t1 k0_h1 => k0_hw1.2.2.2.1 k0_t1 k0_h1 (k0_off2_inb i v106 k0_hw1 k0_t1 k0_h1)
theorem k0_off1_wordsi8 : ∀ (i : grid0.Coords) (v106 : BitVec 32) (k0_hw1 : k0_chk1 i v106) (k0_t1 : Fin (k0_t1_loop v106).trips), ∀ (k0_h1 : k0_cond1 i = 1#1), (Rect.unit (s := S2x4096x656) (k0_off1 v106 k0_t1) S1x256x656.size (k0_off1_inb i v106 k0_hw1 k0_t1 k0_h1)).WholeWords (EltTy.packing .i8) := fun i v106 k0_hw1 k0_t1 k0_h1 => k0_hw1.2.2.2.2.1 k0_t1 k0_h1 (k0_off1_inb i v106 k0_hw1 k0_t1 k0_h1)
theorem k0_t2_ok : ∀ (i : grid0.Coords) (v106 : BitVec 32) (k0_hw1 : k0_chk1 i v106), ∀ (k0_h1 : k0_cond1 i = 1#1), (k0_t2_loop v106).OK := fun i v106 k0_hw1 k0_h1 => k0_hw1.2.2.2.2.2.1 k0_h1
theorem k0_off3_inb : ∀ (i : grid0.Coords) (v106 : BitVec 32) (k0_hw1 : k0_chk1 i v106) (k0_t2 : Fin (k0_t2_loop v106).trips), ∀ (k0_h1 : k0_cond1 i = 1#1), ∀ a, (k0_off3 v106 k0_t2) a + S1x256x656.size a ≤ S2x4096x656.size a := fun i v106 k0_hw1 k0_t2 k0_h1 => k0_hw1.2.2.2.2.2.2.1 k0_t2 k0_h1
theorem k0_off4_inb : ∀ (i : grid0.Coords) (v106 : BitVec 32) (k0_hw1 : k0_chk1 i v106) (k0_t2 : Fin (k0_t2_loop v106).trips), ∀ (k0_h1 : k0_cond1 i = 1#1), ∀ a, (k0_off4 v106 k0_t2) a + S1x256x656.size a ≤ S128x4096x656.size a := fun i v106 k0_hw1 k0_t2 k0_h1 => k0_hw1.2.2.2.2.2.2.2.1 k0_t2 k0_h1
theorem k0_off4_wordsi8 : ∀ (i : grid0.Coords) (v106 : BitVec 32) (k0_hw1 : k0_chk1 i v106) (k0_t2 : Fin (k0_t2_loop v106).trips), ∀ (k0_h1 : k0_cond1 i = 1#1), (Rect.unit (s := S128x4096x656) (k0_off4 v106 k0_t2) S1x256x656.size (k0_off4_inb i v106 k0_hw1 k0_t2 k0_h1)).WholeWords (EltTy.packing .i8) := fun i v106 k0_hw1 k0_t2 k0_h1 => k0_hw1.2.2.2.2.2.2.2.2.1 k0_t2 k0_h1 (k0_off4_inb i v106 k0_hw1 k0_t2 k0_h1)
theorem k0_off3_wordsi8 : ∀ (i : grid0.Coords) (v106 : BitVec 32) (k0_hw1 : k0_chk1 i v106) (k0_t2 : Fin (k0_t2_loop v106).trips), ∀ (k0_h1 : k0_cond1 i = 1#1), (Rect.unit (s := S2x4096x656) (k0_off3 v106 k0_t2) S1x256x656.size (k0_off3_inb i v106 k0_hw1 k0_t2 k0_h1)).WholeWords (EltTy.packing .i8) := fun i v106 k0_hw1 k0_t2 k0_h1 => k0_hw1.2.2.2.2.2.2.2.2.2 k0_t2 k0_h1 (k0_off3_inb i v106 k0_hw1 k0_t2 k0_h1)

def k0_cond2 (i : grid0.Coords) : BitVec 1 :=
  let arg0 : BitVec 32 := BitVec.ofNat 32 (i 0).val
  let c1_i32_1 : BitVec 32 := 1#32
  let v4 : BitVec 32 := Scalar.addi arg0 c1_i32_1
  let c128_i32 : BitVec 32 := 128#32
  let v5 : BitVec 1 := Scalar.cmpi .slt v4 c128_i32
  let v6 : BitVec 32 := Scalar.extui v5
  let c0_i32_2 : BitVec 32 := 0#32
  let v7 : BitVec 1 := Scalar.cmpi .ne v6 c0_i32_2
  v7

def k0_off5 (i : grid0.Coords) : Fin 1 → Nat :=
  let arg0 : BitVec 32 := BitVec.ofNat 32 (i 0).val
  let c1_i32_55 : BitVec 32 := 1#32
  let v104 : BitVec 32 := Scalar.addi arg0 c1_i32_55
  let v105 : Index := Scalar.indexCast v104
  ![v105.toNat]
@[reducible] def k0_t3_loop (v106 : BitVec 32) : Scf.Loop 32 :=
  let c0_i32_59 : BitVec 32 := 0#32
  let c256_i32_56 : BitVec 32 := 256#32
  let v107 : BitVec 32 := Scalar.addi v106 c256_i32_56
  let c1_i32_57 : BitVec 32 := 1#32
  let v108 : BitVec 32 := Scalar.subi v107 c1_i32_57
  let c8_i32_58 : BitVec 32 := 8#32
  let v109 : BitVec 32 := Scalar.shrui v108 c8_i32_58
  let v110 : BitVec 32 := Scalar.subi v109 c0_i32_59
  let c1_i32_61 : BitVec 32 := 1#32
  let v112 : BitVec 32 := Scalar.divsi v110 c1_i32_61
  let v113 : BitVec 32 := Scalar.muli v112 c1_i32_61
  let v114 : BitVec 32 := Scalar.addi c0_i32_59 v113
  let c1_i32_62 : BitVec 32 := 1#32
  ⟨c0_i32_59, v114, c1_i32_62⟩

def k0_off6 (i : grid0.Coords) : Fin 1 → Nat :=
  let c1_i32_54 : BitVec 32 := 1#32
  let arg0 : BitVec 32 := BitVec.ofNat 32 (i 0).val
  let c1_i32 : BitVec 32 := 1#32
  let v3 : BitVec 32 := Scalar.andi arg0 c1_i32
  let v103 : BitVec 32 := Scalar.subi c1_i32_54 v3
  ![v103.toNat]
def k0_off7 (i : grid0.Coords) (v106 : BitVec 32) (k0_t3 : Fin (k0_t3_loop v106).trips) : Fin 3 → Nat :=
  let c1_i32_54 : BitVec 32 := 1#32
  let arg0 : BitVec 32 := BitVec.ofNat 32 (i 0).val
  let c1_i32 : BitVec 32 := 1#32
  let v3 : BitVec 32 := Scalar.andi arg0 c1_i32
  let v103 : BitVec 32 := Scalar.subi c1_i32_54 v3
  let c0_i32_59 : BitVec 32 := 0#32
  let c1_i32_62 : BitVec 32 := 1#32
  let arg15 : BitVec 32 := Scf.iv c0_i32_59 c1_i32_62 k0_t3
  let c256_i32_65 : BitVec 32 := 256#32
  let v118 : BitVec 32 := Scalar.muli arg15 c256_i32_65
  let c0_i32_66 : BitVec 32 := 0#32
  ![v103.toNat, v118.toNat, 0]
def k0_off8 (i : grid0.Coords) (v106 : BitVec 32) (k0_t3 : Fin (k0_t3_loop v106).trips) : Fin 3 → Nat :=
  let arg0 : BitVec 32 := BitVec.ofNat 32 (i 0).val
  let c1_i32_53 : BitVec 32 := 1#32
  let v102 : BitVec 32 := Scalar.addi arg0 c1_i32_53
  let c0_i32_59 : BitVec 32 := 0#32
  let c1_i32_62 : BitVec 32 := 1#32
  let arg15 : BitVec 32 := Scf.iv c0_i32_59 c1_i32_62 k0_t3
  let c256_i32_64 : BitVec 32 := 256#32
  let v117 : BitVec 32 := Scalar.muli arg15 c256_i32_64
  let c0_i32_67 : BitVec 32 := 0#32
  ![v102.toNat, v117.toNat, 0]
@[reducible] def k0_t4_loop (v106 : BitVec 32) : Scf.Loop 32 :=
  let c0_i32_59 : BitVec 32 := 0#32
  let c256_i32_56 : BitVec 32 := 256#32
  let v107 : BitVec 32 := Scalar.addi v106 c256_i32_56
  let c1_i32_57 : BitVec 32 := 1#32
  let v108 : BitVec 32 := Scalar.subi v107 c1_i32_57
  let c8_i32_58 : BitVec 32 := 8#32
  let v109 : BitVec 32 := Scalar.shrui v108 c8_i32_58
  let v110 : BitVec 32 := Scalar.subi v109 c0_i32_59
  let c1_i32_61 : BitVec 32 := 1#32
  let v112 : BitVec 32 := Scalar.divsi v110 c1_i32_61
  let v113 : BitVec 32 := Scalar.muli v112 c1_i32_61
  let v114 : BitVec 32 := Scalar.addi c0_i32_59 v113
  let v111 : BitVec 32 := Scalar.addi c0_i32_59 v110
  let c1_i32_63 : BitVec 32 := 1#32
  ⟨v114, v111, c1_i32_63⟩
def k0_off9 (i : grid0.Coords) : Fin 1 → Nat :=
  let c1_i32_54 : BitVec 32 := 1#32
  let arg0 : BitVec 32 := BitVec.ofNat 32 (i 0).val
  let c1_i32 : BitVec 32 := 1#32
  let v3 : BitVec 32 := Scalar.andi arg0 c1_i32
  let v103 : BitVec 32 := Scalar.subi c1_i32_54 v3
  ![v103.toNat]
def k0_off10 (i : grid0.Coords) (v106 : BitVec 32) (k0_t4 : Fin (k0_t4_loop v106).trips) : Fin 3 → Nat :=
  let c1_i32_54 : BitVec 32 := 1#32
  let arg0 : BitVec 32 := BitVec.ofNat 32 (i 0).val
  let c1_i32 : BitVec 32 := 1#32
  let v3 : BitVec 32 := Scalar.andi arg0 c1_i32
  let v103 : BitVec 32 := Scalar.subi c1_i32_54 v3
  let c0_i32_59 : BitVec 32 := 0#32
  let c256_i32_56 : BitVec 32 := 256#32
  let v107 : BitVec 32 := Scalar.addi v106 c256_i32_56
  let c1_i32_57 : BitVec 32 := 1#32
  let v108 : BitVec 32 := Scalar.subi v107 c1_i32_57
  let c8_i32_58 : BitVec 32 := 8#32
  let v109 : BitVec 32 := Scalar.shrui v108 c8_i32_58
  let v110 : BitVec 32 := Scalar.subi v109 c0_i32_59
  let c1_i32_61 : BitVec 32 := 1#32
  let v112 : BitVec 32 := Scalar.divsi v110 c1_i32_61
  let v113 : BitVec 32 := Scalar.muli v112 c1_i32_61
  let v114 : BitVec 32 := Scalar.addi c0_i32_59 v113
  let c1_i32_63 : BitVec 32 := 1#32
  let arg15 : BitVec 32 := Scf.iv v114 c1_i32_63 k0_t4
  let c256_i32_65 : BitVec 32 := 256#32
  let v118 : BitVec 32 := Scalar.muli arg15 c256_i32_65
  let c0_i32_66 : BitVec 32 := 0#32
  ![v103.toNat, v118.toNat, 0]
def k0_off11 (i : grid0.Coords) (v106 : BitVec 32) (k0_t4 : Fin (k0_t4_loop v106).trips) : Fin 3 → Nat :=
  let arg0 : BitVec 32 := BitVec.ofNat 32 (i 0).val
  let c1_i32_53 : BitVec 32 := 1#32
  let v102 : BitVec 32 := Scalar.addi arg0 c1_i32_53
  let c0_i32_59 : BitVec 32 := 0#32
  let c256_i32_56 : BitVec 32 := 256#32
  let v107 : BitVec 32 := Scalar.addi v106 c256_i32_56
  let c1_i32_57 : BitVec 32 := 1#32
  let v108 : BitVec 32 := Scalar.subi v107 c1_i32_57
  let c8_i32_58 : BitVec 32 := 8#32
  let v109 : BitVec 32 := Scalar.shrui v108 c8_i32_58
  let v110 : BitVec 32 := Scalar.subi v109 c0_i32_59
  let c1_i32_61 : BitVec 32 := 1#32
  let v112 : BitVec 32 := Scalar.divsi v110 c1_i32_61
  let v113 : BitVec 32 := Scalar.muli v112 c1_i32_61
  let v114 : BitVec 32 := Scalar.addi c0_i32_59 v113
  let c1_i32_63 : BitVec 32 := 1#32
  let arg15 : BitVec 32 := Scf.iv v114 c1_i32_63 k0_t4
  let c256_i32_64 : BitVec 32 := 256#32
  let v117 : BitVec 32 := Scalar.muli arg15 c256_i32_64
  let c0_i32_67 : BitVec 32 := 0#32
  ![v102.toNat, v117.toNat, 0]

def k0_chk2 (i : grid0.Coords) (v106 : BitVec 32) : Prop :=
  (∀ (k0_h2 : k0_cond2 i = 1#1), (k0_t3_loop v106).OK) ∧
  (∀ k0_t3 : Fin (k0_t3_loop v106).trips, ∀ (k0_h2 : k0_cond2 i = 1#1), ∀ a, (k0_off7 i v106 k0_t3) a + S1x256x656.size a ≤ S2x4096x656.size a) ∧
  (∀ k0_t3 : Fin (k0_t3_loop v106).trips, ∀ (k0_h2 : k0_cond2 i = 1#1), ∀ a, (k0_off8 i v106 k0_t3) a + S1x256x656.size a ≤ S128x4096x656.size a) ∧
  (∀ k0_t3 : Fin (k0_t3_loop v106).trips, ∀ (k0_h2 : k0_cond2 i = 1#1), ∀ (hinb : ∀ a, (k0_off8 i v106 k0_t3) a + S1x256x656.size a ≤ S128x4096x656.size a), (Rect.unit (s := S128x4096x656) (k0_off8 i v106 k0_t3) S1x256x656.size hinb).WholeWords (EltTy.packing .i8)) ∧
  (∀ k0_t3 : Fin (k0_t3_loop v106).trips, ∀ (k0_h2 : k0_cond2 i = 1#1), ∀ (hinb : ∀ a, (k0_off7 i v106 k0_t3) a + S1x256x656.size a ≤ S2x4096x656.size a), (Rect.unit (s := S2x4096x656) (k0_off7 i v106 k0_t3) S1x256x656.size hinb).WholeWords (EltTy.packing .i8)) ∧
  (∀ (k0_h2 : k0_cond2 i = 1#1), (k0_t4_loop v106).OK) ∧
  (∀ k0_t4 : Fin (k0_t4_loop v106).trips, ∀ (k0_h2 : k0_cond2 i = 1#1), ∀ a, (k0_off10 i v106 k0_t4) a + S1x256x656.size a ≤ S2x4096x656.size a) ∧
  (∀ k0_t4 : Fin (k0_t4_loop v106).trips, ∀ (k0_h2 : k0_cond2 i = 1#1), ∀ a, (k0_off11 i v106 k0_t4) a + S1x256x656.size a ≤ S128x4096x656.size a) ∧
  (∀ k0_t4 : Fin (k0_t4_loop v106).trips, ∀ (k0_h2 : k0_cond2 i = 1#1), ∀ (hinb : ∀ a, (k0_off11 i v106 k0_t4) a + S1x256x656.size a ≤ S128x4096x656.size a), (Rect.unit (s := S128x4096x656) (k0_off11 i v106 k0_t4) S1x256x656.size hinb).WholeWords (EltTy.packing .i8)) ∧
  (∀ k0_t4 : Fin (k0_t4_loop v106).trips, ∀ (k0_h2 : k0_cond2 i = 1#1), ∀ (hinb : ∀ a, (k0_off10 i v106 k0_t4) a + S1x256x656.size a ≤ S2x4096x656.size a), (Rect.unit (s := S2x4096x656) (k0_off10 i v106 k0_t4) S1x256x656.size hinb).WholeWords (EltTy.packing .i8))
theorem k0_t3_ok : ∀ (i : grid0.Coords) (v106 : BitVec 32) (k0_hw2 : k0_chk2 i v106), ∀ (k0_h2 : k0_cond2 i = 1#1), (k0_t3_loop v106).OK := fun i v106 k0_hw2 k0_h2 => k0_hw2.1 k0_h2
theorem k0_off7_inb : ∀ (i : grid0.Coords) (v106 : BitVec 32) (k0_hw2 : k0_chk2 i v106) (k0_t3 : Fin (k0_t3_loop v106).trips), ∀ (k0_h2 : k0_cond2 i = 1#1), ∀ a, (k0_off7 i v106 k0_t3) a + S1x256x656.size a ≤ S2x4096x656.size a := fun i v106 k0_hw2 k0_t3 k0_h2 => k0_hw2.2.1 k0_t3 k0_h2
theorem k0_off8_inb : ∀ (i : grid0.Coords) (v106 : BitVec 32) (k0_hw2 : k0_chk2 i v106) (k0_t3 : Fin (k0_t3_loop v106).trips), ∀ (k0_h2 : k0_cond2 i = 1#1), ∀ a, (k0_off8 i v106 k0_t3) a + S1x256x656.size a ≤ S128x4096x656.size a := fun i v106 k0_hw2 k0_t3 k0_h2 => k0_hw2.2.2.1 k0_t3 k0_h2
theorem k0_off8_wordsi8 : ∀ (i : grid0.Coords) (v106 : BitVec 32) (k0_hw2 : k0_chk2 i v106) (k0_t3 : Fin (k0_t3_loop v106).trips), ∀ (k0_h2 : k0_cond2 i = 1#1), (Rect.unit (s := S128x4096x656) (k0_off8 i v106 k0_t3) S1x256x656.size (k0_off8_inb i v106 k0_hw2 k0_t3 k0_h2)).WholeWords (EltTy.packing .i8) := fun i v106 k0_hw2 k0_t3 k0_h2 => k0_hw2.2.2.2.1 k0_t3 k0_h2 (k0_off8_inb i v106 k0_hw2 k0_t3 k0_h2)
theorem k0_off7_wordsi8 : ∀ (i : grid0.Coords) (v106 : BitVec 32) (k0_hw2 : k0_chk2 i v106) (k0_t3 : Fin (k0_t3_loop v106).trips), ∀ (k0_h2 : k0_cond2 i = 1#1), (Rect.unit (s := S2x4096x656) (k0_off7 i v106 k0_t3) S1x256x656.size (k0_off7_inb i v106 k0_hw2 k0_t3 k0_h2)).WholeWords (EltTy.packing .i8) := fun i v106 k0_hw2 k0_t3 k0_h2 => k0_hw2.2.2.2.2.1 k0_t3 k0_h2 (k0_off7_inb i v106 k0_hw2 k0_t3 k0_h2)
theorem k0_t4_ok : ∀ (i : grid0.Coords) (v106 : BitVec 32) (k0_hw2 : k0_chk2 i v106), ∀ (k0_h2 : k0_cond2 i = 1#1), (k0_t4_loop v106).OK := fun i v106 k0_hw2 k0_h2 => k0_hw2.2.2.2.2.2.1 k0_h2
theorem k0_off10_inb : ∀ (i : grid0.Coords) (v106 : BitVec 32) (k0_hw2 : k0_chk2 i v106) (k0_t4 : Fin (k0_t4_loop v106).trips), ∀ (k0_h2 : k0_cond2 i = 1#1), ∀ a, (k0_off10 i v106 k0_t4) a + S1x256x656.size a ≤ S2x4096x656.size a := fun i v106 k0_hw2 k0_t4 k0_h2 => k0_hw2.2.2.2.2.2.2.1 k0_t4 k0_h2
theorem k0_off11_inb : ∀ (i : grid0.Coords) (v106 : BitVec 32) (k0_hw2 : k0_chk2 i v106) (k0_t4 : Fin (k0_t4_loop v106).trips), ∀ (k0_h2 : k0_cond2 i = 1#1), ∀ a, (k0_off11 i v106 k0_t4) a + S1x256x656.size a ≤ S128x4096x656.size a := fun i v106 k0_hw2 k0_t4 k0_h2 => k0_hw2.2.2.2.2.2.2.2.1 k0_t4 k0_h2
theorem k0_off11_wordsi8 : ∀ (i : grid0.Coords) (v106 : BitVec 32) (k0_hw2 : k0_chk2 i v106) (k0_t4 : Fin (k0_t4_loop v106).trips), ∀ (k0_h2 : k0_cond2 i = 1#1), (Rect.unit (s := S128x4096x656) (k0_off11 i v106 k0_t4) S1x256x656.size (k0_off11_inb i v106 k0_hw2 k0_t4 k0_h2)).WholeWords (EltTy.packing .i8) := fun i v106 k0_hw2 k0_t4 k0_h2 => k0_hw2.2.2.2.2.2.2.2.2.1 k0_t4 k0_h2 (k0_off11_inb i v106 k0_hw2 k0_t4 k0_h2)
theorem k0_off10_wordsi8 : ∀ (i : grid0.Coords) (v106 : BitVec 32) (k0_hw2 : k0_chk2 i v106) (k0_t4 : Fin (k0_t4_loop v106).trips), ∀ (k0_h2 : k0_cond2 i = 1#1), (Rect.unit (s := S2x4096x656) (k0_off10 i v106 k0_t4) S1x256x656.size (k0_off10_inb i v106 k0_hw2 k0_t4 k0_h2)).WholeWords (EltTy.packing .i8) := fun i v106 k0_hw2 k0_t4 k0_h2 => k0_hw2.2.2.2.2.2.2.2.2.2 k0_t4 k0_h2 (k0_off10_inb i v106 k0_hw2 k0_t4 k0_h2)

def k0_off12 (i : grid0.Coords) : Fin 1 → Nat :=
  let arg0 : BitVec 32 := BitVec.ofNat 32 (i 0).val
  let v8 : Index := Scalar.indexCast arg0
  ![v8.toNat]
@[reducible] def k0_t5_loop (v9 : BitVec 32) : Scf.Loop 32 :=
  let c0_i32_4 : BitVec 32 := 0#32
  let c256_i32 : BitVec 32 := 256#32
  let v10 : BitVec 32 := Scalar.addi v9 c256_i32
  let c1_i32_3 : BitVec 32 := 1#32
  let v11 : BitVec 32 := Scalar.subi v10 c1_i32_3
  let c8_i32 : BitVec 32 := 8#32
  let v12 : BitVec 32 := Scalar.shrui v11 c8_i32
  let v13 : BitVec 32 := Scalar.subi v12 c0_i32_4
  let c1_i32_6 : BitVec 32 := 1#32
  let v15 : BitVec 32 := Scalar.divsi v13 c1_i32_6
  let v16 : BitVec 32 := Scalar.muli v15 c1_i32_6
  let v17 : BitVec 32 := Scalar.addi c0_i32_4 v16
  let c1_i32_7 : BitVec 32 := 1#32
  ⟨c0_i32_4, v17, c1_i32_7⟩

def k0_off13 (i : grid0.Coords) : Fin 1 → Nat :=
  let arg0 : BitVec 32 := BitVec.ofNat 32 (i 0).val
  let c1_i32 : BitVec 32 := 1#32
  let v3 : BitVec 32 := Scalar.andi arg0 c1_i32
  ![v3.toNat]
def k0_off14 (i : grid0.Coords) (v9 : BitVec 32) (k0_t5 : Fin (k0_t5_loop v9).trips) : Fin 3 → Nat :=
  let arg0 : BitVec 32 := BitVec.ofNat 32 (i 0).val
  let c1_i32 : BitVec 32 := 1#32
  let v3 : BitVec 32 := Scalar.andi arg0 c1_i32
  let c0_i32_4 : BitVec 32 := 0#32
  let c1_i32_7 : BitVec 32 := 1#32
  let arg15 : BitVec 32 := Scf.iv c0_i32_4 c1_i32_7 k0_t5
  let c256_i32_54 : BitVec 32 := 256#32
  let v103 : BitVec 32 := Scalar.muli arg15 c256_i32_54
  let c0_i32_55 : BitVec 32 := 0#32
  ![v3.toNat, v103.toNat, 0]
def k0_off15 (i : grid0.Coords) (v9 : BitVec 32) (k0_t5 : Fin (k0_t5_loop v9).trips) : Fin 3 → Nat :=
  let arg0 : BitVec 32 := BitVec.ofNat 32 (i 0).val
  let c0_i32_4 : BitVec 32 := 0#32
  let c1_i32_7 : BitVec 32 := 1#32
  let arg15 : BitVec 32 := Scf.iv c0_i32_4 c1_i32_7 k0_t5
  let c256_i32_53 : BitVec 32 := 256#32
  let v102 : BitVec 32 := Scalar.muli arg15 c256_i32_53
  let c0_i32_56 : BitVec 32 := 0#32
  ![arg0.toNat, v102.toNat, 0]
@[reducible] def k0_t6_loop (v9 : BitVec 32) : Scf.Loop 32 :=
  let c0_i32_4 : BitVec 32 := 0#32
  let c256_i32 : BitVec 32 := 256#32
  let v10 : BitVec 32 := Scalar.addi v9 c256_i32
  let c1_i32_3 : BitVec 32 := 1#32
  let v11 : BitVec 32 := Scalar.subi v10 c1_i32_3
  let c8_i32 : BitVec 32 := 8#32
  let v12 : BitVec 32 := Scalar.shrui v11 c8_i32
  let v13 : BitVec 32 := Scalar.subi v12 c0_i32_4
  let c1_i32_6 : BitVec 32 := 1#32
  let v15 : BitVec 32 := Scalar.divsi v13 c1_i32_6
  let v16 : BitVec 32 := Scalar.muli v15 c1_i32_6
  let v17 : BitVec 32 := Scalar.addi c0_i32_4 v16
  let v14 : BitVec 32 := Scalar.addi c0_i32_4 v13
  let c1_i32_8 : BitVec 32 := 1#32
  ⟨v17, v14, c1_i32_8⟩
def k0_off16 (i : grid0.Coords) : Fin 1 → Nat :=
  let arg0 : BitVec 32 := BitVec.ofNat 32 (i 0).val
  let c1_i32 : BitVec 32 := 1#32
  let v3 : BitVec 32 := Scalar.andi arg0 c1_i32
  ![v3.toNat]
def k0_off17 (i : grid0.Coords) (v9 : BitVec 32) (k0_t6 : Fin (k0_t6_loop v9).trips) : Fin 3 → Nat :=
  let arg0 : BitVec 32 := BitVec.ofNat 32 (i 0).val
  let c1_i32 : BitVec 32 := 1#32
  let v3 : BitVec 32 := Scalar.andi arg0 c1_i32
  let c0_i32_4 : BitVec 32 := 0#32
  let c256_i32 : BitVec 32 := 256#32
  let v10 : BitVec 32 := Scalar.addi v9 c256_i32
  let c1_i32_3 : BitVec 32 := 1#32
  let v11 : BitVec 32 := Scalar.subi v10 c1_i32_3
  let c8_i32 : BitVec 32 := 8#32
  let v12 : BitVec 32 := Scalar.shrui v11 c8_i32
  let v13 : BitVec 32 := Scalar.subi v12 c0_i32_4
  let c1_i32_6 : BitVec 32 := 1#32
  let v15 : BitVec 32 := Scalar.divsi v13 c1_i32_6
  let v16 : BitVec 32 := Scalar.muli v15 c1_i32_6
  let v17 : BitVec 32 := Scalar.addi c0_i32_4 v16
  let c1_i32_8 : BitVec 32 := 1#32
  let arg15 : BitVec 32 := Scf.iv v17 c1_i32_8 k0_t6
  let c256_i32_54 : BitVec 32 := 256#32
  let v103 : BitVec 32 := Scalar.muli arg15 c256_i32_54
  let c0_i32_55 : BitVec 32 := 0#32
  ![v3.toNat, v103.toNat, 0]
def k0_off18 (i : grid0.Coords) (v9 : BitVec 32) (k0_t6 : Fin (k0_t6_loop v9).trips) : Fin 3 → Nat :=
  let arg0 : BitVec 32 := BitVec.ofNat 32 (i 0).val
  let c0_i32_4 : BitVec 32 := 0#32
  let c256_i32 : BitVec 32 := 256#32
  let v10 : BitVec 32 := Scalar.addi v9 c256_i32
  let c1_i32_3 : BitVec 32 := 1#32
  let v11 : BitVec 32 := Scalar.subi v10 c1_i32_3
  let c8_i32 : BitVec 32 := 8#32
  let v12 : BitVec 32 := Scalar.shrui v11 c8_i32
  let v13 : BitVec 32 := Scalar.subi v12 c0_i32_4
  let c1_i32_6 : BitVec 32 := 1#32
  let v15 : BitVec 32 := Scalar.divsi v13 c1_i32_6
  let v16 : BitVec 32 := Scalar.muli v15 c1_i32_6
  let v17 : BitVec 32 := Scalar.addi c0_i32_4 v16
  let c1_i32_8 : BitVec 32 := 1#32
  let arg15 : BitVec 32 := Scf.iv v17 c1_i32_8 k0_t6
  let c256_i32_53 : BitVec 32 := 256#32
  let v102 : BitVec 32 := Scalar.muli arg15 c256_i32_53
  let c0_i32_56 : BitVec 32 := 0#32
  ![arg0.toNat, v102.toNat, 0]

def k0_chk3 (i : grid0.Coords) (v9 : BitVec 32) : Prop :=
  ((k0_t5_loop v9).OK) ∧
  (∀ k0_t5 : Fin (k0_t5_loop v9).trips, ∀ a, (k0_off14 i v9 k0_t5) a + S1x256x656.size a ≤ S2x4096x656.size a) ∧
  (∀ k0_t5 : Fin (k0_t5_loop v9).trips, ∀ a, (k0_off15 i v9 k0_t5) a + S1x256x656.size a ≤ S128x4096x656.size a) ∧
  (∀ k0_t5 : Fin (k0_t5_loop v9).trips, ∀ (hinb : ∀ a, (k0_off15 i v9 k0_t5) a + S1x256x656.size a ≤ S128x4096x656.size a), (Rect.unit (s := S128x4096x656) (k0_off15 i v9 k0_t5) S1x256x656.size hinb).WholeWords (EltTy.packing .i8)) ∧
  (∀ k0_t5 : Fin (k0_t5_loop v9).trips, ∀ (hinb : ∀ a, (k0_off14 i v9 k0_t5) a + S1x256x656.size a ≤ S2x4096x656.size a), (Rect.unit (s := S2x4096x656) (k0_off14 i v9 k0_t5) S1x256x656.size hinb).WholeWords (EltTy.packing .i8)) ∧
  ((k0_t6_loop v9).OK) ∧
  (∀ k0_t6 : Fin (k0_t6_loop v9).trips, ∀ a, (k0_off17 i v9 k0_t6) a + S1x256x656.size a ≤ S2x4096x656.size a) ∧
  (∀ k0_t6 : Fin (k0_t6_loop v9).trips, ∀ a, (k0_off18 i v9 k0_t6) a + S1x256x656.size a ≤ S128x4096x656.size a) ∧
  (∀ k0_t6 : Fin (k0_t6_loop v9).trips, ∀ (hinb : ∀ a, (k0_off18 i v9 k0_t6) a + S1x256x656.size a ≤ S128x4096x656.size a), (Rect.unit (s := S128x4096x656) (k0_off18 i v9 k0_t6) S1x256x656.size hinb).WholeWords (EltTy.packing .i8)) ∧
  (∀ k0_t6 : Fin (k0_t6_loop v9).trips, ∀ (hinb : ∀ a, (k0_off17 i v9 k0_t6) a + S1x256x656.size a ≤ S2x4096x656.size a), (Rect.unit (s := S2x4096x656) (k0_off17 i v9 k0_t6) S1x256x656.size hinb).WholeWords (EltTy.packing .i8))
theorem k0_t5_ok : ∀ (i : grid0.Coords) (v9 : BitVec 32) (k0_hw3 : k0_chk3 i v9), (k0_t5_loop v9).OK := fun i v9 k0_hw3 => k0_hw3.1
theorem k0_off14_inb : ∀ (i : grid0.Coords) (v9 : BitVec 32) (k0_hw3 : k0_chk3 i v9) (k0_t5 : Fin (k0_t5_loop v9).trips), ∀ a, (k0_off14 i v9 k0_t5) a + S1x256x656.size a ≤ S2x4096x656.size a := fun i v9 k0_hw3 k0_t5 => k0_hw3.2.1 k0_t5
theorem k0_off15_inb : ∀ (i : grid0.Coords) (v9 : BitVec 32) (k0_hw3 : k0_chk3 i v9) (k0_t5 : Fin (k0_t5_loop v9).trips), ∀ a, (k0_off15 i v9 k0_t5) a + S1x256x656.size a ≤ S128x4096x656.size a := fun i v9 k0_hw3 k0_t5 => k0_hw3.2.2.1 k0_t5
theorem k0_off15_wordsi8 : ∀ (i : grid0.Coords) (v9 : BitVec 32) (k0_hw3 : k0_chk3 i v9) (k0_t5 : Fin (k0_t5_loop v9).trips), (Rect.unit (s := S128x4096x656) (k0_off15 i v9 k0_t5) S1x256x656.size (k0_off15_inb i v9 k0_hw3 k0_t5)).WholeWords (EltTy.packing .i8) := fun i v9 k0_hw3 k0_t5 => k0_hw3.2.2.2.1 k0_t5 (k0_off15_inb i v9 k0_hw3 k0_t5)
theorem k0_off14_wordsi8 : ∀ (i : grid0.Coords) (v9 : BitVec 32) (k0_hw3 : k0_chk3 i v9) (k0_t5 : Fin (k0_t5_loop v9).trips), (Rect.unit (s := S2x4096x656) (k0_off14 i v9 k0_t5) S1x256x656.size (k0_off14_inb i v9 k0_hw3 k0_t5)).WholeWords (EltTy.packing .i8) := fun i v9 k0_hw3 k0_t5 => k0_hw3.2.2.2.2.1 k0_t5 (k0_off14_inb i v9 k0_hw3 k0_t5)
theorem k0_t6_ok : ∀ (i : grid0.Coords) (v9 : BitVec 32) (k0_hw3 : k0_chk3 i v9), (k0_t6_loop v9).OK := fun i v9 k0_hw3 => k0_hw3.2.2.2.2.2.1
theorem k0_off17_inb : ∀ (i : grid0.Coords) (v9 : BitVec 32) (k0_hw3 : k0_chk3 i v9) (k0_t6 : Fin (k0_t6_loop v9).trips), ∀ a, (k0_off17 i v9 k0_t6) a + S1x256x656.size a ≤ S2x4096x656.size a := fun i v9 k0_hw3 k0_t6 => k0_hw3.2.2.2.2.2.2.1 k0_t6
theorem k0_off18_inb : ∀ (i : grid0.Coords) (v9 : BitVec 32) (k0_hw3 : k0_chk3 i v9) (k0_t6 : Fin (k0_t6_loop v9).trips), ∀ a, (k0_off18 i v9 k0_t6) a + S1x256x656.size a ≤ S128x4096x656.size a := fun i v9 k0_hw3 k0_t6 => k0_hw3.2.2.2.2.2.2.2.1 k0_t6
theorem k0_off18_wordsi8 : ∀ (i : grid0.Coords) (v9 : BitVec 32) (k0_hw3 : k0_chk3 i v9) (k0_t6 : Fin (k0_t6_loop v9).trips), (Rect.unit (s := S128x4096x656) (k0_off18 i v9 k0_t6) S1x256x656.size (k0_off18_inb i v9 k0_hw3 k0_t6)).WholeWords (EltTy.packing .i8) := fun i v9 k0_hw3 k0_t6 => k0_hw3.2.2.2.2.2.2.2.2.1 k0_t6 (k0_off18_inb i v9 k0_hw3 k0_t6)
theorem k0_off17_wordsi8 : ∀ (i : grid0.Coords) (v9 : BitVec 32) (k0_hw3 : k0_chk3 i v9) (k0_t6 : Fin (k0_t6_loop v9).trips), (Rect.unit (s := S2x4096x656) (k0_off17 i v9 k0_t6) S1x256x656.size (k0_off17_inb i v9 k0_hw3 k0_t6)).WholeWords (EltTy.packing .i8) := fun i v9 k0_hw3 k0_t6 => k0_hw3.2.2.2.2.2.2.2.2.2 k0_t6 (k0_off17_inb i v9 k0_hw3 k0_t6)

def k0_off19 (i : grid0.Coords) : Fin 1 → Nat :=
  let arg0 : BitVec 32 := BitVec.ofNat 32 (i 0).val
  let v20 : Index := Scalar.indexCast arg0
  ![v20.toNat]
@[reducible] def k0_t7_loop (v21 : BitVec 32) : Scf.Loop 32 :=
  let c0_i32_32 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v64 : BitVec 32 := Scalar.subi v24 c0_i32_32
  let c1_i32_33 : BitVec 32 := 1#32
  let v66 : BitVec 32 := Scalar.divsi v64 c1_i32_33
  let v67 : BitVec 32 := Scalar.muli v66 c1_i32_33
  let v68 : BitVec 32 := Scalar.addi c0_i32_32 v67
  let c1_i32_34 : BitVec 32 := 1#32
  ⟨c0_i32_32, v68, c1_i32_34⟩

def k0_mult1 (v21 : BitVec 32) (k0_t7 : Fin (k0_t7_loop v21).trips) : BitVec 32 :=
  let c0_i32_32 : BitVec 32 := 0#32
  let c1_i32_34 : BitVec 32 := 1#32
  let arg15 : BitVec 32 := Scf.iv c0_i32_32 c1_i32_34 k0_t7
  let c512_i32_53 : BitVec 32 := 512#32
  let v102 : BitVec 32 := Scalar.muli arg15 c512_i32_53
  v102
def k0_off20 (i : grid0.Coords) (v21 : BitVec 32) (k0_t7 : Fin (k0_t7_loop v21).trips) : Fin 3 → Nat :=
  let arg0 : BitVec 32 := BitVec.ofNat 32 (i 0).val
  let c1_i32 : BitVec 32 := 1#32
  let v3 : BitVec 32 := Scalar.andi arg0 c1_i32
  let v105 : Index := Scalar.indexCast v3
  let c0_i32_32 : BitVec 32 := 0#32
  let c1_i32_34 : BitVec 32 := 1#32
  let arg15 : BitVec 32 := Scf.iv c0_i32_32 c1_i32_34 k0_t7
  let c512_i32_53 : BitVec 32 := 512#32
  let v102 : BitVec 32 := Scalar.muli arg15 c512_i32_53
  let v103 : BitVec 32 := v102
  let v106 : Index := Scalar.indexCast v103
  let c512 : Index := 512#32
  ![v105.toNat, v106.toNat, 512]
def k0_off21 (i : grid0.Coords) (v21 : BitVec 32) (k0_t7 : Fin (k0_t7_loop v21).trips) : Fin 3 → Nat :=
  let arg0 : BitVec 32 := BitVec.ofNat 32 (i 0).val
  let c1_i32 : BitVec 32 := 1#32
  let v3 : BitVec 32 := Scalar.andi arg0 c1_i32
  let v110 : Index := Scalar.indexCast v3
  let c0_i32_32 : BitVec 32 := 0#32
  let c1_i32_34 : BitVec 32 := 1#32
  let arg15 : BitVec 32 := Scf.iv c0_i32_32 c1_i32_34 k0_t7
  let c512_i32_53 : BitVec 32 := 512#32
  let v102 : BitVec 32 := Scalar.muli arg15 c512_i32_53
  let v103 : BitVec 32 := v102
  let v111 : Index := Scalar.indexCast v103
  let c640 : Index := 640#32
  ![v110.toNat, v111.toNat, 640]
def k0_off22 (v21 : BitVec 32) (k0_t7 : Fin (k0_t7_loop v21).trips) : Fin 3 → Nat :=
  let c0_i32_32 : BitVec 32 := 0#32
  let c1_i32_34 : BitVec 32 := 1#32
  let arg15 : BitVec 32 := Scf.iv c0_i32_32 c1_i32_34 k0_t7
  let v153 : Index := Scalar.indexCast arg15
  let c0_61 : Index := 0#32
  let c0_62 : Index := 0#32
  ![v153.toNat, 0, 0]
def k0_off23 (i : grid0.Coords) (v21 : BitVec 32) (k0_t7 : Fin (k0_t7_loop v21).trips) : Fin 3 → Nat :=
  let arg0 : BitVec 32 := BitVec.ofNat 32 (i 0).val
  let c1_i32 : BitVec 32 := 1#32
  let v3 : BitVec 32 := Scalar.andi arg0 c1_i32
  let v157 : Index := Scalar.indexCast v3
  let c0_i32_32 : BitVec 32 := 0#32
  let c1_i32_34 : BitVec 32 := 1#32
  let arg15 : BitVec 32 := Scf.iv c0_i32_32 c1_i32_34 k0_t7
  let c512_i32_53 : BitVec 32 := 512#32
  let v102 : BitVec 32 := Scalar.muli arg15 c512_i32_53
  let v103 : BitVec 32 := v102
  let v158 : Index := Scalar.indexCast v103
  let c0_63 : Index := 0#32
  ![v157.toNat, v158.toNat, 0]
def k0_off24 (i : grid0.Coords) (v21 : BitVec 32) (k0_t7 : Fin (k0_t7_loop v21).trips) : Fin 3 → Nat :=
  let arg0 : BitVec 32 := BitVec.ofNat 32 (i 0).val
  let c1_i32 : BitVec 32 := 1#32
  let v3 : BitVec 32 := Scalar.andi arg0 c1_i32
  let v173 : Index := Scalar.indexCast v3
  let c0_i32_32 : BitVec 32 := 0#32
  let c1_i32_34 : BitVec 32 := 1#32
  let arg15 : BitVec 32 := Scf.iv c0_i32_32 c1_i32_34 k0_t7
  let c512_i32_53 : BitVec 32 := 512#32
  let v102 : BitVec 32 := Scalar.muli arg15 c512_i32_53
  let v103 : BitVec 32 := v102
  let v174 : Index := Scalar.indexCast v103
  let c256 : Index := 256#32
  ![v173.toNat, v174.toNat, 256]
def k0_off25 (v21 : BitVec 32) (k0_t7 : Fin (k0_t7_loop v21).trips) : Fin 3 → Nat :=
  let c0_i32_32 : BitVec 32 := 0#32
  let c1_i32_34 : BitVec 32 := 1#32
  let arg15 : BitVec 32 := Scf.iv c0_i32_32 c1_i32_34 k0_t7
  let v198 : Index := Scalar.indexCast arg15
  let c0_68 : Index := 0#32
  let c0_69 : Index := 0#32
  ![v198.toNat, 0, 0]
@[reducible] def k0_t8_loop (v21 : BitVec 32) : Scf.Loop 32 :=
  let c0_i32_32 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v64 : BitVec 32 := Scalar.subi v24 c0_i32_32
  let c1_i32_33 : BitVec 32 := 1#32
  let v66 : BitVec 32 := Scalar.divsi v64 c1_i32_33
  let v67 : BitVec 32 := Scalar.muli v66 c1_i32_33
  let v68 : BitVec 32 := Scalar.addi c0_i32_32 v67
  let v65 : BitVec 32 := Scalar.addi c0_i32_32 v64
  let c1_i32_35 : BitVec 32 := 1#32
  ⟨v68, v65, c1_i32_35⟩
def k0_mult2 (v21 : BitVec 32) (k0_t8 : Fin (k0_t8_loop v21).trips) : BitVec 32 :=
  let c0_i32_32 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v64 : BitVec 32 := Scalar.subi v24 c0_i32_32
  let c1_i32_33 : BitVec 32 := 1#32
  let v66 : BitVec 32 := Scalar.divsi v64 c1_i32_33
  let v67 : BitVec 32 := Scalar.muli v66 c1_i32_33
  let v68 : BitVec 32 := Scalar.addi c0_i32_32 v67
  let c1_i32_35 : BitVec 32 := 1#32
  let arg15 : BitVec 32 := Scf.iv v68 c1_i32_35 k0_t8
  let c512_i32_53 : BitVec 32 := 512#32
  let v102 : BitVec 32 := Scalar.muli arg15 c512_i32_53
  v102
def k0_off26 (i : grid0.Coords) (v21 : BitVec 32) (k0_t8 : Fin (k0_t8_loop v21).trips) : Fin 3 → Nat :=
  let arg0 : BitVec 32 := BitVec.ofNat 32 (i 0).val
  let c1_i32 : BitVec 32 := 1#32
  let v3 : BitVec 32 := Scalar.andi arg0 c1_i32
  let v105 : Index := Scalar.indexCast v3
  let c0_i32_32 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v64 : BitVec 32 := Scalar.subi v24 c0_i32_32
  let c1_i32_33 : BitVec 32 := 1#32
  let v66 : BitVec 32 := Scalar.divsi v64 c1_i32_33
  let v67 : BitVec 32 := Scalar.muli v66 c1_i32_33
  let v68 : BitVec 32 := Scalar.addi c0_i32_32 v67
  let c1_i32_35 : BitVec 32 := 1#32
  let arg15 : BitVec 32 := Scf.iv v68 c1_i32_35 k0_t8
  let c512_i32_53 : BitVec 32 := 512#32
  let v102 : BitVec 32 := Scalar.muli arg15 c512_i32_53
  let v103 : BitVec 32 := v102
  let v106 : Index := Scalar.indexCast v103
  let c512 : Index := 512#32
  ![v105.toNat, v106.toNat, 512]
def k0_off27 (i : grid0.Coords) (v21 : BitVec 32) (k0_t8 : Fin (k0_t8_loop v21).trips) : Fin 3 → Nat :=
  let arg0 : BitVec 32 := BitVec.ofNat 32 (i 0).val
  let c1_i32 : BitVec 32 := 1#32
  let v3 : BitVec 32 := Scalar.andi arg0 c1_i32
  let v110 : Index := Scalar.indexCast v3
  let c0_i32_32 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v64 : BitVec 32 := Scalar.subi v24 c0_i32_32
  let c1_i32_33 : BitVec 32 := 1#32
  let v66 : BitVec 32 := Scalar.divsi v64 c1_i32_33
  let v67 : BitVec 32 := Scalar.muli v66 c1_i32_33
  let v68 : BitVec 32 := Scalar.addi c0_i32_32 v67
  let c1_i32_35 : BitVec 32 := 1#32
  let arg15 : BitVec 32 := Scf.iv v68 c1_i32_35 k0_t8
  let c512_i32_53 : BitVec 32 := 512#32
  let v102 : BitVec 32 := Scalar.muli arg15 c512_i32_53
  let v103 : BitVec 32 := v102
  let v111 : Index := Scalar.indexCast v103
  let c640 : Index := 640#32
  ![v110.toNat, v111.toNat, 640]
def k0_off28 (v21 : BitVec 32) (k0_t8 : Fin (k0_t8_loop v21).trips) : Fin 3 → Nat :=
  let c0_i32_32 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v64 : BitVec 32 := Scalar.subi v24 c0_i32_32
  let c1_i32_33 : BitVec 32 := 1#32
  let v66 : BitVec 32 := Scalar.divsi v64 c1_i32_33
  let v67 : BitVec 32 := Scalar.muli v66 c1_i32_33
  let v68 : BitVec 32 := Scalar.addi c0_i32_32 v67
  let c1_i32_35 : BitVec 32 := 1#32
  let arg15 : BitVec 32 := Scf.iv v68 c1_i32_35 k0_t8
  let v153 : Index := Scalar.indexCast arg15
  let c0_61 : Index := 0#32
  let c0_62 : Index := 0#32
  ![v153.toNat, 0, 0]
def k0_off29 (i : grid0.Coords) (v21 : BitVec 32) (k0_t8 : Fin (k0_t8_loop v21).trips) : Fin 3 → Nat :=
  let arg0 : BitVec 32 := BitVec.ofNat 32 (i 0).val
  let c1_i32 : BitVec 32 := 1#32
  let v3 : BitVec 32 := Scalar.andi arg0 c1_i32
  let v157 : Index := Scalar.indexCast v3
  let c0_i32_32 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v64 : BitVec 32 := Scalar.subi v24 c0_i32_32
  let c1_i32_33 : BitVec 32 := 1#32
  let v66 : BitVec 32 := Scalar.divsi v64 c1_i32_33
  let v67 : BitVec 32 := Scalar.muli v66 c1_i32_33
  let v68 : BitVec 32 := Scalar.addi c0_i32_32 v67
  let c1_i32_35 : BitVec 32 := 1#32
  let arg15 : BitVec 32 := Scf.iv v68 c1_i32_35 k0_t8
  let c512_i32_53 : BitVec 32 := 512#32
  let v102 : BitVec 32 := Scalar.muli arg15 c512_i32_53
  let v103 : BitVec 32 := v102
  let v158 : Index := Scalar.indexCast v103
  let c0_63 : Index := 0#32
  ![v157.toNat, v158.toNat, 0]
def k0_off30 (i : grid0.Coords) (v21 : BitVec 32) (k0_t8 : Fin (k0_t8_loop v21).trips) : Fin 3 → Nat :=
  let arg0 : BitVec 32 := BitVec.ofNat 32 (i 0).val
  let c1_i32 : BitVec 32 := 1#32
  let v3 : BitVec 32 := Scalar.andi arg0 c1_i32
  let v173 : Index := Scalar.indexCast v3
  let c0_i32_32 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v64 : BitVec 32 := Scalar.subi v24 c0_i32_32
  let c1_i32_33 : BitVec 32 := 1#32
  let v66 : BitVec 32 := Scalar.divsi v64 c1_i32_33
  let v67 : BitVec 32 := Scalar.muli v66 c1_i32_33
  let v68 : BitVec 32 := Scalar.addi c0_i32_32 v67
  let c1_i32_35 : BitVec 32 := 1#32
  let arg15 : BitVec 32 := Scf.iv v68 c1_i32_35 k0_t8
  let c512_i32_53 : BitVec 32 := 512#32
  let v102 : BitVec 32 := Scalar.muli arg15 c512_i32_53
  let v103 : BitVec 32 := v102
  let v174 : Index := Scalar.indexCast v103
  let c256 : Index := 256#32
  ![v173.toNat, v174.toNat, 256]
def k0_off31 (v21 : BitVec 32) (k0_t8 : Fin (k0_t8_loop v21).trips) : Fin 3 → Nat :=
  let c0_i32_32 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v64 : BitVec 32 := Scalar.subi v24 c0_i32_32
  let c1_i32_33 : BitVec 32 := 1#32
  let v66 : BitVec 32 := Scalar.divsi v64 c1_i32_33
  let v67 : BitVec 32 := Scalar.muli v66 c1_i32_33
  let v68 : BitVec 32 := Scalar.addi c0_i32_32 v67
  let c1_i32_35 : BitVec 32 := 1#32
  let arg15 : BitVec 32 := Scf.iv v68 c1_i32_35 k0_t8
  let v198 : Index := Scalar.indexCast arg15
  let c0_68 : Index := 0#32
  let c0_69 : Index := 0#32
  ![v198.toNat, 0, 0]
@[reducible] def k0_t9_loop (v21 : BitVec 32) : Scf.Loop 32 :=
  let c0_i32_36 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v73 : BitVec 32 := Scalar.subi v24 c0_i32_36
  let c1_i32_37 : BitVec 32 := 1#32
  let v75 : BitVec 32 := Scalar.divsi v73 c1_i32_37
  let v76 : BitVec 32 := Scalar.muli v75 c1_i32_37
  let v77 : BitVec 32 := Scalar.addi c0_i32_36 v76
  let c1_i32_38 : BitVec 32 := 1#32
  ⟨c0_i32_36, v77, c1_i32_38⟩
def k0_off32 (v21 : BitVec 32) (k0_t9 : Fin (k0_t9_loop v21).trips) : Fin 3 → Nat :=
  let c0_i32_36 : BitVec 32 := 0#32
  let c1_i32_38 : BitVec 32 := 1#32
  let arg15 : BitVec 32 := Scf.iv c0_i32_36 c1_i32_38 k0_t9
  let v102 : Index := Scalar.indexCast arg15
  let c0_53 : Index := 0#32
  let c0_54 : Index := 0#32
  ![v102.toNat, 0, 0]
@[reducible] def k0_t10_loop (v21 : BitVec 32) : Scf.Loop 32 :=
  let c0_i32_36 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v73 : BitVec 32 := Scalar.subi v24 c0_i32_36
  let c1_i32_37 : BitVec 32 := 1#32
  let v75 : BitVec 32 := Scalar.divsi v73 c1_i32_37
  let v76 : BitVec 32 := Scalar.muli v75 c1_i32_37
  let v77 : BitVec 32 := Scalar.addi c0_i32_36 v76
  let v74 : BitVec 32 := Scalar.addi c0_i32_36 v73
  let c1_i32_39 : BitVec 32 := 1#32
  ⟨v77, v74, c1_i32_39⟩
def k0_off33 (v21 : BitVec 32) (k0_t10 : Fin (k0_t10_loop v21).trips) : Fin 3 → Nat :=
  let c0_i32_36 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v73 : BitVec 32 := Scalar.subi v24 c0_i32_36
  let c1_i32_37 : BitVec 32 := 1#32
  let v75 : BitVec 32 := Scalar.divsi v73 c1_i32_37
  let v76 : BitVec 32 := Scalar.muli v75 c1_i32_37
  let v77 : BitVec 32 := Scalar.addi c0_i32_36 v76
  let c1_i32_39 : BitVec 32 := 1#32
  let arg15 : BitVec 32 := Scf.iv v77 c1_i32_39 k0_t10
  let v102 : Index := Scalar.indexCast arg15
  let c0_53 : Index := 0#32
  let c0_54 : Index := 0#32
  ![v102.toNat, 0, 0]
@[reducible] def k0_t11_loop (v21 : BitVec 32) : Scf.Loop 32 :=
  let c0_i32_42 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v90 : BitVec 32 := Scalar.subi v24 c0_i32_42
  let c1_i32_44 : BitVec 32 := 1#32
  let v92 : BitVec 32 := Scalar.divsi v90 c1_i32_44
  let v93 : BitVec 32 := Scalar.muli v92 c1_i32_44
  let v94 : BitVec 32 := Scalar.addi c0_i32_42 v93
  let c1_i32_45 : BitVec 32 := 1#32
  ⟨c0_i32_42, v94, c1_i32_45⟩
def k0_mult3 (v21 : BitVec 32) (k0_t11 : Fin (k0_t11_loop v21).trips) : BitVec 32 :=
  let c0_i32_42 : BitVec 32 := 0#32
  let c1_i32_45 : BitVec 32 := 1#32
  let arg15 : BitVec 32 := Scf.iv c0_i32_42 c1_i32_45 k0_t11
  let c512_i32_53 : BitVec 32 := 512#32
  let v102 : BitVec 32 := Scalar.muli arg15 c512_i32_53
  v102
def k0_off34 (v21 : BitVec 32) (k0_t11 : Fin (k0_t11_loop v21).trips) : Fin 3 → Nat :=
  let c0_i32_42 : BitVec 32 := 0#32
  let c1_i32_45 : BitVec 32 := 1#32
  let arg15 : BitVec 32 := Scf.iv c0_i32_42 c1_i32_45 k0_t11
  let v104 : Index := Scalar.indexCast arg15
  let c0_54 : Index := 0#32
  let c0_55 : Index := 0#32
  ![v104.toNat, 0, 0]
def k0_off35 (v21 : BitVec 32) (k0_t11 : Fin (k0_t11_loop v21).trips) : Fin 3 → Nat :=
  let c0_i32_42 : BitVec 32 := 0#32
  let c1_i32_45 : BitVec 32 := 1#32
  let arg15 : BitVec 32 := Scf.iv c0_i32_42 c1_i32_45 k0_t11
  let v110 : Index := Scalar.indexCast arg15
  let c0_56 : Index := 0#32
  let c0_57 : Index := 0#32
  ![v110.toNat, 0, 0]
def k0_off36 (i : grid0.Coords) (v21 : BitVec 32) (k0_t11 : Fin (k0_t11_loop v21).trips) : Fin 3 → Nat :=
  let arg0 : BitVec 32 := BitVec.ofNat 32 (i 0).val
  let c1_i32 : BitVec 32 := 1#32
  let v3 : BitVec 32 := Scalar.andi arg0 c1_i32
  let v114 : Index := Scalar.indexCast v3
  let c0_i32_42 : BitVec 32 := 0#32
  let c1_i32_45 : BitVec 32 := 1#32
  let arg15 : BitVec 32 := Scf.iv c0_i32_42 c1_i32_45 k0_t11
  let c512_i32_53 : BitVec 32 := 512#32
  let v102 : BitVec 32 := Scalar.muli arg15 c512_i32_53
  let v103 : BitVec 32 := v102
  let v115 : Index := Scalar.indexCast v103
  let c0_58 : Index := 0#32
  ![v114.toNat, v115.toNat, 0]
def k0_off37 (i : grid0.Coords) (v21 : BitVec 32) (k0_t11 : Fin (k0_t11_loop v21).trips) : Fin 3 → Nat :=
  let arg0 : BitVec 32 := BitVec.ofNat 32 (i 0).val
  let c1_i32 : BitVec 32 := 1#32
  let v3 : BitVec 32 := Scalar.andi arg0 c1_i32
  let v139 : Index := Scalar.indexCast v3
  let c0_i32_42 : BitVec 32 := 0#32
  let c1_i32_45 : BitVec 32 := 1#32
  let arg15 : BitVec 32 := Scf.iv c0_i32_42 c1_i32_45 k0_t11
  let c512_i32_53 : BitVec 32 := 512#32
  let v102 : BitVec 32 := Scalar.muli arg15 c512_i32_53
  let v103 : BitVec 32 := v102
  let v140 : Index := Scalar.indexCast v103
  let c256 : Index := 256#32
  ![v139.toNat, v140.toNat, 256]
@[reducible] def k0_t12_loop (v21 : BitVec 32) : Scf.Loop 32 :=
  let c0_i32_42 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v90 : BitVec 32 := Scalar.subi v24 c0_i32_42
  let c1_i32_44 : BitVec 32 := 1#32
  let v92 : BitVec 32 := Scalar.divsi v90 c1_i32_44
  let v93 : BitVec 32 := Scalar.muli v92 c1_i32_44
  let v94 : BitVec 32 := Scalar.addi c0_i32_42 v93
  let v91 : BitVec 32 := Scalar.addi c0_i32_42 v90
  let c1_i32_46 : BitVec 32 := 1#32
  ⟨v94, v91, c1_i32_46⟩
def k0_mult4 (v21 : BitVec 32) (k0_t12 : Fin (k0_t12_loop v21).trips) : BitVec 32 :=
  let c0_i32_42 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v90 : BitVec 32 := Scalar.subi v24 c0_i32_42
  let c1_i32_44 : BitVec 32 := 1#32
  let v92 : BitVec 32 := Scalar.divsi v90 c1_i32_44
  let v93 : BitVec 32 := Scalar.muli v92 c1_i32_44
  let v94 : BitVec 32 := Scalar.addi c0_i32_42 v93
  let c1_i32_46 : BitVec 32 := 1#32
  let arg15 : BitVec 32 := Scf.iv v94 c1_i32_46 k0_t12
  let c512_i32_53 : BitVec 32 := 512#32
  let v102 : BitVec 32 := Scalar.muli arg15 c512_i32_53
  v102
def k0_off38 (v21 : BitVec 32) (k0_t12 : Fin (k0_t12_loop v21).trips) : Fin 3 → Nat :=
  let c0_i32_42 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v90 : BitVec 32 := Scalar.subi v24 c0_i32_42
  let c1_i32_44 : BitVec 32 := 1#32
  let v92 : BitVec 32 := Scalar.divsi v90 c1_i32_44
  let v93 : BitVec 32 := Scalar.muli v92 c1_i32_44
  let v94 : BitVec 32 := Scalar.addi c0_i32_42 v93
  let c1_i32_46 : BitVec 32 := 1#32
  let arg15 : BitVec 32 := Scf.iv v94 c1_i32_46 k0_t12
  let v104 : Index := Scalar.indexCast arg15
  let c0_54 : Index := 0#32
  let c0_55 : Index := 0#32
  ![v104.toNat, 0, 0]
def k0_off39 (v21 : BitVec 32) (k0_t12 : Fin (k0_t12_loop v21).trips) : Fin 3 → Nat :=
  let c0_i32_42 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v90 : BitVec 32 := Scalar.subi v24 c0_i32_42
  let c1_i32_44 : BitVec 32 := 1#32
  let v92 : BitVec 32 := Scalar.divsi v90 c1_i32_44
  let v93 : BitVec 32 := Scalar.muli v92 c1_i32_44
  let v94 : BitVec 32 := Scalar.addi c0_i32_42 v93
  let c1_i32_46 : BitVec 32 := 1#32
  let arg15 : BitVec 32 := Scf.iv v94 c1_i32_46 k0_t12
  let v110 : Index := Scalar.indexCast arg15
  let c0_56 : Index := 0#32
  let c0_57 : Index := 0#32
  ![v110.toNat, 0, 0]
def k0_off40 (i : grid0.Coords) (v21 : BitVec 32) (k0_t12 : Fin (k0_t12_loop v21).trips) : Fin 3 → Nat :=
  let arg0 : BitVec 32 := BitVec.ofNat 32 (i 0).val
  let c1_i32 : BitVec 32 := 1#32
  let v3 : BitVec 32 := Scalar.andi arg0 c1_i32
  let v114 : Index := Scalar.indexCast v3
  let c0_i32_42 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v90 : BitVec 32 := Scalar.subi v24 c0_i32_42
  let c1_i32_44 : BitVec 32 := 1#32
  let v92 : BitVec 32 := Scalar.divsi v90 c1_i32_44
  let v93 : BitVec 32 := Scalar.muli v92 c1_i32_44
  let v94 : BitVec 32 := Scalar.addi c0_i32_42 v93
  let c1_i32_46 : BitVec 32 := 1#32
  let arg15 : BitVec 32 := Scf.iv v94 c1_i32_46 k0_t12
  let c512_i32_53 : BitVec 32 := 512#32
  let v102 : BitVec 32 := Scalar.muli arg15 c512_i32_53
  let v103 : BitVec 32 := v102
  let v115 : Index := Scalar.indexCast v103
  let c0_58 : Index := 0#32
  ![v114.toNat, v115.toNat, 0]
def k0_off41 (i : grid0.Coords) (v21 : BitVec 32) (k0_t12 : Fin (k0_t12_loop v21).trips) : Fin 3 → Nat :=
  let arg0 : BitVec 32 := BitVec.ofNat 32 (i 0).val
  let c1_i32 : BitVec 32 := 1#32
  let v3 : BitVec 32 := Scalar.andi arg0 c1_i32
  let v139 : Index := Scalar.indexCast v3
  let c0_i32_42 : BitVec 32 := 0#32
  let c512_i32 : BitVec 32 := 512#32
  let v22 : BitVec 32 := Scalar.addi v21 c512_i32
  let c1_i32_9 : BitVec 32 := 1#32
  let v23 : BitVec 32 := Scalar.subi v22 c1_i32_9
  let c9_i32 : BitVec 32 := 9#32
  let v24 : BitVec 32 := Scalar.shrui v23 c9_i32
  let v90 : BitVec 32 := Scalar.subi v24 c0_i32_42
  let c1_i32_44 : BitVec 32 := 1#32
  let v92 : BitVec 32 := Scalar.divsi v90 c1_i32_44
  let v93 : BitVec 32 := Scalar.muli v92 c1_i32_44
  let v94 : BitVec 32 := Scalar.addi c0_i32_42 v93
  let c1_i32_46 : BitVec 32 := 1#32
  let arg15 : BitVec 32 := Scf.iv v94 c1_i32_46 k0_t12
  let c512_i32_53 : BitVec 32 := 512#32
  let v102 : BitVec 32 := Scalar.muli arg15 c512_i32_53
  let v103 : BitVec 32 := v102
  let v140 : Index := Scalar.indexCast v103
  let c256 : Index := 256#32
  ![v139.toNat, v140.toNat, 256]

def k0_chk4 (i : grid0.Coords) (v21 : BitVec 32) : Prop :=
  ((k0_t7_loop v21).OK) ∧
  (∀ k0_t7 : Fin (k0_t7_loop v21).trips, 512 ∣ (k0_mult1 v21 k0_t7).toNat) ∧
  (∀ k0_t7 : Fin (k0_t7_loop v21).trips, ∀ a, (k0_off20 i v21 k0_t7) a + S1x512x128.size a ≤ S2x4096x656.size a) ∧
  (∀ k0_t7 : Fin (k0_t7_loop v21).trips, ∀ a, (k0_off21 i v21 k0_t7) a + S1x512x16.size a ≤ S2x4096x656.size a) ∧
  (∀ k0_t7 : Fin (k0_t7_loop v21).trips, ∀ a, (k0_off22 v21 k0_t7) a + S1x8x512.size a ≤ S8x8x512.size a) ∧
  (∀ k0_t7 : Fin (k0_t7_loop v21).trips, ∀ a, (k0_off23 i v21 k0_t7) a + S1x512x256.size a ≤ S2x4096x656.size a) ∧
  (∀ k0_t7 : Fin (k0_t7_loop v21).trips, ∀ a, (k0_off24 i v21 k0_t7) a + S1x512x256.size a ≤ S2x4096x656.size a) ∧
  (∀ k0_t7 : Fin (k0_t7_loop v21).trips, ∀ a, (k0_off25 v21 k0_t7) a + S1x16x512.size a ≤ S8x16x512.size a) ∧
  ((k0_t8_loop v21).OK) ∧
  (∀ k0_t8 : Fin (k0_t8_loop v21).trips, 512 ∣ (k0_mult2 v21 k0_t8).toNat) ∧
  (∀ k0_t8 : Fin (k0_t8_loop v21).trips, ∀ a, (k0_off26 i v21 k0_t8) a + S1x512x128.size a ≤ S2x4096x656.size a) ∧
  (∀ k0_t8 : Fin (k0_t8_loop v21).trips, ∀ a, (k0_off27 i v21 k0_t8) a + S1x512x16.size a ≤ S2x4096x656.size a) ∧
  (∀ k0_t8 : Fin (k0_t8_loop v21).trips, ∀ a, (k0_off28 v21 k0_t8) a + S1x8x512.size a ≤ S8x8x512.size a) ∧
  (∀ k0_t8 : Fin (k0_t8_loop v21).trips, ∀ a, (k0_off29 i v21 k0_t8) a + S1x512x256.size a ≤ S2x4096x656.size a) ∧
  (∀ k0_t8 : Fin (k0_t8_loop v21).trips, ∀ a, (k0_off30 i v21 k0_t8) a + S1x512x256.size a ≤ S2x4096x656.size a) ∧
  (∀ k0_t8 : Fin (k0_t8_loop v21).trips, ∀ a, (k0_off31 v21 k0_t8) a + S1x16x512.size a ≤ S8x16x512.size a) ∧
  ((k0_t9_loop v21).OK) ∧
  (∀ k0_t9 : Fin (k0_t9_loop v21).trips, ∀ a, (k0_off32 v21 k0_t9) a + S1x16x512.size a ≤ S8x16x512.size a) ∧
  ((k0_t10_loop v21).OK) ∧
  (∀ k0_t10 : Fin (k0_t10_loop v21).trips, ∀ a, (k0_off33 v21 k0_t10) a + S1x16x512.size a ≤ S8x16x512.size a) ∧
  ((k0_t11_loop v21).OK) ∧
  (∀ k0_t11 : Fin (k0_t11_loop v21).trips, 512 ∣ (k0_mult3 v21 k0_t11).toNat) ∧
  (∀ k0_t11 : Fin (k0_t11_loop v21).trips, ∀ a, (k0_off34 v21 k0_t11) a + S1x16x512.size a ≤ S8x16x512.size a) ∧
  (∀ k0_t11 : Fin (k0_t11_loop v21).trips, ∀ a, (k0_off35 v21 k0_t11) a + S1x8x512.size a ≤ S8x8x512.size a) ∧
  (∀ k0_t11 : Fin (k0_t11_loop v21).trips, ∀ a, (k0_off36 i v21 k0_t11) a + S1x512x256.size a ≤ S2x4096x656.size a) ∧
  (∀ k0_t11 : Fin (k0_t11_loop v21).trips, ∀ a, (k0_off37 i v21 k0_t11) a + S1x512x256.size a ≤ S2x4096x656.size a) ∧
  ((k0_t12_loop v21).OK) ∧
  (∀ k0_t12 : Fin (k0_t12_loop v21).trips, 512 ∣ (k0_mult4 v21 k0_t12).toNat) ∧
  (∀ k0_t12 : Fin (k0_t12_loop v21).trips, ∀ a, (k0_off38 v21 k0_t12) a + S1x16x512.size a ≤ S8x16x512.size a) ∧
  (∀ k0_t12 : Fin (k0_t12_loop v21).trips, ∀ a, (k0_off39 v21 k0_t12) a + S1x8x512.size a ≤ S8x8x512.size a) ∧
  (∀ k0_t12 : Fin (k0_t12_loop v21).trips, ∀ a, (k0_off40 i v21 k0_t12) a + S1x512x256.size a ≤ S2x4096x656.size a) ∧
  (∀ k0_t12 : Fin (k0_t12_loop v21).trips, ∀ a, (k0_off41 i v21 k0_t12) a + S1x512x256.size a ≤ S2x4096x656.size a)
theorem k0_t7_ok : ∀ (i : grid0.Coords) (v21 : BitVec 32) (k0_hw4 : k0_chk4 i v21), (k0_t7_loop v21).OK := fun i v21 k0_hw4 => k0_hw4.1
theorem k0_mult1_dvd : ∀ (i : grid0.Coords) (v21 : BitVec 32) (k0_hw4 : k0_chk4 i v21) (k0_t7 : Fin (k0_t7_loop v21).trips), 512 ∣ (k0_mult1 v21 k0_t7).toNat := fun i v21 k0_hw4 k0_t7 => k0_hw4.2.1 k0_t7
theorem k0_off20_inb : ∀ (i : grid0.Coords) (v21 : BitVec 32) (k0_hw4 : k0_chk4 i v21) (k0_t7 : Fin (k0_t7_loop v21).trips), ∀ a, (k0_off20 i v21 k0_t7) a + S1x512x128.size a ≤ S2x4096x656.size a := fun i v21 k0_hw4 k0_t7 => k0_hw4.2.2.1 k0_t7
theorem k0_off21_inb : ∀ (i : grid0.Coords) (v21 : BitVec 32) (k0_hw4 : k0_chk4 i v21) (k0_t7 : Fin (k0_t7_loop v21).trips), ∀ a, (k0_off21 i v21 k0_t7) a + S1x512x16.size a ≤ S2x4096x656.size a := fun i v21 k0_hw4 k0_t7 => k0_hw4.2.2.2.1 k0_t7
theorem k0_off22_inb : ∀ (i : grid0.Coords) (v21 : BitVec 32) (k0_hw4 : k0_chk4 i v21) (k0_t7 : Fin (k0_t7_loop v21).trips), ∀ a, (k0_off22 v21 k0_t7) a + S1x8x512.size a ≤ S8x8x512.size a := fun i v21 k0_hw4 k0_t7 => k0_hw4.2.2.2.2.1 k0_t7
theorem k0_off23_inb : ∀ (i : grid0.Coords) (v21 : BitVec 32) (k0_hw4 : k0_chk4 i v21) (k0_t7 : Fin (k0_t7_loop v21).trips), ∀ a, (k0_off23 i v21 k0_t7) a + S1x512x256.size a ≤ S2x4096x656.size a := fun i v21 k0_hw4 k0_t7 => k0_hw4.2.2.2.2.2.1 k0_t7
theorem k0_off24_inb : ∀ (i : grid0.Coords) (v21 : BitVec 32) (k0_hw4 : k0_chk4 i v21) (k0_t7 : Fin (k0_t7_loop v21).trips), ∀ a, (k0_off24 i v21 k0_t7) a + S1x512x256.size a ≤ S2x4096x656.size a := fun i v21 k0_hw4 k0_t7 => k0_hw4.2.2.2.2.2.2.1 k0_t7
theorem k0_off25_inb : ∀ (i : grid0.Coords) (v21 : BitVec 32) (k0_hw4 : k0_chk4 i v21) (k0_t7 : Fin (k0_t7_loop v21).trips), ∀ a, (k0_off25 v21 k0_t7) a + S1x16x512.size a ≤ S8x16x512.size a := fun i v21 k0_hw4 k0_t7 => k0_hw4.2.2.2.2.2.2.2.1 k0_t7
theorem k0_t8_ok : ∀ (i : grid0.Coords) (v21 : BitVec 32) (k0_hw4 : k0_chk4 i v21), (k0_t8_loop v21).OK := fun i v21 k0_hw4 => k0_hw4.2.2.2.2.2.2.2.2.1
theorem k0_mult2_dvd : ∀ (i : grid0.Coords) (v21 : BitVec 32) (k0_hw4 : k0_chk4 i v21) (k0_t8 : Fin (k0_t8_loop v21).trips), 512 ∣ (k0_mult2 v21 k0_t8).toNat := fun i v21 k0_hw4 k0_t8 => k0_hw4.2.2.2.2.2.2.2.2.2.1 k0_t8
theorem k0_off26_inb : ∀ (i : grid0.Coords) (v21 : BitVec 32) (k0_hw4 : k0_chk4 i v21) (k0_t8 : Fin (k0_t8_loop v21).trips), ∀ a, (k0_off26 i v21 k0_t8) a + S1x512x128.size a ≤ S2x4096x656.size a := fun i v21 k0_hw4 k0_t8 => k0_hw4.2.2.2.2.2.2.2.2.2.2.1 k0_t8
theorem k0_off27_inb : ∀ (i : grid0.Coords) (v21 : BitVec 32) (k0_hw4 : k0_chk4 i v21) (k0_t8 : Fin (k0_t8_loop v21).trips), ∀ a, (k0_off27 i v21 k0_t8) a + S1x512x16.size a ≤ S2x4096x656.size a := fun i v21 k0_hw4 k0_t8 => k0_hw4.2.2.2.2.2.2.2.2.2.2.2.1 k0_t8
theorem k0_off28_inb : ∀ (i : grid0.Coords) (v21 : BitVec 32) (k0_hw4 : k0_chk4 i v21) (k0_t8 : Fin (k0_t8_loop v21).trips), ∀ a, (k0_off28 v21 k0_t8) a + S1x8x512.size a ≤ S8x8x512.size a := fun i v21 k0_hw4 k0_t8 => k0_hw4.2.2.2.2.2.2.2.2.2.2.2.2.1 k0_t8
theorem k0_off29_inb : ∀ (i : grid0.Coords) (v21 : BitVec 32) (k0_hw4 : k0_chk4 i v21) (k0_t8 : Fin (k0_t8_loop v21).trips), ∀ a, (k0_off29 i v21 k0_t8) a + S1x512x256.size a ≤ S2x4096x656.size a := fun i v21 k0_hw4 k0_t8 => k0_hw4.2.2.2.2.2.2.2.2.2.2.2.2.2.1 k0_t8
theorem k0_off30_inb : ∀ (i : grid0.Coords) (v21 : BitVec 32) (k0_hw4 : k0_chk4 i v21) (k0_t8 : Fin (k0_t8_loop v21).trips), ∀ a, (k0_off30 i v21 k0_t8) a + S1x512x256.size a ≤ S2x4096x656.size a := fun i v21 k0_hw4 k0_t8 => k0_hw4.2.2.2.2.2.2.2.2.2.2.2.2.2.2.1 k0_t8
theorem k0_off31_inb : ∀ (i : grid0.Coords) (v21 : BitVec 32) (k0_hw4 : k0_chk4 i v21) (k0_t8 : Fin (k0_t8_loop v21).trips), ∀ a, (k0_off31 v21 k0_t8) a + S1x16x512.size a ≤ S8x16x512.size a := fun i v21 k0_hw4 k0_t8 => k0_hw4.2.2.2.2.2.2.2.2.2.2.2.2.2.2.2.1 k0_t8
theorem k0_t9_ok : ∀ (i : grid0.Coords) (v21 : BitVec 32) (k0_hw4 : k0_chk4 i v21), (k0_t9_loop v21).OK := fun i v21 k0_hw4 => k0_hw4.2.2.2.2.2.2.2.2.2.2.2.2.2.2.2.2.1
theorem k0_off32_inb : ∀ (i : grid0.Coords) (v21 : BitVec 32) (k0_hw4 : k0_chk4 i v21) (k0_t9 : Fin (k0_t9_loop v21).trips), ∀ a, (k0_off32 v21 k0_t9) a + S1x16x512.size a ≤ S8x16x512.size a := fun i v21 k0_hw4 k0_t9 => k0_hw4.2.2.2.2.2.2.2.2.2.2.2.2.2.2.2.2.2.1 k0_t9
theorem k0_t10_ok : ∀ (i : grid0.Coords) (v21 : BitVec 32) (k0_hw4 : k0_chk4 i v21), (k0_t10_loop v21).OK := fun i v21 k0_hw4 => k0_hw4.2.2.2.2.2.2.2.2.2.2.2.2.2.2.2.2.2.2.1
theorem k0_off33_inb : ∀ (i : grid0.Coords) (v21 : BitVec 32) (k0_hw4 : k0_chk4 i v21) (k0_t10 : Fin (k0_t10_loop v21).trips), ∀ a, (k0_off33 v21 k0_t10) a + S1x16x512.size a ≤ S8x16x512.size a := fun i v21 k0_hw4 k0_t10 => k0_hw4.2.2.2.2.2.2.2.2.2.2.2.2.2.2.2.2.2.2.2.1 k0_t10
theorem k0_t11_ok : ∀ (i : grid0.Coords) (v21 : BitVec 32) (k0_hw4 : k0_chk4 i v21), (k0_t11_loop v21).OK := fun i v21 k0_hw4 => k0_hw4.2.2.2.2.2.2.2.2.2.2.2.2.2.2.2.2.2.2.2.2.1
theorem k0_mult3_dvd : ∀ (i : grid0.Coords) (v21 : BitVec 32) (k0_hw4 : k0_chk4 i v21) (k0_t11 : Fin (k0_t11_loop v21).trips), 512 ∣ (k0_mult3 v21 k0_t11).toNat := fun i v21 k0_hw4 k0_t11 => k0_hw4.2.2.2.2.2.2.2.2.2.2.2.2.2.2.2.2.2.2.2.2.2.1 k0_t11
theorem k0_off34_inb : ∀ (i : grid0.Coords) (v21 : BitVec 32) (k0_hw4 : k0_chk4 i v21) (k0_t11 : Fin (k0_t11_loop v21).trips), ∀ a, (k0_off34 v21 k0_t11) a + S1x16x512.size a ≤ S8x16x512.size a := fun i v21 k0_hw4 k0_t11 => k0_hw4.2.2.2.2.2.2.2.2.2.2.2.2.2.2.2.2.2.2.2.2.2.2.1 k0_t11
theorem k0_off35_inb : ∀ (i : grid0.Coords) (v21 : BitVec 32) (k0_hw4 : k0_chk4 i v21) (k0_t11 : Fin (k0_t11_loop v21).trips), ∀ a, (k0_off35 v21 k0_t11) a + S1x8x512.size a ≤ S8x8x512.size a := fun i v21 k0_hw4 k0_t11 => k0_hw4.2.2.2.2.2.2.2.2.2.2.2.2.2.2.2.2.2.2.2.2.2.2.2.1 k0_t11
theorem k0_off36_inb : ∀ (i : grid0.Coords) (v21 : BitVec 32) (k0_hw4 : k0_chk4 i v21) (k0_t11 : Fin (k0_t11_loop v21).trips), ∀ a, (k0_off36 i v21 k0_t11) a + S1x512x256.size a ≤ S2x4096x656.size a := fun i v21 k0_hw4 k0_t11 => k0_hw4.2.2.2.2.2.2.2.2.2.2.2.2.2.2.2.2.2.2.2.2.2.2.2.2.1 k0_t11
theorem k0_off37_inb : ∀ (i : grid0.Coords) (v21 : BitVec 32) (k0_hw4 : k0_chk4 i v21) (k0_t11 : Fin (k0_t11_loop v21).trips), ∀ a, (k0_off37 i v21 k0_t11) a + S1x512x256.size a ≤ S2x4096x656.size a := fun i v21 k0_hw4 k0_t11 => k0_hw4.2.2.2.2.2.2.2.2.2.2.2.2.2.2.2.2.2.2.2.2.2.2.2.2.2.1 k0_t11
theorem k0_t12_ok : ∀ (i : grid0.Coords) (v21 : BitVec 32) (k0_hw4 : k0_chk4 i v21), (k0_t12_loop v21).OK := fun i v21 k0_hw4 => k0_hw4.2.2.2.2.2.2.2.2.2.2.2.2.2.2.2.2.2.2.2.2.2.2.2.2.2.2.1
theorem k0_mult4_dvd : ∀ (i : grid0.Coords) (v21 : BitVec 32) (k0_hw4 : k0_chk4 i v21) (k0_t12 : Fin (k0_t12_loop v21).trips), 512 ∣ (k0_mult4 v21 k0_t12).toNat := fun i v21 k0_hw4 k0_t12 => k0_hw4.2.2.2.2.2.2.2.2.2.2.2.2.2.2.2.2.2.2.2.2.2.2.2.2.2.2.2.1 k0_t12
theorem k0_off38_inb : ∀ (i : grid0.Coords) (v21 : BitVec 32) (k0_hw4 : k0_chk4 i v21) (k0_t12 : Fin (k0_t12_loop v21).trips), ∀ a, (k0_off38 v21 k0_t12) a + S1x16x512.size a ≤ S8x16x512.size a := fun i v21 k0_hw4 k0_t12 => k0_hw4.2.2.2.2.2.2.2.2.2.2.2.2.2.2.2.2.2.2.2.2.2.2.2.2.2.2.2.2.1 k0_t12
theorem k0_off39_inb : ∀ (i : grid0.Coords) (v21 : BitVec 32) (k0_hw4 : k0_chk4 i v21) (k0_t12 : Fin (k0_t12_loop v21).trips), ∀ a, (k0_off39 v21 k0_t12) a + S1x8x512.size a ≤ S8x8x512.size a := fun i v21 k0_hw4 k0_t12 => k0_hw4.2.2.2.2.2.2.2.2.2.2.2.2.2.2.2.2.2.2.2.2.2.2.2.2.2.2.2.2.2.1 k0_t12
theorem k0_off40_inb : ∀ (i : grid0.Coords) (v21 : BitVec 32) (k0_hw4 : k0_chk4 i v21) (k0_t12 : Fin (k0_t12_loop v21).trips), ∀ a, (k0_off40 i v21 k0_t12) a + S1x512x256.size a ≤ S2x4096x656.size a := fun i v21 k0_hw4 k0_t12 => k0_hw4.2.2.2.2.2.2.2.2.2.2.2.2.2.2.2.2.2.2.2.2.2.2.2.2.2.2.2.2.2.2.1 k0_t12
theorem k0_off41_inb : ∀ (i : grid0.Coords) (v21 : BitVec 32) (k0_hw4 : k0_chk4 i v21) (k0_t12 : Fin (k0_t12_loop v21).trips), ∀ a, (k0_off41 i v21 k0_t12) a + S1x512x256.size a ≤ S2x4096x656.size a := fun i v21 k0_hw4 k0_t12 => k0_hw4.2.2.2.2.2.2.2.2.2.2.2.2.2.2.2.2.2.2.2.2.2.2.2.2.2.2.2.2.2.2.2 k0_t12

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x1x16x512 : Shape := ⟨4, ![128, 1, 16, 512]⟩
abbrev S128x1x16x64 : Shape := ⟨4, ![128, 1, 16, 64]⟩
abbrev S128x1x512 : Shape := ⟨3, ![128, 1, 512]⟩
abbrev S128x1x64 : Shape := ⟨3, ![128, 1, 64]⟩
abbrev S128x4096x656 : Shape := ⟨3, ![128, 4096, 656]⟩
abbrev S128 : Shape := ⟨1, ![128]⟩
abbrev S128x4096x512 : Shape := ⟨3, ![128, 4096, 512]⟩
abbrev S128x4096x16 : Shape := ⟨3, ![128, 4096, 16]⟩
abbrev S128x4096x4x4 : Shape := ⟨4, ![128, 4096, 4, 4]⟩
abbrev S128x4096x4 : Shape := ⟨3, ![128, 4096, 4]⟩
abbrev S128x4096x128 : Shape := ⟨3, ![128, 4096, 128]⟩
abbrev S128x4096x64x2 : Shape := ⟨4, ![128, 4096, 64, 2]⟩
abbrev S128x4096x64 : Shape := ⟨3, ![128, 4096, 64]⟩
abbrev S128x4096x4x128 : Shape := ⟨4, ![128, 4096, 4, 128]⟩
abbrev S128x4096x4x1 : Shape := ⟨4, ![128, 4096, 4, 1]⟩
abbrev S128x1x16x4096 : Shape := ⟨4, ![128, 1, 16, 4096]⟩
abbrev S_ : Shape := ⟨0, ![]⟩
abbrev S4096 : Shape := ⟨1, ![4096]⟩
abbrev S1x4096 : Shape := ⟨2, ![1, 4096]⟩
abbrev S128x1 : Shape := ⟨2, ![128, 1]⟩
abbrev S128x4096 : Shape := ⟨2, ![128, 4096]⟩
abbrev S128x1x1x4096 : Shape := ⟨4, ![128, 1, 1, 4096]⟩
abbrev S128x1x16x1 : Shape := ⟨4, ![128, 1, 16, 1]⟩
abbrev S1 : Shape := ⟨1, ![1]⟩
abbrev S1x1 : Shape := ⟨2, ![1, 1]⟩
abbrev S1x1x1x1 : Shape := ⟨4, ![1, 1, 1, 1]⟩
abbrev S128x1x16x4097 : Shape := ⟨4, ![128, 1, 16, 4097]⟩
abbrev S128x1x16 : Shape := ⟨3, ![128, 1, 16]⟩

abbrev nBuf : Space → Nat
  | .hbm => 78
  | .vmem => 2
  | .smem => 0
  | _ => 0

abbrev bufTy : (tb : Table) → Fin (tcTables nBuf tb) → BufTy
  | .hbm, ⟨0, _⟩ => ⟨S128x1x16x512, .bf16⟩
  | .hbm, ⟨1, _⟩ => ⟨S128x1x16x64, .bf16⟩
  | .hbm, ⟨2, _⟩ => ⟨S128x1x512, .bf16⟩
  | .hbm, ⟨3, _⟩ => ⟨S128x1x64, .bf16⟩
  | .hbm, ⟨4, _⟩ => ⟨S128x4096x656, .i8⟩
  | .hbm, ⟨5, _⟩ => ⟨S128, .i32⟩
  | .hbm, ⟨6, _⟩ => ⟨S128x4096x512, .i8⟩
  | .hbm, ⟨7, _⟩ => ⟨S128x4096x512, .fp8e4m3⟩
  | .hbm, ⟨8, _⟩ => ⟨S128x4096x16, .i8⟩
  | .hbm, ⟨9, _⟩ => ⟨S128x4096x4x4, .i8⟩
  | .hbm, ⟨10, _⟩ => ⟨S128x4096x4, .f32⟩
  | .hbm, ⟨11, _⟩ => ⟨S128x4096x128, .i8⟩
  | .hbm, ⟨12, _⟩ => ⟨S128x4096x64x2, .i8⟩
  | .hbm, ⟨13, _⟩ => ⟨S128x4096x64, .bf16⟩
  | .hbm, ⟨14, _⟩ => ⟨S128x4096x512, .bf16⟩
  | .hbm, ⟨15, _⟩ => ⟨S128x4096x4x128, .bf16⟩
  | .hbm, ⟨16, _⟩ => ⟨S128x4096x4, .bf16⟩
  | .hbm, ⟨17, _⟩ => ⟨S128x4096x4x1, .bf16⟩
  | .hbm, ⟨18, _⟩ => ⟨S128x4096x4x128, .bf16⟩
  | .hbm, ⟨19, _⟩ => ⟨S128x4096x4x128, .bf16⟩
  | .hbm, ⟨20, _⟩ => ⟨S128x4096x512, .bf16⟩
  | .hbm, ⟨21, _⟩ => ⟨S128x1x16x4096, .f32⟩
  | .hbm, ⟨22, _⟩ => ⟨S128x1x16x4096, .f32⟩
  | .hbm, ⟨23, _⟩ => ⟨S128x1x16x4096, .f32⟩
  | .hbm, ⟨24, _⟩ => ⟨S_, .f32⟩
  | .hbm, ⟨25, _⟩ => ⟨S128x1x16x4096, .f32⟩
  | .hbm, ⟨26, _⟩ => ⟨S128x1x16x4096, .f32⟩
  | .hbm, ⟨27, _⟩ => ⟨S4096, .i32⟩
  | .hbm, ⟨28, _⟩ => ⟨S1x4096, .i32⟩
  | .hbm, ⟨29, _⟩ => ⟨S128x1, .i32⟩
  | .hbm, ⟨30, _⟩ => ⟨S128x4096, .i32⟩
  | .hbm, ⟨31, _⟩ => ⟨S128x4096, .i32⟩
  | .hbm, ⟨32, _⟩ => ⟨S128x4096, .i1⟩
  | .hbm, ⟨33, _⟩ => ⟨S128x1x1x4096, .i1⟩
  | .hbm, ⟨34, _⟩ => ⟨S_, .f32⟩
  | .hbm, ⟨35, _⟩ => ⟨S_, .f32⟩
  | .hbm, ⟨36, _⟩ => ⟨S128x1x16x4096, .i1⟩
  | .hbm, ⟨37, _⟩ => ⟨S128x1x16x4096, .f32⟩
  | .hbm, ⟨38, _⟩ => ⟨S128x1x16x4096, .f32⟩
  | .hbm, ⟨39, _⟩ => ⟨S128x1x16x1, .f32⟩
  | .hbm, ⟨40, _⟩ => ⟨S128x1x16x1, .f32⟩
  | .hbm, ⟨41, _⟩ => ⟨S128x1x16x1, .f32⟩
  | .hbm, ⟨42, _⟩ => ⟨S_, .f32⟩
  | .hbm, ⟨43, _⟩ => ⟨S128x1x16x1, .f32⟩
  | .hbm, ⟨44, _⟩ => ⟨S128x1x16x1, .f32⟩
  | .hbm, ⟨45, _⟩ => ⟨S1, .i32⟩
  | .hbm, ⟨46, _⟩ => ⟨S1x1, .i32⟩
  | .hbm, ⟨47, _⟩ => ⟨S1, .i32⟩
  | .hbm, ⟨48, _⟩ => ⟨S1x1, .i32⟩
  | .hbm, ⟨49, _⟩ => ⟨S1x1, .i1⟩
  | .hbm, ⟨50, _⟩ => ⟨S1x1x1x1, .i1⟩
  | .hbm, ⟨51, _⟩ => ⟨S_, .f32⟩
  | .hbm, ⟨52, _⟩ => ⟨S_, .f32⟩
  | .hbm, ⟨53, _⟩ => ⟨S128x1x16x1, .i1⟩
  | .hbm, ⟨54, _⟩ => ⟨S128x1x16x1, .f32⟩
  | .hbm, ⟨55, _⟩ => ⟨S128x1x16x1, .f32⟩
  | .hbm, ⟨56, _⟩ => ⟨S128x1x16x4097, .f32⟩
  | .hbm, ⟨57, _⟩ => ⟨S_, .f32⟩
  | .hbm, ⟨58, _⟩ => ⟨S128x1x16, .f32⟩
  | .hbm, ⟨59, _⟩ => ⟨S_, .f32⟩
  | .hbm, ⟨60, _⟩ => ⟨S128x1x16, .f32⟩
  | .hbm, ⟨61, _⟩ => ⟨S128x1x16, .f32⟩
  | .hbm, ⟨62, _⟩ => ⟨S128x1x16x1, .f32⟩
  | .hbm, ⟨63, _⟩ => ⟨S128x1x16x4097, .f32⟩
  | .hbm, ⟨64, _⟩ => ⟨S128x1x16x4097, .f32⟩
  | .hbm, ⟨65, _⟩ => ⟨S128x1x16x4097, .f32⟩
  | .hbm, ⟨66, _⟩ => ⟨S_, .f32⟩
  | .hbm, ⟨67, _⟩ => ⟨S128x1x16, .f32⟩
  | .hbm, ⟨68, _⟩ => ⟨S128x1x16x1, .f32⟩
  | .hbm, ⟨69, _⟩ => ⟨S128x1x16x4097, .f32⟩
  | .hbm, ⟨70, _⟩ => ⟨S128x1x16x4097, .f32⟩
  | .hbm, ⟨71, _⟩ => ⟨S128x1x16x4097, .bf16⟩
  | .hbm, ⟨72, _⟩ => ⟨S128x1x16x4096, .bf16⟩
  | .hbm, ⟨73, _⟩ => ⟨S128x1x16x1, .bf16⟩
  | .hbm, ⟨74, _⟩ => ⟨S128x1x16x512, .f32⟩
  | .hbm, ⟨75, _⟩ => ⟨S128x1x16x512, .f32⟩
  | .hbm, ⟨76, _⟩ => ⟨S128x1x16x512, .f32⟩
  | .hbm, ⟨77, _⟩ => ⟨S128x1x16x512, .bf16⟩
  | .local _ .vmem, ⟨0, _⟩ => ⟨S128x4096x512, .fp8e4m3⟩
  | .local _ .vmem, ⟨1, _⟩ => ⟨S128x4096x512, .bf16⟩
  | _, _ => ⟨S128x1x16x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Words.lean ====
/-
  The counted words of the kernel: how many pieces of 256 rows and how many chunks of 512 rows a request of a given
  length has, the offsets every loop computes from its trip, and the body's side conditions, for a length of at most 4096.
-/
module

public import proofs.«01_k».proof.Defs
public import proofs.«01_k».proof.Proof.Gen.Kernel
public import proofs.«01_k».proof.Proof.Gen.Kernel.Skeleton
public import Idealize.ShloMosaic.Lib.WordArith

@[expose] public section

noncomputable section

namespace Cert.Kernel

open Idealize.ShloMosaic TcCoe

/-- Pieces of 256 rows, and chunks of 512 rows, of a request of `n` rows. -/
def pieces (n : ℕ) : ℕ := (n + 255) / 256
def chunks (n : ℕ) : ℕ := (n + 511) / 512

theorem pieces_le {n : ℕ} (h : n ≤ 4096) : pieces n ≤ 16 := by unfold pieces; omega
theorem chunks_le {n : ℕ} (h : n ≤ 4096) : chunks n ≤ 8 := by unfold chunks; omega

theorem up_norm (w : BitVec 32) : Scalar.addi 0#32 (Scalar.muli (Scalar.divsi (Scalar.subi w 0#32) 1#32) 1#32) = w := by
  have h : Scalar.divsi (Scalar.subi w 0#32) 1#32 = Scalar.subi w 0#32 := WordArith.divsi_one _ _
  rw [h]
  show 0#32 + (w - 0#32) * 1#32 = w
  simp

theorem up_plain (w : BitVec 32) : Scalar.addi 0#32 (Scalar.subi w 0#32) = w := by
  show 0#32 + (w - 0#32) = w
  simp

theorem shr8 (w : BitVec 32) (h : w.toNat ≤ 4096) :
    (Scalar.shrui (Scalar.subi (Scalar.addi w 256#32) 1#32) 8#32).toNat = pieces w.toNat := by
  have h1 : Scalar.shrui (Scalar.subi (Scalar.addi w 256#32) 1#32) 8#32 = (w + 256#32 - 1#32) >>> 8#32 := by
    unfold Scalar.shrui IntOp.shrui
    rw [if_pos (by decide)]; rfl
  rw [h1]
  have h2 : (w + 256#32 - 1#32).toNat = w.toNat + 255 := by
    rw [BitVec.toNat_sub, BitVec.toNat_add]; simp; omega
  show ((w + 256#32 - 1#32) >>> 8).toNat = _
  rw [BitVec.toNat_ushiftRight, h2, Nat.shiftRight_eq_div_pow]; rfl

theorem shr9 (w : BitVec 32) (h : w.toNat ≤ 4096) :
    (Scalar.shrui (Scalar.subi (Scalar.addi w 512#32) 1#32) 9#32).toNat = chunks w.toNat := by
  have h1 : Scalar.shrui (Scalar.subi (Scalar.addi w 512#32) 1#32) 9#32 = (w + 512#32 - 1#32) >>> 9#32 := by
    unfold Scalar.shrui IntOp.shrui
    rw [if_pos (by decide)]; rfl
  rw [h1]
  have h2 : (w + 512#32 - 1#32).toNat = w.toNat + 511 := by
    rw [BitVec.toNat_sub, BitVec.toNat_add]; simp; omega
  show ((w + 512#32 - 1#32) >>> 9).toNat = _
  rw [BitVec.toNat_ushiftRight, h2, Nat.shiftRight_eq_div_pow]; rfl

theorem trips_up (w : BitVec 32) (h : w.toNat < 2 ^ 20) : Scf.trips 0#32 w 1#32 = w.toNat := by
  have h1 : w.toInt = w.toNat := BitVec.toInt_eq_toNat_of_lt (by omega)
  simp [Scf.trips, h1]

theorem ok_up (w : BitVec 32) (h : w.toNat < 2 ^ 20) : Scf.OK 0#32 w 1#32 := by
  refine ⟨by decide, ?_⟩
  rw [trips_up w h]
  simp; omega

theorem trips_none (w : BitVec 32) : Scf.trips w w 1#32 = 0 := by simp [Scf.trips]

theorem ok_none (w : BitVec 32) (h : w.toNat < 2 ^ 20) : Scf.OK w w 1#32 := by
  refine ⟨by decide, ?_⟩
  rw [trips_none]
  have h1 : w.toInt = w.toNat := BitVec.toInt_eq_toNat_of_lt (by omega)
  simp [h1]; omega

section Loops

variable (w : BitVec 32) (h : w.toNat ≤ 4096)
include h

theorem pw_lt : (Scalar.shrui (Scalar.subi (Scalar.addi w 256#32) 1#32) 8#32).toNat < 2 ^ 20 := by
  rw [shr8 w h]; have := pieces_le h; omega
theorem cw_lt : (Scalar.shrui (Scalar.subi (Scalar.addi w 512#32) 1#32) 9#32).toNat < 2 ^ 20 := by
  rw [shr9 w h]; have := chunks_le h; omega

theorem t1_trips : (k0_t1_loop w).trips = pieces w.toNat := by
  simp only [k0_t1_loop, Scf.Loop.trips, up_norm]; rw [trips_up _ (pw_lt w h), shr8 w h]
theorem t3_trips : (k0_t3_loop w).trips = pieces w.toNat := by
  simp only [k0_t3_loop, Scf.Loop.trips, up_norm]; rw [trips_up _ (pw_lt w h), shr8 w h]
theorem t5_trips : (k0_t5_loop w).trips = pieces w.toNat := by
  simp only [k0_t5_loop, Scf.Loop.trips, up_norm]; rw [trips_up _ (pw_lt w h), shr8 w h]
theorem t7_trips : (k0_t7_loop w).trips = chunks w.toNat := by
  simp only [k0_t7_loop, Scf.Loop.trips, up_norm]; rw [trips_up _ (cw_lt w h), shr9 w h]
theorem t9_trips : (k0_t9_loop w).trips = chunks w.toNat := by
  simp only [k0_t9_loop, Scf.Loop.trips, up_norm]; rw [trips_up _ (cw_lt w h), shr9 w h]
theorem t11_trips : (k0_t11_loop w).trips = chunks w.toNat := by
  simp only [k0_t11_loop, Scf.Loop.trips, up_norm]; rw [trips_up _ (cw_lt w h), shr9 w h]
omit h in theorem t2_trips : (k0_t2_loop w).trips = 0 := by
  simp only [k0_t2_loop, Scf.Loop.trips, up_norm, up_plain]; exact trips_none _
omit h in theorem t4_trips : (k0_t4_loop w).trips = 0 := by
  simp only [k0_t4_loop, Scf.Loop.trips, up_norm, up_plain]; exact trips_none _
omit h in theorem t6_trips : (k0_t6_loop w).trips = 0 := by
  simp only [k0_t6_loop, Scf.Loop.trips, up_norm, up_plain]; exact trips_none _
omit h in theorem t8_trips : (k0_t8_loop w).trips = 0 := by
  simp only [k0_t8_loop, Scf.Loop.trips, up_norm, up_plain]; exact trips_none _
omit h in theorem t10_trips : (k0_t10_loop w).trips = 0 := by
  simp only [k0_t10_loop, Scf.Loop.trips, up_norm, up_plain]; exact trips_none _
omit h in theorem t12_trips : (k0_t12_loop w).trips = 0 := by
  simp only [k0_t12_loop, Scf.Loop.trips, up_norm, up_plain]; exact trips_none _

theorem t1_ok : (k0_t1_loop w).OK := by
  simp only [k0_t1_loop, Scf.Loop.OK, up_norm]; exact ok_up _ (pw_lt w h)
theorem t3_ok : (k0_t3_loop w).OK := by
  simp only [k0_t3_loop, Scf.Loop.OK, up_norm]; exact ok_up _ (pw_lt w h)
theorem t5_ok : (k0_t5_loop w).OK := by
  simp only [k0_t5_loop, Scf.Loop.OK, up_norm]; exact ok_up _ (pw_lt w h)
theorem t7_ok : (k0_t7_loop w).OK := by
  simp only [k0_t7_loop, Scf.Loop.OK, up_norm]; exact ok_up _ (cw_lt w h)
theorem t9_ok : (k0_t9_loop w).OK := by
  simp only [k0_t9_loop, Scf.Loop.OK, up_norm]; exact ok_up _ (cw_lt w h)
theorem t11_ok : (k0_t11_loop w).OK := by
  simp only [k0_t11_loop, Scf.Loop.OK, up_norm]; exact ok_up _ (cw_lt w h)
theorem t2_ok : (k0_t2_loop w).OK := by
  simp only [k0_t2_loop, Scf.Loop.OK, up_norm, up_plain]; exact ok_none _ (pw_lt w h)
theorem t4_ok : (k0_t4_loop w).OK := by
  simp only [k0_t4_loop, Scf.Loop.OK, up_norm, up_plain]; exact ok_none _ (pw_lt w h)
theorem t6_ok : (k0_t6_loop w).OK := by
  simp only [k0_t6_loop, Scf.Loop.OK, up_norm, up_plain]; exact ok_none _ (pw_lt w h)
theorem t8_ok : (k0_t8_loop w).OK := by
  simp only [k0_t8_loop, Scf.Loop.OK, up_norm, up_plain]; exact ok_none _ (cw_lt w h)
theorem t10_ok : (k0_t10_loop w).OK := by
  simp only [k0_t10_loop, Scf.Loop.OK, up_norm, up_plain]; exact ok_none _ (cw_lt w h)
theorem t12_ok : (k0_t12_loop w).OK := by
  simp only [k0_t12_loop, Scf.Loop.OK, up_norm, up_plain]; exact ok_none _ (cw_lt w h)

end Loops

/-! ## Offsets -/

/-- A trip's number times a small constant, as the register computes it. -/
theorem iv_mul (k c : ℕ) (hk : k ≤ 64) (hc : c ≤ 4096) :
    (Scalar.muli (Scf.iv 0#32 1#32 k) (BitVec.ofNat 32 c)).toNat = c * k := by
  have h1 : Scf.iv 0#32 1#32 k = BitVec.ofNat 32 k := by unfold Scf.iv; simp
  rw [h1]
  show (BitVec.ofNat 32 k * BitVec.ofNat 32 c).toNat = _
  rw [BitVec.toNat_mul, BitVec.toNat_ofNat, BitVec.toNat_ofNat, Nat.mod_eq_of_lt (a := k) (by omega), Nat.mod_eq_of_lt (a := c) (by omega),
    Nat.mul_comm]
  exact Nat.mod_eq_of_lt (lt_of_le_of_lt (Nat.mul_le_mul hc hk) (by norm_num))

theorem iv_id (k : ℕ) (hk : k ≤ 64) : (Scalar.indexCast (Scf.iv 0#32 1#32 k)).toNat = k := by
  have h1 : Scf.iv 0#32 1#32 k = BitVec.ofNat 32 k := by unfold Scf.iv; simp
  rw [h1]
  show (BitVec.ofNat 32 k).toNat = _
  rw [BitVec.toNat_ofNat]; omega

section Grid
variable (i : grid0.Coords)

theorem point_lt : (i 0).val < 128 := (i 0).isLt
theorem point_word : (BitVec.ofNat 32 (i 0).val).toNat = (i 0).val := by
  have := point_lt i; rw [BitVec.toNat_ofNat]; omega
theorem slot_word : (Scalar.andi (BitVec.ofNat 32 (i 0).val) 1#32).toNat = (i 0).val % 2 := by
  show (BitVec.ofNat 32 (i 0).val &&& 1#32).toNat = _
  rw [BitVec.toNat_and, point_word]; exact Nat.and_one_is_mod _
theorem other_word : (Scalar.subi 1#32 (Scalar.andi (BitVec.ofNat 32 (i 0).val) 1#32)).toNat = ((i 0).val + 1) % 2 := by
  show (1#32 - Scalar.andi (BitVec.ofNat 32 (i 0).val) 1#32).toNat = _
  rw [BitVec.toNat_sub, slot_word]; simp; omega
theorem next_word : (Scalar.addi (BitVec.ofNat 32 (i 0).val) 1#32).toNat = (i 0).val + 1 := by
  have := point_lt i
  show (BitVec.ofNat 32 (i 0).val + 1#32).toNat = _
  rw [BitVec.toNat_add, point_word]; simp; omega

theorem cond1_iff : k0_cond1 i = 1#1 ↔ (i 0).val = 0 := by
  have : ∀ x : Fin 128, (Scalar.cmpi .ne (Scalar.extui (Scalar.cmpi .eq (BitVec.ofNat 32 x.val) 0#32) : BitVec 32) 0#32 = 1#1) ↔ x.val = 0 := by decide
  exact this (i 0)
theorem cond2_iff : k0_cond2 i = 1#1 ↔ (i 0).val + 1 < 128 := by
  have : ∀ x : Fin 128, (Scalar.cmpi .ne (Scalar.extui (Scalar.cmpi .slt (Scalar.addi (BitVec.ofNat 32 x.val) 1#32) 128#32) : BitVec 32) 0#32 = 1#1) ↔ x.val + 1 < 128 := by decide
  exact this (i 0)

theorem off5_eq : k0_off5 i = ![(i 0).val + 1] := by
  show ![(Scalar.addi (BitVec.ofNat 32 (i 0).val) 1#32).toNat] = _; rw [next_word]
theorem off12_eq : k0_off12 i = ![(i 0).val] := by
  show ![(BitVec.ofNat 32 (i 0).val).toNat] = _; rw [point_word]
theorem off19_eq : k0_off19 i = ![(i 0).val] := by
  show ![(BitVec.ofNat 32 (i 0).val).toNat] = _; rw [point_word]
theorem off6_eq : k0_off6 i = ![((i 0).val + 1) % 2] := by
  simp only [k0_off6]; rw [other_word]
theorem off13_eq : k0_off13 i = ![(i 0).val % 2] := by
  simp only [k0_off13]; rw [slot_word]

variable (w : BitVec 32) (h : w.toNat ≤ 4096)
include h

theorem off1_eq (k : Fin (k0_t1_loop w).trips) : k0_off1 w k = ![0, 256 * k.val, 0] := by
  have hk : k.val < pieces w.toNat := lt_of_lt_of_eq k.isLt (t1_trips w h)
  have hn := pieces_le h
  show ![0, (Scalar.muli (Scf.iv 0#32 1#32 k.val) 256#32).toNat, 0] = _
  rw [iv_mul _ 256 (by omega) (by omega)]
theorem off2_eq (k : Fin (k0_t1_loop w).trips) : k0_off2 w k = ![0, 256 * k.val, 0] := by
  have hk : k.val < pieces w.toNat := lt_of_lt_of_eq k.isLt (t1_trips w h)
  have hn := pieces_le h
  show ![0, (Scalar.muli (Scf.iv 0#32 1#32 k.val) 256#32).toNat, 0] = _
  rw [iv_mul _ 256 (by omega) (by omega)]
theorem off7_eq (k : Fin (k0_t3_loop w).trips) : k0_off7 i w k = ![((i 0).val + 1) % 2, 256 * k.val, 0] := by
  have hk : k.val < pieces w.toNat := lt_of_lt_of_eq k.isLt (t3_trips w h)
  have hn := pieces_le h
  show ![(Scalar.subi 1#32 (Scalar.andi (BitVec.ofNat 32 (i 0).val) 1#32)).toNat, (Scalar.muli (Scf.iv 0#32 1#32 k.val) 256#32).toNat, 0] = _
  rw [other_word, iv_mul _ 256 (by omega) (by omega)]
theorem off8_eq (k : Fin (k0_t3_loop w).trips) : k0_off8 i w k = ![(i 0).val + 1, 256 * k.val, 0] := by
  have hk : k.val < pieces w.toNat := lt_of_lt_of_eq k.isLt (t3_trips w h)
  have hn := pieces_le h
  show ![(Scalar.addi (BitVec.ofNat 32 (i 0).val) 1#32).toNat, (Scalar.muli (Scf.iv 0#32 1#32 k.val) 256#32).toNat, 0] = _
  rw [next_word, iv_mul _ 256 (by omega) (by omega)]
theorem off14_eq (k : Fin (k0_t5_loop w).trips) : k0_off14 i w k = ![(i 0).val % 2, 256 * k.val, 0] := by
  have hk : k.val < pieces w.toNat := lt_of_lt_of_eq k.isLt (t5_trips w h)
  have hn := pieces_le h
  show ![(Scalar.andi (BitVec.ofNat 32 (i 0).val) 1#32).toNat, (Scalar.muli (Scf.iv 0#32 1#32 k.val) 256#32).toNat, 0] = _
  rw [slot_word, iv_mul _ 256 (by omega) (by omega)]
theorem off15_eq (k : Fin (k0_t5_loop w).trips) : k0_off15 i w k = ![(i 0).val, 256 * k.val, 0] := by
  have hk : k.val < pieces w.toNat := lt_of_lt_of_eq k.isLt (t5_trips w h)
  have hn := pieces_le h
  show ![(BitVec.ofNat 32 (i 0).val).toNat, (Scalar.muli (Scf.iv 0#32 1#32 k.val) 256#32).toNat, 0] = _
  rw [point_word, iv_mul _ 256 (by omega) (by omega)]
theorem off20_eq (k : Fin (k0_t7_loop w).trips) : k0_off20 i w k = ![(i 0).val % 2, 512 * k.val, 512] := by
  have hk : k.val < chunks w.toNat := lt_of_lt_of_eq k.isLt (t7_trips w h)
  have hn := chunks_le h
  show ![(Scalar.andi (BitVec.ofNat 32 (i 0).val) 1#32).toNat, (Scalar.muli (Scf.iv 0#32 1#32 k.val) 512#32).toNat, 512] = _
  rw [slot_word, iv_mul _ 512 (by omega) (by omega)]
theorem off21_eq (k : Fin (k0_t7_loop w).trips) : k0_off21 i w k = ![(i 0).val % 2, 512 * k.val, 640] := by
  have hk : k.val < chunks w.toNat := lt_of_lt_of_eq k.isLt (t7_trips w h)
  have hn := chunks_le h
  show ![(Scalar.andi (BitVec.ofNat 32 (i 0).val) 1#32).toNat, (Scalar.muli (Scf.iv 0#32 1#32 k.val) 512#32).toNat, 640] = _
  rw [slot_word, iv_mul _ 512 (by omega) (by omega)]
theorem off23_eq (k : Fin (k0_t7_loop w).trips) : k0_off23 i w k = ![(i 0).val % 2, 512 * k.val, 0] := by
  have hk : k.val < chunks w.toNat := lt_of_lt_of_eq k.isLt (t7_trips w h)
  have hn := chunks_le h
  show ![(Scalar.andi (BitVec.ofNat 32 (i 0).val) 1#32).toNat, (Scalar.muli (Scf.iv 0#32 1#32 k.val) 512#32).toNat, 0] = _
  rw [slot_word, iv_mul _ 512 (by omega) (by omega)]
theorem off24_eq (k : Fin (k0_t7_loop w).trips) : k0_off24 i w k = ![(i 0).val % 2, 512 * k.val, 256] := by
  have hk : k.val < chunks w.toNat := lt_of_lt_of_eq k.isLt (t7_trips w h)
  have hn := chunks_le h
  show ![(Scalar.andi (BitVec.ofNat 32 (i 0).val) 1#32).toNat, (Scalar.muli (Scf.iv 0#32 1#32 k.val) 512#32).toNat, 256] = _
  rw [slot_word, iv_mul _ 512 (by omega) (by omega)]
theorem off22_eq (k : Fin (k0_t7_loop w).trips) : k0_off22 w k = ![k.val, 0, 0] := by
  have hk : k.val < chunks w.toNat := lt_of_lt_of_eq k.isLt (t7_trips w h)
  have hn := chunks_le h
  show ![(Scalar.indexCast (Scf.iv 0#32 1#32 k.val)).toNat, 0, 0] = _
  rw [iv_id _ (by omega)]
theorem off25_eq (k : Fin (k0_t7_loop w).trips) : k0_off25 w k = ![k.val, 0, 0] := by
  have hk : k.val < chunks w.toNat := lt_of_lt_of_eq k.isLt (t7_trips w h)
  have hn := chunks_le h
  show ![(Scalar.indexCast (Scf.iv 0#32 1#32 k.val)).toNat, 0, 0] = _
  rw [iv_id _ (by omega)]

theorem off32_eq (k : Fin (k0_t9_loop w).trips) : k0_off32 w k = ![k.val, 0, 0] := by
  have hk : k.val < chunks w.toNat := lt_of_lt_of_eq k.isLt (t9_trips w h)
  have hn := chunks_le h
  show ![(Scalar.indexCast (Scf.iv 0#32 1#32 k.val)).toNat, 0, 0] = _
  rw [iv_id _ (by omega)]
theorem off34_eq (k : Fin (k0_t11_loop w).trips) : k0_off34 w k = ![k.val, 0, 0] := by
  have hk : k.val < chunks w.toNat := lt_of_lt_of_eq k.isLt (t11_trips w h)
  have hn := chunks_le h
  show ![(Scalar.indexCast (Scf.iv 0#32 1#32 k.val)).toNat, 0, 0] = _
  rw [iv_id _ (by omega)]
theorem off35_eq (k : Fin (k0_t11_loop w).trips) : k0_off35 w k = ![k.val, 0, 0] := by
  have hk : k.val < chunks w.toNat := lt_of_lt_of_eq k.isLt (t11_trips w h)
  have hn := chunks_le h
  show ![(Scalar.indexCast (Scf.iv 0#32 1#32 k.val)).toNat, 0, 0] = _
  rw [iv_id _ (by omega)]
theorem off36_eq (k : Fin (k0_t11_loop w).trips) : k0_off36 i w k = ![(i 0).val % 2, 512 * k.val, 0] := by
  have hk : k.val < chunks w.toNat := lt_of_lt_of_eq k.isLt (t11_trips w h)
  have hn := chunks_le h
  show ![(Scalar.andi (BitVec.ofNat 32 (i 0).val) 1#32).toNat, (Scalar.muli (Scf.iv 0#32 1#32 k.val) 512#32).toNat, 0] = _
  rw [slot_word, iv_mul _ 512 (by omega) (by omega)]
theorem off37_eq (k : Fin (k0_t11_loop w).trips) : k0_off37 i w k = ![(i 0).val % 2, 512 * k.val, 256] := by
  have hk : k.val < chunks w.toNat := lt_of_lt_of_eq k.isLt (t11_trips w h)
  have hn := chunks_le h
  show ![(Scalar.andi (BitVec.ofNat 32 (i 0).val) 1#32).toNat, (Scalar.muli (Scf.iv 0#32 1#32 k.val) 512#32).toNat, 256] = _
  rw [slot_word, iv_mul _ 512 (by omega) (by omega)]

/-! ## The body's side conditions -/

omit h in
theorem inb3 {o s t : Fin 3 → ℕ} {a b c : ℕ} (ho : o = ![a, b, c]) (h0 : a + s 0 ≤ t 0) (h1 : b + s 1 ≤ t 1) (h2 : c + s 2 ≤ t 2) :
    ∀ x, o x + s x ≤ t x := by
  subst ho; intro x; fin_cases x
  exacts [h0, h1, h2]

omit h in
theorem words_kv {o : Fin 3 → ℕ} {a b : ℕ} (ho : o = ![a, 256 * b, 0]) (hinb : ∀ x, o x + S1x256x656.size x ≤ S2x4096x656.size x) :
    (Rect.unit (s := S2x4096x656) o S1x256x656.size hinb).WholeWords (EltTy.packing .i8) := by
  subst ho
  have h2 : 2 ≤ S2x4096x656.rank := by decide
  exact Or.inl (Or.inr ⟨h2, rfl, Or.inl ⟨(show 4 ∣ 256 * b by omega), (show 4 ∣ 256 by decide)⟩⟩)

omit h in
theorem words_cache {o : Fin 3 → ℕ} {a b : ℕ} (ho : o = ![a, 256 * b, 0]) (hinb : ∀ x, o x + S1x256x656.size x ≤ S128x4096x656.size x) :
    (Rect.unit (s := S128x4096x656) o S1x256x656.size hinb).WholeWords (EltTy.packing .i8) := by
  subst ho
  have h2 : 2 ≤ S128x4096x656.rank := by decide
  exact Or.inl (Or.inr ⟨h2, rfl, Or.inl ⟨(show 4 ∣ 256 * b by omega), (show 4 ∣ 256 by decide)⟩⟩)

theorem piece_rows {k : ℕ} (hk : k < pieces w.toNat) : 256 * k + 256 ≤ 4096 := by
  have := pieces_le h; omega
theorem chunk_rows {k : ℕ} (hk : k < chunks w.toNat) : 512 * k + 512 ≤ 4096 := by
  have := chunks_le h; omega

omit h in
theorem no_trip {l : Scf.Loop 32} (hl : l.trips = 0) (k : Fin l.trips) : False := absurd k.isLt (by omega)

theorem chk1 : k0_chk1 i w := by
  refine ⟨fun _ => t1_ok w h, ?_, ?_, ?_, ?_, fun _ => t2_ok w h, ?_, ?_, ?_, ?_⟩
  · intro k _
    have hk := piece_rows w h (lt_of_lt_of_eq k.isLt (t1_trips w h))
    exact inb3 (off1_eq w h k) (by decide) hk (by decide)
  · intro k _
    have hk := piece_rows w h (lt_of_lt_of_eq k.isLt (t1_trips w h))
    exact inb3 (off2_eq w h k) (by decide) hk (by decide)
  · intro k _ hi; exact words_cache (off2_eq w h k) hi
  · intro k _ hi; exact words_kv (off1_eq w h k) hi
  all_goals intro k; exact (no_trip (t2_trips w) k).elim

theorem chk2 (hi : (i 0).val + 1 < 128) : k0_chk2 i w := by
  refine ⟨fun _ => t3_ok w h, ?_, ?_, ?_, ?_, fun _ => t4_ok w h, ?_, ?_, ?_, ?_⟩
  · intro k _
    have hk := piece_rows w h (lt_of_lt_of_eq k.isLt (t3_trips w h))
    exact inb3 (off7_eq i w h k) (show (((i 0).val + 1) % 2) + 1 ≤ 2 by omega) hk (by decide)
  · intro k _
    have hk := piece_rows w h (lt_of_lt_of_eq k.isLt (t3_trips w h))
    exact inb3 (off8_eq i w h k) (show (i 0).val + 1 + 1 ≤ 128 by omega) hk (by decide)
  · intro k _ hi; exact words_cache (off8_eq i w h k) hi
  · intro k _ hi; exact words_kv (off7_eq i w h k) hi
  all_goals intro k; exact (no_trip (t4_trips w) k).elim

theorem chk3 : k0_chk3 i w := by
  refine ⟨t5_ok w h, ?_, ?_, ?_, ?_, t6_ok w h, ?_, ?_, ?_, ?_⟩
  · intro k
    have hk := piece_rows w h (lt_of_lt_of_eq k.isLt (t5_trips w h))
    exact inb3 (off14_eq i w h k) (show ((i 0).val % 2) + 1 ≤ 2 by omega) hk (by decide)
  · intro k
    have hk := piece_rows w h (lt_of_lt_of_eq k.isLt (t5_trips w h))
    exact inb3 (off15_eq i w h k) (show (i 0).val + 1 ≤ 128 from point_lt i) hk (by decide)
  · intro k hi; exact words_cache (off15_eq i w h k) hi
  · intro k hi; exact words_kv (off14_eq i w h k) hi
  all_goals intro k; exact (no_trip (t6_trips w) k).elim

theorem dvd_mul (k : ℕ) (hk : k < chunks w.toNat) : 512 ∣ (Scalar.muli (Scf.iv 0#32 1#32 k) 512#32).toNat := by
  have := chunks_le h
  rw [iv_mul k 512 (by omega) (by omega)]; omega

theorem chk4 : k0_chk4 i w := by
  have hs : ((i 0).val % 2) + 1 ≤ 2 := by omega
  have r7 : ∀ k : Fin (k0_t7_loop w).trips, 512 * k.val + 512 ≤ 4096 := fun k => chunk_rows w h (lt_of_lt_of_eq k.isLt (t7_trips w h))
  have r9 : ∀ k : Fin (k0_t9_loop w).trips, k.val + 1 ≤ 8 := fun k => by
    have := chunk_rows w h (lt_of_lt_of_eq k.isLt (t9_trips w h)); omega
  have r11 : ∀ k : Fin (k0_t11_loop w).trips, 512 * k.val + 512 ≤ 4096 := fun k => chunk_rows w h (lt_of_lt_of_eq k.isLt (t11_trips w h))
  have q7 : ∀ k : Fin (k0_t7_loop w).trips, k.val + 1 ≤ 8 := fun k => by have := r7 k; omega
  have q11 : ∀ k : Fin (k0_t11_loop w).trips, k.val + 1 ≤ 8 := fun k => by have := r11 k; omega
  refine ⟨t7_ok w h, fun k => dvd_mul w h k.val (lt_of_lt_of_eq k.isLt (t7_trips w h)),
    fun k => inb3 (off20_eq i w h k) hs (r7 k) (by decide), fun k => inb3 (off21_eq i w h k) hs (r7 k) (by decide),
    fun k => inb3 (off22_eq w h k) (q7 k) (by decide) (by decide), fun k => inb3 (off23_eq i w h k) hs (r7 k) (by decide),
    fun k => inb3 (off24_eq i w h k) hs (r7 k) (by decide), fun k => inb3 (off25_eq w h k) (q7 k) (by decide) (by decide),
    t8_ok w h, ?_, ?_, ?_, ?_, ?_, ?_, ?_,
    t9_ok w h, fun k => inb3 (off32_eq w h k) (r9 k) (by decide) (by decide),
    t10_ok w h, ?_,
    t11_ok w h, fun k => dvd_mul w h k.val (lt_of_lt_of_eq k.isLt (t11_trips w h)),
    fun k => inb3 (off34_eq w h k) (q11 k) (by decide) (by decide), fun k => inb3 (off35_eq w h k) (q11 k) (by decide) (by decide),
    fun k => inb3 (off36_eq i w h k) hs (r11 k) (by decide), fun k => inb3 (off37_eq i w h k) hs (r11 k) (by decide),
    t12_ok w h, ?_, ?_, ?_, ?_, ?_⟩
  iterate 7 · exact fun k => (no_trip (t8_trips w) k).elim
  · exact fun k => (no_trip (t10_trips w) k).elim
  all_goals exact fun k => (no_trip (t12_trips w) k).elim

end Grid

end Cert.Kernel
-- ==== Proof.Kernel.Pieces.lean ====
/-
  The kernel's own copies, one piece of 256 cache rows at a time: the elements a piece occupies in the cache and in a slot
  of the double buffer, what a finished copy delivers, and the rules by which the kernel starts one copy and waits for one.
-/
module

public import proofs.«01_k».proof.Proof.Kernel.Words
public import proofs.«01_k».proof.Proof.Gen.Kernel.Launch
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Elements -/

/-- The elements of slot `s` of the double buffer, those of its piece `j`, and those from piece `k` on. -/
def slotSet (s : ℕ) : Finset S2x4096x656.Idx := Finset.univ.filter fun x => (x 0).val = s
def pieceSet (s j : ℕ) : Finset S2x4096x656.Idx :=
  Finset.univ.filter fun x => (x 0).val = s ∧ 256 * j ≤ (x 1).val ∧ (x 1).val < 256 * j + 256
def fromSet (s k : ℕ) : Finset S2x4096x656.Idx := Finset.univ.filter fun x => (x 0).val = s ∧ 256 * k ≤ (x 1).val
def uptoSet (s k : ℕ) : Finset S2x4096x656.Idx := Finset.univ.filter fun x => (x 0).val = s ∧ (x 1).val < 256 * k

/-- The elements of piece `j` of request `b` in the cache, those of its first `k` pieces, and every other element. -/
def cacheSet (b j : ℕ) : Finset S128x4096x656.Idx :=
  Finset.univ.filter fun x => (x 0).val = b ∧ 256 * j ≤ (x 1).val ∧ (x 1).val < 256 * j + 256
def cacheUpto (b k : ℕ) : Finset S128x4096x656.Idx := Finset.univ.filter fun x => (x 0).val = b ∧ (x 1).val < 256 * k
def cacheFrom (b k : ℕ) : Finset S128x4096x656.Idx := Finset.univ.filter fun x => ¬ ((x 0).val = b ∧ (x 1).val < 256 * k)

theorem fromSet_zero (s : ℕ) : fromSet s 0 = slotSet s := by
  ext x; simp [fromSet, slotSet]

theorem cacheFrom_zero (b : ℕ) : cacheFrom b 0 = Finset.univ := by
  ext x; simp [cacheFrom]

theorem pieceSet_sub (s k : ℕ) : pieceSet s k ⊆ fromSet s k := by
  intro x; simp only [pieceSet, fromSet, Finset.mem_filter, Finset.mem_univ, true_and]; omega

theorem fromSet_sdiff (s k : ℕ) : fromSet s k \ pieceSet s k = fromSet s (k + 1) := by
  ext x; simp only [pieceSet, fromSet, Finset.mem_sdiff, Finset.mem_filter, Finset.mem_univ, true_and]; omega

theorem cacheSet_sub (b k : ℕ) : cacheSet b k ⊆ cacheFrom b k := by
  intro x; simp only [cacheSet, cacheFrom, Finset.mem_filter, Finset.mem_univ, true_and]; omega

theorem cacheFrom_sdiff (b k : ℕ) : cacheFrom b k \ cacheSet b k = cacheFrom b (k + 1) := by
  ext x; simp only [cacheSet, cacheFrom, Finset.mem_sdiff, Finset.mem_filter, Finset.mem_univ, true_and]; omega

theorem pieces_union (s n : ℕ) : (Finset.univ : Finset (Fin n)).biUnion (fun j => pieceSet s j.val) = uptoSet s n := by
  ext x; simp only [pieceSet, uptoSet, Finset.mem_biUnion, Finset.mem_filter, Finset.mem_univ, true_and]
  constructor
  · rintro ⟨j, h0, h1, h2⟩; have := j.isLt; exact ⟨h0, by omega⟩
  · rintro ⟨h0, h1⟩; exact ⟨⟨(x 1).val / 256, by omega⟩, h0, by simp only; omega, by simp only; omega⟩

theorem caches_union (b n : ℕ) : (Finset.univ : Finset (Fin n)).biUnion (fun j => cacheSet b j.val) = cacheUpto b n := by
  ext x; simp only [cacheSet, cacheUpto, Finset.mem_biUnion, Finset.mem_filter, Finset.mem_univ, true_and]
  constructor
  · rintro ⟨j, h0, h1, h2⟩; have := j.isLt; exact ⟨h0, by omega⟩
  · rintro ⟨h0, h1⟩; exact ⟨⟨(x 1).val / 256, by omega⟩, h0, by simp only; omega, by simp only; omega⟩

theorem pieces_disj (s : ℕ) {n : ℕ} : ∀ i j : Fin n, i ≠ j →
    Disjoint (pieceSet s i.val) (pieceSet s j.val) := by
  intro i j hij
  refine Finset.disjoint_left.mpr fun x h1 h2 => hij (Fin.ext ?_)
  simp only [pieceSet, Finset.mem_filter, Finset.mem_univ, true_and] at h1 h2; omega

theorem caches_disj (b : ℕ) {n : ℕ} : ∀ i j : Fin n, i ≠ j →
    Disjoint (cacheSet b i.val) (cacheSet b j.val) := by
  intro i j hij
  refine Finset.disjoint_left.mpr fun x h1 h2 => hij (Fin.ext ?_)
  simp only [cacheSet, Finset.mem_filter, Finset.mem_univ, true_and] at h1 h2; omega

theorem slot_join (s n : ℕ) : uptoSet s n ∪ fromSet s n = slotSet s := by
  ext x; simp only [uptoSet, fromSet, slotSet, Finset.mem_union, Finset.mem_filter, Finset.mem_univ, true_and]; omega

theorem slot_join_disj (s n : ℕ) : Disjoint (uptoSet s n) (fromSet s n) := by
  refine Finset.disjoint_left.mpr fun x h1 h2 => ?_
  simp only [uptoSet, fromSet, Finset.mem_filter, Finset.mem_univ, true_and] at h1 h2; omega

theorem cache_join (b n : ℕ) : cacheUpto b n ∪ cacheFrom b n = Finset.univ := by
  ext x; simp only [cacheUpto, cacheFrom, Finset.mem_union, Finset.mem_filter, Finset.mem_univ, true_and, iff_true]; tauto

theorem cache_join_disj (b n : ℕ) : Disjoint (cacheUpto b n) (cacheFrom b n) := by
  refine Finset.disjoint_left.mpr fun x h1 h2 => ?_
  simp only [cacheUpto, cacheFrom, Finset.mem_filter, Finset.mem_univ, true_and] at h1 h2; tauto

theorem slots_join : slotSet 0 ∪ slotSet 1 = Finset.univ := by
  ext x; have : (x 0).val < 2 := (x 0).isLt
  simp only [slotSet, Finset.mem_union, Finset.mem_filter, Finset.mem_univ, true_and, iff_true]; omega

theorem slots_disj : Disjoint (slotSet 0) (slotSet 1) := by
  refine Finset.disjoint_left.mpr fun x h1 h2 => ?_
  simp only [slotSet, Finset.mem_filter, Finset.mem_univ, true_and] at h1 h2; omega

/-! ## The two ends of a copy, and its semaphore -/

/-- The semaphore of slot `s`. -/
def slotSem (s : ℕ) (h : ∀ a, (![s] : Fin 1 → ℕ) a + S1.size a ≤ S2.size a) : DmaSem sig :=
  ((cc0_scratch5.slice (Rect.unit (s := S2) ![s] S1.size h)).squeeze S_ squeezes_S1_S_).sem

theorem slotSem_zero (h) : slotSem 0 h = 11 := by revert h; decide
theorem slotSem_one (h) : slotSem 1 h = 12 := by revert h; decide

/-- 256 rows of the double buffer, and of the cache, from the offset `o`. -/
abbrev kvAt (o : Fin 3 → ℕ) (h : ∀ a, o a + S1x256x656.size a ≤ S2x4096x656.size a) : Memref sig .tc .vmem S256x656 .i8 :=
  ((Memref.whole cc0_scratch0).slice (Rect.unit (s := S2x4096x656) o S1x256x656.size h) (fun _ => rfl)).squeeze S256x656 squeezes_S1x256x656_S256x656
abbrev cacheAt (o : Fin 3 → ℕ) (h : ∀ a, o a + S1x256x656.size a ≤ S128x4096x656.size a) : Memref sig .tc .hbm S256x656 .i8 :=
  ((Memref.whole main_arg4).slice (Rect.unit (s := S128x4096x656) o S1x256x656.size h) (fun _ => rfl)).squeeze S256x656 squeezes_S1x256x656_S256x656

theorem kvAt_set {s k : ℕ} (h) : (kvAt ![s, 256 * k, 0] h).view.set = pieceSet s k := by

  refine Eq.trans (View.set_reshape _ _) (Eq.trans (View.set_slice_whole _ _) ?_)
  ext x
  rw [Rect.mem_set_unit, pieceSet, Finset.mem_filter]
  have h2 : (x 2).val < 656 := (x 2).isLt
  constructor
  · intro hx
    have h0 := hx 0; have h1 := hx 1
    change s ≤ (x 0).val ∧ (x 0).val < s + 1 at h0
    change 256 * k ≤ (x 1).val ∧ (x 1).val < 256 * k + 256 at h1
    exact ⟨Finset.mem_univ _, by omega, h1⟩
  · rintro ⟨-, h0, h1⟩ a
    match a with
    | 0 => exact (show s ≤ (x 0).val ∧ (x 0).val < s + 1 by omega)
    | 1 => exact h1
    | 2 => exact (show 0 ≤ (x 2).val ∧ (x 2).val < 0 + 656 by omega)

theorem cacheAt_set {b k : ℕ} (h) : (cacheAt ![b, 256 * k, 0] h).view.set = cacheSet b k := by

  refine Eq.trans (View.set_reshape _ _) (Eq.trans (View.set_slice_whole _ _) ?_)
  ext x
  rw [Rect.mem_set_unit, cacheSet, Finset.mem_filter]
  have h2 : (x 2).val < 656 := (x 2).isLt
  constructor
  · intro hx
    have h0 := hx 0; have h1 := hx 1
    change b ≤ (x 0).val ∧ (x 0).val < b + 1 at h0
    change 256 * k ≤ (x 1).val ∧ (x 1).val < 256 * k + 256 at h1
    exact ⟨Finset.mem_univ _, by omega, h1⟩
  · rintro ⟨-, h0, h1⟩ a
    match a with
    | 0 => exact (show b ≤ (x 0).val ∧ (x 0).val < b + 1 by omega)
    | 1 => exact h1
    | 2 => exact (show 0 ≤ (x 2).val ∧ (x 2).val < 0 + 656 by omega)

/-- What one piece credits its semaphore with. -/
def pieceN : ℕ := (kvAt ![0, 0, 0] (by decide)).view.dmaCredit

theorem kvAt_credit (o h) : (kvAt o h).view.dmaCredit = pieceN := rfl
theorem pieceN_pos : 0 < pieceN := View.dmaCredit_pos _ (by decide)

/-- The rows of request `b`, laid out as one slot of the double buffer. -/
def rowsOf (fc : S128x4096x656.Idx → Elt F .i8) (b : ℕ) (hb : b < 128) : S2x4096x656.Idx → Elt F .i8 :=
  fun x => fc (fun a => match a with | 0 => (⟨b, hb⟩ : Fin 128) | 1 => (x 1 : Fin 4096) | 2 => (x 2 : Fin 656))

theorem landed {s b k : ℕ} (hb : b < 128) (h h') (fc : S128x4096x656.Idx → Elt F .i8) (f : S2x4096x656.Idx → Elt F .i8)
    (x : S2x4096x656.Idx) (hx : x ∈ pieceSet s k) :
    (kvAt ![s, 256 * k, 0] h).view.write (Elt F) f (ReadAs.same.apply ((cacheAt ![b, 256 * k, 0] h').view.read (Elt F) fc)) Finset.univ x
      = rowsOf fc b hb x := by
  rw [← kvAt_set h] at hx
  obtain ⟨y, -, rfl⟩ := Finset.mem_map.mp hx
  refine Eq.trans (View.write_emb_of_mem (v := (kvAt ![s, 256 * k, 0] h).view) (Val := Elt F) _ _ (Finset.mem_univ y)) ?_
  show fc ((cacheAt ![b, 256 * k, 0] h').view.emb y) = fc _
  refine congrArg fc (funext fun (a : Fin 3) => Fin.ext ?_)
  match a with
  | 0 =>
    have : (cacheAt ![b, 256 * k, 0] h').view.emb y ∈ cacheSet b k := by
      rw [← cacheAt_set h']; exact Finset.mem_map_of_mem _ (Finset.mem_univ _)
    exact (Finset.mem_filter.mp this).2.1
  | 1 => rfl
  | 2 => rfl

/-! ## What a copy delivers, and the flight of a request's pieces -/

/-- The buffers, as a core reaches them. -/
abbrev kvLoc (c : Dev nD) : Loc nD τ sig := (Memref.whole cc0_scratch0).view.loc (c : Thread nD τ)
abbrev cacheLoc (c : Dev nD) : Loc nD τ sig := (Memref.whole main_arg4).view.loc (c : Thread nD τ)

variable (c : Dev nD) (q : PosShare TreeShare) (fc : S128x4096x656.Idx → Elt F .i8) (s b : ℕ) (hb : b < 128)

def delivery (n : ℕ) (j : Fin n) : sProp 𝕄 :=
  iprop((kvLoc c ↦[pieceSet s j.val]{fullShare} rowsOf fc b hb) ∗ (cacheLoc c ↦[cacheSet b j.val]{q} fc))

instance delivery_storable (n : ℕ) (j : Fin n) : Storable (upEmb : UEmb _ 𝕄) (delivery c q fc s b hb n j) := by
  unfold delivery; infer_instance

/-- `n` pieces of request `b` on their way into slot `s`: `j` started, `u` units of the semaphore waited for. -/
def flight (sm : DmaSem sig) (n j u : ℕ) : sProp 𝕄 :=
  Transfers.Batch (countersEmb (U := Pipeline.UD sig nD τ)) (c : Thread nD τ) (.dma sm) () pieceN (delivery c q fc s b hb n) j u

/-- What is not yet on its way when `k` pieces are: the rest of the slot and of the cache. -/
def rest (k : ℕ) : sProp 𝕄 :=
  iprop((∃ f, kvLoc c ↦[fromSet s k]{fullShare} f) ∗ (cacheLoc c ↦[cacheFrom b k]{q} fc))

/-- A slot with nothing on its way: its rows, a share of the cache, its semaphore at zero. -/
def idle (sm : DmaSem sig) : sProp 𝕄 :=
  iprop((∃ f, kvLoc c ↦[slotSet s]{fullShare} f) ∗ (cacheLoc c ↦{q} fc) ∗ semVal ((c : Thread nD τ), .dma sm) 0)

/-- A slot with all `n` pieces of request `b` on their way. -/
def flying (sm : DmaSem sig) (n : ℕ) : sProp 𝕄 :=
  iprop(flight c q fc s b hb sm n n 0 ∗ rest c q fc s b n)

/-- A slot whose first `n` pieces hold request `b`. -/
def landedSlot (sm : DmaSem sig) (n : ℕ) : sProp 𝕄 :=
  iprop((∃ f : S2x4096x656.Idx → Elt F .i8, ⌜∀ x, (x 0).val = s → (x 1).val < 256 * n → f x = rowsOf fc b hb x⌝
      ∗ kvLoc c ↦[slotSet s]{fullShare} f) ∗ (cacheLoc c ↦{q} fc) ∗ semVal ((c : Thread nD τ), .dma sm) 0)

theorem landedSlot_idle (sm : DmaSem sig) (n : ℕ) : landedSlot c q fc s b hb sm n ⊢ idle c q fc s sm := by
  unfold landedSlot idle
  iintro ⟨⟨%f, -, Hf⟩, Hc, Hs⟩
  isplitl [Hf]; · iexists f; iexact Hf
  isplitl [Hc] <;> iassumption

/-- Nothing started yet. -/
theorem idle_start (sm : DmaSem sig) (n : ℕ) :
    idle c q fc s sm ⊢ (|={Set.univ}=> iprop(flight c q fc s b hb sm n 0 0 ∗ rest c q fc s b 0) : sProp 𝕄) := by
  unfold idle flight rest
  rw [fromSet_zero, cacheFrom_zero]
  iintro ⟨Hf, Hc, Hs⟩
  imod (Transfers.batch_alloc' (countersEmb (U := Pipeline.UD sig nD τ)) (c : Thread nD τ) () pieceN (delivery c q fc s b hb n) (E := Set.univ)) $$ Hs with HB
  imodintro
  isplitl [HB]; · iexact HB
  isplitl [Hf] <;> iassumption

/-- Everything waited for. -/
theorem flight_done (sm : DmaSem sig) (n : ℕ) :
    iprop(flight c q fc s b hb sm n n (pieceN * n) ∗ rest c q fc s b n) ⊢ (|={Set.univ}=> landedSlot c q fc s b hb sm n : sProp 𝕄) := by
  unfold flight rest landedSlot
  iintro ⟨HB, ⟨%f, Hf⟩, Hc⟩
  imod (Transfers.batch_collect' (countersEmb (U := Pipeline.UD sig nD τ)) (c : Thread nD τ) (ι := ()) pieceN_pos (D := delivery c q fc s b hb n)) $$ HB with ⟨HD, Hs⟩
  imodintro
  ihave HD' := (show bigSep Finset.univ (delivery c q fc s b hb n)
      ⊢ iprop((kvLoc c ↦[uptoSet s n]{fullShare} rowsOf fc b hb) ∗ (cacheLoc c ↦[cacheUpto b n]{q} fc)) from by
    unfold delivery
    refine (Entails.of_eq (BI.bigSep_sep Finset.univ (fun j : Fin n => (kvLoc c ↦[pieceSet s j.val]{fullShare} rowsOf fc b hb : sProp 𝕄))
      (fun j : Fin n => (cacheLoc c ↦[cacheSet b j.val]{q} fc : sProp 𝕄)))).trans ?_
    refine sep_mono (Entails.of_eq ?_) (Entails.of_eq ?_)
    · exact (Ring.pointsTo_sub_blocks (ℓ := kvLoc c) (fun j : Fin n => pieceSet s j.val) (pieces_disj s) (uptoSet s n) (pieces_union s n) (rowsOf fc b hb)).symm
    · exact (Ring.pointsTo_sub_blocks (ℓ := cacheLoc c) (fun j : Fin n => cacheSet b j.val) (caches_disj b) (cacheUpto b n) (caches_union b n) fc).symm) $$ HD
  icases HD' with ⟨Hk, Hc'⟩
  let g : S2x4096x656.Idx → Elt F .i8 := fun x => if (x 1).val < 256 * n then rowsOf fc b hb x else f x
  isplitl [Hf Hk]
  · iexists g
    isplitr
    · ipureintro; intro x _ hx; exact if_pos hx
    · iapply (show iprop((kvLoc c ↦[uptoSet s n]{fullShare} rowsOf fc b hb) ∗ (kvLoc c ↦[fromSet s n]{fullShare} f)) ⊢ (kvLoc c ↦[slotSet s]{fullShare} g : sProp 𝕄) from by
        rw [show (kvLoc c ↦[uptoSet s n]{fullShare} rowsOf fc b hb : sProp 𝕄) = kvLoc c ↦[uptoSet s n]{fullShare} g from
            pointsTo_congr fun x hx => (if_pos (Finset.mem_filter.mp hx).2.2).symm,
          show (kvLoc c ↦[fromSet s n]{fullShare} f : sProp 𝕄) = kvLoc c ↦[fromSet s n]{fullShare} g from
            pointsTo_congr fun x hx => (if_neg (by have := (Finset.mem_filter.mp hx).2.2; omega)).symm, ← slot_join s n]
        exact (pointsTo_union (ℓ := kvLoc c) (slot_join_disj s n)).2)
      isplitl [Hk] <;> iassumption
  isplitl [Hc Hc']
  · iapply (show iprop((cacheLoc c ↦[cacheUpto b n]{q} fc) ∗ (cacheLoc c ↦[cacheFrom b n]{q} fc)) ⊢ (cacheLoc c ↦{q} fc : sProp 𝕄) from by
      rw [← cache_join b n]; exact (pointsTo_union (ℓ := cacheLoc c) (cache_join_disj b n)).2)
    isplitl [Hc'] <;> iassumption
  iexact Hs

/-! ## Starting a copy, and waiting for one -/

variable (𝒱 : Variants) (bd : Option 𝒱.V) {α : Type}

theorem wp_issue (Q : α → sProp 𝕄) {n k : ℕ} (hk : k < n) {o₀ : Fin 1 → ℕ} {o₁ o₂ : Fin 3 → ℕ} (e₀ : o₀ = ![s]) (e₁ : o₁ = ![s, 256 * k, 0]) (e₂ : o₂ = ![b, 256 * k, 0])
    (h₀ h₁ h₂) (hs : ∀ a, (![s] : Fin 1 → ℕ) a + S1.size a ≤ S2.size a) {wsrc wdst hsem} (K : PUnit → Prog (TpuEff nD τ sig (Elt F) Λ₀ .tc) α) :
    iprop(flight c q fc s b hb (slotSem s hs) n k 0 ∗ rest c q fc s b k)
      ⊢ iprop((iprop(flight c q fc s b hb (slotSem s hs) n (k + 1) 0 ∗ rest c q fc s b (k + 1)) -∗ wp frame (wpE (defs₀ (F := F)) 𝒱 (c : Thread nD τ) bd) Set.univ (K ⟨⟩) Q)
        -∗ wp frame (wpE (defs₀ (F := F)) 𝒱 (c : Thread nD τ) bd) Set.univ
          (.op (.enqueueDma (cacheAt o₂ h₂) (.here (kvAt o₁ h₁)) (.dma ((cc0_scratch5.slice (Rect.unit (s := S2) o₀ S1.size h₀)).squeeze S_ squeezes_S1_S_).sem)
            wsrc wdst hsem) K) Q) := by
  subst e₀ e₁ e₂
  unfold rest
  iintro ⟨HB, ⟨%f, Hf⟩, Hc⟩ Hk
  ihave Hf' := (show (kvLoc c ↦[fromSet s k]{fullShare} f : sProp 𝕄)
      ⊢ iprop(((kvAt ![s, 256 * k, 0] h₁).view.loc (c : Thread nD τ) ↦[(kvAt ![s, 256 * k, 0] h₁).view.set]{fullShare} f) ∗ (kvLoc c ↦[fromSet s (k + 1)]{fullShare} f)) from by
    rw [kvAt_set h₁, ← fromSet_sdiff]; exact (pointsTo_split_subset (ℓ := kvLoc c) (pieceSet_sub s k)).1) $$ Hf
  ihave Hc' := (show (cacheLoc c ↦[cacheFrom b k]{q} fc : sProp 𝕄)
      ⊢ iprop(((cacheAt ![b, 256 * k, 0] h₂).view.loc (c : Thread nD τ) ↦[(cacheAt ![b, 256 * k, 0] h₂).view.set]{q} fc) ∗ (cacheLoc c ↦[cacheFrom b (k + 1)]{q} fc)) from by
    rw [cacheAt_set h₂, ← cacheFrom_sdiff]; exact (pointsTo_split_subset (ℓ := cacheLoc c) (cacheSet_sub b k)).1) $$ Hc
  icases Hf' with ⟨Hf1, Hf2⟩
  icases Hc' with ⟨Hc1, Hc2⟩
  unfold flight
  iapply (Transfers.wp_dmaBatch (countersEmb (U := Pipeline.UD sig nD τ)) 𝒱 (c : Thread nD τ) bd (src := cacheAt ![b, 256 * k, 0] h₂) (dst := kvAt ![s, 256 * k, 0] h₁)
    (sm := .dma (slotSem s hs)) (via := ReadAs.same) () pieceN rfl subset_rfl (D := delivery c q fc s b hb n) hk (Nat.zero_le _) (q := q) (fs := fc) (fd := f) ?_) $$ [HB Hf1 Hc1]
  · unfold delivery
    refine sep_mono (Entails.of_eq ?_) (Entails.of_eq ?_)
    · refine Eq.trans ?_ (pointsTo_congr (ℓ := kvLoc c) fun x hx => landed hb h₁ h₂ fc f x hx)
      rw [← kvAt_set h₁]
    · rw [← cacheAt_set h₂]
  · isplitl [Hc1]; · iexact Hc1
    isplitl [Hf1]; · iexact Hf1
    iexact HB
  iintro HB
  iapply Hk
  isplitl [HB]; · iexact HB
  isplitl [Hf2]; · iexists f; iexact Hf2
  iexact Hc2

theorem wp_land (Q : α → sProp 𝕄) {n k : ℕ} (hk : k < n) {o₀ : Fin 1 → ℕ} {o₁ o₂ : Fin 3 → ℕ} (e₀ : o₀ = ![s])
    (h₀ h₁ h₂) (hs : ∀ a, (![s] : Fin 1 → ℕ) a + S1.size a ≤ S2.size a) {wsrc wdst} (K : PUnit → Prog (TpuEff nD τ sig (Elt F) Λ₀ .tc) α) :
    iprop(flight c q fc s b hb (slotSem s hs) n n (pieceN * k) ∗ (∃ W, owes (c : Thread nD τ) 0 W))
      ⊢ iprop((iprop(flight c q fc s b hb (slotSem s hs) n n (pieceN * (k + 1)) ∗ (∃ W, owes (c : Thread nD τ) 0 W)) -∗ wp frame (wpE (defs₀ (F := F)) 𝒱 (c : Thread nD τ) bd) Set.univ (K ⟨⟩) Q)
        -∗ wp frame (wpE (defs₀ (F := F)) 𝒱 (c : Thread nD τ) bd) Set.univ
          (.op (.waitDma2 ((cc0_scratch5.slice (Rect.unit (s := S2) o₀ S1.size h₀)).squeeze S_ squeezes_S1_S_).sem (cacheAt o₂ h₂) (kvAt o₁ h₁) wsrc wdst) K) Q) := by
  subst e₀
  unfold flight
  iintro ⟨HB, ⟨%W, HO⟩⟩ Hk
  iapply (Transfers.wp_waitBatchMul (countersEmb (U := Pipeline.UD sig nD τ)) 𝒱 (c : Thread nD τ) bd (sem := slotSem s hs) (srcw := cacheAt o₂ h₂) (dstw := kvAt o₁ h₁)
    () 1 (N := pieceN) (by rw [kvAt_credit, Nat.one_mul]) (D := delivery c q fc s b hb n) (j := n) (u := pieceN * k)
    (by rw [Nat.one_mul, ← Nat.mul_succ]; exact Nat.mul_le_mul_left _ hk)) $$ [HB HO]
  · isplitl [HB] <;> iassumption
  rw [Nat.one_mul, ← Nat.mul_succ]
  iintro ⟨HB, HO⟩
  iapply Hk
  isplitl [HB]; · iexact HB
  iexists _; iexact HO

end Cert.Kernel
-- ==== Proof.Kernel.Flights.lean ====
/-
  The loops over the pieces of one request: starting every copy of a request into a slot, and waiting for every copy.
-/
module

public import proofs.«01_k».proof.Proof.Kernel.Pieces

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (q : PosShare TreeShare) (fc : S128x4096x656.Idx → Elt F .i8) (𝒱 : Variants) (bd : Option 𝒱.V)

section
variable (i : grid0.Coords) (arg1 : Memref sig .tc .smem S128 .i32) (harg1 : arg1.IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (arg10 : Memref sig .tc .vmem S8x16x512 .f32) (harg10 : arg10.IsWhole)
  (arg11 : Memref sig .tc .vmem S8x16x512 .f32) (harg11 : arg11.IsWhole) (arg12 : Memref sig .tc .vmem S8x8x512 .f32) (harg12 : arg12.IsWhole)
  (arg13 : Memref sig .tc .vmem S16x512 .f32) (harg13 : arg13.IsWhole)

theorem issue1 (hc : k0_cond1 i = 1#1) (w : Elt F .i32) (hw : k0_chk1 i w) (h : BitVec.toNat (w : BitVec 32) ≤ 4096)  (hb : 0 < 128)
    (hs : ∀ a, (![0] : Fin 1 → ℕ) a + S1.size a ≤ S2.size a) (hok) :
    iprop(flight c q fc (0) (0) hb (slotSem (0) hs) (pieces (BitVec.toNat (w : BitVec 32))) 0 0 ∗ rest c q fc (0) (0) 0)
      ⊢ wp frame (wpE (defs₀ (F := F)) 𝒱 (c : Thread nD τ) bd) Set.univ
        (Scf.Loop.for (k0_t1_loop w) hok 0#32 (k0_t1_body i arg1 harg1 arg2 harg2 arg3 harg3 arg4 harg4 arg5 harg5 arg6 harg6 (Memref.whole main_arg4) harg7 arg8 harg8 (Memref.whole cc0_scratch0) harg9 arg10 harg10 arg11 harg11 arg12 harg12 arg13 harg13 cc0_scratch5 hc w hw))
        (fun _ => flying c q fc (0) (0) hb (slotSem (0) hs) (pieces (BitVec.toNat (w : BitVec 32)))) := by
  have hn := t1_trips w h
  refine BIBase.Entails.trans ?_ (Scf.wp_for frame (wpE (defs₀ (F := F)) 𝒱 (c : Thread nD τ) bd) Set.univ _ _ _ hok 0#32 _
    (fun k _ => iprop(flight c q fc (0) (0) hb (slotSem (0) hs) (pieces (BitVec.toNat (w : BitVec 32))) k 0 ∗ rest c q fc (0) (0) k)) ?_)
  · iintro ⟨HB, HR⟩
    isplitl [HB HR]
    · isplitl [HB] <;> iassumption
    iintro %acc H
    unfold flying
    iapply (Entails.of_eq (by rw [← hn])) $$ H
  · intro k acc
    have hk : k.val < pieces (BitVec.toNat (w : BitVec 32)) := lt_of_lt_of_eq k.isLt hn
    simp only [k0_t1_body, Prog.lift, Prog.bind_op, Prog.bind_ret, Prog.pure_eq_ret, Prog.bind_assoc]
    iintro H
    iapply (wp_issue c q fc (0) (0) hb 𝒱 bd _ hk rfl (off1_eq w h k) (off2_eq w h k) _ _ _ hs _) $$ H
    iintro H
    rw [wp_ret]
    imodintro
    iexact H

theorem issue3 (hc : k0_cond2 i = 1#1) (w : Elt F .i32) (hw : k0_chk2 i w) (h : BitVec.toNat (w : BitVec 32) ≤ 4096)  (hb : (i 0).val + 1 < 128)
    (hs : ∀ a, (![((i 0).val + 1) % 2] : Fin 1 → ℕ) a + S1.size a ≤ S2.size a) (hok) :
    iprop(flight c q fc (((i 0).val + 1) % 2) ((i 0).val + 1) hb (slotSem (((i 0).val + 1) % 2) hs) (pieces (BitVec.toNat (w : BitVec 32))) 0 0 ∗ rest c q fc (((i 0).val + 1) % 2) ((i 0).val + 1) 0)
      ⊢ wp frame (wpE (defs₀ (F := F)) 𝒱 (c : Thread nD τ) bd) Set.univ
        (Scf.Loop.for (k0_t3_loop w) hok 0#32 (k0_t3_body i arg1 harg1 arg2 harg2 arg3 harg3 arg4 harg4 arg5 harg5 arg6 harg6 (Memref.whole main_arg4) harg7 arg8 harg8 (Memref.whole cc0_scratch0) harg9 arg10 harg10 arg11 harg11 arg12 harg12 arg13 harg13 cc0_scratch5 hc w hw))
        (fun _ => flying c q fc (((i 0).val + 1) % 2) ((i 0).val + 1) hb (slotSem (((i 0).val + 1) % 2) hs) (pieces (BitVec.toNat (w : BitVec 32)))) := by
  have hn := t3_trips w h
  refine BIBase.Entails.trans ?_ (Scf.wp_for frame (wpE (defs₀ (F := F)) 𝒱 (c : Thread nD τ) bd) Set.univ _ _ _ hok 0#32 _
    (fun k _ => iprop(flight c q fc (((i 0).val + 1) % 2) ((i 0).val + 1) hb (slotSem (((i 0).val + 1) % 2) hs) (pieces (BitVec.toNat (w : BitVec 32))) k 0 ∗ rest c q fc (((i 0).val + 1) % 2) ((i 0).val + 1) k)) ?_)
  · iintro ⟨HB, HR⟩
    isplitl [HB HR]
    · isplitl [HB] <;> iassumption
    iintro %acc H
    unfold flying
    iapply (Entails.of_eq (by rw [← hn])) $$ H
  · intro k acc
    have hk : k.val < pieces (BitVec.toNat (w : BitVec 32)) := lt_of_lt_of_eq k.isLt hn
    simp only [k0_t3_body, Prog.lift, Prog.bind_op, Prog.bind_ret, Prog.pure_eq_ret, Prog.bind_assoc]
    iintro H
    iapply (wp_issue c q fc (((i 0).val + 1) % 2) ((i 0).val + 1) hb 𝒱 bd _ hk (off6_eq i) (off7_eq i w h k) (off8_eq i w h k) _ _ _ hs _) $$ H
    iintro H
    rw [wp_ret]
    imodintro
    iexact H

theorem land5 (w : Elt F .i32) (hw : k0_chk3 i w) (h : BitVec.toNat (w : BitVec 32) ≤ 4096) (hb : (i 0).val < 128)
    (hs : ∀ a, (![(i 0).val % 2] : Fin 1 → ℕ) a + S1.size a ≤ S2.size a) (hok) :
    iprop(flying c q fc ((i 0).val % 2) ((i 0).val) hb (slotSem ((i 0).val % 2) hs) (pieces (BitVec.toNat (w : BitVec 32))) ∗ (∃ W, owes (c : Thread nD τ) 0 W))
      ⊢ wp frame (wpE (defs₀ (F := F)) 𝒱 (c : Thread nD τ) bd) Set.univ
        (Scf.Loop.for (k0_t5_loop w) hok 0#32 (k0_t5_body i arg1 harg1 arg2 harg2 arg3 harg3 arg4 harg4 arg5 harg5 arg6 harg6 (Memref.whole main_arg4) harg7 arg8 harg8 (Memref.whole cc0_scratch0) harg9 arg10 harg10 arg11 harg11 arg12 harg12 arg13 harg13 cc0_scratch5 w hw))
        (fun _ => iprop(landedSlot c q fc ((i 0).val % 2) ((i 0).val) hb (slotSem ((i 0).val % 2) hs) (pieces (BitVec.toNat (w : BitVec 32))) ∗ (∃ W, owes (c : Thread nD τ) 0 W))) := by
  have hn := t5_trips w h
  refine BIBase.Entails.trans ?_ (wp_fupd frame (wpE (defs₀ (F := F)) 𝒱 (c : Thread nD τ) bd) Set.univ _ _)
  refine BIBase.Entails.trans ?_ (Scf.wp_for frame (wpE (defs₀ (F := F)) 𝒱 (c : Thread nD τ) bd) Set.univ _ _ _ hok 0#32 _
    (fun k _ => iprop(rest c q fc ((i 0).val % 2) ((i 0).val) (pieces (BitVec.toNat (w : BitVec 32)))
      ∗ flight c q fc ((i 0).val % 2) ((i 0).val) hb (slotSem ((i 0).val % 2) hs) (pieces (BitVec.toNat (w : BitVec 32))) (pieces (BitVec.toNat (w : BitVec 32))) (pieceN * k) ∗ (∃ W, owes (c : Thread nD τ) 0 W))) ?_)
  · unfold flying
    iintro ⟨⟨HB, HR⟩, HO⟩
    isplitl [HB HR HO]
    · isplitl [HR]; · iexact HR
      isplitl [HB] <;> iassumption
    iintro %acc ⟨HR, HB, HO⟩
    ihave HB' := (show flight c q fc ((i 0).val % 2) ((i 0).val) hb (slotSem ((i 0).val % 2) hs) (pieces (BitVec.toNat (w : BitVec 32))) (pieces (BitVec.toNat (w : BitVec 32))) (pieceN * (k0_t5_loop w).trips)
        ⊢ flight c q fc ((i 0).val % 2) ((i 0).val) hb (slotSem ((i 0).val % 2) hs) (pieces (BitVec.toNat (w : BitVec 32))) (pieces (BitVec.toNat (w : BitVec 32))) (pieceN * pieces (BitVec.toNat (w : BitVec 32))) from
      Entails.of_eq (by rw [hn])) $$ HB
    imod (flight_done c q fc ((i 0).val % 2) ((i 0).val) hb (slotSem ((i 0).val % 2) hs) (pieces (BitVec.toNat (w : BitVec 32)))) $$ [HB' HR] with HL
    · isplitl [HB'] <;> iassumption
    imodintro
    isplitl [HL] <;> iassumption
  · intro k acc
    have hk : k.val < pieces (BitVec.toNat (w : BitVec 32)) := lt_of_lt_of_eq k.isLt hn
    simp only [k0_t5_body, Prog.lift, Prog.bind_op, Prog.bind_ret, Prog.pure_eq_ret, Prog.bind_assoc]
    iintro ⟨HR, HB, HO⟩
    iapply (wp_land c q fc ((i 0).val % 2) ((i 0).val) hb 𝒱 bd _ hk (off13_eq i) _ _ _ hs _) $$ [HB HO]
    · isplitl [HB] <;> iassumption
    iintro ⟨HB, HO⟩
    rw [wp_ret]
    imodintro
    isplitl [HR]; · iexact HR
    isplitl [HB] <;> iassumption

end

end Cert.Kernel
-- ==== Proof.Kernel.Compute.lean ====
/-
  The three loops over the chunks of 512 rows of one request, each with what it leaves: the scores and the scales, the
  exponentials, and the weighted sum of the rows.
-/
module

public import proofs.«01_k».proof.Proof.Kernel.Flights

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A chunk's plane of the score buffer and of the scale buffer -/

/-- An entry of plane `j`, and plane `j`, of the buffer of 16-row planes. -/
def ix16 (j : Fin 8) (x : S1x16x512.Idx) : S8x16x512.Idx :=
  fun a => match a with | 0 => (j : Fin 8) | 1 => (x 1 : Fin 16) | 2 => (x 2 : Fin 512)
def plane16 (j : Fin 8) (g : S8x16x512.Idx → Elt F .f32) : Vec F S1x16x512 .f32 := fun x => g (ix16 j x)

theorem read16 {o : Fin 3 → ℕ} {j : Fin 8} (e : o = ![j.val, 0, 0]) (h : ∀ a, o a + S1x16x512.size a ≤ S8x16x512.size a) (g : S8x16x512.Idx → Elt F .f32) :
    ((Memref.whole cc0_scratch1).access (Rect.unit (s := S8x16x512) o S1x16x512.size h)).read (Elt F) g = plane16 j g := by
  subst e
  funext x
  show g _ = g _
  refine congrArg g (funext fun (a : Fin 3) => Fin.ext ?_)
  match a with
  | 0 =>
    have h0 : (x 0).val < 1 := (x 0).isLt
    show j.val + 1 * (x 0).val = j.val
    omega
  | 1 => show 0 + 1 * (x 1).val = (x 1).val; omega
  | 2 => show 0 + 1 * (x 2).val = (x 2).val; omega

theorem plane16_write {o : Fin 3 → ℕ} {j : Fin 8} (e : o = ![j.val, 0, 0]) (h : ∀ a, o a + S1x16x512.size a ≤ S8x16x512.size a) (g : S8x16x512.Idx → Elt F .f32) (v : Vec F S1x16x512 .f32) :
    plane16 j (((Memref.whole cc0_scratch1).access (Rect.unit (s := S8x16x512) o S1x16x512.size h)).write (Elt F) g v Finset.univ) = v := by
  rw [← read16 e h]
  exact View.read_write_univ (Val := Elt F) _ _

theorem plane16_inb (j : Fin 8) (a : Fin 3) : (![j.val, 0, 0] : Fin 3 → ℕ) a + S1x16x512.size a ≤ S8x16x512.size a := by
  have := j.isLt
  match a with
  | 0 => show j.val + 1 ≤ 8; omega
  | 1 => show 0 + 16 ≤ 16; omega
  | 2 => show 0 + 512 ≤ 512; omega

theorem plane16_disj {o o' : Fin 3 → ℕ} {j j' : Fin 8} (e : o = ![j.val, 0, 0]) (e' : o' = ![j'.val, 0, 0]) (hj : j' ≠ j) (h : ∀ a, o a + S1x16x512.size a ≤ S8x16x512.size a) (h' : ∀ a, o' a + S1x16x512.size a ≤ S8x16x512.size a) :
    Disjoint (Rect.unit (s := S8x16x512) o' S1x16x512.size h').set (Rect.unit (s := S8x16x512) o S1x16x512.size h).set := by
  refine Finset.disjoint_left.mpr fun x hx hx' => ?_
  have h0 := Rect.mem_set_unit.mp hx (0 : Fin 3)
  have h1 := Rect.mem_set_unit.mp hx' (0 : Fin 3)
  subst e e'
  have h2 : j'.val ≤ (x (0 : Fin 3)).val ∧ (x (0 : Fin 3)).val < j'.val + 1 := h0
  have h3 : j.val ≤ (x (0 : Fin 3)).val ∧ (x (0 : Fin 3)).val < j.val + 1 := h1
  exact hj (Fin.ext (by omega))

theorem plane16_write_ne {o : Fin 3 → ℕ} {j j' : Fin 8} (e : o = ![j.val, 0, 0]) (hj : j' ≠ j) (h : ∀ a, o a + S1x16x512.size a ≤ S8x16x512.size a) (g : S8x16x512.Idx → Elt F .f32) (v : Vec F S1x16x512 .f32) :
    plane16 j' (((Memref.whole cc0_scratch1).access (Rect.unit (s := S8x16x512) o S1x16x512.size h)).write (Elt F) g v Finset.univ) = plane16 j' g := by
  rw [← read16 (j := j') rfl (plane16_inb j'), ← read16 (j := j') rfl (plane16_inb j') g]
  refine View.read_slice_write_slice_of_disjoint (Val := Elt F) _ _ _ _ _ ?_
  show Disjoint _ ((Memref.whole cc0_scratch1).access (Rect.unit (s := S8x16x512) o S1x16x512.size h)).set
  rw [show ((Memref.whole cc0_scratch1).view.slice (Rect.unit (s := S8x16x512) ![j'.val, 0, 0] S1x16x512.size (plane16_inb j'))).set = _ from View.set_slice_whole cc0_scratch1 _,
    show ((Memref.whole cc0_scratch1).access (Rect.unit (s := S8x16x512) o S1x16x512.size h)).set = _ from View.set_slice_whole cc0_scratch1 _]
  exact plane16_disj e rfl hj h _

/-- An entry of plane `j`, and plane `j`, of the buffer of 8-row planes. -/
def ix8 (j : Fin 8) (x : S1x8x512.Idx) : S8x8x512.Idx :=
  fun a => match a with | 0 => (j : Fin 8) | 1 => (x 1 : Fin 8) | 2 => (x 2 : Fin 512)
def plane8 (j : Fin 8) (g : S8x8x512.Idx → Elt F .f32) : Vec F S1x8x512 .f32 := fun x => g (ix8 j x)

theorem read8 {o : Fin 3 → ℕ} {j : Fin 8} (e : o = ![j.val, 0, 0]) (h : ∀ a, o a + S1x8x512.size a ≤ S8x8x512.size a) (g : S8x8x512.Idx → Elt F .f32) :
    ((Memref.whole cc0_scratch3).access (Rect.unit (s := S8x8x512) o S1x8x512.size h)).read (Elt F) g = plane8 j g := by
  subst e
  funext x
  show g _ = g _
  refine congrArg g (funext fun (a : Fin 3) => Fin.ext ?_)
  match a with
  | 0 =>
    have h0 : (x 0).val < 1 := (x 0).isLt
    show j.val + 1 * (x 0).val = j.val
    omega
  | 1 => show 0 + 1 * (x 1).val = (x 1).val; omega
  | 2 => show 0 + 1 * (x 2).val = (x 2).val; omega

theorem plane8_write {o : Fin 3 → ℕ} {j : Fin 8} (e : o = ![j.val, 0, 0]) (h : ∀ a, o a + S1x8x512.size a ≤ S8x8x512.size a) (g : S8x8x512.Idx → Elt F .f32) (v : Vec F S1x8x512 .f32) :
    plane8 j (((Memref.whole cc0_scratch3).access (Rect.unit (s := S8x8x512) o S1x8x512.size h)).write (Elt F) g v Finset.univ) = v := by
  rw [← read8 e h]
  exact View.read_write_univ (Val := Elt F) _ _

theorem plane8_inb (j : Fin 8) (a : Fin 3) : (![j.val, 0, 0] : Fin 3 → ℕ) a + S1x8x512.size a ≤ S8x8x512.size a := by
  have := j.isLt
  match a with
  | 0 => show j.val + 1 ≤ 8; omega
  | 1 => show 0 + 8 ≤ 8; omega
  | 2 => show 0 + 512 ≤ 512; omega

theorem plane8_disj {o o' : Fin 3 → ℕ} {j j' : Fin 8} (e : o = ![j.val, 0, 0]) (e' : o' = ![j'.val, 0, 0]) (hj : j' ≠ j) (h : ∀ a, o a + S1x8x512.size a ≤ S8x8x512.size a) (h' : ∀ a, o' a + S1x8x512.size a ≤ S8x8x512.size a) :
    Disjoint (Rect.unit (s := S8x8x512) o' S1x8x512.size h').set (Rect.unit (s := S8x8x512) o S1x8x512.size h).set := by
  refine Finset.disjoint_left.mpr fun x hx hx' => ?_
  have h0 := Rect.mem_set_unit.mp hx (0 : Fin 3)
  have h1 := Rect.mem_set_unit.mp hx' (0 : Fin 3)
  subst e e'
  have h2 : j'.val ≤ (x (0 : Fin 3)).val ∧ (x (0 : Fin 3)).val < j'.val + 1 := h0
  have h3 : j.val ≤ (x (0 : Fin 3)).val ∧ (x (0 : Fin 3)).val < j.val + 1 := h1
  exact hj (Fin.ext (by omega))

theorem plane8_write_ne {o : Fin 3 → ℕ} {j j' : Fin 8} (e : o = ![j.val, 0, 0]) (hj : j' ≠ j) (h : ∀ a, o a + S1x8x512.size a ≤ S8x8x512.size a) (g : S8x8x512.Idx → Elt F .f32) (v : Vec F S1x8x512 .f32) :
    plane8 j' (((Memref.whole cc0_scratch3).access (Rect.unit (s := S8x8x512) o S1x8x512.size h)).write (Elt F) g v Finset.univ) = plane8 j' g := by
  rw [← read8 (j := j') rfl (plane8_inb j'), ← read8 (j := j') rfl (plane8_inb j') g]
  refine View.read_slice_write_slice_of_disjoint (Val := Elt F) _ _ _ _ _ ?_
  show Disjoint _ ((Memref.whole cc0_scratch3).access (Rect.unit (s := S8x8x512) o S1x8x512.size h)).set
  rw [show ((Memref.whole cc0_scratch3).view.slice (Rect.unit (s := S8x8x512) ![j'.val, 0, 0] S1x8x512.size (plane8_inb j'))).set = _ from View.set_slice_whole cc0_scratch3 _,
    show ((Memref.whole cc0_scratch3).access (Rect.unit (s := S8x8x512) o S1x8x512.size h)).set = _ from View.set_slice_whole cc0_scratch3 _]
  exact plane8_disj e rfl hj h _

/-! ## Tiles of a slot -/

/-- The byte of slot `s`, row `y`, lane `z`. -/
def byteAt (f : S2x4096x656.Idx → Elt F .i8) (s y z : ℕ) : Elt F .i8 :=
  f (fun a => match a with | 0 => (⟨s % 2, Nat.mod_lt _ (by decide)⟩ : Fin 2) | 1 => (⟨y % 4096, Nat.mod_lt _ (by decide)⟩ : Fin 4096) | 2 => (⟨z % 656, Nat.mod_lt _ (by decide)⟩ : Fin 656))

/-- The 512 rows from row `y` of slot `s`, the lanes from `z`. -/
def tile (n : ℕ) (f : S2x4096x656.Idx → Elt F .i8) (s y z : ℕ) : Vec F ⟨3, ![1, 512, n]⟩ .i8 :=
  fun x => byteAt f s (y + (x 1).val) (z + (x 2).val)

theorem read_kv {n s y z : ℕ} {o : Fin 3 → ℕ} (e : o = ![s, y, z]) (h : ∀ a, o a + (![1, 512, n] : Fin 3 → ℕ) a ≤ S2x4096x656.size a) (f : S2x4096x656.Idx → Elt F .i8) :
    ((Memref.whole cc0_scratch0).access (Rect.unit (s := S2x4096x656) o (![1, 512, n] : Fin 3 → ℕ) h)).read (Elt F) f = tile n f s y z := by
  subst e
  funext x
  show f _ = f _
  refine congrArg f (funext fun (a : Fin 3) => Fin.ext ?_)
  have h0 : s + 1 ≤ 2 := h 0
  have h1 : y + 512 ≤ 4096 := h 1
  have h2 : z + n ≤ 656 := h 2
  match a with
  | 0 =>
    have h0' : (x 0).val < 1 := (x 0).isLt
    show s + 1 * (x 0).val = s % 2
    omega
  | 1 =>
    have h1' : (x 1).val < 512 := (x 1).isLt
    show y + 1 * (x 1).val = (y + (x 1).val) % 4096
    omega
  | 2 =>
    have h2' : (x 2).val < n := (x 2).isLt
    show z + 1 * (x 2).val = (z + (x 2).val) % 656
    omega

theorem kv_sub {n s y z : ℕ} {o : Fin 3 → ℕ} (e : o = ![s, y, z]) (h : ∀ a, o a + (![1, 512, n] : Fin 3 → ℕ) a ≤ S2x4096x656.size a) :
    ((Memref.whole cc0_scratch0).access (Rect.unit (s := S2x4096x656) o (![1, 512, n] : Fin 3 → ℕ) h)).set ⊆ slotSet s := by
  subst e
  intro x hx
  have hx' : x ∈ (Rect.unit (s := S2x4096x656) ![s, y, z] (![1, 512, n] : Fin 3 → ℕ) h).set := by
    rw [← View.set_slice_whole cc0_scratch0]; exact hx
  have h0 := Rect.mem_set_unit.mp hx' 0
  change s ≤ (x 0).val ∧ (x 0).val < s + 1 at h0
  exact Finset.mem_filter.mpr ⟨Finset.mem_univ _, by omega⟩

variable (c : Dev nD) (q : PosShare TreeShare) (𝒱 : Variants) (bd : Option 𝒱.V)

theorem wp_load1 {α : Type} (Q : α → sProp 𝕄) {o : Fin 3 → ℕ} {j : Fin 8} (e : o = ![j.val, 0, 0]) (h : ∀ a, o a + S1x16x512.size a ≤ S8x16x512.size a) {hl} (g : S8x16x512.Idx → Elt F .f32)
    (K : Vec F S1x16x512 .f32 → Prog (TpuEff nD τ sig (Elt F) Λ₀ .tc) α) :
    ((Memref.whole cc0_scratch1).view.loc (c : Thread nD τ) ↦{fullShare} g)
      ⊢ iprop((((Memref.whole cc0_scratch1).view.loc (c : Thread nD τ) ↦{fullShare} g) -∗ wp frame (wpE (defs₀ (F := F)) 𝒱 (c : Thread nD τ) bd) Set.univ (K (plane16 j g)) Q)
        -∗ wp frame (wpE (defs₀ (F := F)) 𝒱 (c : Thread nD τ) bd) Set.univ
          (.op (.load (Memref.whole cc0_scratch1) (Rect.unit (s := S8x16x512) o S1x16x512.size h).toLoadRect hl) K) Q) := by
  rw [← read16 e h g]
  exact wp_load_rect (defs := defs₀ (F := F)) 𝒱 (c : Thread nD τ) bd Set.univ (Q := Q) (m := Memref.whole cc0_scratch1) (r := Rect.unit (s := S8x16x512) o S1x16x512.size h) (hl := hl) (k := K) (S := Finset.univ) (q := fullShare) (f := g) (Finset.subset_univ _)

theorem wp_store1 {α : Type} (Q : α → sProp 𝕄) {o : Fin 3 → ℕ} {j : Fin 8} (e : o = ![j.val, 0, 0]) (h : ∀ a, o a + S1x16x512.size a ≤ S8x16x512.size a) {hx hm} (g : S8x16x512.Idx → Elt F .f32) (v : Vec F S1x16x512 .f32)
    (K : PUnit → Prog (TpuEff nD τ sig (Elt F) Λ₀ .tc) α) :
    ((Memref.whole cc0_scratch1).view.loc (c : Thread nD τ) ↦{fullShare} g)
      ⊢ iprop((iprop(∃ g' : S8x16x512.Idx → Elt F .f32, ⌜plane16 j g' = v ∧ ∀ j', j' ≠ j → plane16 j' g' = plane16 j' g⌝ ∗ ((Memref.whole cc0_scratch1).view.loc (c : Thread nD τ) ↦{fullShare} g')) -∗ wp frame (wpE (defs₀ (F := F)) 𝒱 (c : Thread nD τ) bd) Set.univ (K ⟨⟩) Q)
        -∗ wp frame (wpE (defs₀ (F := F)) 𝒱 (c : Thread nD τ) bd) Set.univ
          (.op (.store (Memref.whole cc0_scratch1) (Rect.unit (s := S8x16x512) o S1x16x512.size h) v Finset.univ hx hm) K) Q) := by
  iintro H Hk
  iapply (wp_store (defs := defs₀ (F := F)) 𝒱 (c : Thread nD τ) bd Set.univ (m := Memref.whole cc0_scratch1) (r := Rect.unit (s := S8x16x512) o S1x16x512.size h) (S := Finset.univ) (f := g) (Finset.subset_univ _)) $$ H
  iintro H
  iapply Hk
  iexists _
  isplitr; swap; · iexact H
  ipureintro
  exact ⟨plane16_write e h g v, fun j' hj => plane16_write_ne e hj h g v⟩

theorem wp_load3 {α : Type} (Q : α → sProp 𝕄) {o : Fin 3 → ℕ} {j : Fin 8} (e : o = ![j.val, 0, 0]) (h : ∀ a, o a + S1x8x512.size a ≤ S8x8x512.size a) {hl} (g : S8x8x512.Idx → Elt F .f32)
    (K : Vec F S1x8x512 .f32 → Prog (TpuEff nD τ sig (Elt F) Λ₀ .tc) α) :
    ((Memref.whole cc0_scratch3).view.loc (c : Thread nD τ) ↦{fullShare} g)
      ⊢ iprop((((Memref.whole cc0_scratch3).view.loc (c : Thread nD τ) ↦{fullShare} g) -∗ wp frame (wpE (defs₀ (F := F)) 𝒱 (c : Thread nD τ) bd) Set.univ (K (plane8 j g)) Q)
        -∗ wp frame (wpE (defs₀ (F := F)) 𝒱 (c : Thread nD τ) bd) Set.univ
          (.op (.load (Memref.whole cc0_scratch3) (Rect.unit (s := S8x8x512) o S1x8x512.size h).toLoadRect hl) K) Q) := by
  rw [← read8 e h g]
  exact wp_load_rect (defs := defs₀ (F := F)) 𝒱 (c : Thread nD τ) bd Set.univ (Q := Q) (m := Memref.whole cc0_scratch3) (r := Rect.unit (s := S8x8x512) o S1x8x512.size h) (hl := hl) (k := K) (S := Finset.univ) (q := fullShare) (f := g) (Finset.subset_univ _)

theorem wp_store3 {α : Type} (Q : α → sProp 𝕄) {o : Fin 3 → ℕ} {j : Fin 8} (e : o = ![j.val, 0, 0]) (h : ∀ a, o a + S1x8x512.size a ≤ S8x8x512.size a) {hx hm} (g : S8x8x512.Idx → Elt F .f32) (v : Vec F S1x8x512 .f32)
    (K : PUnit → Prog (TpuEff nD τ sig (Elt F) Λ₀ .tc) α) :
    ((Memref.whole cc0_scratch3).view.loc (c : Thread nD τ) ↦{fullShare} g)
      ⊢ iprop((iprop(∃ g' : S8x8x512.Idx → Elt F .f32, ⌜plane8 j g' = v ∧ ∀ j', j' ≠ j → plane8 j' g' = plane8 j' g⌝ ∗ ((Memref.whole cc0_scratch3).view.loc (c : Thread nD τ) ↦{fullShare} g')) -∗ wp frame (wpE (defs₀ (F := F)) 𝒱 (c : Thread nD τ) bd) Set.univ (K ⟨⟩) Q)
        -∗ wp frame (wpE (defs₀ (F := F)) 𝒱 (c : Thread nD τ) bd) Set.univ
          (.op (.store (Memref.whole cc0_scratch3) (Rect.unit (s := S8x8x512) o S1x8x512.size h) v Finset.univ hx hm) K) Q) := by
  iintro H Hk
  iapply (wp_store (defs := defs₀ (F := F)) 𝒱 (c : Thread nD τ) bd Set.univ (m := Memref.whole cc0_scratch3) (r := Rect.unit (s := S8x8x512) o S1x8x512.size h) (S := Finset.univ) (f := g) (Finset.subset_univ _)) $$ H
  iintro H
  iapply Hk
  iexists _
  isplitr; swap; · iexact H
  ipureintro
  exact ⟨plane8_write e h g v, fun j' hj => plane8_write_ne e hj h g v⟩

theorem wp_loadkv {α : Type} (Q : α → sProp 𝕄) {n s y z : ℕ} {o : Fin 3 → ℕ} (e : o = ![s, y, z]) (h : ∀ a, o a + (![1, 512, n] : Fin 3 → ℕ) a ≤ S2x4096x656.size a) {hl} (f : S2x4096x656.Idx → Elt F .i8)
    (K : Vec F ⟨3, ![1, 512, n]⟩ .i8 → Prog (TpuEff nD τ sig (Elt F) Λ₀ .tc) α) :
    (kvLoc c ↦[slotSet s]{fullShare} f)
      ⊢ iprop(((kvLoc c ↦[slotSet s]{fullShare} f) -∗ wp frame (wpE (defs₀ (F := F)) 𝒱 (c : Thread nD τ) bd) Set.univ (K (tile n f s y z)) Q)
        -∗ wp frame (wpE (defs₀ (F := F)) 𝒱 (c : Thread nD τ) bd) Set.univ
          (.op (.load (Memref.whole cc0_scratch0) (Rect.unit (s := S2x4096x656) o (![1, 512, n] : Fin 3 → ℕ) h).toLoadRect hl) K) Q) := by
  rw [← read_kv e h f]
  exact wp_load_rect (defs := defs₀ (F := F)) 𝒱 (c : Thread nD τ) bd Set.univ (Q := Q) (m := Memref.whole cc0_scratch0) (r := Rect.unit (s := S2x4096x656) o (![1, 512, n] : Fin 3 → ℕ) h) (hl := hl) (k := K) (S := slotSet s) (q := fullShare) (f := f) (kv_sub e h)

/-! ## The first loop: scores and scales -/

/-- The scale rows of chunk `k`, and its masked and scaled scores. -/
def scaleTile (v38 : Vec F S1x1x16x256 .bf16) (v40 : Vec F S16x256 .bf16) (f : S2x4096x656.Idx → Elt F .i8) (s k : ℕ) : Vec F S1x8x512 .f32 :=
  k0_pay23 (F := F) (k0_pay20 (k0_pay49 v38 v40) (tile 128 f s (512 * k) 512) (tile 16 f s (512 * k) 640) (tile 128 f s (512 * k) 512))
    (k0_pay21 (k0_pay49 v38 v40) (tile 128 f s (512 * k) 512) (tile 16 f s (512 * k) 640) (tile 128 f s (512 * k) 512))

def scoreTile (w : BitVec 32) (v26 : FVec F S16x512 .bf16) (v27 : FVec F S16x128 .bf16) (v32 : FVec F S32x256 .bf16) (v38 : Vec F S1x1x16x256 .bf16) (v40 : Vec F S16x256 .bf16)
    (f : S2x4096x656.Idx → Elt F .i8) (s k : ℕ) : FVec F S16x512 .f32 :=
  k0_pay24 w v32 (k0_pay48 v26 v27) (Scalar.muli (Scf.iv 0#32 1#32 k) 512#32)
    (k0_pay19 (k0_pay49 v38 v40) (tile 128 f s (512 * k) 512) (tile 16 f s (512 * k) 640) (tile 128 f s (512 * k) 512))
    (k0_pay20 (k0_pay49 v38 v40) (tile 128 f s (512 * k) 512) (tile 16 f s (512 * k) 640) (tile 128 f s (512 * k) 512))
    (k0_pay21 (k0_pay49 v38 v40) (tile 128 f s (512 * k) 512) (tile 16 f s (512 * k) 640) (tile 128 f s (512 * k) 512))
    (tile 256 f s (512 * k) 0) (tile 256 f s (512 * k) 256)

section
variable (i : grid0.Coords) (arg1 : Memref sig .tc .smem S128 .i32) (harg1 : arg1.IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (harg10 : (Memref.whole cc0_scratch1).IsWhole)
  (harg11 : (Memref.whole cc0_scratch2).IsWhole) (harg12 : (Memref.whole cc0_scratch3).IsWhole) (harg13 : (Memref.whole cc0_scratch4).IsWhole)

variable (v3 : BitVec 32) (w : Elt F .i32) (hw : k0_chk4 i w) (h : BitVec.toNat (w : BitVec 32) ≤ 4096)

include h in
theorem t7_step (v24 : BitVec 32) (v26 : FVec F S16x512 .bf16) (v27 : FVec F S16x128 .bf16) (v32 : FVec F S32x256 .bf16) (v38 : Vec F S1x1x16x256 .bf16) (v40 : Vec F S16x256 .bf16)
    (f : S2x4096x656.Idx → Elt F .i8) (g1 : S8x16x512.Idx → Elt F .f32) (g3 : S8x8x512.Idx → Elt F .f32)
    (k : Fin (k0_t7_loop w).trips) (j : Fin 8) (hj : j.val = k.val) (acc : FVec F S16x1 .f32) :
    iprop((kvLoc c ↦[slotSet ((i 0).val % 2)]{fullShare} f)
       ∗ ((Memref.whole cc0_scratch1).view.loc (c : Thread nD τ) ↦{fullShare} g1)
       ∗ ((Memref.whole cc0_scratch3).view.loc (c : Thread nD τ) ↦{fullShare} g3))
      ⊢ wp frame (wpE (defs₀ (F := F)) 𝒱 (c : Thread nD τ) bd) Set.univ
        (k0_t7_body i arg1 harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 v3 w hw v24 v26 v27 v32 v38 v40 k acc)
        (fun acc' => (iprop(⌜acc' = k0_pay53 acc (scoreTile w v26 v27 v32 v38 v40 f ((i 0).val % 2) k.val)⌝
          ∗ (kvLoc c ↦[slotSet ((i 0).val % 2)]{fullShare} f)
          ∗ (∃ g1' : S8x16x512.Idx → Elt F .f32, ⌜plane16 j g1' = k0_pay52 (scoreTile w v26 v27 v32 v38 v40 f ((i 0).val % 2) k.val) ∧ ∀ j', j' ≠ j → plane16 j' g1' = plane16 j' g1⌝
              ∗ ((Memref.whole cc0_scratch1).view.loc (c : Thread nD τ) ↦{fullShare} g1'))
          ∗ (∃ g3' : S8x8x512.Idx → Elt F .f32, ⌜plane8 j g3' = scaleTile v38 v40 f ((i 0).val % 2) k.val ∧ ∀ j', j' ≠ j → plane8 j' g3' = plane8 j' g3⌝
              ∗ ((Memref.whole cc0_scratch3).view.loc (c : Thread nD τ) ↦{fullShare} g3'))) : sProp 𝕄)) := by
  have e22 : k0_off22 w k = ![j.val, 0, 0] := by rw [hj]; exact off22_eq w h k
  have e25 : k0_off25 w k = ![j.val, 0, 0] := by rw [hj]; exact off25_eq w h k
  iintro ⟨Hkv, H1, H3⟩
  simp only [k0_t7_body, k0_part1_eq_skeleton, k0_part1_skel, k0_part2_eq_skeleton, k0_part2_skel, Prog.lift, Prog.bind_op, Prog.bind_ret, Prog.pure_eq_ret, Prog.bind_assoc]
  iapply (wp_loadkv c 𝒱 bd _ (off20_eq i w h k) (k0_off20_inb i w hw k) f _) $$ Hkv
  iintro Hkv
  iapply (wp_loadkv c 𝒱 bd _ (off21_eq i w h k) (k0_off21_inb i w hw k) f _) $$ Hkv
  iintro Hkv
  iapply (wp_loadkv c 𝒱 bd _ (off20_eq i w h k) (k0_off20_inb i w hw k) f _) $$ Hkv
  iintro Hkv
  iapply (wp_load3 c 𝒱 bd _ e22 (k0_off22_inb i w hw k) g3 _) $$ H3
  iintro H3
  iapply (wp_store3 c 𝒱 bd _ e22 (k0_off22_inb i w hw k) g3 _ _) $$ H3
  iintro H3
  iapply (wp_loadkv c 𝒱 bd _ (off23_eq i w h k) (k0_off23_inb i w hw k) f _) $$ Hkv
  iintro Hkv
  iapply (wp_loadkv c 𝒱 bd _ (off24_eq i w h k) (k0_off24_inb i w hw k) f _) $$ Hkv
  iintro Hkv
  iapply (wp_load1 c 𝒱 bd _ e25 (k0_off25_inb i w hw k) g1 _) $$ H1
  iintro H1
  iapply (wp_store1 c 𝒱 bd _ e25 (k0_off25_inb i w hw k) g1 _ _) $$ H1
  iintro H1
  rw [wp_ret]
  imodintro
  isplitr; · ipureintro; rfl
  isplitl [Hkv]; · iexact Hkv
  isplitl [H1]; · iexact H1
  iexact H3

end

end Cert.Kernel
-- ==== Proof.Kernel.Loops.lean ====
/-
  The three loops over the chunks of one request, whole: each with what it computes, as a function of the request's rows
  and of the values before the loop.
-/
module

public import proofs.«01_k».proof.Proof.Kernel.Compute

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the loops compute -/

/-- The running maximum after `k` chunks with the scores `sc`. -/
def maxUpto (init : FVec F S16x1 .f32) (sc : ℕ → FVec F S16x512 .f32) : ℕ → FVec F S16x1 .f32
  | 0 => init
  | k + 1 => k0_pay53 (maxUpto init sc k) (sc k)

/-- The running sum after `k` chunks of the exponentials of the scores `sc` less `m`. -/
def sumUpto (m init : FVec F S16x1 .f32) (sc : ℕ → FVec F S16x512 .f32) : ℕ → FVec F S16x1 .f32
  | 0 => init
  | k + 1 => k0_pay6 m (sumUpto m init sc k) (k0_pay52 (sc k))

/-- The columns from `o` of the accumulator, 128 of them. -/
abbrev colRect (o : Fin 2 → ℕ) (h : ∀ a, o a + S16x128.size a ≤ S16x512.size a) : Rect S16x512 := Rect.unit (s := S16x512) o S16x128.size h
def colRead (o : Fin 2 → ℕ) (h : ∀ a, o a + S16x128.size a ≤ S16x512.size a) (g : S16x512.Idx → Elt F .f32) : Vec F S16x128 .f32 :=
  ((Memref.whole cc0_scratch4).access (colRect o h)).read (Elt F) g
def colWrite (o : Fin 2 → ℕ) (h : ∀ a, o a + S16x128.size a ≤ S16x512.size a) (g : S16x512.Idx → Elt F .f32) (v : Vec F S16x128 .f32) : S16x512.Idx → Elt F .f32 :=
  ((Memref.whole cc0_scratch4).access (colRect o h)).write (Elt F) g v Finset.univ

/-- The accumulator after one chunk: each quarter of the columns gains its product. -/
def acc1 (v79 : FVec F S16x1 .f32) (p : Vec F S1x16x512 .f32) (sl : Vec F S1x8x512 .f32) (a : Vec F S1x512x256 .i8) (g : S16x512.Idx → Elt F .f32) : S16x512.Idx → Elt F .f32 :=
  colWrite ![0, 0] inb_S16x512_S16x128_0_0 g (k0_pay35 v79 p sl a (colRead ![0, 0] inb_S16x512_S16x128_0_0 g))
def acc2 (v79 : FVec F S16x1 .f32) (p : Vec F S1x16x512 .f32) (sl : Vec F S1x8x512 .f32) (a : Vec F S1x512x256 .i8) (g : S16x512.Idx → Elt F .f32) : S16x512.Idx → Elt F .f32 :=
  colWrite ![0, 128] inb_S16x512_S16x128_0_128 g (k0_pay36 v79 p sl a (colRead ![0, 128] inb_S16x512_S16x128_0_128 g))
def acc3 (v79 : FVec F S16x1 .f32) (p : Vec F S1x16x512 .f32) (sl : Vec F S1x8x512 .f32) (b : Vec F S1x512x256 .i8) (g : S16x512.Idx → Elt F .f32) : S16x512.Idx → Elt F .f32 :=
  colWrite ![0, 256] inb_S16x512_S16x128_0_256 g (k0_pay12 (k0_pay32 v79 p) (k0_pay33 sl) (k0_pay37 b) (colRead ![0, 256] inb_S16x512_S16x128_0_256 g))
def acc4 (v79 : FVec F S16x1 .f32) (p : Vec F S1x16x512 .f32) (sl : Vec F S1x8x512 .f32) (b : Vec F S1x512x256 .i8) (g : S16x512.Idx → Elt F .f32) : S16x512.Idx → Elt F .f32 :=
  colWrite ![0, 384] inb_S16x512_S16x128_0_384 g (k0_pay13 (k0_pay32 v79 p) (k0_pay33 sl) (k0_pay37 b) (colRead ![0, 384] inb_S16x512_S16x128_0_384 g))
def accStep (v79 : FVec F S16x1 .f32) (p : Vec F S1x16x512 .f32) (sl : Vec F S1x8x512 .f32) (a b : Vec F S1x512x256 .i8) (g : S16x512.Idx → Elt F .f32) : S16x512.Idx → Elt F .f32 :=
  acc4 v79 p sl b (acc3 v79 p sl b (acc2 v79 p sl a (acc1 v79 p sl a g)))

/-- The accumulator after `k` chunks, from `g`. -/
def accUpto (v79 : FVec F S16x1 .f32) (p : ℕ → Vec F S1x16x512 .f32) (sl : ℕ → Vec F S1x8x512 .f32) (a b : ℕ → Vec F S1x512x256 .i8) (g : S16x512.Idx → Elt F .f32) : ℕ → S16x512.Idx → Elt F .f32
  | 0 => g
  | k + 1 => accStep v79 (p k) (sl k) (a k) (b k) (accUpto v79 p sl a b g k)

variable (c : Dev nD) (q : PosShare TreeShare) (𝒱 : Variants) (bd : Option 𝒱.V)

theorem wp_load4 {α : Type} (Q : α → sProp 𝕄) (r : Rect S16x512) {hl} (g4 : S16x512.Idx → Elt F .f32)
    (K : Vec F r.shape .f32 → Prog (TpuEff nD τ sig (Elt F) Λ₀ .tc) α) :
    ((Memref.whole cc0_scratch4).view.loc (c : Thread nD τ) ↦{fullShare} g4)
      ⊢ iprop((((Memref.whole cc0_scratch4).view.loc (c : Thread nD τ) ↦{fullShare} g4) -∗ wp frame (wpE (defs₀ (F := F)) 𝒱 (c : Thread nD τ) bd) Set.univ (K (((Memref.whole cc0_scratch4).access r).read (Elt F) g4)) Q)
        -∗ wp frame (wpE (defs₀ (F := F)) 𝒱 (c : Thread nD τ) bd) Set.univ
          (.op (.load (Memref.whole cc0_scratch4) r.toLoadRect hl) K) Q) :=
  wp_load_rect (defs := defs₀ (F := F)) 𝒱 (c : Thread nD τ) bd Set.univ (Q := Q) (m := Memref.whole cc0_scratch4) (r := r) (hl := hl) (k := K) (S := Finset.univ) (q := fullShare) (f := g4) (Finset.subset_univ _)

theorem wp_store4 {α : Type} (Q : α → sProp 𝕄) (r : Rect S16x512) {hx hm} (g4 : S16x512.Idx → Elt F .f32) (v : Vec F r.shape .f32)
    (K : PUnit → Prog (TpuEff nD τ sig (Elt F) Λ₀ .tc) α) :
    ((Memref.whole cc0_scratch4).view.loc (c : Thread nD τ) ↦{fullShare} g4)
      ⊢ iprop((((Memref.whole cc0_scratch4).view.loc (c : Thread nD τ) ↦{fullShare} (((Memref.whole cc0_scratch4).access r).write (Elt F) g4 v Finset.univ : S16x512.Idx → Elt F .f32)) -∗ wp frame (wpE (defs₀ (F := F)) 𝒱 (c : Thread nD τ) bd) Set.univ (K ⟨⟩) Q)
        -∗ wp frame (wpE (defs₀ (F := F)) 𝒱 (c : Thread nD τ) bd) Set.univ
          (.op (.store (Memref.whole cc0_scratch4) r v Finset.univ hx hm) K) Q) :=
  wp_store (defs := defs₀ (F := F)) 𝒱 (c : Thread nD τ) bd Set.univ (m := Memref.whole cc0_scratch4) (r := r) (S := Finset.univ) (f := g4) (Finset.subset_univ _)

section
variable (i : grid0.Coords) (arg1 : Memref sig .tc .smem S128 .i32) (harg1 : arg1.IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (harg10 : (Memref.whole cc0_scratch1).IsWhole)
  (harg11 : (Memref.whole cc0_scratch2).IsWhole) (harg12 : (Memref.whole cc0_scratch3).IsWhole) (harg13 : (Memref.whole cc0_scratch4).IsWhole)

variable (v3 : BitVec 32) (w : Elt F .i32) (hw : k0_chk4 i w) (h : BitVec.toNat (w : BitVec 32) ≤ 4096)

include h in
theorem loop7 (v24 : BitVec 32) (v26 : FVec F S16x512 .bf16) (v27 : FVec F S16x128 .bf16) (v32 : FVec F S32x256 .bf16) (v38 : Vec F S1x1x16x256 .bf16) (v40 : Vec F S16x256 .bf16)
    (f : S2x4096x656.Idx → Elt F .i8) (init : FVec F S16x1 .f32) (hok) :
    iprop((kvLoc c ↦[slotSet ((i 0).val % 2)]{fullShare} f) ∗ (∃ g1 : S8x16x512.Idx → Elt F .f32, ((Memref.whole cc0_scratch1).view.loc (c : Thread nD τ) ↦{fullShare} g1)) ∗ (∃ g3 : S8x8x512.Idx → Elt F .f32, ((Memref.whole cc0_scratch3).view.loc (c : Thread nD τ) ↦{fullShare} g3)))
      ⊢ wp frame (wpE (defs₀ (F := F)) 𝒱 (c : Thread nD τ) bd) Set.univ
        (Scf.Loop.for (k0_t7_loop w) hok init (k0_t7_body i arg1 harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 v3 w hw v24 v26 v27 v32 v38 v40))
        (fun acc => (iprop(⌜acc = maxUpto init (scoreTile w v26 v27 v32 v38 v40 f ((i 0).val % 2)) (chunks (BitVec.toNat (w : BitVec 32)))⌝ ∗ (kvLoc c ↦[slotSet ((i 0).val % 2)]{fullShare} f)
          ∗ (∃ g1 : S8x16x512.Idx → Elt F .f32, ⌜∀ j : Fin 8, j.val < (chunks (BitVec.toNat (w : BitVec 32))) → plane16 j g1 = k0_pay52 (scoreTile w v26 v27 v32 v38 v40 f ((i 0).val % 2) j.val)⌝ ∗ ((Memref.whole cc0_scratch1).view.loc (c : Thread nD τ) ↦{fullShare} g1))
          ∗ (∃ g3 : S8x8x512.Idx → Elt F .f32, ⌜∀ j : Fin 8, j.val < (chunks (BitVec.toNat (w : BitVec 32))) → plane8 j g3 = scaleTile v38 v40 f ((i 0).val % 2) j.val⌝ ∗ ((Memref.whole cc0_scratch3).view.loc (c : Thread nD τ) ↦{fullShare} g3))) : sProp 𝕄)) := by
  have hn := t7_trips w h
  refine BIBase.Entails.trans ?_ (Scf.wp_for frame (wpE (defs₀ (F := F)) 𝒱 (c : Thread nD τ) bd) Set.univ _ _ _ hok init _
    (fun k acc => iprop(⌜acc = maxUpto init (scoreTile w v26 v27 v32 v38 v40 f ((i 0).val % 2)) k⌝ ∗ (kvLoc c ↦[slotSet ((i 0).val % 2)]{fullShare} f)
          ∗ (∃ g1 : S8x16x512.Idx → Elt F .f32, ⌜∀ j : Fin 8, j.val < k → plane16 j g1 = k0_pay52 (scoreTile w v26 v27 v32 v38 v40 f ((i 0).val % 2) j.val)⌝ ∗ ((Memref.whole cc0_scratch1).view.loc (c : Thread nD τ) ↦{fullShare} g1))
          ∗ (∃ g3 : S8x8x512.Idx → Elt F .f32, ⌜∀ j : Fin 8, j.val < k → plane8 j g3 = scaleTile v38 v40 f ((i 0).val % 2) j.val⌝ ∗ ((Memref.whole cc0_scratch3).view.loc (c : Thread nD τ) ↦{fullShare} g3)))) ?_)
  · iintro ⟨HK, ⟨%g1, H1⟩, ⟨%g3, H3⟩⟩
    isplitl [HK H1 H3]
    · isplitr; · ipureintro; rfl
      isplitl [HK]; · iexact HK
      isplitl [H1]
      · iexists g1; isplitr; · ipureintro; intro j hj; exact absurd hj (Nat.not_lt_zero _)
        iexact H1
      · iexists g3; isplitr; · ipureintro; intro j hj; exact absurd hj (Nat.not_lt_zero _)
        iexact H3
    iintro %acc H
    iapply (Entails.of_eq (by rw [← hn])) $$ H
  · intro k acc
    have hk : k.val < chunks (BitVec.toNat (w : BitVec 32)) := lt_of_lt_of_eq k.isLt hn
    have hk8 : k.val < 8 := lt_of_lt_of_le hk (chunks_le h)
    iintro ⟨%ha, HK, ⟨%g1, %h1, H1⟩, ⟨%g3, %h3, H3⟩⟩
    subst ha
    iapply (wp_mono frame (wpE (defs₀ (F := F)) 𝒱 (c : Thread nD τ) bd) Set.univ ?_) $$ [HK H1 H3]
    rotate_left
    · iapply (t7_step c 𝒱 bd i arg1 harg1 arg2 harg2 arg3 harg3 arg4 harg4 arg5 harg5 arg6 harg6 harg7 arg8 harg8 harg9 harg10 harg11 harg12 harg13 v3 w hw h v24 v26 v27 v32 v38 v40 f g1 g3 k ⟨k.val, hk8⟩ rfl _)
      isplitl [HK]; · iexact HK
      isplitl [H1] <;> iassumption
    · intro acc'
      iintro ⟨%ha, HK, ⟨%g1', %h1', H1⟩, ⟨%g3', %h3', H3⟩⟩
      isplitr; · ipureintro; exact ha
      isplitl [HK]; · iexact HK
      isplitl [H1]
      · iexists g1'
        isplitr; swap; · iexact H1
        ipureintro
        intro j hj
        by_cases e : j = ⟨k.val, hk8⟩
        · subst e; exact h1'.1
        · rw [h1'.2 j e]; exact h1 j (by have : j.val ≠ k.val := fun x => e (Fin.ext x); omega)
      · iexists g3'
        isplitr; swap; · iexact H3
        ipureintro
        intro j hj
        by_cases e : j = ⟨k.val, hk8⟩
        · subst e; exact h3'.1
        · rw [h3'.2 j e]; exact h3 j (by have : j.val ≠ k.val := fun x => e (Fin.ext x); omega)

include h in
theorem loop9 (m init : FVec F S16x1 .f32) (sc : ℕ → FVec F S16x512 .f32) (hok) :
    iprop(∃ g1 : S8x16x512.Idx → Elt F .f32, ⌜∀ j : Fin 8, j.val < (chunks (BitVec.toNat (w : BitVec 32))) → plane16 j g1 = k0_pay52 (sc j.val)⌝ ∗ ((Memref.whole cc0_scratch1).view.loc (c : Thread nD τ) ↦{fullShare} g1))
      ⊢ wp frame (wpE (defs₀ (F := F)) 𝒱 (c : Thread nD τ) bd) Set.univ
        (Scf.Loop.for (k0_t9_loop w) hok init (k0_t9_body i arg1 harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 w hw m))
        (fun acc => (iprop(⌜acc = sumUpto m init sc (chunks (BitVec.toNat (w : BitVec 32)))⌝
          ∗ (∃ g1 : S8x16x512.Idx → Elt F .f32, ⌜∀ j : Fin 8, j.val < (chunks (BitVec.toNat (w : BitVec 32))) → plane16 j g1 = k0_pay5 m (k0_pay52 (sc j.val))⌝ ∗ ((Memref.whole cc0_scratch1).view.loc (c : Thread nD τ) ↦{fullShare} g1))) : sProp 𝕄)) := by
  have hn := t9_trips w h
  refine BIBase.Entails.trans ?_ (Scf.wp_for frame (wpE (defs₀ (F := F)) 𝒱 (c : Thread nD τ) bd) Set.univ _ _ _ hok init _
    (fun k acc => iprop(⌜acc = sumUpto m init sc k⌝
          ∗ (∃ g1 : S8x16x512.Idx → Elt F .f32, ⌜∀ j : Fin 8, (j.val < k → plane16 j g1 = k0_pay5 m (k0_pay52 (sc j.val))) ∧ (k ≤ j.val → j.val < (chunks (BitVec.toNat (w : BitVec 32))) → plane16 j g1 = k0_pay52 (sc j.val))⌝ ∗ ((Memref.whole cc0_scratch1).view.loc (c : Thread nD τ) ↦{fullShare} g1)))) ?_)
  · iintro ⟨%g1, %h1, H1⟩
    isplitl [H1]
    · isplitr; · ipureintro; rfl
      iexists g1; isplitr
      · ipureintro; intro j; exact ⟨fun hj => absurd hj (Nat.not_lt_zero _), fun _ hj => h1 j hj⟩
      iexact H1
    iintro %acc ⟨%ha, ⟨%g1', %h1', H1⟩⟩
    rw [show Scf.trips (k0_t9_loop w).lb (k0_t9_loop w).ub (k0_t9_loop w).st = _ from hn] at ha h1'
    isplitr; · ipureintro; exact ha
    iexists g1'
    isplitr; · ipureintro; exact fun j hj => (h1' j).1 hj
    iexact H1
  · intro k acc
    have hk : k.val < chunks (BitVec.toNat (w : BitVec 32)) := lt_of_lt_of_eq k.isLt hn
    have hk8 : k.val < 8 := lt_of_lt_of_le hk (chunks_le h)
    iintro ⟨%ha, ⟨%g1, %h1, H1⟩⟩
    subst ha
    have e32 : k0_off32 w k = ![(⟨k.val, hk8⟩ : Fin 8).val, 0, 0] := off32_eq w h k
    simp only [k0_t9_body, Prog.lift, Prog.bind_op, Prog.bind_ret, Prog.pure_eq_ret, Prog.bind_assoc]
    iapply (wp_load1 c 𝒱 bd _ e32 (k0_off32_inb i w hw k) g1 _) $$ H1
    iintro H1
    iapply (wp_load1 c 𝒱 bd _ e32 (k0_off32_inb i w hw k) g1 _) $$ H1
    iintro H1
    iapply (wp_store1 c 𝒱 bd _ e32 (k0_off32_inb i w hw k) g1 _ _) $$ H1
    iintro ⟨%g1', %h1', H1⟩
    have hp : plane16 (⟨k.val, hk8⟩ : Fin 8) g1 = k0_pay52 (sc k.val) := (h1 ⟨k.val, hk8⟩).2 (le_refl _) hk
    rw [wp_ret]
    imodintro
    isplitr; · ipureintro; rw [hp]; rfl
    iexists g1'
    isplitr; swap; · iexact H1
    ipureintro
    intro j
    by_cases e : j = ⟨k.val, hk8⟩
    · subst e; exact ⟨fun _ => by rw [h1'.1, hp], fun hj => absurd hj (by simp)⟩
    · have hne : j.val ≠ k.val := fun x => e (Fin.ext x)
      rw [h1'.2 j e]
      exact ⟨fun hj => (h1 j).1 (by omega), fun hj hj' => (h1 j).2 (by omega) hj'⟩

include h in
theorem loop11 (v79 : FVec F S16x1 .f32) (p : ℕ → Vec F S1x16x512 .f32) (sl : ℕ → Vec F S1x8x512 .f32)
    (f : S2x4096x656.Idx → Elt F .i8) (g1 : S8x16x512.Idx → Elt F .f32) (g3 : S8x8x512.Idx → Elt F .f32) (g4 : S16x512.Idx → Elt F .f32)
    (h1 : ∀ j : Fin 8, j.val < (chunks (BitVec.toNat (w : BitVec 32))) → plane16 j g1 = p j.val) (h3 : ∀ j : Fin 8, j.val < (chunks (BitVec.toNat (w : BitVec 32))) → plane8 j g3 = sl j.val) (hok) :
    iprop((kvLoc c ↦[slotSet ((i 0).val % 2)]{fullShare} f) ∗ ((Memref.whole cc0_scratch1).view.loc (c : Thread nD τ) ↦{fullShare} g1) ∗ ((Memref.whole cc0_scratch3).view.loc (c : Thread nD τ) ↦{fullShare} g3) ∗ ((Memref.whole cc0_scratch4).view.loc (c : Thread nD τ) ↦{fullShare} g4))
      ⊢ wp frame (wpE (defs₀ (F := F)) 𝒱 (c : Thread nD τ) bd) Set.univ
        (Scf.Loop.for (k0_t11_loop w) hok 0#32 (k0_t11_body i arg1 harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 v3 w hw v79))
        (fun _ => (iprop((kvLoc c ↦[slotSet ((i 0).val % 2)]{fullShare} f) ∗ ((Memref.whole cc0_scratch1).view.loc (c : Thread nD τ) ↦{fullShare} g1) ∗ ((Memref.whole cc0_scratch3).view.loc (c : Thread nD τ) ↦{fullShare} g3)
          ∗ ((Memref.whole cc0_scratch4).view.loc (c : Thread nD τ) ↦{fullShare} (accUpto v79 p sl (fun k => tile 256 f ((i 0).val % 2) (512 * k) 0) (fun k => tile 256 f ((i 0).val % 2) (512 * k) 256) g4 (chunks (BitVec.toNat (w : BitVec 32))) : S16x512.Idx → Elt F .f32))) : sProp 𝕄)) := by
  have hn := t11_trips w h
  refine BIBase.Entails.trans ?_ (Scf.wp_for frame (wpE (defs₀ (F := F)) 𝒱 (c : Thread nD τ) bd) Set.univ _ _ _ hok 0#32 _
    (fun k _ => iprop((kvLoc c ↦[slotSet ((i 0).val % 2)]{fullShare} f) ∗ ((Memref.whole cc0_scratch1).view.loc (c : Thread nD τ) ↦{fullShare} g1) ∗ ((Memref.whole cc0_scratch3).view.loc (c : Thread nD τ) ↦{fullShare} g3)
          ∗ ((Memref.whole cc0_scratch4).view.loc (c : Thread nD τ) ↦{fullShare} (accUpto v79 p sl (fun k => tile 256 f ((i 0).val % 2) (512 * k) 0) (fun k => tile 256 f ((i 0).val % 2) (512 * k) 256) g4 k : S16x512.Idx → Elt F .f32)))) ?_)
  · iintro ⟨HK, H1, H3, H4⟩
    isplitl [HK H1 H3 H4]
    · isplitl [HK]; · iexact HK
      isplitl [H1]; · iexact H1
      isplitl [H3]; · iexact H3
      iexact H4
    iintro %acc H
    iapply (Entails.of_eq (by rw [← hn])) $$ H
  · intro k acc
    have hk : k.val < chunks (BitVec.toNat (w : BitVec 32)) := lt_of_lt_of_eq k.isLt hn
    have hk8 : k.val < 8 := lt_of_lt_of_le hk (chunks_le h)
    iintro ⟨HK, H1, H3, H4⟩
    have e34 : k0_off34 w k = ![(⟨k.val, hk8⟩ : Fin 8).val, 0, 0] := off34_eq w h k
    have e35 : k0_off35 w k = ![(⟨k.val, hk8⟩ : Fin 8).val, 0, 0] := off35_eq w h k
    have hp1 : plane16 (⟨k.val, hk8⟩ : Fin 8) g1 = p k.val := h1 ⟨k.val, hk8⟩ hk
    have hp3 : plane8 (⟨k.val, hk8⟩ : Fin 8) g3 = sl k.val := h3 ⟨k.val, hk8⟩ hk
    simp only [k0_t11_body, k0_part5_eq_skeleton, k0_part5_skel, Prog.lift, Prog.bind_op, Prog.bind_ret, Prog.pure_eq_ret, Prog.bind_assoc]
    iapply (wp_load1 c 𝒱 bd _ e34 (k0_off34_inb i w hw k) g1 _) $$ H1
    iintro H1
    iapply (wp_load3 c 𝒱 bd _ e35 (k0_off35_inb i w hw k) g3 _) $$ H3
    iintro H3
    iapply (wp_loadkv c 𝒱 bd _ (off36_eq i w h k) (k0_off36_inb i w hw k) f _) $$ HK
    iintro HK
    iapply (wp_load4 c 𝒱 bd _ _ _ _) $$ H4
    iintro H4
    iapply (wp_load4 c 𝒱 bd _ _ _ _) $$ H4
    iintro H4
    iapply (wp_store4 c 𝒱 bd _ _ _ _ _) $$ H4
    iintro H4
    iapply (wp_load4 c 𝒱 bd _ _ _ _) $$ H4
    iintro H4
    iapply (wp_load4 c 𝒱 bd _ _ _ _) $$ H4
    iintro H4
    iapply (wp_store4 c 𝒱 bd _ _ _ _ _) $$ H4
    iintro H4
    iapply (wp_loadkv c 𝒱 bd _ (off37_eq i w h k) (k0_off37_inb i w hw k) f _) $$ HK
    iintro HK
    iapply (wp_load4 c 𝒱 bd _ _ _ _) $$ H4
    iintro H4
    iapply (wp_load4 c 𝒱 bd _ _ _ _) $$ H4
    iintro H4
    iapply (wp_store4 c 𝒱 bd _ _ _ _ _) $$ H4
    iintro H4
    iapply (wp_load4 c 𝒱 bd _ _ _ _) $$ H4
    iintro H4
    iapply (wp_load4 c 𝒱 bd _ _ _ _) $$ H4
    iintro H4
    iapply (wp_store4 c 𝒱 bd _ _ _ _ _) $$ H4
    iintro H4
    rw [wp_ret]
    imodintro
    isplitl [HK]; · iexact HK
    isplitl [H1]; · iexact H1
    isplitl [H3]; · iexact H3
    rw [hp1, hp3]
    iexact H4

end

end Cert.Kernel
-- ==== Proof.Kernel.Slots.lean ====
/-
  The two slots before each grid point, the lengths read from the prefetched table, and the loads and stores of whole
  windows.
-/
module

public import proofs.«01_k».proof.Proof.Kernel.Loops

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The request lengths -/

/-- The length of request `b`, as the table holds it. -/
def lenAt (ft : S128.Idx → Elt F .i32) (b : ℕ) : Elt F .i32 := ft (fun (a : Fin 1) => match a with | 0 => (⟨b % 128, Nat.mod_lt _ (by decide)⟩ : Fin 128))
def lenN (ft : S128.Idx → Elt F .i32) (b : ℕ) : ℕ := BitVec.toNat (lenAt ft b : BitVec 32)

abbrev tabLoc (c : Dev nD) : Loc nD τ sig := (Memref.whole main_arg5).view.loc (c : Thread nD τ)

theorem read_len {o : Fin 1 → ℕ} {b : ℕ} (e : o = ![b]) (h : ∀ a, o a + S1.size a ≤ S128.size a) (ft : S128.Idx → Elt F .i32) (x : S1.Idx) :
    ((Memref.whole main_arg5).access (Rect.unit (s := S128) o S1.size h)).read (Elt F) ft x = lenAt ft b := by
  subst e
  show ft _ = ft _
  refine congrArg ft (funext fun (a : Fin 1) => Fin.ext ?_)
  have h0 : b + 1 ≤ 128 := h 0
  have hx : (x 0).val < 1 := (x 0).isLt
  match a with
  | 0 => show b + 1 * (x 0).val = b % 128; omega

/-! ## Slots by the parity of a point -/

theorem slot_inb (b : ℕ) (a : Fin 1) : (![b % 2] : Fin 1 → ℕ) a + S1.size a ≤ S2.size a := by
  match a with
  | 0 => show b % 2 + 1 ≤ 2; omega

/-- The share of the cache a slot's copies read under. -/
def sh (b : ℕ) : PosShare TreeShare := if b % 2 = 0 then fullShare.left else fullShare.right

section
variable (c : Dev nD) (fc : S128x4096x656.Idx → Elt F .i8) (ft : S128.Idx → Elt F .i32)

def idleP (b : ℕ) : sProp 𝕄 := idle c (sh b) fc (b % 2) (slotSem (b % 2) (slot_inb b))
def flyP (b : ℕ) (hb : b < 128) : sProp 𝕄 := flying c (sh b) fc (b % 2) b hb (slotSem (b % 2) (slot_inb b)) (pieces (lenN ft b))

theorem idleP_congr {b b' : ℕ} (h : b % 2 = b' % 2) : (idleP c fc b : sProp 𝕄) = idleP c fc b' := by
  have hs : sh b = sh b' := by unfold sh; rw [h]
  have hm : slotSem (b % 2) (slot_inb b) = slotSem (b' % 2) (slot_inb b') := by congr 1
  unfold idleP
  rw [hs, hm, h]

/-- The slot of request `b` before its point: on its way, but before the first point and after the last. -/
def front (b : ℕ) : sProp 𝕄 := if hb : 0 < b ∧ b < 128 then flyP c fc ft b hb.2 else idleP c fc b

/-- Both slots before point `b`. -/
def slots (b : ℕ) : sProp 𝕄 := iprop(front c fc ft b ∗ idleP c fc (b + 1))

theorem kv_join (f0 f1 : S2x4096x656.Idx → Elt F .i8) :
    iprop((kvLoc c ↦[slotSet 0]{fullShare} f0) ∗ (kvLoc c ↦[slotSet 1]{fullShare} f1)) ⊢ (iprop(∃ g : S2x4096x656.Idx → Elt F .i8, kvLoc c ↦{fullShare} g) : sProp 𝕄) := by
  let g : S2x4096x656.Idx → Elt F .i8 := fun x => if (x 0).val = 0 then f0 x else f1 x
  rw [show (kvLoc c ↦[slotSet 0]{fullShare} f0 : sProp 𝕄) = kvLoc c ↦[slotSet 0]{fullShare} g from
      pointsTo_congr fun x hx => (if_pos (Finset.mem_filter.mp hx).2).symm,
    show (kvLoc c ↦[slotSet 1]{fullShare} f1 : sProp 𝕄) = kvLoc c ↦[slotSet 1]{fullShare} g from
      pointsTo_congr fun x hx => (if_neg (by have := (Finset.mem_filter.mp hx).2; omega)).symm]
  refine BIBase.Entails.trans (pointsTo_union (ℓ := kvLoc c) slots_disj).2 ?_
  rw [slots_join]
  iintro H
  iexists g
  iexact H

theorem kv_split (g : S2x4096x656.Idx → Elt F .i8) :
    (kvLoc c ↦{fullShare} g : sProp 𝕄) ⊢ iprop((kvLoc c ↦[slotSet 0]{fullShare} g) ∗ (kvLoc c ↦[slotSet 1]{fullShare} g)) := by
  refine BIBase.Entails.trans (Entails.of_eq ?_) (pointsTo_union (ℓ := kvLoc c) slots_disj).1
  rw [slots_join]

end

variable (c : Dev nD) (q : PosShare TreeShare) (𝒱 : Variants) (bd : Option 𝒱.V)

/-- One step of cutting a body: what the first part needs, then the rest from what it leaves. -/
theorem wp_cut {α β : Type} {p : Prog (TpuEff nD τ sig (Elt F) Λ₀ .tc) α} {K : α → Prog (TpuEff nD τ sig (Elt F) Λ₀ .tc) β} {P : sProp 𝕄} {R : α → sProp 𝕄} {Q : β → sProp 𝕄}
    (h : P ⊢ wp frame (wpE (defs₀ (F := F)) 𝒱 (c : Thread nD τ) bd) Set.univ p R) :
    P ⊢ iprop((∀ v, R v -∗ wp frame (wpE (defs₀ (F := F)) 𝒱 (c : Thread nD τ) bd) Set.univ (K v) Q) -∗ wp frame (wpE (defs₀ (F := F)) 𝒱 (c : Thread nD τ) bd) Set.univ (p >>= K) Q) := by
  rw [wp_bind]
  iintro H Hk
  iapply (wp_wand_r frame (wpE (defs₀ (F := F)) 𝒱 (c : Thread nD τ) bd) Set.univ)
  isplitl [H]
  · iapply h $$ H
  · iexact Hk

theorem wp_len {α : Type} (Q : α → sProp 𝕄) {o : Fin 1 → ℕ} {b : ℕ} (e : o = ![b]) (h : ∀ a, o a + S1.size a ≤ S128.size a) {h1 hp} (ft : S128.Idx → Elt F .i32)
    (K : Elt F .i32 → Prog (TpuEff nD τ sig (Elt F) Λ₀ .tc) α) :
    (tabLoc c ↦{q} ft)
      ⊢ iprop(((tabLoc c ↦{q} ft) -∗ wp frame (wpE (defs₀ (F := F)) 𝒱 (c : Thread nD τ) bd) Set.univ (K (lenAt ft b)) Q)
        -∗ wp frame (wpE (defs₀ (F := F)) 𝒱 (c : Thread nD τ) bd) Set.univ (smemLoad (Memref.whole main_arg5) (Rect.unit (s := S128) o S1.size h) h1 hp >>= K) Q) := by
  rw [← read_len e h ft (Shape.Idx.first (h1.symm ▸ Nat.one_pos))]
  exact wp_smemLoadElt (defs := defs₀ (F := F)) 𝒱 (c : Thread nD τ) bd Set.univ (Q := Q) (m := Memref.whole main_arg5) (r := Rect.unit (s := S128) o S1.size h)
    (hw := View.loads_smem_one hp h1) (x := Shape.Idx.first (h1.symm ▸ Nat.one_pos)) (k := K) (S := Finset.univ) (q := q) (f := ft) (Finset.subset_univ _)

/-! ## A window's whole buffer -/

section
variable {s : Shape} {e : EltTy} (m : Memref sig .tc .vmem s e) {o : Fin s.rank → ℕ} (ho : ∀ a, o a = 0) (h : ∀ a, o a + s.size a ≤ s.size a)

include ho in
theorem read_full (f : m.view.ty.Contents (Elt F)) :
    (m.access (Rect.unit (s := s) o s.size h)).read (Elt F) f = m.view.read (Elt F) f := by
  funext x
  refine congrArg (fun y => m.view.read (Elt F) f y) (funext fun a => Fin.ext ?_)
  show o a + 1 * (x a).val = (x a).val
  rw [ho a]; omega

include ho in
theorem wp_loadw {α : Type} (Q : α → sProp 𝕄) {hl} (X : s.Idx → Elt F e)
    (K : (s.Idx → Elt F e) → Prog (TpuEff nD τ sig (Elt F) Λ₀ .tc) α) :
    owns (c : Thread nD τ) m q X
      ⊢ iprop((owns (c : Thread nD τ) m q X -∗ wp frame (wpE (defs₀ (F := F)) 𝒱 (c : Thread nD τ) bd) Set.univ (K X) Q)
        -∗ wp frame (wpE (defs₀ (F := F)) 𝒱 (c : Thread nD τ) bd) Set.univ (.op (.load m (Rect.unit (s := s) o s.size h).toLoadRect hl) K) Q) := by
  unfold owns
  iintro ⟨%f, %hf, H⟩ Hk
  iapply (wp_load_rect (defs := defs₀ (F := F)) 𝒱 (c : Thread nD τ) bd Set.univ (Q := Q) (m := m) (r := Rect.unit (s := s) o s.size h) (hl := hl) (k := K) (S := m.view.set) (q := q) (f := f)
    (View.set_slice_subset _ _)) $$ H
  iintro H
  rw [read_full m ho h, hf]
  iapply Hk
  iexists f
  isplitr; · ipureintro; exact hf
  iexact H

include ho in
theorem wp_storew {α : Type} (Q : α → sProp 𝕄) {hx hm} (X v : s.Idx → Elt F e)
    (K : PUnit → Prog (TpuEff nD τ sig (Elt F) Λ₀ .tc) α) :
    owns (c : Thread nD τ) m fullShare X
      ⊢ iprop((owns (c : Thread nD τ) m fullShare v -∗ wp frame (wpE (defs₀ (F := F)) 𝒱 (c : Thread nD τ) bd) Set.univ (K ⟨⟩) Q)
        -∗ wp frame (wpE (defs₀ (F := F)) 𝒱 (c : Thread nD τ) bd) Set.univ (.op (.store m (Rect.unit (s := s) o s.size h) v Finset.univ hx hm) K) Q) := by
  unfold owns
  iintro ⟨%f, %hf, H⟩ Hk
  iapply (wp_store (defs := defs₀ (F := F)) 𝒱 (c : Thread nD τ) bd Set.univ (m := m) (r := Rect.unit (s := s) o s.size h) (S := m.view.set) (f := f)
    (View.set_slice_subset _ _)) $$ H
  iintro H
  iapply Hk
  iexists _
  isplitr; swap; · iexact H
  ipureintro
  rw [← read_full m ho h]
  exact View.read_write_univ (Val := Elt F) _ _
end

end Cert.Kernel
-- ==== Proof.Kernel.Blocks.lean ====
/-
  The first half of the kernel body in three pieces: starting the first request's copies at the first point, starting
  the next request's copies, and waiting for this request's.
-/
module

public import proofs.«01_k».proof.Proof.Kernel.Slots

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- At the first point: clear both slots and start the first request's copies. -/
def startFirst (i : grid0.Coords) (arg1 : Memref sig .tc .smem S128 .i32) (harg1 : arg1.IsWhole) (arg2 : Memref sig .tc .vmem S1x1x16x512 .bf16) (harg2 : arg2.IsWhole) (arg3 : Memref sig .tc .vmem S1x1x16x256 .bf16) (harg3 : arg3.IsWhole) (arg4 : Memref sig .tc .vmem S1x1x512 .bf16) (harg4 : arg4.IsWhole) (arg5 : Memref sig .tc .vmem S1x1x256 .bf16) (harg5 : arg5.IsWhole) (arg6 : Memref sig .tc .vmem S16x256 .bf16) (harg6 : arg6.IsWhole) (arg7 : Memref sig .tc .hbm S128x4096x656 .i8) (harg7 : arg7.IsWhole) (arg8 : Memref sig .tc .vmem S1x1x16x512 .bf16) (harg8 : arg8.IsWhole) (arg9 : Memref sig .tc .vmem S2x4096x656 .i8) (harg9 : arg9.IsWhole) (arg10 : Memref sig .tc .vmem S8x16x512 .f32) (harg10 : arg10.IsWhole) (arg11 : Memref sig .tc .vmem S8x16x512 .f32) (harg11 : arg11.IsWhole) (arg12 : Memref sig .tc .vmem S8x8x512 .f32) (harg12 : arg12.IsWhole) (arg13 : Memref sig .tc .vmem S16x512 .f32) (harg13 : arg13.IsWhole) (arg14 : DmaSems sig S2) : Prog (TpuEff nD τ sig (Elt F) Λ₀ .tc) PUnit := do
  if k0_h1 : k0_cond1 i = 1#1 then do
    let v103 : Vec F S2x4096x656 .i8 ← Prog.lift (.load arg9 (Rect.unit (s := S2x4096x656) ![0, 0, 0] S2x4096x656.size inb_S2x4096x656_S2x4096x656_0_0_0).toLoadRect (View.loadsAt_vmem h_S2x4096x656))
    Prog.lift (.store arg9 (Rect.unit (s := S2x4096x656) ![0, 0, 0] S2x4096x656.size inb_S2x4096x656_S2x4096x656_0_0_0) k0_pay44 Finset.univ (View.stores_vmem h_S2x4096x656 (harg9.storeExact_slice rfl _ packedi8_S2x4096x656_S2x4096x656_0_0_0) (fun _ => rfl)) (.inl rfl))
    let v106 : Elt F .i32 ← smemLoad arg1 (Rect.unit (s := S128) ![0] S1.size inb_S128_S1_0) numel1_S1 rfl
    have k0_hw1 : k0_chk1 i v106 := (← Prog.lift (TpuEff.assume (k0_chk1 i v106) (k0_chk1.dec i v106))).down
    let v115 : BitVec 32 ← Scf.Loop.for (k0_t1_loop v106) (k0_t1_ok i v106 k0_hw1 k0_h1) 0#32 (k0_t1_body i arg1 harg1 arg2 harg2 arg3 harg3 arg4 harg4 arg5 harg5 arg6 harg6 arg7 harg7 arg8 harg8 arg9 harg9 arg10 harg10 arg11 harg11 arg12 harg12 arg13 harg13 arg14 k0_h1 v106 k0_hw1)
    let v116 : BitVec 32 ← Scf.Loop.for (k0_t2_loop v106) (k0_t2_ok i v106 k0_hw1 k0_h1) v115 (k0_t2_body i arg1 harg1 arg2 harg2 arg3 harg3 arg4 harg4 arg5 harg5 arg6 harg6 arg7 harg7 arg8 harg8 arg9 harg9 arg10 harg10 arg11 harg11 arg12 harg12 arg13 harg13 arg14 k0_h1 v106 k0_hw1)
    pure ⟨⟩
  else do
    pure ⟨⟩

/-- At every point but the last: start the next request's copies. -/
def startNext (i : grid0.Coords) (arg1 : Memref sig .tc .smem S128 .i32) (harg1 : arg1.IsWhole) (arg2 : Memref sig .tc .vmem S1x1x16x512 .bf16) (harg2 : arg2.IsWhole) (arg3 : Memref sig .tc .vmem S1x1x16x256 .bf16) (harg3 : arg3.IsWhole) (arg4 : Memref sig .tc .vmem S1x1x512 .bf16) (harg4 : arg4.IsWhole) (arg5 : Memref sig .tc .vmem S1x1x256 .bf16) (harg5 : arg5.IsWhole) (arg6 : Memref sig .tc .vmem S16x256 .bf16) (harg6 : arg6.IsWhole) (arg7 : Memref sig .tc .hbm S128x4096x656 .i8) (harg7 : arg7.IsWhole) (arg8 : Memref sig .tc .vmem S1x1x16x512 .bf16) (harg8 : arg8.IsWhole) (arg9 : Memref sig .tc .vmem S2x4096x656 .i8) (harg9 : arg9.IsWhole) (arg10 : Memref sig .tc .vmem S8x16x512 .f32) (harg10 : arg10.IsWhole) (arg11 : Memref sig .tc .vmem S8x16x512 .f32) (harg11 : arg11.IsWhole) (arg12 : Memref sig .tc .vmem S8x8x512 .f32) (harg12 : arg12.IsWhole) (arg13 : Memref sig .tc .vmem S16x512 .f32) (harg13 : arg13.IsWhole) (arg14 : DmaSems sig S2) : Prog (TpuEff nD τ sig (Elt F) Λ₀ .tc) PUnit := do
  if k0_h2 : k0_cond2 i = 1#1 then do
    let v106 : Elt F .i32 ← smemLoad arg1 (Rect.unit (s := S128) (k0_off5 i) S1.size (k0_off5_inb i k0_h2)) numel1_S1 rfl
    have k0_hw2 : k0_chk2 i v106 := (← Prog.lift (TpuEff.assume (k0_chk2 i v106) (k0_chk2.dec i v106))).down
    let v115 : BitVec 32 ← Scf.Loop.for (k0_t3_loop v106) (k0_t3_ok i v106 k0_hw2 k0_h2) 0#32 (k0_t3_body i arg1 harg1 arg2 harg2 arg3 harg3 arg4 harg4 arg5 harg5 arg6 harg6 arg7 harg7 arg8 harg8 arg9 harg9 arg10 harg10 arg11 harg11 arg12 harg12 arg13 harg13 arg14 k0_h2 v106 k0_hw2)
    let v116 : BitVec 32 ← Scf.Loop.for (k0_t4_loop v106) (k0_t4_ok i v106 k0_hw2 k0_h2) v115 (k0_t4_body i arg1 harg1 arg2 harg2 arg3 harg3 arg4 harg4 arg5 harg5 arg6 harg6 arg7 harg7 arg8 harg8 arg9 harg9 arg10 harg10 arg11 harg11 arg12 harg12 arg13 harg13 arg14 k0_h2 v106 k0_hw2)
    pure ⟨⟩
  else do
    pure ⟨⟩

/-- Wait for this request's copies, then read its length and its query. -/
def arrive (i : grid0.Coords) (arg1 : Memref sig .tc .smem S128 .i32) (harg1 : arg1.IsWhole) (arg2 : Memref sig .tc .vmem S1x1x16x512 .bf16) (harg2 : arg2.IsWhole) (arg3 : Memref sig .tc .vmem S1x1x16x256 .bf16) (harg3 : arg3.IsWhole) (arg4 : Memref sig .tc .vmem S1x1x512 .bf16) (harg4 : arg4.IsWhole) (arg5 : Memref sig .tc .vmem S1x1x256 .bf16) (harg5 : arg5.IsWhole) (arg6 : Memref sig .tc .vmem S16x256 .bf16) (harg6 : arg6.IsWhole) (arg7 : Memref sig .tc .hbm S128x4096x656 .i8) (harg7 : arg7.IsWhole) (arg8 : Memref sig .tc .vmem S1x1x16x512 .bf16) (harg8 : arg8.IsWhole) (arg9 : Memref sig .tc .vmem S2x4096x656 .i8) (harg9 : arg9.IsWhole) (arg10 : Memref sig .tc .vmem S8x16x512 .f32) (harg10 : arg10.IsWhole) (arg11 : Memref sig .tc .vmem S8x16x512 .f32) (harg11 : arg11.IsWhole) (arg12 : Memref sig .tc .vmem S8x8x512 .f32) (harg12 : arg12.IsWhole) (arg13 : Memref sig .tc .vmem S16x512 .f32) (harg13 : arg13.IsWhole) (arg14 : DmaSems sig S2) : Prog (TpuEff nD τ sig (Elt F) Λ₀ .tc) (Σ' (v3 : BitVec 32) (v21 : Elt F .i32) (k0_hw4 : k0_chk4 i v21) (v24 : BitVec 32) (v26 : FVec F S16x512 .bf16) (v27 : FVec F S16x128 .bf16), FVec F S32x256 .bf16) := do
  let arg0 : BitVec 32 := BitVec.ofNat 32 (i 0).val
  let v3 : BitVec 32 := Scalar.andi arg0 1#32
  let v9 : Elt F .i32 ← smemLoad arg1 (Rect.unit (s := S128) (k0_off12 i) S1.size (k0_off12_inb i)) numel1_S1 rfl
  have k0_hw3 : k0_chk3 i v9 := (← Prog.lift (TpuEff.assume (k0_chk3 i v9) (k0_chk3.dec i v9))).down
  let v18 : BitVec 32 ← Scf.Loop.for (k0_t5_loop v9) (k0_t5_ok i v9 k0_hw3) 0#32 (k0_t5_body i arg1 harg1 arg2 harg2 arg3 harg3 arg4 harg4 arg5 harg5 arg6 harg6 arg7 harg7 arg8 harg8 arg9 harg9 arg10 harg10 arg11 harg11 arg12 harg12 arg13 harg13 arg14 v9 k0_hw3)
  let v19 : BitVec 32 ← Scf.Loop.for (k0_t6_loop v9) (k0_t6_ok i v9 k0_hw3) v18 (k0_t6_body i arg1 harg1 arg2 harg2 arg3 harg3 arg4 harg4 arg5 harg5 arg6 harg6 arg7 harg7 arg8 harg8 arg9 harg9 arg10 harg10 arg11 harg11 arg12 harg12 arg13 harg13 arg14 v9 k0_hw3)
  let v21 : Elt F .i32 ← smemLoad arg1 (Rect.unit (s := S128) (k0_off19 i) S1.size (k0_off19_inb i)) numel1_S1 rfl
  have k0_hw4 : k0_chk4 i v21 := (← Prog.lift (TpuEff.assume (k0_chk4 i v21) (k0_chk4.dec i v21))).down
  let v22 : BitVec 32 := Scalar.addi v21 512#32
  let v23 : BitVec 32 := Scalar.subi v22 1#32
  let v24 : BitVec 32 := Scalar.shrui v23 9#32
  let v25 : Vec F S1x1x16x512 .bf16 ← Prog.lift (.load arg2 (Rect.unit (s := S1x1x16x512) ![0, 0, 0, 0] S1x1x16x512.size inb_S1x1x16x512_S1x1x16x512_0_0_0_0).toLoadRect (View.loadsAt_vmem h_S1x1x16x512))
  pure ⟨v3, v21, k0_hw4, v24, k0_pay45 v25, k0_pay46 (F := F), k0_pay47 v25⟩

set_option maxRecDepth 65536 in
theorem part7_cut (i : grid0.Coords) (arg1 : Memref sig .tc .smem S128 .i32) (harg1 : arg1.IsWhole) (arg2 : Memref sig .tc .vmem S1x1x16x512 .bf16) (harg2 : arg2.IsWhole) (arg3 : Memref sig .tc .vmem S1x1x16x256 .bf16) (harg3 : arg3.IsWhole) (arg4 : Memref sig .tc .vmem S1x1x512 .bf16) (harg4 : arg4.IsWhole) (arg5 : Memref sig .tc .vmem S1x1x256 .bf16) (harg5 : arg5.IsWhole) (arg6 : Memref sig .tc .vmem S16x256 .bf16) (harg6 : arg6.IsWhole) (arg7 : Memref sig .tc .hbm S128x4096x656 .i8) (harg7 : arg7.IsWhole) (arg8 : Memref sig .tc .vmem S1x1x16x512 .bf16) (harg8 : arg8.IsWhole) (arg9 : Memref sig .tc .vmem S2x4096x656 .i8) (harg9 : arg9.IsWhole) (arg10 : Memref sig .tc .vmem S8x16x512 .f32) (harg10 : arg10.IsWhole) (arg11 : Memref sig .tc .vmem S8x16x512 .f32) (harg11 : arg11.IsWhole) (arg12 : Memref sig .tc .vmem S8x8x512 .f32) (harg12 : arg12.IsWhole) (arg13 : Memref sig .tc .vmem S16x512 .f32) (harg13 : arg13.IsWhole) (arg14 : DmaSems sig S2) :
    k0_part7 (F := F) i arg1 harg1 arg2 harg2 arg3 harg3 arg4 harg4 arg5 harg5 arg6 harg6 arg7 harg7 arg8 harg8 arg9 harg9 arg10 harg10 arg11 harg11 arg12 harg12 arg13 harg13 arg14
      = (startFirst i arg1 harg1 arg2 harg2 arg3 harg3 arg4 harg4 arg5 harg5 arg6 harg6 arg7 harg7 arg8 harg8 arg9 harg9 arg10 harg10 arg11 harg11 arg12 harg12 arg13 harg13 arg14 >>= fun _ => startNext i arg1 harg1 arg2 harg2 arg3 harg3 arg4 harg4 arg5 harg5 arg6 harg6 arg7 harg7 arg8 harg8 arg9 harg9 arg10 harg10 arg11 harg11 arg12 harg12 arg13 harg13 arg14 >>= fun _ => arrive i arg1 harg1 arg2 harg2 arg3 harg3 arg4 harg4 arg5 harg5 arg6 harg6 arg7 harg7 arg8 harg8 arg9 harg9 arg10 harg10 arg11 harg11 arg12 harg12 arg13 harg13 arg14) := by
  rw [k0_part7_eq_skeleton]
  unfold k0_part7_skel startFirst startNext arrive
  by_cases h1 : k0_cond1 i = 1#1 <;> by_cases h2 : k0_cond2 i = 1#1 <;>
    simp only [dif_pos, dif_neg, h1, h2, Prog.lift, Prog.bind_op, Prog.bind_ret, Prog.pure_eq_ret, Prog.bind_assoc, not_false_eq_true]

end Cert.Kernel
-- ==== Proof.Kernel.Body.lean ====
/-
  The kernel body at one grid point: from the two slots as they stand before the point to the two slots after it, and
  the output block written.
-/
module

public import proofs.«01_k».proof.Proof.Kernel.Blocks

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (q : PosShare TreeShare) (𝒱 : Variants) (bd : Option 𝒱.V)

/-- A loop of no trips. -/
theorem wp_skip {σ β : Type} {L : Scf.Loop 32} (h : L.trips = 0) (hok : L.OK) (init : σ) (body : Fin L.trips → σ → Prog (TpuEff nD τ sig (Elt F) Λ₀ .tc) σ)
    (K : σ → Prog (TpuEff nD τ sig (Elt F) Λ₀ .tc) β) (Q : β → sProp 𝕄) :
    wp frame (wpE (defs₀ (F := F)) 𝒱 (c : Thread nD τ) bd) Set.univ (K init) Q ⊢ wp frame (wpE (defs₀ (F := F)) 𝒱 (c : Thread nD τ) bd) Set.univ (Scf.Loop.for L hok init body >>= K) Q :=
  Scf.wp_for0_bind' frame (wpE (defs₀ (F := F)) 𝒱 (c : Thread nD τ) bd) Set.univ L.lb L.ub L.st hok init body h K Q _ .rfl

variable (fc : S128x4096x656.Idx → Elt F .i8) (ft : S128.Idx → Elt F .i32)
variable (i : grid0.Coords) (harg1 : (Memref.whole main_arg5).IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (harg10 : (Memref.whole cc0_scratch1).IsWhole)
  (harg11 : (Memref.whole cc0_scratch2).IsWhole) (harg12 : (Memref.whole cc0_scratch3).IsWhole) (harg13 : (Memref.whole cc0_scratch4).IsWhole)

variable (hl : ∀ b, lenN ft b ≤ 4096)

theorem zero3 : ∀ a : Fin 3, (![0, 0, 0] : Fin 3 → ℕ) a = 0 := by decide
theorem zero4 : ∀ a : Fin 4, (![0, 0, 0, 0] : Fin 4 → ℕ) a = 0 := by decide
theorem zero2 : ∀ a : Fin 2, (![0, 0] : Fin 2 → ℕ) a = 0 := by decide

/-- Two idle slots make up the whole double buffer, which can be overwritten. -/
theorem idle_two (g : S2x4096x656.Idx → Elt F .i8) :
    iprop(idleP c fc 0 ∗ idleP c fc 1) ⊢ (iprop((∃ f : S2x4096x656.Idx → Elt F .i8, owns (c : Thread nD τ) (Memref.whole cc0_scratch0) fullShare f)
      ∗ (owns (c : Thread nD τ) (Memref.whole cc0_scratch0) fullShare g -∗ idleP c fc 0 ∗ idleP c fc 1)) : sProp 𝕄) := by
  unfold idleP idle
  iintro ⟨⟨⟨%f0, H0⟩, Hc0, Hs0⟩, ⟨⟨%f1, H1⟩, Hc1, Hs1⟩⟩
  ihave Hk := (kv_join c f0 f1) $$ [H0 H1]
  · isplitl [H0] <;> iassumption
  icases Hk with ⟨%f, Hk⟩
  isplitl [Hk]
  · iexists f
    iapply (Entails.of_eq (owns_whole (c : Thread nD τ) cc0_scratch0 fullShare f).symm) $$ Hk
  · iintro Hg
    ihave Hg := (Entails.of_eq (owns_whole (c : Thread nD τ) cc0_scratch0 fullShare g)) $$ Hg
    ihave Hg := (kv_split c g) $$ Hg
    icases Hg with ⟨H0, H1⟩
    isplitl [H0 Hc0 Hs0]
    · isplitl [H0]; · iexists g; iexact H0
      isplitl [Hc0] <;> iassumption
    · isplitl [H1]; · iexists g; iexact H1
      isplitl [Hc1] <;> iassumption

theorem flyP_eq (b : ℕ) (hb : b < 128) : (flyP c fc ft b hb : sProp 𝕄)
    = flying c (sh b) fc (b % 2) b hb (slotSem (b % 2) (slot_inb b)) (pieces (BitVec.toNat (lenAt ft b : BitVec 32))) := rfl

set_option maxHeartbeats 1000000 in
include hl in
theorem start_first {b : ℕ} (e : (i 0).val = b) (hb : b < 128) :
    iprop((tabLoc c ↦{q} ft) ∗ slots c fc ft b)
      ⊢ wp frame (wpE (defs₀ (F := F)) 𝒱 (c : Thread nD τ) bd) Set.univ (startFirst (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5)
        (fun _ => (iprop((tabLoc c ↦{q} ft) ∗ flyP c fc ft b hb ∗ idleP c fc (b + 1)) : sProp 𝕄)) := by
  unfold startFirst
  by_cases h1 : k0_cond1 i = 1#1
  · have h0 : b = 0 := by rw [← e]; exact (cond1_iff i).mp h1
    subst h0
    simp only [dif_pos h1, Prog.lift, Prog.bind_op, Prog.bind_ret, Prog.pure_eq_ret, Prog.bind_assoc]
    unfold slots front
    rw [dif_neg (fun h : 0 < 0 ∧ 0 < 128 => absurd h.1 (Nat.lt_irrefl _))]
    iintro ⟨HT, H0, H1⟩
    ihave HK := (idle_two c fc k0_pay44) $$ [H0 H1]
    · isplitl [H0] <;> iassumption
    icases HK with ⟨⟨%f, HK⟩, Hback⟩
    iapply (wp_loadw c fullShare 𝒱 bd (Memref.whole cc0_scratch0) zero3 inb_S2x4096x656_S2x4096x656_0_0_0 _ f) $$ HK
    iintro HK
    iapply (wp_storew c 𝒱 bd (Memref.whole cc0_scratch0) zero3 inb_S2x4096x656_S2x4096x656_0_0_0 _ f k0_pay44) $$ HK
    iintro HK
    ihave HB := Hback $$ HK
    icases HB with ⟨H0, H1⟩
    iapply (wp_len c q 𝒱 bd _ (b := 0) rfl inb_S128_S1_0 ft) $$ HT
    iintro HT
    iapply (wp_assume 𝒱 (c : Thread nD τ) bd Set.univ (chk1 i (lenAt ft 0) (hl 0)))
    imod (show idleP c fc 0 ⊢ (|={Set.univ}=> iprop(flight c (sh 0) fc 0 0 hb (slotSem 0 (slot_inb 0)) (pieces (BitVec.toNat (lenAt ft 0 : BitVec 32))) 0 0 ∗ rest c (sh 0) fc 0 0 0) : sProp 𝕄)
      from idle_start c (sh 0) fc 0 0 hb (slotSem 0 (slot_inb 0)) (pieces (BitVec.toNat (lenAt ft 0 : BitVec 32)))) $$ H0 with H0
    iapply (wp_cut c 𝒱 bd (issue1 c (sh 0) fc 𝒱 bd i (Memref.whole main_arg5) harg1 arg2 harg2 arg3 harg3 arg4 harg4 arg5 harg5 arg6 harg6 harg7 arg8 harg8 harg9 (Memref.whole cc0_scratch1) harg10 (Memref.whole cc0_scratch2) harg11 (Memref.whole cc0_scratch3) harg12 (Memref.whole cc0_scratch4) harg13 h1 (lenAt ft 0) _ (hl 0) hb (slot_inb 0) _)) $$ H0
    iintro %v H0
    iapply (wp_skip c 𝒱 bd (t2_trips (lenAt ft 0)) _ _ _ _ _)
    rw [wp_ret]
    imodintro
    isplitl [HT]; · iexact HT
    isplitl [H0]; · rw [flyP_eq]; iexact H0
    iexact H1
  · have h0 : 0 < b := by
      rcases Nat.eq_zero_or_pos b with h | h
      · exact absurd ((cond1_iff i).mpr (e.trans h)) h1
      · exact h
    simp only [dif_neg h1, Prog.pure_eq_ret]
    unfold slots front
    rw [dif_pos ⟨h0, hb⟩, wp_ret]
    iintro H
    imodintro
    iexact H

set_option maxHeartbeats 1000000 in
include hl in
theorem start_next :
    iprop((tabLoc c ↦{q} ft) ∗ idleP c fc ((i 0).val + 1))
      ⊢ wp frame (wpE (defs₀ (F := F)) 𝒱 (c : Thread nD τ) bd) Set.univ (startNext (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5)
        (fun _ => (iprop((tabLoc c ↦{q} ft) ∗ front c fc ft ((i 0).val + 1)) : sProp 𝕄)) := by
  unfold startNext
  by_cases h1 : k0_cond2 i = 1#1
  · have hb : (i 0).val + 1 < 128 := (cond2_iff i).mp h1
    simp only [dif_pos h1, Prog.lift, Prog.bind_op, Prog.bind_ret, Prog.pure_eq_ret, Prog.bind_assoc]
    unfold front
    rw [dif_pos ⟨Nat.succ_pos _, hb⟩]
    iintro ⟨HT, H0⟩
    iapply (wp_len c q 𝒱 bd _ (off5_eq i) _ ft) $$ HT
    iintro HT
    iapply (wp_assume 𝒱 (c : Thread nD τ) bd Set.univ (chk2 i (lenAt ft ((i 0).val + 1)) (hl _) hb))
    unfold idleP
    imod (idle_start c (sh ((i 0).val + 1)) fc (((i 0).val + 1) % 2) ((i 0).val + 1) hb (slotSem (((i 0).val + 1) % 2) (slot_inb _)) (pieces (BitVec.toNat (lenAt ft ((i 0).val + 1) : BitVec 32)))) $$ H0 with H0
    iapply (wp_cut c 𝒱 bd (issue3 c (sh ((i 0).val + 1)) fc 𝒱 bd i (Memref.whole main_arg5) harg1 arg2 harg2 arg3 harg3 arg4 harg4 arg5 harg5 arg6 harg6 harg7 arg8 harg8 harg9 (Memref.whole cc0_scratch1) harg10 (Memref.whole cc0_scratch2) harg11 (Memref.whole cc0_scratch3) harg12 (Memref.whole cc0_scratch4) harg13 h1 (lenAt ft ((i 0).val + 1)) _ (hl _) hb (slot_inb _) _)) $$ H0
    iintro %v H0
    iapply (wp_skip c 𝒱 bd (t4_trips (lenAt ft ((i 0).val + 1))) _ _ _ _ _)
    rw [wp_ret]
    imodintro
    isplitl [HT]; · iexact HT
    rw [flyP_eq]; iexact H0
  · have hb : ¬ (i 0).val + 1 < 128 := fun h => h1 ((cond2_iff i).mpr h)
    simp only [dif_neg h1, Prog.pure_eq_ret]
    unfold front
    rw [dif_neg (fun h => hb h.2), wp_ret]
    iintro H
    imodintro
    iexact H

/-- The slot of request `b` once its copies are in. -/
def landP (b : ℕ) (hb : b < 128) : sProp 𝕄 := landedSlot c (sh b) fc (b % 2) b hb (slotSem (b % 2) (slot_inb b)) (pieces (lenN ft b))

theorem landP_eq (b : ℕ) (hb : b < 128) : (landP c fc ft b hb : sProp 𝕄)
    = landedSlot c (sh b) fc (b % 2) b hb (slotSem (b % 2) (slot_inb b)) (pieces (BitVec.toNat (lenAt ft b : BitVec 32))) := rfl

set_option maxHeartbeats 1000000 in
include hl in
theorem wp_arrive {α : Type} (Q : α → sProp 𝕄) (hb : (i 0).val < 128) (X2 : S1x1x16x512.Idx → Elt F .bf16) (K) :
    iprop((tabLoc c ↦{q} ft) ∗ flyP c fc ft (i 0).val hb ∗ owns (c : Thread nD τ) arg2 fullShare X2 ∗ (∃ W, owes (c : Thread nD τ) 0 W))
      ⊢ iprop((((tabLoc c ↦{q} ft) ∗ landP c fc ft (i 0).val hb ∗ owns (c : Thread nD τ) arg2 fullShare X2 ∗ (∃ W, owes (c : Thread nD τ) 0 W))
          -∗ wp frame (wpE (defs₀ (F := F)) 𝒱 (c : Thread nD τ) bd) Set.univ (K ⟨Scalar.andi (BitVec.ofNat 32 (i 0).val) 1#32, lenAt ft (i 0).val, chk4 i (lenAt ft (i 0).val) (hl _),
            Scalar.shrui (Scalar.subi (Scalar.addi (lenAt ft (i 0).val) 512#32) 1#32) 9#32, k0_pay45 X2, k0_pay46 (F := F), k0_pay47 X2⟩) Q)
        -∗ wp frame (wpE (defs₀ (F := F)) 𝒱 (c : Thread nD τ) bd) Set.univ (arrive (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 >>= K) Q) := by
  unfold arrive
  rw [flyP_eq, landP_eq]
  simp only [Prog.lift, Prog.bind_op, Prog.bind_ret, Prog.pure_eq_ret, Prog.bind_assoc]
  iintro ⟨HT, HF, H2, HO⟩ Hk
  iapply (wp_len c q 𝒱 bd _ (off12_eq i) _ ft) $$ HT
  iintro HT
  iapply (wp_assume 𝒱 (c : Thread nD τ) bd Set.univ (chk3 i (lenAt ft (i 0).val) (hl _)))
  iapply (wp_cut c 𝒱 bd (land5 c (sh (i 0).val) fc 𝒱 bd i (Memref.whole main_arg5) harg1 arg2 harg2 arg3 harg3 arg4 harg4 arg5 harg5 arg6 harg6 harg7 arg8 harg8 harg9 (Memref.whole cc0_scratch1) harg10 (Memref.whole cc0_scratch2) harg11 (Memref.whole cc0_scratch3) harg12 (Memref.whole cc0_scratch4) harg13 (lenAt ft (i 0).val) _ (hl _) hb (slot_inb _) _)) $$ [HF HO]
  · isplitl [HF] <;> iassumption
  iintro %v ⟨HL, HO⟩
  iapply (wp_skip c 𝒱 bd (t6_trips (lenAt ft (i 0).val)) _ _ _ _ _)
  iapply (wp_len c q 𝒱 bd _ (off19_eq i) _ ft) $$ HT
  iintro HT
  iapply (wp_assume 𝒱 (c : Thread nD τ) bd Set.univ (chk4 i (lenAt ft (i 0).val) (hl _)))
  iapply (wp_loadw c fullShare 𝒱 bd arg2 zero4 inb_S1x1x16x512_S1x1x16x512_0_0_0_0 _ X2) $$ H2
  iintro H2
  iapply Hk
  isplitl [HT]; · iexact HT
  isplitl [HL]; · iexact HL
  isplitl [H2] <;> iassumption

/-! ## What a point writes -/

/-- The new token's score, from which the running maximum starts. -/
def outStart (a2 : S1x1x16x512.Idx → Elt F .bf16) (a3 : S1x1x16x256.Idx → Elt F .bf16) (a4 : S1x1x512.Idx → Elt F .bf16) (a5 : S1x1x256.Idx → Elt F .bf16) : FVec F S16x1 .f32 :=
  k0_pay51 (k0_pay45 a2) a4 a5 a3

/-- A chunk's scores. -/
def outScore (w : Elt F .i32) (p : ℕ) (a2 : S1x1x16x512.Idx → Elt F .bf16) (a3 : S1x1x16x256.Idx → Elt F .bf16) (a6 : S16x256.Idx → Elt F .bf16)
    (f : S2x4096x656.Idx → Elt F .i8) (k : ℕ) : FVec F S16x512 .f32 :=
  scoreTile w (k0_pay45 a2) (k0_pay46 (F := F)) (k0_pay47 a2) a3 a6 f p k

/-- The maximum over the new token and every live row. -/
def outMax (w : Elt F .i32) (p : ℕ) (a2 : S1x1x16x512.Idx → Elt F .bf16) (a3 : S1x1x16x256.Idx → Elt F .bf16) (a4 : S1x1x512.Idx → Elt F .bf16) (a5 : S1x1x256.Idx → Elt F .bf16)
    (a6 : S16x256.Idx → Elt F .bf16) (f : S2x4096x656.Idx → Elt F .i8) : FVec F S16x1 .f32 :=
  maxUpto (outStart a2 a3 a4 a5) (outScore w p a2 a3 a6 f) (chunks (BitVec.toNat (w : BitVec 32)))

/-- The sum of exponentials over the new token and every live row. -/
def outSum (w : Elt F .i32) (p : ℕ) (a2 : S1x1x16x512.Idx → Elt F .bf16) (a3 : S1x1x16x256.Idx → Elt F .bf16) (a4 : S1x1x512.Idx → Elt F .bf16) (a5 : S1x1x256.Idx → Elt F .bf16)
    (a6 : S16x256.Idx → Elt F .bf16) (f : S2x4096x656.Idx → Elt F .i8) : FVec F S16x1 .f32 :=
  sumUpto (outMax w p a2 a3 a4 a5 a6 f) (k0_pay3 (outStart a2 a3 a4 a5) (outMax w p a2 a3 a4 a5 a6 f)) (outScore w p a2 a3 a6 f) (chunks (BitVec.toNat (w : BitVec 32)))

/-- The point's output block. -/
def outVal (w : Elt F .i32) (p : ℕ) (a2 : S1x1x16x512.Idx → Elt F .bf16) (a3 : S1x1x16x256.Idx → Elt F .bf16) (a4 : S1x1x512.Idx → Elt F .bf16) (a5 : S1x1x256.Idx → Elt F .bf16)
    (a6 : S16x256.Idx → Elt F .bf16) (f : S2x4096x656.Idx → Elt F .i8) : S1x1x16x512.Idx → Elt F .bf16 :=
  k0_pay17 (accUpto (outSum w p a2 a3 a4 a5 a6 f) (fun k => k0_pay5 (outMax w p a2 a3 a4 a5 a6 f) (k0_pay52 (outScore w p a2 a3 a6 f k))) (scaleTile a3 a6 f p)
    (fun k => tile 256 f p (512 * k) 0) (fun k => tile 256 f p (512 * k) 256)
    (k0_pay10 (k0_pay50 a4) (outStart a2 a3 a4 a5) (outMax w p a2 a3 a4 a5 a6 f) (outSum w p a2 a3 a4 a5 a6 f)) (chunks (BitVec.toNat (w : BitVec 32))))

/-- The double buffer holds request `b`'s live pieces in slot `b % 2`. -/
def Holds (b : ℕ) (hb : b < 128) (f : S2x4096x656.Idx → Elt F .i8) : Prop :=
  ∀ x, (x 0).val = b % 2 → (x 1).val < 256 * pieces (lenN ft b) → f x = rowsOf fc b hb x

/-- The scratch buffers the arithmetic works in. -/
def work : sProp 𝕄 :=
  iprop((∃ g1 : S8x16x512.Idx → Elt F .f32, (Memref.whole cc0_scratch1).view.loc (c : Thread nD τ) ↦{fullShare} g1) ∗ (∃ g3 : S8x8x512.Idx → Elt F .f32, (Memref.whole cc0_scratch3).view.loc (c : Thread nD τ) ↦{fullShare} g3)
    ∗ (∃ g4 : S16x512.Idx → Elt F .f32, (Memref.whole cc0_scratch4).view.loc (c : Thread nD τ) ↦{fullShare} g4))

set_option maxHeartbeats 2000000 in
set_option maxRecDepth 65536 in
include hl in
theorem body_run (hb : (i 0).val < 128) (X2 : S1x1x16x512.Idx → Elt F .bf16) (X3 : S1x1x16x256.Idx → Elt F .bf16) (X4 : S1x1x512.Idx → Elt F .bf16) (X5 : S1x1x256.Idx → Elt F .bf16)
    (X6 : S16x256.Idx → Elt F .bf16) (X8 : S1x1x16x512.Idx → Elt F .bf16) :
    iprop((tabLoc c ↦{q} ft) ∗ slots c fc ft (i 0).val ∗ work c ∗ (∃ W, owes (c : Thread nD τ) 0 W)
        ∗ owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg8 fullShare X8)
      ⊢ wp frame (wpE (defs₀ (F := F)) 𝒱 (c : Thread nD τ) bd) Set.univ (cc0_mla_decode (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5)
        (fun _ => (iprop((tabLoc c ↦{q} ft) ∗ slots c fc ft ((i 0).val + 1) ∗ work c ∗ (∃ W, owes (c : Thread nD τ) 0 W)
        ∗ owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6
        ∗ (∃ f, ⌜Holds fc ft (i 0).val hb f⌝ ∗ owns (c : Thread nD τ) arg8 fullShare (outVal (lenAt ft (i 0).val) ((i 0).val % 2) X2 X3 X4 X5 X6 f))) : sProp 𝕄)) := by
  rw [cc0_mla_decode_eq_skeleton]
  unfold cc0_mla_decode_skel
  rw [part7_cut, k0_part8_eq_skeleton]
  unfold k0_part8_skel
  simp only [Prog.lift, Prog.bind_op, Prog.bind_ret, Prog.pure_eq_ret, Prog.bind_assoc]
  iintro ⟨HT, HS, HW, HO, H2, H3, H4, H5, H6, H8⟩
  iapply (wp_cut c 𝒱 bd (start_first c q 𝒱 bd fc ft i harg1 arg2 harg2 arg3 harg3 arg4 harg4 arg5 harg5 arg6 harg6 harg7 arg8 harg8 harg9 harg10 harg11 harg12 harg13 hl rfl hb)) $$ [HT HS]
  · isplitl [HT] <;> iassumption
  iintro %v1 ⟨HT, HF, HI⟩
  iapply (wp_cut c 𝒱 bd (start_next c q 𝒱 bd fc ft i harg1 arg2 harg2 arg3 harg3 arg4 harg4 arg5 harg5 arg6 harg6 harg7 arg8 harg8 harg9 harg10 harg11 harg12 harg13 hl)) $$ [HT HI]
  · isplitl [HT] <;> iassumption
  iintro %v2 ⟨HT, HN⟩
  iapply (wp_arrive c q 𝒱 bd fc ft i harg1 arg2 harg2 arg3 harg3 arg4 harg4 arg5 harg5 arg6 harg6 harg7 arg8 harg8 harg9 harg10 harg11 harg12 harg13 hl _ hb X2 _) $$ [HT HF H2 HO]
  · isplitl [HT]; · iexact HT
    isplitl [HF]; · iexact HF
    isplitl [H2] <;> iassumption
  iintro ⟨HT, HL, H2, HO⟩
  dsimp only
  iapply (wp_loadw c fullShare 𝒱 bd arg3 zero4 inb_S1x1x16x256_S1x1x16x256_0_0_0_0 _ X3) $$ H3
  iintro H3
  iapply (wp_loadw c fullShare 𝒱 bd arg6 zero2 inb_S16x256_S16x256_0_0 _ X6) $$ H6
  iintro H6
  iapply (wp_loadw c fullShare 𝒱 bd arg4 zero3 inb_S1x1x512_S1x1x512_0_0_0 _ X4) $$ H4
  iintro H4
  iapply (wp_loadw c fullShare 𝒱 bd arg5 zero3 inb_S1x1x256_S1x1x256_0_0_0 _ X5) $$ H5
  iintro H5
  iapply (wp_loadw c fullShare 𝒱 bd arg3 zero4 inb_S1x1x16x256_S1x1x16x256_0_0_0_0 _ X3) $$ H3
  iintro H3
  unfold landP landedSlot work
  icases HL with ⟨⟨%f, %hf, HK⟩, HC, HM⟩
  icases HW with ⟨H1, HP, ⟨%g4, HA⟩⟩
  iapply (wp_cut c 𝒱 bd (loop7 c 𝒱 bd i (Memref.whole main_arg5) harg1 arg2 harg2 arg3 harg3 arg4 harg4 arg5 harg5 arg6 harg6 harg7 arg8 harg8 harg9 harg10 harg11 harg12 harg13 _ (lenAt ft (i 0).val) _ (hl _) _ _ _ _ X3 X6 f _ _)) $$ [HK H1 HP]
  · isplitl [HK]; · iexact HK
    isplitl [H1] <;> iassumption
  iintro %m7 ⟨%e7, HK, H1, ⟨%g3, %hg3, HP⟩⟩
  subst e7
  iapply (wp_skip c 𝒱 bd (t8_trips (lenAt ft (i 0).val)) _ _ _ _ _)
  iapply (wp_cut c 𝒱 bd (loop9 c 𝒱 bd i (Memref.whole main_arg5) harg1 arg2 harg2 arg3 harg3 arg4 harg4 arg5 harg5 arg6 harg6 harg7 arg8 harg8 harg9 harg10 harg11 harg12 harg13 (lenAt ft (i 0).val) _ (hl _) _ _ _ _)) $$ H1
  iintro %m9 ⟨%e9, ⟨%g1, %hg1, H1⟩⟩
  subst e9
  iapply (wp_skip c 𝒱 bd (t10_trips (lenAt ft (i 0).val)) _ _ _ _ _)
  ihave HA := (Entails.of_eq (owns_whole (c : Thread nD τ) cc0_scratch4 fullShare g4).symm) $$ HA
  iapply (wp_loadw c fullShare 𝒱 bd (Memref.whole cc0_scratch4) zero2 inb_S16x512_S16x512_0_0 _ g4) $$ HA
  iintro HA
  iapply (wp_storew c 𝒱 bd (Memref.whole cc0_scratch4) zero2 inb_S16x512_S16x512_0_0 _ g4 _) $$ HA
  iintro HA
  ihave HA := (Entails.of_eq (owns_whole (c : Thread nD τ) cc0_scratch4 fullShare _)) $$ HA
  iapply (wp_cut c 𝒱 bd (loop11 c 𝒱 bd i (Memref.whole main_arg5) harg1 arg2 harg2 arg3 harg3 arg4 harg4 arg5 harg5 arg6 harg6 harg7 arg8 harg8 harg9 harg10 harg11 harg12 harg13 _ (lenAt ft (i 0).val) _ (hl _) _ (fun k => k0_pay5 (outMax (lenAt ft (i 0).val) ((i 0).val % 2) X2 X3 X4 X5 X6 f) (k0_pay52 (outScore (lenAt ft (i 0).val) ((i 0).val % 2) X2 X3 X6 f k))) (scaleTile X3 X6 f ((i 0).val % 2)) f g1 g3 _ hg1 hg3 _)) $$ [HK H1 HP HA]
  · isplitl [HK]; · iexact HK
    isplitl [H1]; · iexact H1
    isplitl [HP] <;> iassumption
  iintro %v11 ⟨HK, H1, HP, HA⟩
  iapply (wp_skip c 𝒱 bd (t12_trips (lenAt ft (i 0).val)) _ _ _ _ _)
  ihave HA := (Entails.of_eq (owns_whole (c : Thread nD τ) cc0_scratch4 fullShare _).symm) $$ HA
  iapply (wp_loadw c fullShare 𝒱 bd (Memref.whole cc0_scratch4) zero2 inb_S16x512_S16x512_0_0 _ _) $$ HA
  iintro HA
  iapply (wp_loadw c fullShare 𝒱 bd arg8 zero4 inb_S1x1x16x512_S1x1x16x512_0_0_0_0 _ X8) $$ H8
  iintro H8
  iapply (wp_storew c 𝒱 bd arg8 zero4 inb_S1x1x16x512_S1x1x16x512_0_0_0_0 _ X8 _) $$ H8
  iintro H8
  ihave HA := (Entails.of_eq (owns_whole (c : Thread nD τ) cc0_scratch4 fullShare _)) $$ HA
  rw [wp_ret]
  imodintro
  isplitl [HT]; · iexact HT
  isplitl [HN HK HC HM]
  · unfold slots
    isplitl [HN]; · iexact HN
    rw [idleP_congr c fc (show ((i 0).val + 1 + 1) % 2 = (i 0).val % 2 by omega)]
    unfold idleP idle
    isplitl [HK]; · iexists f; iexact HK
    isplitl [HC] <;> iassumption
  isplitl [H1 HP HA]
  · isplitl [H1]; · iexists g1; iexact H1
    isplitl [HP]; · iexists g3; iexact HP
    iexists _; iexact HA
  isplitl [HO]; · iexact HO
  isplitl [H2]; · iexact H2
  isplitl [H3]; · iexact H3
  isplitl [H4]; · iexact H4
  isplitl [H5]; · iexact H5
  isplitl [H6]; · iexact H6
  iexists f
  isplitr; · ipureintro; exact hf
  iexact H8

end Cert.Kernel
-- ==== Proof.Kernel.Frame.lean ====
/-
  The kernel's run: its host lines, then the 128 points of its pipeline. Between points both slots of the double
  buffer, the two semaphores, the cache and the table of lengths stand as `slots` says.
-/
module

public import proofs.«01_k».proof.Proof.Kernel.Body
public import proofs.«01_k».proof.Proof.Gen.Kernel.Launch
public import Idealize.ShloMosaic.Lib.Pipeline.FrameBody

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers when the pipeline starts -/

/-- Every buffer after the host lines. -/
abbrev V0 (c : Dev nD) : Valuation τ sig (Elt F) := StableHlo.after (List.flatten [hostOps0, hostOps0_1, hostOps0_2, hostOps0_3]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
set_option maxRecDepth 16384 in
set_option maxHeartbeats 2000000 in
theorem hostOps0_3_fresh : (hostOps0_3 : List (HloOp τ sig (Elt F))).Forall fun op => op.fresh = ∅ := by
  simp only [List.Forall]; repeat' constructor

set_option maxHeartbeats 2000000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    ⟨hostOps0_sub, hostOps0_1_sub, hostOps0_2_sub, hostOps0_3_sub⟩
    ⟨hostOps0_fresh, hostOps0_1_fresh, hostOps0_2_fresh, hostOps0_3_fresh⟩
    (fun c => (main_chain c).trans rfl)

set_option maxRecDepth 32768 in
set_option maxHeartbeats 2000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

/-! ## The table, the cells, the cache -/

set_option backward.proofsInPublic true in
/-- The pipeline's table: the lengths as launched. -/
def tabs : pre0.Contents (Elt F) := fun | ⟨0, _⟩ => V m 0 main_arg5 | ⟨_ + 1, h⟩ => absurd h (by simp)
abbrev adm (p : Fin 1) : (pcfgs (F := F) p).Adm := ⟨tabs m, trivial⟩
abbrev cfgK : Cfg sig Λ₀ := Pipeline.pin pcfgs (adm m) 0

theorem dev_zero (c : Dev nD) : c = 0 := by revert c; decide

theorem tabs_eq (c : Dev nD) (k) : V m c ((pcfgs (F := F) 0).pre.ref k) = (adm m 0).1 k := by
  obtain rfl := dev_zero c
  match k with
  | ⟨0, _⟩ => rfl

/-- The lengths and the cache on device `c`. -/
abbrev lens (c : Dev nD) : S128.Idx → Elt F .i32 := V m c main_arg5
abbrev cache (c : Dev nD) : S128x4096x656.Idx → Elt F .i8 := V m c main_arg4

/-- The two semaphores of the double buffer. -/
abbrev osem0 : Fin 2 → SemLoc sig := ![SemLoc.dma 11, SemLoc.dma 12]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0) := by
  rw [Pipeline.ownSems0_eq_of_list c osem0 [0, 1] (by decide) (by decide)]; rfl
def H0 : Finset (Ref sig .tc) := {main_arg4}
theorem H0_sub : H0 ⊆ Pipeline.restRefsP sig pre0 spec0 := by decide
theorem cachePts_eq (c : Dev nD) :
    (bigSep H0 (fun b => ((c : Thread nD τ).loc b) ↦{fullShare} V m c b) : sProp 𝕄) = iprop(cacheLoc c ↦{fullShare} cache m c) := by
  rw [BI.bigSep_eq_bigSepL_of_eq [main_arg4] (by decide) (by decide)]; rfl
theorem PhiD_eq (c : Dev nD) :
    (Pipeline.ΦD osem0 spec0 H0 (V m) c : sProp 𝕄)
      = iprop(iprop((∃ f : S2x4096x656.Idx → Elt F .i8, kvLoc c ↦{fullShare} f)
              ∗ (∃ f : S8x16x512.Idx → Elt F .f32, (Memref.whole cc0_scratch1).view.loc (c : Thread nD τ) ↦{fullShare} f)
              ∗ (∃ f : Buf (Elt F) ((c : Thread nD τ).loc cc0_scratch2), ((c : Thread nD τ).loc cc0_scratch2) ↦{fullShare} f)
              ∗ (∃ f : S8x8x512.Idx → Elt F .f32, (Memref.whole cc0_scratch3).view.loc (c : Thread nD τ) ↦{fullShare} f)
              ∗ (∃ f : S16x512.Idx → Elt F .f32, (Memref.whole cc0_scratch4).view.loc (c : Thread nD τ) ↦{fullShare} f))
          ∗ (∃ r, prngReg c r)
          ∗ iprop(semVal ((c : Thread nD τ), SemLoc.dma 11) 0 ∗ semVal ((c : Thread nD τ), SemLoc.dma 12) 0)
          ∗ (cacheLoc c ↦{fullShare} cache m c)) := by
  rw [Pipeline.ΦD_eq, scopedRest0_eq, ownSems00_eq, cachePts_eq]; rfl
theorem PhiT_eq (c : Dev nD) :
    (Pipeline.ΦT pre0 (adm m 0).1 c : sProp 𝕄) = iprop(tabLoc c ↦{fullShare.right} lens m c) := by
  obtain rfl := dev_zero c
  unfold Pipeline.ΦT Pipeline.prefHeld
  rw [bigSep_univ_eq_bigSepL [(0 : Fin 1)] (by decide) (by decide)]; rfl

/-! ## Between points -/

/-- What the region holds before point `b`, beside its windows. -/
def between (c : Dev nD) (b : ℕ) : sProp 𝕄 :=
  iprop((tabLoc c ↦{fullShare.right} lens m c) ∗ slots c (cache m c) (lens m c) b ∗ work c
    ∗ (∃ f : Buf (Elt F) ((c : Thread nD τ).loc cc0_scratch2), ((c : Thread nD τ).loc cc0_scratch2) ↦{fullShare} f) ∗ (∃ r, prngReg c r))

theorem idle_zero (c : Dev nD) (fc : S128x4096x656.Idx → Elt F .i8) :
    (idleP c fc 0 : sProp 𝕄) = iprop((∃ f, kvLoc c ↦[slotSet 0]{fullShare} f) ∗ (cacheLoc c ↦{fullShare.left} fc) ∗ semVal ((c : Thread nD τ), .dma 11) 0) := by
  unfold idleP idle; rfl
theorem idle_one (c : Dev nD) (fc : S128x4096x656.Idx → Elt F .i8) :
    (idleP c fc 1 : sProp 𝕄) = iprop((∃ f, kvLoc c ↦[slotSet 1]{fullShare} f) ∗ (cacheLoc c ↦{fullShare.right} fc) ∗ semVal ((c : Thread nD τ), .dma 12) 0) := by
  unfold idleP idle; rfl
theorem slots_first (c : Dev nD) (fc : S128x4096x656.Idx → Elt F .i8) (ft : S128.Idx → Elt F .i32) :
    (slots c fc ft 0 : sProp 𝕄) = iprop(idleP c fc 0 ∗ idleP c fc 1) := by
  unfold slots front; rw [dif_neg (by omega)]
theorem slots_last (c : Dev nD) (fc : S128x4096x656.Idx → Elt F .i8) (ft : S128.Idx → Elt F .i32) :
    (slots c fc ft 128 : sProp 𝕄) = iprop(idleP c fc 0 ∗ idleP c fc 1) := by
  unfold slots front; rw [dif_neg (by omega), idleP_congr c fc (b := 128) (b' := 0) rfl, idleP_congr c fc (b := 128 + 1) (b' := 1) rfl]

theorem between_in (c : Dev nD) : iprop(Pipeline.ΦD osem0 spec0 H0 (V m) c ∗ Pipeline.ΦT pre0 (adm m 0).1 c) ⊢ (between m c 0 : sProp 𝕄) := by
  rw [PhiD_eq, PhiT_eq]
  unfold between work
  rw [slots_first, idle_zero, idle_one]
  iintro ⟨⟨⟨⟨%f0, H0⟩, H1, H2, H3, H4⟩, Hr, ⟨Hs1, Hs2⟩, Hc⟩, HT⟩
  ihave Hk := (kv_split c f0) $$ H0
  icases Hk with ⟨Ha, Hb⟩
  ihave Hc := (pointsTo_share (PosShare.mem_left_op_right fullShare)).1 $$ Hc
  icases Hc with ⟨Hc1, Hc2⟩
  isplitl [HT]; · iexact HT
  isplitl [Ha Hb Hc1 Hc2 Hs1 Hs2]
  · isplitl [Ha Hc1 Hs1]
    · isplitl [Ha]
      · iexists f0; iexact Ha
      isplitl [Hc1] <;> iassumption
    · isplitl [Hb]
      · iexists f0; iexact Hb
      isplitl [Hc2] <;> iassumption
  isplitl [H1 H3 H4]
  · isplitl [H1]; · iexact H1
    isplitl [H3] <;> iassumption
  isplitl [H2] <;> iassumption

theorem between_out (c : Dev nD) : (between m c 128 : sProp 𝕄) ⊢ Pipeline.ΦD osem0 spec0 H0 (V m) c := by
  rw [PhiD_eq]
  unfold between work
  rw [slots_last, idle_zero, idle_one]
  iintro ⟨-, ⟨⟨⟨%f0, Ha⟩, Hc1, Hs1⟩, ⟨⟨%f1, Hb⟩, Hc2, Hs2⟩⟩, ⟨H1, H3, H4⟩, H2, Hr⟩
  ihave Hk := (kv_join c f0 f1) $$ [Ha Hb]
  · isplitl [Ha] <;> iassumption
  ihave Hc := (pointsTo_share (PosShare.mem_left_op_right fullShare)).2 $$ [Hc1 Hc2]
  · isplitl [Hc1] <;> iassumption
  isplitl [Hk H1 H2 H3 H4]
  · isplitl [Hk]; · iexact Hk
    isplitl [H1]; · iexact H1
    isplitl [H2]; · iexact H2
    isplitl [H3] <;> iassumption
  isplitl [Hr]; · iexact Hr
  isplitl [Hs1 Hs2]
  · isplitl [Hs1] <;> iassumption
  iexact Hc

/-! ## What a point leaves -/

/-- A window's block at a point, of the array as the pipeline finds it. -/
def iblk (c : Dev nD) (w : Fin 6) (t : Fin (cfgK m).N) : (((cfgK m).win w).xblock ((cfgK m).grid.coords t)).Idx → Elt F ((cfgK m).win w).elt :=
  (((cfgK m).win w).blk t).view.read (Elt F) (V m c (Pipeline.arrRef spec0 w))

abbrev arg0Blk (c : Dev nD) (t : Fin (cfgK m).N) : S1x1x16x512.Idx → Elt F .bf16 := iblk m c 0 t
abbrev ropeBlk (c : Dev nD) (t : Fin (cfgK m).N) : S1x1x16x256.Idx → Elt F .bf16 := iblk m c 1 t
abbrev newBlk (c : Dev nD) (t : Fin (cfgK m).N) : S1x1x512.Idx → Elt F .bf16 := iblk m c 2 t
abbrev newRopeBlk (c : Dev nD) (t : Fin (cfgK m).N) : S1x1x256.Idx → Elt F .bf16 := iblk m c 3 t
abbrev weightBlk (c : Dev nD) (t : Fin (cfgK m).N) : S16x256.Idx → Elt F .bf16 := iblk m c 4 t

/-- The output block at point `t`: the body's value at some contents of the double buffer holding request `t`. -/
def leaves (c : Dev nD) (t : Fin (cfgK m).N) (X : S1x1x16x512.Idx → Elt F .bf16) : Prop :=
  ∃ (hb : t.val < 128) (f : S2x4096x656.Idx → Elt F .i8), Holds (cache m c) (lens m c) t.val hb f
    ∧ X = outVal (lenAt (lens m c) t.val) (t.val % 2) (arg0Blk m c t) (ropeBlk m c t) (newBlk m c t) (newRopeBlk m c t) (weightBlk m c t) f

def rdat (c : Dev nD) : RDat τ (Elt F) Unit ℕ (Pipeline.UD sig nD τ) ℕ (cfgK m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => leaves m c t X
    | ⟨_ + 6, h⟩ => absurd h (Nat.not_lt.2 (Nat.le_add_left _ _))
  Φ t := between m c t.val
  q _ := fullShare
  owed _ := 0

theorem coord_val (t : Fin (cfgK m).N) : ((cfgK m).grid.coords t 0).val = t.val := by
  rw [Pipeline.Grid.coords_val (G := grid0) t 0 (S := 1) (B := 128) (by decide) rfl]
  have : t.val < 128 := lt_of_lt_of_eq t.isLt N_0
  omega

theorem finds0 (c : Dev nD) (t Y) (h : (rdat m c).Finds 0 t Y) : Y = arg0Blk m c t := by
  obtain ⟨d, e⟩ := (rdat m c).finds_in_eq_fetched 0 rfl (fun _ _ _ => rfl) (fun _ _ _ h => h) t Y h
  rw [e]; unfold RDat.fetched RDat.blockOf arg0Blk iblk; rfl
theorem finds1 (c : Dev nD) (t Y) (h : (rdat m c).Finds 1 t Y) : Y = ropeBlk m c t := by
  obtain ⟨d, e⟩ := (rdat m c).finds_in_eq_fetched 1 rfl (fun _ _ _ => rfl) (fun _ _ _ h => h) t Y h
  rw [e]; unfold RDat.fetched RDat.blockOf ropeBlk iblk; rfl
theorem finds2 (c : Dev nD) (t Y) (h : (rdat m c).Finds 2 t Y) : Y = newBlk m c t := by
  obtain ⟨d, e⟩ := (rdat m c).finds_in_eq_fetched 2 rfl (fun _ _ _ => rfl) (fun _ _ _ h => h) t Y h
  rw [e]; unfold RDat.fetched RDat.blockOf newBlk iblk; rfl
theorem finds3 (c : Dev nD) (t Y) (h : (rdat m c).Finds 3 t Y) : Y = newRopeBlk m c t := by
  obtain ⟨d, e⟩ := (rdat m c).finds_in_eq_fetched 3 rfl (fun _ _ _ => rfl) (fun _ _ _ h => h) t Y h
  rw [e]; unfold RDat.fetched RDat.blockOf newRopeBlk iblk; rfl
theorem finds4 (c : Dev nD) (t Y) (h : (rdat m c).Finds 4 t Y) : Y = weightBlk m c t := by
  obtain ⟨d, e⟩ := (rdat m c).finds_in_eq_fetched 4 rfl (fun _ _ _ => rfl) (fun _ _ _ h => h) t Y h
  rw [e]; unfold RDat.fetched RDat.blockOf weightBlk iblk; rfl

section

variable (c : Dev nD) (q : PosShare TreeShare) (𝒱 : Variants) (bd : Option 𝒱.V)
variable (fc : S128x4096x656.Idx → Elt F .i8) (ft : S128.Idx → Elt F .i32)
variable (i : grid0.Coords) (harg1 : (Memref.whole main_arg5).IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (harg10 : (Memref.whole cc0_scratch1).IsWhole)
  (harg11 : (Memref.whole cc0_scratch2).IsWhole) (harg12 : (Memref.whole cc0_scratch3).IsWhole) (harg13 : (Memref.whole cc0_scratch4).IsWhole)
variable (hl : ∀ b, lenN ft b ≤ 4096)

set_option maxHeartbeats 1000000 in
include hl in
/-- The body at a point whose number is `n`. -/
theorem body_at {n : ℕ} (e : (i 0).val = n) (hb : n < 128) (X2 : S1x1x16x512.Idx → Elt F .bf16) (X3 : S1x1x16x256.Idx → Elt F .bf16) (X4 : S1x1x512.Idx → Elt F .bf16) (X5 : S1x1x256.Idx → Elt F .bf16)
    (X6 : S16x256.Idx → Elt F .bf16) (X8 : S1x1x16x512.Idx → Elt F .bf16) :
    iprop((tabLoc c ↦{q} ft) ∗ slots c fc ft n ∗ work c ∗ (∃ W, owes (c : Thread nD τ) 0 W)
        ∗ owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg8 fullShare X8)
      ⊢ wp frame (wpE (defs₀ (F := F)) 𝒱 (c : Thread nD τ) bd) Set.univ (cc0_mla_decode (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5)
        (fun _ => (iprop((tabLoc c ↦{q} ft) ∗ slots c fc ft (n + 1) ∗ work c ∗ (∃ W, owes (c : Thread nD τ) 0 W)
        ∗ owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6
        ∗ (∃ f, ⌜Holds fc ft n hb f⌝ ∗ owns (c : Thread nD τ) arg8 fullShare (outVal (lenAt ft n) (n % 2) X2 X3 X4 X5 X6 f))) : sProp 𝕄)) := by
  subst e
  exact body_run c q 𝒱 bd fc ft i harg1 arg2 harg2 arg3 harg3 arg4 harg4 arg5 harg5 arg6 harg6 harg7 arg8 harg8 harg9 harg10 harg11 harg12 harg13 hl hb X2 X3 X4 X5 X6 X8

end

/-- A step leaves alone what it does not take. -/
theorem wp_rest (c : Dev nD) (𝒱 : Variants) (bd : Option 𝒱.V) {α : Type} {p : Prog (TpuEff nD τ sig (Elt F) Λ₀ .tc) α} {P : sProp 𝕄} {Q : α → sProp 𝕄}
    (h : P ⊢ wp frame (wpE (defs₀ (F := F)) 𝒱 (c : Thread nD τ) bd) Set.univ p Q) (R : sProp 𝕄) :
    iprop(P ∗ R) ⊢ wp frame (wpE (defs₀ (F := F)) 𝒱 (c : Thread nD τ) bd) Set.univ p (fun a => iprop(Q a ∗ R)) := by
  iintro ⟨H, HR⟩
  iapply (wp_frame_r frame (wpE (defs₀ (F := F)) 𝒱 (c : Thread nD τ) bd) Set.univ)
  isplitl [H]
  · iapply h $$ H
  · iexact HR

theorem defs₀_row (t) (s) :
    defs₀ (F := F) .tc 0 (t, s) = cc0_mla_decode (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole main_arg4) (Memref.isWhole_whole _) (spec0_5.stage (s 5)) (hstage0_5 ((s 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 := by
  unfold defs₀; rw [Defs.onTc_tc]

set_option maxHeartbeats 2000000 in
theorem body_obligation (c : Dev nD) (hl : ∀ b, lenN (lens m c) b ≤ 4096) :
    (rdat m c).BodyObligation (defs₀ (F := F)) Variants.none () Set.univ := by
  intro t Y hY
  have hb : t.val < 128 := lt_of_lt_of_eq t.isLt N_0
  rw [bigSep_W0, bigSep_W0]
  have h0 := finds0 m c t (Y 0) (hY 0)
  have h1 := finds1 m c t (Y 1) (hY 1)
  have h2 := finds2 m c t (Y 2) (hY 2)
  have h3 := finds3 m c t (Y 3) (hY 3)
  have h4 := finds4 m c t (Y 4) (hY 4)
  let s := (cfgK m).slots t
  have B := body_at c fullShare.right Variants.none none (cache m c) (lens m c) (grid0.coords t) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.isWhole_whole _) (spec0_5.stage (s 5)) (hstage0_5 ((s 5).cast nbuf0_5)) (Memref.isWhole_whole _) (Memref.isWhole_whole _) (Memref.isWhole_whole _) (Memref.isWhole_whole _) (Memref.isWhole_whole _) hl (coord_val m t) hb (Y 0) (Y 1) (Y 2) (Y 3) (Y 4) (Y 5)
  rw [← defs₀_row t s] at B
  refine triple_restated (wp_rest c Variants.none none B iprop((∃ f : Buf (Elt F) ((c : Thread nD τ).loc cc0_scratch2), ((c : Thread nD τ).loc cc0_scratch2) ↦{fullShare} f) ∗ (∃ r, prngReg c r))) rfl ?_ fun _ => ?_
  · show iprop(between m c t.val ∗ (rdat m c).owesAt () t.castSucc ∗ _) ⊢ _
    unfold between RDat.owesAt Pipeline.owesWithin
    iintro ⟨⟨HT, HS, HW, H2, Hr⟩, ⟨%W, -, HO⟩, X0, X1, X2, X3, X4, X5⟩
    isplitr [H2 Hr]
    · isplitl [HT]; · iexact HT
      isplitl [HS]; · iexact HS
      isplitl [HW]; · iexact HW
      isplitl [HO]
      · iexists W; iexact HO
      isplitl [X0]; · iexact X0
      isplitl [X1]; · iexact X1
      isplitl [X2]; · iexact X2
      isplitl [X3]; · iexact X3
      isplitl [X4] <;> iassumption
    · isplitl [H2] <;> iassumption
  · show _ ⊢ iprop(between m c (t.val + 1) ∗ (rdat m c).owesAt () t.succ ∗ _)
    unfold between RDat.owesAt Pipeline.owesWithin
    iintro ⟨⟨HT, HS, HW, ⟨%W', HO⟩, X0, X1, X2, X3, X4, ⟨%f, %hf, X5⟩⟩, H2, Hr⟩
    isplitl [HT HS HW H2 Hr]
    · isplitl [HT]; · iexact HT
      isplitl [HS]; · iexact HS
      isplitl [HW]; · iexact HW
      isplitl [H2] <;> iassumption
    isplitl [HO]
    · iexists W'
      isplitr
      · ipureintro; exact fun _ _ => Or.inl trivial
      · iexact HO
    isplitl [X0]
    · iexists (Y 0); isplitr
      · ipureintro; exact rfl
      · iexact X0
    isplitl [X1]
    · iexists (Y 1); isplitr
      · ipureintro; exact rfl
      · iexact X1
    isplitl [X2]
    · iexists (Y 2); isplitr
      · ipureintro; exact rfl
      · iexact X2
    isplitl [X3]
    · iexists (Y 3); isplitr
      · ipureintro; exact rfl
      · iexact X3
    isplitl [X4]
    · iexists (Y 4); isplitr
      · ipureintro; exact rfl
      · iexact X4
    iexists (outVal (lenAt (lens m c) t.val) (t.val % 2) (Y 0) (Y 1) (Y 2) (Y 3) (Y 4) f)
    isplitr
    · ipureintro
      exact ⟨hb, f, hf, by rw [h0, h1, h2, h3, h4]⟩
    · iexact X5

set_option backward.isDefEq.respectTransparency.types false in
theorem run_main (hl : ∀ c b, lenN (lens m c) b ≤ 4096) :
    θ_run defs (onTc (τ := τ) (main (F := F))) (s₀ m ρ) (fun r => RDat.FramePost (cfgK m) (rdat m) (V m) r ∧ r.2.sem = fun _ => 0) :=
  Pipeline.RDat.θ_run_frameP_dma (Q' := _) pcfgs (adm m) (0 : Fin 1) launch0 osem0 defs₀ Variants.none (rdat m) ownSemFacts0 H0 H0_sub m ρ main
    (hbody := fun c => body_obligation m c (hl c)) (hshare := fun c => (rdat m c).share_full fun _ => rfl)
    (howed := fun _ _ => rfl) (V := V m) (hmain := hmain m Variants.none) (hA := fun _ _ => rfl) (hpf := tabs_eq m)
    (hin := fun c => between_in m c) (hout := fun c => between_out m c) (hQ' := fun _ h => h)

theorem frame (hl : ∀ c b, lenN (lens m c) b ≤ 4096) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, h.2⟩) (run_main m ρ hl)
  have hA := (h.1 c).1
  have hR := (h.1 c).2
  have r1 : main_arg1 ∈ Pipeline.restRefs sig spec0 := Pipeline.mem_restRefs_of main_arg1 (by decide) (by decide)
  have r3 : main_arg3 ∈ Pipeline.restRefs sig spec0 := Pipeline.mem_restRefs_of main_arg3 (by decide) (by decide)
  have r4 : main_arg4 ∈ Pipeline.restRefs sig spec0 := Pipeline.mem_restRefs_of main_arg4 (by decide) (by decide)
  have r5 : main_arg5 ∈ Pipeline.restRefs sig spec0 := Pipeline.mem_restRefs_of main_arg5 (by decide) (by decide)
  have a0 := hA 0
  rw [(rdat m c).ArrAt_in 0 rfl] at a0
  have a2 := hA 2
  rw [(rdat m c).ArrAt_in 2 rfl] at a2
  exact ⟨a0.trans (V_main_arg0 m c), (hR main_arg1 r1).trans (V_main_arg1 m c), a2.trans (V_main_arg2 m c),
    (hR main_arg3 r3).trans (V_main_arg3 m c),
    (hR main_arg4 r4).trans (V_main_arg4 m c),
    (hR main_arg5 r5).trans (V_main_arg5 m c)⟩

end Cert.Kernel

end
-- ==== Proof.KernelIdeal.Words.lean ====
/-
  The counted words of the kernel: how many pieces of 256 rows and how many chunks of 512 rows a request of a given
  length has, the offsets every loop computes from its trip, and the body's side conditions, for a length of at most 4096.
-/
module

public import proofs.«01_k».proof.Defs
public import proofs.«01_k».proof.Proof.Gen.KernelIdeal
public import proofs.«01_k».proof.Proof.Gen.KernelIdeal.Skeleton
public import Idealize.ShloMosaic.Lib.WordArith

@[expose] public section

noncomputable section

namespace Cert.KernelIdeal

open Idealize.ShloMosaic TcCoe

/-- Pieces of 256 rows, and chunks of 512 rows, of a request of `n` rows. -/
def pieces (n : ℕ) : ℕ := (n + 255) / 256
def chunks (n : ℕ) : ℕ := (n + 511) / 512

theorem pieces_le {n : ℕ} (h : n ≤ 4096) : pieces n ≤ 16 := by unfold pieces; omega
theorem chunks_le {n : ℕ} (h : n ≤ 4096) : chunks n ≤ 8 := by unfold chunks; omega

theorem up_norm (w : BitVec 32) : Scalar.addi 0#32 (Scalar.muli (Scalar.divsi (Scalar.subi w 0#32) 1#32) 1#32) = w := by
  have h : Scalar.divsi (Scalar.subi w 0#32) 1#32 = Scalar.subi w 0#32 := WordArith.divsi_one _ _
  rw [h]
  show 0#32 + (w - 0#32) * 1#32 = w
  simp

theorem up_plain (w : BitVec 32) : Scalar.addi 0#32 (Scalar.subi w 0#32) = w := by
  show 0#32 + (w - 0#32) = w
  simp

theorem shr8 (w : BitVec 32) (h : w.toNat ≤ 4096) :
    (Scalar.shrui (Scalar.subi (Scalar.addi w 256#32) 1#32) 8#32).toNat = pieces w.toNat := by
  have h1 : Scalar.shrui (Scalar.subi (Scalar.addi w 256#32) 1#32) 8#32 = (w + 256#32 - 1#32) >>> 8#32 := by
    unfold Scalar.shrui IntOp.shrui
    rw [if_pos (by decide)]; rfl
  rw [h1]
  have h2 : (w + 256#32 - 1#32).toNat = w.toNat + 255 := by
    rw [BitVec.toNat_sub, BitVec.toNat_add]; simp; omega
  show ((w + 256#32 - 1#32) >>> 8).toNat = _
  rw [BitVec.toNat_ushiftRight, h2, Nat.shiftRight_eq_div_pow]; rfl

theorem shr9 (w : BitVec 32) (h : w.toNat ≤ 4096) :
    (Scalar.shrui (Scalar.subi (Scalar.addi w 512#32) 1#32) 9#32).toNat = chunks w.toNat := by
  have h1 : Scalar.shrui (Scalar.subi (Scalar.addi w 512#32) 1#32) 9#32 = (w + 512#32 - 1#32) >>> 9#32 := by
    unfold Scalar.shrui IntOp.shrui
    rw [if_pos (by decide)]; rfl
  rw [h1]
  have h2 : (w + 512#32 - 1#32).toNat = w.toNat + 511 := by
    rw [BitVec.toNat_sub, BitVec.toNat_add]; simp; omega
  show ((w + 512#32 - 1#32) >>> 9).toNat = _
  rw [BitVec.toNat_ushiftRight, h2, Nat.shiftRight_eq_div_pow]; rfl

theorem trips_up (w : BitVec 32) (h : w.toNat < 2 ^ 20) : Scf.trips 0#32 w 1#32 = w.toNat := by
  have h1 : w.toInt = w.toNat := BitVec.toInt_eq_toNat_of_lt (by omega)
  simp [Scf.trips, h1]

theorem ok_up (w : BitVec 32) (h : w.toNat < 2 ^ 20) : Scf.OK 0#32 w 1#32 := by
  refine ⟨by decide, ?_⟩
  rw [trips_up w h]
  simp; omega

theorem trips_none (w : BitVec 32) : Scf.trips w w 1#32 = 0 := by simp [Scf.trips]

theorem ok_none (w : BitVec 32) (h : w.toNat < 2 ^ 20) : Scf.OK w w 1#32 := by
  refine ⟨by decide, ?_⟩
  rw [trips_none]
  have h1 : w.toInt = w.toNat := BitVec.toInt_eq_toNat_of_lt (by omega)
  simp [h1]; omega

section Loops

variable (w : BitVec 32) (h : w.toNat ≤ 4096)
include h

theorem pw_lt : (Scalar.shrui (Scalar.subi (Scalar.addi w 256#32) 1#32) 8#32).toNat < 2 ^ 20 := by
  rw [shr8 w h]; have := pieces_le h; omega
theorem cw_lt : (Scalar.shrui (Scalar.subi (Scalar.addi w 512#32) 1#32) 9#32).toNat < 2 ^ 20 := by
  rw [shr9 w h]; have := chunks_le h; omega

theorem t1_trips : (k0_t1_loop w).trips = pieces w.toNat := by
  simp only [k0_t1_loop, Scf.Loop.trips, up_norm]; rw [trips_up _ (pw_lt w h), shr8 w h]
theorem t3_trips : (k0_t3_loop w).trips = pieces w.toNat := by
  simp only [k0_t3_loop, Scf.Loop.trips, up_norm]; rw [trips_up _ (pw_lt w h), shr8 w h]
theorem t5_trips : (k0_t5_loop w).trips = pieces w.toNat := by
  simp only [k0_t5_loop, Scf.Loop.trips, up_norm]; rw [trips_up _ (pw_lt w h), shr8 w h]
theorem t7_trips : (k0_t7_loop w).trips = chunks w.toNat := by
  simp only [k0_t7_loop, Scf.Loop.trips, up_norm]; rw [trips_up _ (cw_lt w h), shr9 w h]
theorem t9_trips : (k0_t9_loop w).trips = chunks w.toNat := by
  simp only [k0_t9_loop, Scf.Loop.trips, up_norm]; rw [trips_up _ (cw_lt w h), shr9 w h]
theorem t11_trips : (k0_t11_loop w).trips = chunks w.toNat := by
  simp only [k0_t11_loop, Scf.Loop.trips, up_norm]; rw [trips_up _ (cw_lt w h), shr9 w h]
omit h in theorem t2_trips : (k0_t2_loop w).trips = 0 := by
  simp only [k0_t2_loop, Scf.Loop.trips, up_norm, up_plain]; exact trips_none _
omit h in theorem t4_trips : (k0_t4_loop w).trips = 0 := by
  simp only [k0_t4_loop, Scf.Loop.trips, up_norm, up_plain]; exact trips_none _
omit h in theorem t6_trips : (k0_t6_loop w).trips = 0 := by
  simp only [k0_t6_loop, Scf.Loop.trips, up_norm, up_plain]; exact trips_none _
omit h in theorem t8_trips : (k0_t8_loop w).trips = 0 := by
  simp only [k0_t8_loop, Scf.Loop.trips, up_norm, up_plain]; exact trips_none _
omit h in theorem t10_trips : (k0_t10_loop w).trips = 0 := by
  simp only [k0_t10_loop, Scf.Loop.trips, up_norm, up_plain]; exact trips_none _
omit h in theorem t12_trips : (k0_t12_loop w).trips = 0 := by
  simp only [k0_t12_loop, Scf.Loop.trips, up_norm, up_plain]; exact trips_none _

theorem t1_ok : (k0_t1_loop w).OK := by
  simp only [k0_t1_loop, Scf.Loop.OK, up_norm]; exact ok_up _ (pw_lt w h)
theorem t3_ok : (k0_t3_loop w).OK := by
  simp only [k0_t3_loop, Scf.Loop.OK, up_norm]; exact ok_up _ (pw_lt w h)
theorem t5_ok : (k0_t5_loop w).OK := by
  simp only [k0_t5_loop, Scf.Loop.OK, up_norm]; exact ok_up _ (pw_lt w h)
theorem t7_ok : (k0_t7_loop w).OK := by
  simp only [k0_t7_loop, Scf.Loop.OK, up_norm]; exact ok_up _ (cw_lt w h)
theorem t9_ok : (k0_t9_loop w).OK := by
  simp only [k0_t9_loop, Scf.Loop.OK, up_norm]; exact ok_up _ (cw_lt w h)
theorem t11_ok : (k0_t11_loop w).OK := by
  simp only [k0_t11_loop, Scf.Loop.OK, up_norm]; exact ok_up _ (cw_lt w h)
theorem t2_ok : (k0_t2_loop w).OK := by
  simp only [k0_t2_loop, Scf.Loop.OK, up_norm, up_plain]; exact ok_none _ (pw_lt w h)
theorem t4_ok : (k0_t4_loop w).OK := by
  simp only [k0_t4_loop, Scf.Loop.OK, up_norm, up_plain]; exact ok_none _ (pw_lt w h)
theorem t6_ok : (k0_t6_loop w).OK := by
  simp only [k0_t6_loop, Scf.Loop.OK, up_norm, up_plain]; exact ok_none _ (pw_lt w h)
theorem t8_ok : (k0_t8_loop w).OK := by
  simp only [k0_t8_loop, Scf.Loop.OK, up_norm, up_plain]; exact ok_none _ (cw_lt w h)
theorem t10_ok : (k0_t10_loop w).OK := by
  simp only [k0_t10_loop, Scf.Loop.OK, up_norm, up_plain]; exact ok_none _ (cw_lt w h)
theorem t12_ok : (k0_t12_loop w).OK := by
  simp only [k0_t12_loop, Scf.Loop.OK, up_norm, up_plain]; exact ok_none _ (cw_lt w h)

end Loops

/-! ## Offsets -/

/-- A trip's number times a small constant, as the register computes it. -/
theorem iv_mul (k c : ℕ) (hk : k ≤ 64) (hc : c ≤ 4096) :
    (Scalar.muli (Scf.iv 0#32 1#32 k) (BitVec.ofNat 32 c)).toNat = c * k := by
  have h1 : Scf.iv 0#32 1#32 k = BitVec.ofNat 32 k := by unfold Scf.iv; simp
  rw [h1]
  show (BitVec.ofNat 32 k * BitVec.ofNat 32 c).toNat = _
  rw [BitVec.toNat_mul, BitVec.toNat_ofNat, BitVec.toNat_ofNat, Nat.mod_eq_of_lt (a := k) (by omega), Nat.mod_eq_of_lt (a := c) (by omega),
    Nat.mul_comm]
  exact Nat.mod_eq_of_lt (lt_of_le_of_lt (Nat.mul_le_mul hc hk) (by norm_num))

theorem iv_id (k : ℕ) (hk : k ≤ 64) : (Scalar.indexCast (Scf.iv 0#32 1#32 k)).toNat = k := by
  have h1 : Scf.iv 0#32 1#32 k = BitVec.ofNat 32 k := by unfold Scf.iv; simp
  rw [h1]
  show (BitVec.ofNat 32 k).toNat = _
  rw [BitVec.toNat_ofNat]; omega

section Grid
variable (i : grid0.Coords)

theorem point_lt : (i 0).val < 128 := (i 0).isLt
theorem point_word : (BitVec.ofNat 32 (i 0).val).toNat = (i 0).val := by
  have := point_lt i; rw [BitVec.toNat_ofNat]; omega
theorem slot_word : (Scalar.andi (BitVec.ofNat 32 (i 0).val) 1#32).toNat = (i 0).val % 2 := by
  show (BitVec.ofNat 32 (i 0).val &&& 1#32).toNat = _
  rw [BitVec.toNat_and, point_word]; exact Nat.and_one_is_mod _
theorem other_word : (Scalar.subi 1#32 (Scalar.andi (BitVec.ofNat 32 (i 0).val) 1#32)).toNat = ((i 0).val + 1) % 2 := by
  show (1#32 - Scalar.andi (BitVec.ofNat 32 (i 0).val) 1#32).toNat = _
  rw [BitVec.toNat_sub, slot_word]; simp; omega
theorem next_word : (Scalar.addi (BitVec.ofNat 32 (i 0).val) 1#32).toNat = (i 0).val + 1 := by
  have := point_lt i
  show (BitVec.ofNat 32 (i 0).val + 1#32).toNat = _
  rw [BitVec.toNat_add, point_word]; simp; omega

theorem cond1_iff : k0_cond1 i = 1#1 ↔ (i 0).val = 0 := by
  have : ∀ x : Fin 128, (Scalar.cmpi .ne (Scalar.extui (Scalar.cmpi .eq (BitVec.ofNat 32 x.val) 0#32) : BitVec 32) 0#32 = 1#1) ↔ x.val = 0 := by decide
  exact this (i 0)
theorem cond2_iff : k0_cond2 i = 1#1 ↔ (i 0).val + 1 < 128 := by
  have : ∀ x : Fin 128, (Scalar.cmpi .ne (Scalar.extui (Scalar.cmpi .slt (Scalar.addi (BitVec.ofNat 32 x.val) 1#32) 128#32) : BitVec 32) 0#32 = 1#1) ↔ x.val + 1 < 128 := by decide
  exact this (i 0)

theorem off5_eq : k0_off5 i = ![(i 0).val + 1] := by
  show ![(Scalar.addi (BitVec.ofNat 32 (i 0).val) 1#32).toNat] = _; rw [next_word]
theorem off12_eq : k0_off12 i = ![(i 0).val] := by
  show ![(BitVec.ofNat 32 (i 0).val).toNat] = _; rw [point_word]
theorem off19_eq : k0_off19 i = ![(i 0).val] := by
  show ![(BitVec.ofNat 32 (i 0).val).toNat] = _; rw [point_word]
theorem off6_eq : k0_off6 i = ![((i 0).val + 1) % 2] := by
  simp only [k0_off6]; rw [other_word]
theorem off13_eq : k0_off13 i = ![(i 0).val % 2] := by
  simp only [k0_off13]; rw [slot_word]

variable (w : BitVec 32) (h : w.toNat ≤ 4096)
include h

theorem off1_eq (k : Fin (k0_t1_loop w).trips) : k0_off1 w k = ![0, 256 * k.val, 0] := by
  have hk : k.val < pieces w.toNat := lt_of_lt_of_eq k.isLt (t1_trips w h)
  have hn := pieces_le h
  show ![0, (Scalar.muli (Scf.iv 0#32 1#32 k.val) 256#32).toNat, 0] = _
  rw [iv_mul _ 256 (by omega) (by omega)]
theorem off2_eq (k : Fin (k0_t1_loop w).trips) : k0_off2 w k = ![0, 256 * k.val, 0] := by
  have hk : k.val < pieces w.toNat := lt_of_lt_of_eq k.isLt (t1_trips w h)
  have hn := pieces_le h
  show ![0, (Scalar.muli (Scf.iv 0#32 1#32 k.val) 256#32).toNat, 0] = _
  rw [iv_mul _ 256 (by omega) (by omega)]
theorem off7_eq (k : Fin (k0_t3_loop w).trips) : k0_off7 i w k = ![((i 0).val + 1) % 2, 256 * k.val, 0] := by
  have hk : k.val < pieces w.toNat := lt_of_lt_of_eq k.isLt (t3_trips w h)
  have hn := pieces_le h
  show ![(Scalar.subi 1#32 (Scalar.andi (BitVec.ofNat 32 (i 0).val) 1#32)).toNat, (Scalar.muli (Scf.iv 0#32 1#32 k.val) 256#32).toNat, 0] = _
  rw [other_word, iv_mul _ 256 (by omega) (by omega)]
theorem off8_eq (k : Fin (k0_t3_loop w).trips) : k0_off8 i w k = ![(i 0).val + 1, 256 * k.val, 0] := by
  have hk : k.val < pieces w.toNat := lt_of_lt_of_eq k.isLt (t3_trips w h)
  have hn := pieces_le h
  show ![(Scalar.addi (BitVec.ofNat 32 (i 0).val) 1#32).toNat, (Scalar.muli (Scf.iv 0#32 1#32 k.val) 256#32).toNat, 0] = _
  rw [next_word, iv_mul _ 256 (by omega) (by omega)]
theorem off14_eq (k : Fin (k0_t5_loop w).trips) : k0_off14 i w k = ![(i 0).val % 2, 256 * k.val, 0] := by
  have hk : k.val < pieces w.toNat := lt_of_lt_of_eq k.isLt (t5_trips w h)
  have hn := pieces_le h
  show ![(Scalar.andi (BitVec.ofNat 32 (i 0).val) 1#32).toNat, (Scalar.muli (Scf.iv 0#32 1#32 k.val) 256#32).toNat, 0] = _
  rw [slot_word, iv_mul _ 256 (by omega) (by omega)]
theorem off15_eq (k : Fin (k0_t5_loop w).trips) : k0_off15 i w k = ![(i 0).val, 256 * k.val, 0] := by
  have hk : k.val < pieces w.toNat := lt_of_lt_of_eq k.isLt (t5_trips w h)
  have hn := pieces_le h
  show ![(BitVec.ofNat 32 (i 0).val).toNat, (Scalar.muli (Scf.iv 0#32 1#32 k.val) 256#32).toNat, 0] = _
  rw [point_word, iv_mul _ 256 (by omega) (by omega)]
theorem off20_eq (k : Fin (k0_t7_loop w).trips) : k0_off20 i w k = ![(i 0).val % 2, 512 * k.val, 512] := by
  have hk : k.val < chunks w.toNat := lt_of_lt_of_eq k.isLt (t7_trips w h)
  have hn := chunks_le h
  show ![(Scalar.andi (BitVec.ofNat 32 (i 0).val) 1#32).toNat, (Scalar.muli (Scf.iv 0#32 1#32 k.val) 512#32).toNat, 512] = _
  rw [slot_word, iv_mul _ 512 (by omega) (by omega)]
theorem off21_eq (k : Fin (k0_t7_loop w).trips) : k0_off21 i w k = ![(i 0).val % 2, 512 * k.val, 640] := by
  have hk : k.val < chunks w.toNat := lt_of_lt_of_eq k.isLt (t7_trips w h)
  have hn := chunks_le h
  show ![(Scalar.andi (BitVec.ofNat 32 (i 0).val) 1#32).toNat, (Scalar.muli (Scf.iv 0#32 1#32 k.val) 512#32).toNat, 640] = _
  rw [slot_word, iv_mul _ 512 (by omega) (by omega)]
theorem off23_eq (k : Fin (k0_t7_loop w).trips) : k0_off23 i w k = ![(i 0).val % 2, 512 * k.val, 0] := by
  have hk : k.val < chunks w.toNat := lt_of_lt_of_eq k.isLt (t7_trips w h)
  have hn := chunks_le h
  show ![(Scalar.andi (BitVec.ofNat 32 (i 0).val) 1#32).toNat, (Scalar.muli (Scf.iv 0#32 1#32 k.val) 512#32).toNat, 0] = _
  rw [slot_word, iv_mul _ 512 (by omega) (by omega)]
theorem off24_eq (k : Fin (k0_t7_loop w).trips) : k0_off24 i w k = ![(i 0).val % 2, 512 * k.val, 256] := by
  have hk : k.val < chunks w.toNat := lt_of_lt_of_eq k.isLt (t7_trips w h)
  have hn := chunks_le h
  show ![(Scalar.andi (BitVec.ofNat 32 (i 0).val) 1#32).toNat, (Scalar.muli (Scf.iv 0#32 1#32 k.val) 512#32).toNat, 256] = _
  rw [slot_word, iv_mul _ 512 (by omega) (by omega)]
theorem off22_eq (k : Fin (k0_t7_loop w).trips) : k0_off22 w k = ![k.val, 0, 0] := by
  have hk : k.val < chunks w.toNat := lt_of_lt_of_eq k.isLt (t7_trips w h)
  have hn := chunks_le h
  show ![(Scalar.indexCast (Scf.iv 0#32 1#32 k.val)).toNat, 0, 0] = _
  rw [iv_id _ (by omega)]
theorem off25_eq (k : Fin (k0_t7_loop w).trips) : k0_off25 w k = ![k.val, 0, 0] := by
  have hk : k.val < chunks w.toNat := lt_of_lt_of_eq k.isLt (t7_trips w h)
  have hn := chunks_le h
  show ![(Scalar.indexCast (Scf.iv 0#32 1#32 k.val)).toNat, 0, 0] = _
  rw [iv_id _ (by omega)]

theorem off32_eq (k : Fin (k0_t9_loop w).trips) : k0_off32 w k = ![k.val, 0, 0] := by
  have hk : k.val < chunks w.toNat := lt_of_lt_of_eq k.isLt (t9_trips w h)
  have hn := chunks_le h
  show ![(Scalar.indexCast (Scf.iv 0#32 1#32 k.val)).toNat, 0, 0] = _
  rw [iv_id _ (by omega)]
theorem off34_eq (k : Fin (k0_t11_loop w).trips) : k0_off34 w k = ![k.val, 0, 0] := by
  have hk : k.val < chunks w.toNat := lt_of_lt_of_eq k.isLt (t11_trips w h)
  have hn := chunks_le h
  show ![(Scalar.indexCast (Scf.iv 0#32 1#32 k.val)).toNat, 0, 0] = _
  rw [iv_id _ (by omega)]
theorem off35_eq (k : Fin (k0_t11_loop w).trips) : k0_off35 w k = ![k.val, 0, 0] := by
  have hk : k.val < chunks w.toNat := lt_of_lt_of_eq k.isLt (t11_trips w h)
  have hn := chunks_le h
  show ![(Scalar.indexCast (Scf.iv 0#32 1#32 k.val)).toNat, 0, 0] = _
  rw [iv_id _ (by omega)]
theorem off36_eq (k : Fin (k0_t11_loop w).trips) : k0_off36 i w k = ![(i 0).val % 2, 512 * k.val, 0] := by
  have hk : k.val < chunks w.toNat := lt_of_lt_of_eq k.isLt (t11_trips w h)
  have hn := chunks_le h
  show ![(Scalar.andi (BitVec.ofNat 32 (i 0).val) 1#32).toNat, (Scalar.muli (Scf.iv 0#32 1#32 k.val) 512#32).toNat, 0] = _
  rw [slot_word, iv_mul _ 512 (by omega) (by omega)]
theorem off37_eq (k : Fin (k0_t11_loop w).trips) : k0_off37 i w k = ![(i 0).val % 2, 512 * k.val, 256] := by
  have hk : k.val < chunks w.toNat := lt_of_lt_of_eq k.isLt (t11_trips w h)
  have hn := chunks_le h
  show ![(Scalar.andi (BitVec.ofNat 32 (i 0).val) 1#32).toNat, (Scalar.muli (Scf.iv 0#32 1#32 k.val) 512#32).toNat, 256] = _
  rw [slot_word, iv_mul _ 512 (by omega) (by omega)]

/-! ## The body's side conditions -/

omit h in
theorem inb3 {o s t : Fin 3 → ℕ} {a b c : ℕ} (ho : o = ![a, b, c]) (h0 : a + s 0 ≤ t 0) (h1 : b + s 1 ≤ t 1) (h2 : c + s 2 ≤ t 2) :
    ∀ x, o x + s x ≤ t x := by
  subst ho; intro x; fin_cases x
  exacts [h0, h1, h2]

omit h in
theorem words_kv {o : Fin 3 → ℕ} {a b : ℕ} (ho : o = ![a, 256 * b, 0]) (hinb : ∀ x, o x + S1x256x656.size x ≤ S2x4096x656.size x) :
    (Rect.unit (s := S2x4096x656) o S1x256x656.size hinb).WholeWords (EltTy.packing .i8) := by
  subst ho
  have h2 : 2 ≤ S2x4096x656.rank := by decide
  exact Or.inl (Or.inr ⟨h2, rfl, Or.inl ⟨(show 4 ∣ 256 * b by omega), (show 4 ∣ 256 by decide)⟩⟩)

omit h in
theorem words_cache {o : Fin 3 → ℕ} {a b : ℕ} (ho : o = ![a, 256 * b, 0]) (hinb : ∀ x, o x + S1x256x656.size x ≤ S128x4096x656.size x) :
    (Rect.unit (s := S128x4096x656) o S1x256x656.size hinb).WholeWords (EltTy.packing .i8) := by
  subst ho
  have h2 : 2 ≤ S128x4096x656.rank := by decide
  exact Or.inl (Or.inr ⟨h2, rfl, Or.inl ⟨(show 4 ∣ 256 * b by omega), (show 4 ∣ 256 by decide)⟩⟩)

theorem piece_rows {k : ℕ} (hk : k < pieces w.toNat) : 256 * k + 256 ≤ 4096 := by
  have := pieces_le h; omega
theorem chunk_rows {k : ℕ} (hk : k < chunks w.toNat) : 512 * k + 512 ≤ 4096 := by
  have := chunks_le h; omega

omit h in
theorem no_trip {l : Scf.Loop 32} (hl : l.trips = 0) (k : Fin l.trips) : False := absurd k.isLt (by omega)

theorem chk1 : k0_chk1 i w := by
  refine ⟨fun _ => t1_ok w h, ?_, ?_, ?_, ?_, fun _ => t2_ok w h, ?_, ?_, ?_, ?_⟩
  · intro k _
    have hk := piece_rows w h (lt_of_lt_of_eq k.isLt (t1_trips w h))
    exact inb3 (off1_eq w h k) (by decide) hk (by decide)
  · intro k _
    have hk := piece_rows w h (lt_of_lt_of_eq k.isLt (t1_trips w h))
    exact inb3 (off2_eq w h k) (by decide) hk (by decide)
  · intro k _ hi; exact words_cache (off2_eq w h k) hi
  · intro k _ hi; exact words_kv (off1_eq w h k) hi
  all_goals intro k; exact (no_trip (t2_trips w) k).elim

theorem chk2 (hi : (i 0).val + 1 < 128) : k0_chk2 i w := by
  refine ⟨fun _ => t3_ok w h, ?_, ?_, ?_, ?_, fun _ => t4_ok w h, ?_, ?_, ?_, ?_⟩
  · intro k _
    have hk := piece_rows w h (lt_of_lt_of_eq k.isLt (t3_trips w h))
    exact inb3 (off7_eq i w h k) (show (((i 0).val + 1) % 2) + 1 ≤ 2 by omega) hk (by decide)
  · intro k _
    have hk := piece_rows w h (lt_of_lt_of_eq k.isLt (t3_trips w h))
    exact inb3 (off8_eq i w h k) (show (i 0).val + 1 + 1 ≤ 128 by omega) hk (by decide)
  · intro k _ hi; exact words_cache (off8_eq i w h k) hi
  · intro k _ hi; exact words_kv (off7_eq i w h k) hi
  all_goals intro k; exact (no_trip (t4_trips w) k).elim

theorem chk3 : k0_chk3 i w := by
  refine ⟨t5_ok w h, ?_, ?_, ?_, ?_, t6_ok w h, ?_, ?_, ?_, ?_⟩
  · intro k
    have hk := piece_rows w h (lt_of_lt_of_eq k.isLt (t5_trips w h))
    exact inb3 (off14_eq i w h k) (show ((i 0).val % 2) + 1 ≤ 2 by omega) hk (by decide)
  · intro k
    have hk := piece_rows w h (lt_of_lt_of_eq k.isLt (t5_trips w h))
    exact inb3 (off15_eq i w h k) (show (i 0).val + 1 ≤ 128 from point_lt i) hk (by decide)
  · intro k hi; exact words_cache (off15_eq i w h k) hi
  · intro k hi; exact words_kv (off14_eq i w h k) hi
  all_goals intro k; exact (no_trip (t6_trips w) k).elim

theorem dvd_mul (k : ℕ) (hk : k < chunks w.toNat) : 512 ∣ (Scalar.muli (Scf.iv 0#32 1#32 k) 512#32).toNat := by
  have := chunks_le h
  rw [iv_mul k 512 (by omega) (by omega)]; omega

theorem chk4 : k0_chk4 i w := by
  have hs : ((i 0).val % 2) + 1 ≤ 2 := by omega
  have r7 : ∀ k : Fin (k0_t7_loop w).trips, 512 * k.val + 512 ≤ 4096 := fun k => chunk_rows w h (lt_of_lt_of_eq k.isLt (t7_trips w h))
  have r9 : ∀ k : Fin (k0_t9_loop w).trips, k.val + 1 ≤ 8 := fun k => by
    have := chunk_rows w h (lt_of_lt_of_eq k.isLt (t9_trips w h)); omega
  have r11 : ∀ k : Fin (k0_t11_loop w).trips, 512 * k.val + 512 ≤ 4096 := fun k => chunk_rows w h (lt_of_lt_of_eq k.isLt (t11_trips w h))
  have q7 : ∀ k : Fin (k0_t7_loop w).trips, k.val + 1 ≤ 8 := fun k => by have := r7 k; omega
  have q11 : ∀ k : Fin (k0_t11_loop w).trips, k.val + 1 ≤ 8 := fun k => by have := r11 k; omega
  refine ⟨t7_ok w h, fun k => dvd_mul w h k.val (lt_of_lt_of_eq k.isLt (t7_trips w h)),
    fun k => inb3 (off20_eq i w h k) hs (r7 k) (by decide), fun k => inb3 (off21_eq i w h k) hs (r7 k) (by decide),
    fun k => inb3 (off22_eq w h k) (q7 k) (by decide) (by decide), fun k => inb3 (off23_eq i w h k) hs (r7 k) (by decide),
    fun k => inb3 (off24_eq i w h k) hs (r7 k) (by decide), fun k => inb3 (off25_eq w h k) (q7 k) (by decide) (by decide),
    t8_ok w h, ?_, ?_, ?_, ?_, ?_, ?_, ?_,
    t9_ok w h, fun k => inb3 (off32_eq w h k) (r9 k) (by decide) (by decide),
    t10_ok w h, ?_,
    t11_ok w h, fun k => dvd_mul w h k.val (lt_of_lt_of_eq k.isLt (t11_trips w h)),
    fun k => inb3 (off34_eq w h k) (q11 k) (by decide) (by decide), fun k => inb3 (off35_eq w h k) (q11 k) (by decide) (by decide),
    fun k => inb3 (off36_eq i w h k) hs (r11 k) (by decide), fun k => inb3 (off37_eq i w h k) hs (r11 k) (by decide),
    t12_ok w h, ?_, ?_, ?_, ?_, ?_⟩
  iterate 7 · exact fun k => (no_trip (t8_trips w) k).elim
  · exact fun k => (no_trip (t10_trips w) k).elim
  all_goals exact fun k => (no_trip (t12_trips w) k).elim

end Grid

end Cert.KernelIdeal
-- ==== Proof.KernelIdeal.Pieces.lean ====
/-
  The kernel's own copies, one piece of 256 cache rows at a time: the elements a piece occupies in the cache and in a slot
  of the double buffer, what a finished copy delivers, and the rules by which the kernel starts one copy and waits for one.
-/
module

public import proofs.«01_k».proof.Proof.KernelIdeal.Words
public import proofs.«01_k».proof.Proof.Gen.KernelIdeal.Launch
public import Idealize.ShloMosaic.Lib.Pipeline.FrameBody
public import Idealize.ShloMosaic.Lib.Batch
public import Idealize.ShloMosaic.Lib.Ring
public import Idealize.ShloMosaic.Lib.Tactic

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Elements -/

/-- The elements of slot `s` of the double buffer, those of its piece `j`, and those from piece `k` on. -/
def slotSet (s : ℕ) : Finset S2x4096x656.Idx := Finset.univ.filter fun x => (x 0).val = s
def pieceSet (s j : ℕ) : Finset S2x4096x656.Idx :=
  Finset.univ.filter fun x => (x 0).val = s ∧ 256 * j ≤ (x 1).val ∧ (x 1).val < 256 * j + 256
def fromSet (s k : ℕ) : Finset S2x4096x656.Idx := Finset.univ.filter fun x => (x 0).val = s ∧ 256 * k ≤ (x 1).val
def uptoSet (s k : ℕ) : Finset S2x4096x656.Idx := Finset.univ.filter fun x => (x 0).val = s ∧ (x 1).val < 256 * k

/-- The elements of piece `j` of request `b` in the cache, those of its first `k` pieces, and every other element. -/
def cacheSet (b j : ℕ) : Finset S128x4096x656.Idx :=
  Finset.univ.filter fun x => (x 0).val = b ∧ 256 * j ≤ (x 1).val ∧ (x 1).val < 256 * j + 256
def cacheUpto (b k : ℕ) : Finset S128x4096x656.Idx := Finset.univ.filter fun x => (x 0).val = b ∧ (x 1).val < 256 * k
def cacheFrom (b k : ℕ) : Finset S128x4096x656.Idx := Finset.univ.filter fun x => ¬ ((x 0).val = b ∧ (x 1).val < 256 * k)

theorem fromSet_zero (s : ℕ) : fromSet s 0 = slotSet s := by
  ext x; simp [fromSet, slotSet]

theorem cacheFrom_zero (b : ℕ) : cacheFrom b 0 = Finset.univ := by
  ext x; simp [cacheFrom]

theorem pieceSet_sub (s k : ℕ) : pieceSet s k ⊆ fromSet s k := by
  intro x; simp only [pieceSet, fromSet, Finset.mem_filter, Finset.mem_univ, true_and]; omega

theorem fromSet_sdiff (s k : ℕ) : fromSet s k \ pieceSet s k = fromSet s (k + 1) := by
  ext x; simp only [pieceSet, fromSet, Finset.mem_sdiff, Finset.mem_filter, Finset.mem_univ, true_and]; omega

theorem cacheSet_sub (b k : ℕ) : cacheSet b k ⊆ cacheFrom b k := by
  intro x; simp only [cacheSet, cacheFrom, Finset.mem_filter, Finset.mem_univ, true_and]; omega

theorem cacheFrom_sdiff (b k : ℕ) : cacheFrom b k \ cacheSet b k = cacheFrom b (k + 1) := by
  ext x; simp only [cacheSet, cacheFrom, Finset.mem_sdiff, Finset.mem_filter, Finset.mem_univ, true_and]; omega

theorem pieces_union (s n : ℕ) : (Finset.univ : Finset (Fin n)).biUnion (fun j => pieceSet s j.val) = uptoSet s n := by
  ext x; simp only [pieceSet, uptoSet, Finset.mem_biUnion, Finset.mem_filter, Finset.mem_univ, true_and]
  constructor
  · rintro ⟨j, h0, h1, h2⟩; have := j.isLt; exact ⟨h0, by omega⟩
  · rintro ⟨h0, h1⟩; exact ⟨⟨(x 1).val / 256, by omega⟩, h0, by simp only; omega, by simp only; omega⟩

theorem caches_union (b n : ℕ) : (Finset.univ : Finset (Fin n)).biUnion (fun j => cacheSet b j.val) = cacheUpto b n := by
  ext x; simp only [cacheSet, cacheUpto, Finset.mem_biUnion, Finset.mem_filter, Finset.mem_univ, true_and]
  constructor
  · rintro ⟨j, h0, h1, h2⟩; have := j.isLt; exact ⟨h0, by omega⟩
  · rintro ⟨h0, h1⟩; exact ⟨⟨(x 1).val / 256, by omega⟩, h0, by simp only; omega, by simp only; omega⟩

theorem pieces_disj (s : ℕ) {n : ℕ} : ∀ i j : Fin n, i ≠ j →
    Disjoint (pieceSet s i.val) (pieceSet s j.val) := by
  intro i j hij
  refine Finset.disjoint_left.mpr fun x h1 h2 => hij (Fin.ext ?_)
  simp only [pieceSet, Finset.mem_filter, Finset.mem_univ, true_and] at h1 h2; omega

theorem caches_disj (b : ℕ) {n : ℕ} : ∀ i j : Fin n, i ≠ j →
    Disjoint (cacheSet b i.val) (cacheSet b j.val) := by
  intro i j hij
  refine Finset.disjoint_left.mpr fun x h1 h2 => hij (Fin.ext ?_)
  simp only [cacheSet, Finset.mem_filter, Finset.mem_univ, true_and] at h1 h2; omega

theorem slot_join (s n : ℕ) : uptoSet s n ∪ fromSet s n = slotSet s := by
  ext x; simp only [uptoSet, fromSet, slotSet, Finset.mem_union, Finset.mem_filter, Finset.mem_univ, true_and]; omega

theorem slot_join_disj (s n : ℕ) : Disjoint (uptoSet s n) (fromSet s n) := by
  refine Finset.disjoint_left.mpr fun x h1 h2 => ?_
  simp only [uptoSet, fromSet, Finset.mem_filter, Finset.mem_univ, true_and] at h1 h2; omega

theorem cache_join (b n : ℕ) : cacheUpto b n ∪ cacheFrom b n = Finset.univ := by
  ext x; simp only [cacheUpto, cacheFrom, Finset.mem_union, Finset.mem_filter, Finset.mem_univ, true_and, iff_true]; tauto

theorem cache_join_disj (b n : ℕ) : Disjoint (cacheUpto b n) (cacheFrom b n) := by
  refine Finset.disjoint_left.mpr fun x h1 h2 => ?_
  simp only [cacheUpto, cacheFrom, Finset.mem_filter, Finset.mem_univ, true_and] at h1 h2; tauto

theorem slots_join : slotSet 0 ∪ slotSet 1 = Finset.univ := by
  ext x; have : (x 0).val < 2 := (x 0).isLt
  simp only [slotSet, Finset.mem_union, Finset.mem_filter, Finset.mem_univ, true_and, iff_true]; omega

theorem slots_disj : Disjoint (slotSet 0) (slotSet 1) := by
  refine Finset.disjoint_left.mpr fun x h1 h2 => ?_
  simp only [slotSet, Finset.mem_filter, Finset.mem_univ, true_and] at h1 h2; omega

/-! ## The two ends of a copy, and its semaphore -/

/-- The semaphore of slot `s`. -/
def slotSem (s : ℕ) (h : ∀ a, (![s] : Fin 1 → ℕ) a + S1.size a ≤ S2.size a) : DmaSem sig :=
  ((cc0_scratch5.slice (Rect.unit (s := S2) ![s] S1.size h)).squeeze S_ squeezes_S1_S_).sem

theorem slotSem_zero (h) : slotSem 0 h = 11 := by revert h; decide
theorem slotSem_one (h) : slotSem 1 h = 12 := by revert h; decide

/-- 256 rows of the double buffer, and of the cache, from the offset `o`. -/
abbrev kvAt (o : Fin 3 → ℕ) (h : ∀ a, o a + S1x256x656.size a ≤ S2x4096x656.size a) : Memref sig .tc .vmem S256x656 .i8 :=
  ((Memref.whole cc0_scratch0).slice (Rect.unit (s := S2x4096x656) o S1x256x656.size h) (fun _ => rfl)).squeeze S256x656 squeezes_S1x256x656_S256x656
abbrev cacheAt (o : Fin 3 → ℕ) (h : ∀ a, o a + S1x256x656.size a ≤ S128x4096x656.size a) : Memref sig .tc .hbm S256x656 .i8 :=
  ((Memref.whole main_arg4).slice (Rect.unit (s := S128x4096x656) o S1x256x656.size h) (fun _ => rfl)).squeeze S256x656 squeezes_S1x256x656_S256x656

theorem kvAt_set {s k : ℕ} (h) : (kvAt ![s, 256 * k, 0] h).view.set = pieceSet s k := by

  refine Eq.trans (View.set_reshape _ _) (Eq.trans (View.set_slice_whole _ _) ?_)
  ext x
  rw [Rect.mem_set_unit, pieceSet, Finset.mem_filter]
  have h2 : (x 2).val < 656 := (x 2).isLt
  constructor
  · intro hx
    have h0 := hx 0; have h1 := hx 1
    change s ≤ (x 0).val ∧ (x 0).val < s + 1 at h0
    change 256 * k ≤ (x 1).val ∧ (x 1).val < 256 * k + 256 at h1
    exact ⟨Finset.mem_univ _, by omega, h1⟩
  · rintro ⟨-, h0, h1⟩ a
    match a with
    | 0 => exact (show s ≤ (x 0).val ∧ (x 0).val < s + 1 by omega)
    | 1 => exact h1
    | 2 => exact (show 0 ≤ (x 2).val ∧ (x 2).val < 0 + 656 by omega)

theorem cacheAt_set {b k : ℕ} (h) : (cacheAt ![b, 256 * k, 0] h).view.set = cacheSet b k := by

  refine Eq.trans (View.set_reshape _ _) (Eq.trans (View.set_slice_whole _ _) ?_)
  ext x
  rw [Rect.mem_set_unit, cacheSet, Finset.mem_filter]
  have h2 : (x 2).val < 656 := (x 2).isLt
  constructor
  · intro hx
    have h0 := hx 0; have h1 := hx 1
    change b ≤ (x 0).val ∧ (x 0).val < b + 1 at h0
    change 256 * k ≤ (x 1).val ∧ (x 1).val < 256 * k + 256 at h1
    exact ⟨Finset.mem_univ _, by omega, h1⟩
  · rintro ⟨-, h0, h1⟩ a
    match a with
    | 0 => exact (show b ≤ (x 0).val ∧ (x 0).val < b + 1 by omega)
    | 1 => exact h1
    | 2 => exact (show 0 ≤ (x 2).val ∧ (x 2).val < 0 + 656 by omega)

/-- What one piece credits its semaphore with. -/
def pieceN : ℕ := (kvAt ![0, 0, 0] (by decide)).view.dmaCredit

theorem kvAt_credit (o h) : (kvAt o h).view.dmaCredit = pieceN := rfl
theorem pieceN_pos : 0 < pieceN := View.dmaCredit_pos _ (by decide)

/-- The rows of request `b`, laid out as one slot of the double buffer. -/
def rowsOf (fc : S128x4096x656.Idx → Elt F .i8) (b : ℕ) (hb : b < 128) : S2x4096x656.Idx → Elt F .i8 :=
  fun x => fc (fun a => match a with | 0 => (⟨b, hb⟩ : Fin 128) | 1 => (x 1 : Fin 4096) | 2 => (x 2 : Fin 656))

theorem landed {s b k : ℕ} (hb : b < 128) (h h') (fc : S128x4096x656.Idx → Elt F .i8) (f : S2x4096x656.Idx → Elt F .i8)
    (x : S2x4096x656.Idx) (hx : x ∈ pieceSet s k) :
    (kvAt ![s, 256 * k, 0] h).view.write (Elt F) f (ReadAs.same.apply ((cacheAt ![b, 256 * k, 0] h').view.read (Elt F) fc)) Finset.univ x
      = rowsOf fc b hb x := by
  rw [← kvAt_set h] at hx
  obtain ⟨y, -, rfl⟩ := Finset.mem_map.mp hx
  refine Eq.trans (View.write_emb_of_mem (v := (kvAt ![s, 256 * k, 0] h).view) (Val := Elt F) _ _ (Finset.mem_univ y)) ?_
  show fc ((cacheAt ![b, 256 * k, 0] h').view.emb y) = fc _
  refine congrArg fc (funext fun (a : Fin 3) => Fin.ext ?_)
  match a with
  | 0 =>
    have : (cacheAt ![b, 256 * k, 0] h').view.emb y ∈ cacheSet b k := by
      rw [← cacheAt_set h']; exact Finset.mem_map_of_mem _ (Finset.mem_univ _)
    exact (Finset.mem_filter.mp this).2.1
  | 1 => rfl
  | 2 => rfl

/-! ## What a copy delivers, and the flight of a request's pieces -/

/-- The buffers, as a core reaches them. -/
abbrev kvLoc (c : Dev nD) : Loc nD τ sig := (Memref.whole cc0_scratch0).view.loc (c : Thread nD τ)
abbrev cacheLoc (c : Dev nD) : Loc nD τ sig := (Memref.whole main_arg4).view.loc (c : Thread nD τ)

variable (c : Dev nD) (q : PosShare TreeShare) (fc : S128x4096x656.Idx → Elt F .i8) (s b : ℕ) (hb : b < 128)

def delivery (n : ℕ) (j : Fin n) : sProp 𝕄 :=
  iprop((kvLoc c ↦[pieceSet s j.val]{fullShare} rowsOf fc b hb) ∗ (cacheLoc c ↦[cacheSet b j.val]{q} fc))

instance delivery_storable (n : ℕ) (j : Fin n) : Storable (upEmb : UEmb _ 𝕄) (delivery c q fc s b hb n j) := by
  unfold delivery; infer_instance

/-- `n` pieces of request `b` on their way into slot `s`: `j` started, `u` units of the semaphore waited for. -/
def flight (sm : DmaSem sig) (n j u : ℕ) : sProp 𝕄 :=
  Transfers.Batch (countersEmb (U := Pipeline.UD sig nD τ)) (c : Thread nD τ) (.dma sm) () pieceN (delivery c q fc s b hb n) j u

/-- What is not yet on its way when `k` pieces are: the rest of the slot and of the cache. -/
def rest (k : ℕ) : sProp 𝕄 :=
  iprop((∃ f, kvLoc c ↦[fromSet s k]{fullShare} f) ∗ (cacheLoc c ↦[cacheFrom b k]{q} fc))

/-- A slot with nothing on its way: its rows, a share of the cache, its semaphore at zero. -/
def idle (sm : DmaSem sig) : sProp 𝕄 :=
  iprop((∃ f, kvLoc c ↦[slotSet s]{fullShare} f) ∗ (cacheLoc c ↦{q} fc) ∗ semVal ((c : Thread nD τ), .dma sm) 0)

/-- A slot with all `n` pieces of request `b` on their way. -/
def flying (sm : DmaSem sig) (n : ℕ) : sProp 𝕄 :=
  iprop(flight c q fc s b hb sm n n 0 ∗ rest c q fc s b n)

/-- A slot whose first `n` pieces hold request `b`. -/
def landedSlot (sm : DmaSem sig) (n : ℕ) : sProp 𝕄 :=
  iprop((∃ f : S2x4096x656.Idx → Elt F .i8, ⌜∀ x, (x 0).val = s → (x 1).val < 256 * n → f x = rowsOf fc b hb x⌝
      ∗ kvLoc c ↦[slotSet s]{fullShare} f) ∗ (cacheLoc c ↦{q} fc) ∗ semVal ((c : Thread nD τ), .dma sm) 0)

theorem landedSlot_idle (sm : DmaSem sig) (n : ℕ) : landedSlot c q fc s b hb sm n ⊢ idle c q fc s sm := by
  unfold landedSlot idle
  iintro ⟨⟨%f, -, Hf⟩, Hc, Hs⟩
  isplitl [Hf]; · iexists f; iexact Hf
  isplitl [Hc] <;> iassumption

/-- Nothing started yet. -/
theorem idle_start (sm : DmaSem sig) (n : ℕ) :
    idle c q fc s sm ⊢ (|={Set.univ}=> iprop(flight c q fc s b hb sm n 0 0 ∗ rest c q fc s b 0) : sProp 𝕄) := by
  unfold idle flight rest
  rw [fromSet_zero, cacheFrom_zero]
  iintro ⟨Hf, Hc, Hs⟩
  imod (Transfers.batch_alloc' (countersEmb (U := Pipeline.UD sig nD τ)) (c : Thread nD τ) () pieceN (delivery c q fc s b hb n) (E := Set.univ)) $$ Hs with HB
  imodintro
  isplitl [HB]; · iexact HB
  isplitl [Hf] <;> iassumption

/-- Everything waited for. -/
theorem flight_done (sm : DmaSem sig) (n : ℕ) :
    iprop(flight c q fc s b hb sm n n (pieceN * n) ∗ rest c q fc s b n) ⊢ (|={Set.univ}=> landedSlot c q fc s b hb sm n : sProp 𝕄) := by
  unfold flight rest landedSlot
  iintro ⟨HB, ⟨%f, Hf⟩, Hc⟩
  imod (Transfers.batch_collect' (countersEmb (U := Pipeline.UD sig nD τ)) (c : Thread nD τ) (ι := ()) pieceN_pos (D := delivery c q fc s b hb n)) $$ HB with ⟨HD, Hs⟩
  imodintro
  ihave HD' := (show bigSep Finset.univ (delivery c q fc s b hb n)
      ⊢ iprop((kvLoc c ↦[uptoSet s n]{fullShare} rowsOf fc b hb) ∗ (cacheLoc c ↦[cacheUpto b n]{q} fc)) from by
    unfold delivery
    refine (Entails.of_eq (BI.bigSep_sep Finset.univ (fun j : Fin n => (kvLoc c ↦[pieceSet s j.val]{fullShare} rowsOf fc b hb : sProp 𝕄))
      (fun j : Fin n => (cacheLoc c ↦[cacheSet b j.val]{q} fc : sProp 𝕄)))).trans ?_
    refine sep_mono (Entails.of_eq ?_) (Entails.of_eq ?_)
    · exact (Ring.pointsTo_sub_blocks (ℓ := kvLoc c) (fun j : Fin n => pieceSet s j.val) (pieces_disj s) (uptoSet s n) (pieces_union s n) (rowsOf fc b hb)).symm
    · exact (Ring.pointsTo_sub_blocks (ℓ := cacheLoc c) (fun j : Fin n => cacheSet b j.val) (caches_disj b) (cacheUpto b n) (caches_union b n) fc).symm) $$ HD
  icases HD' with ⟨Hk, Hc'⟩
  let g : S2x4096x656.Idx → Elt F .i8 := fun x => if (x 1).val < 256 * n then rowsOf fc b hb x else f x
  isplitl [Hf Hk]
  · iexists g
    isplitr
    · ipureintro; intro x _ hx; exact if_pos hx
    · iapply (show iprop((kvLoc c ↦[uptoSet s n]{fullShare} rowsOf fc b hb) ∗ (kvLoc c ↦[fromSet s n]{fullShare} f)) ⊢ (kvLoc c ↦[slotSet s]{fullShare} g : sProp 𝕄) from by
        rw [show (kvLoc c ↦[uptoSet s n]{fullShare} rowsOf fc b hb : sProp 𝕄) = kvLoc c ↦[uptoSet s n]{fullShare} g from
            pointsTo_congr fun x hx => (if_pos (Finset.mem_filter.mp hx).2.2).symm,
          show (kvLoc c ↦[fromSet s n]{fullShare} f : sProp 𝕄) = kvLoc c ↦[fromSet s n]{fullShare} g from
            pointsTo_congr fun x hx => (if_neg (by have := (Finset.mem_filter.mp hx).2.2; omega)).symm, ← slot_join s n]
        exact (pointsTo_union (ℓ := kvLoc c) (slot_join_disj s n)).2)
      isplitl [Hk] <;> iassumption
  isplitl [Hc Hc']
  · iapply (show iprop((cacheLoc c ↦[cacheUpto b n]{q} fc) ∗ (cacheLoc c ↦[cacheFrom b n]{q} fc)) ⊢ (cacheLoc c ↦{q} fc : sProp 𝕄) from by
      rw [← cache_join b n]; exact (pointsTo_union (ℓ := cacheLoc c) (cache_join_disj b n)).2)
    isplitl [Hc'] <;> iassumption
  iexact Hs

/-! ## Starting a copy, and waiting for one -/

variable (𝒱 : Variants) (bd : Option 𝒱.V) {α : Type}

theorem wp_issue (Q : α → sProp 𝕄) {n k : ℕ} (hk : k < n) {o₀ : Fin 1 → ℕ} {o₁ o₂ : Fin 3 → ℕ} (e₀ : o₀ = ![s]) (e₁ : o₁ = ![s, 256 * k, 0]) (e₂ : o₂ = ![b, 256 * k, 0])
    (h₀ h₁ h₂) (hs : ∀ a, (![s] : Fin 1 → ℕ) a + S1.size a ≤ S2.size a) {wsrc wdst hsem} (K : PUnit → Prog (TpuEff nD τ sig (Elt F) Λ₀ .tc) α) :
    iprop(flight c q fc s b hb (slotSem s hs) n k 0 ∗ rest c q fc s b k)
      ⊢ iprop((iprop(flight c q fc s b hb (slotSem s hs) n (k + 1) 0 ∗ rest c q fc s b (k + 1)) -∗ wp frame (wpE (defs₀ (F := F)) 𝒱 (c : Thread nD τ) bd) Set.univ (K ⟨⟩) Q)
        -∗ wp frame (wpE (defs₀ (F := F)) 𝒱 (c : Thread nD τ) bd) Set.univ
          (.op (.enqueueDma (cacheAt o₂ h₂) (.here (kvAt o₁ h₁)) (.dma ((cc0_scratch5.slice (Rect.unit (s := S2) o₀ S1.size h₀)).squeeze S_ squeezes_S1_S_).sem)
            wsrc wdst hsem) K) Q) := by
  subst e₀ e₁ e₂
  unfold rest
  iintro ⟨HB, ⟨%f, Hf⟩, Hc⟩ Hk
  ihave Hf' := (show (kvLoc c ↦[fromSet s k]{fullShare} f : sProp 𝕄)
      ⊢ iprop(((kvAt ![s, 256 * k, 0] h₁).view.loc (c : Thread nD τ) ↦[(kvAt ![s, 256 * k, 0] h₁).view.set]{fullShare} f) ∗ (kvLoc c ↦[fromSet s (k + 1)]{fullShare} f)) from by
    rw [kvAt_set h₁, ← fromSet_sdiff]; exact (pointsTo_split_subset (ℓ := kvLoc c) (pieceSet_sub s k)).1) $$ Hf
  ihave Hc' := (show (cacheLoc c ↦[cacheFrom b k]{q} fc : sProp 𝕄)
      ⊢ iprop(((cacheAt ![b, 256 * k, 0] h₂).view.loc (c : Thread nD τ) ↦[(cacheAt ![b, 256 * k, 0] h₂).view.set]{q} fc) ∗ (cacheLoc c ↦[cacheFrom b (k + 1)]{q} fc)) from by
    rw [cacheAt_set h₂, ← cacheFrom_sdiff]; exact (pointsTo_split_subset (ℓ := cacheLoc c) (cacheSet_sub b k)).1) $$ Hc
  icases Hf' with ⟨Hf1, Hf2⟩
  icases Hc' with ⟨Hc1, Hc2⟩
  unfold flight
  iapply (Transfers.wp_dmaBatch (countersEmb (U := Pipeline.UD sig nD τ)) 𝒱 (c : Thread nD τ) bd (src := cacheAt ![b, 256 * k, 0] h₂) (dst := kvAt ![s, 256 * k, 0] h₁)
    (sm := .dma (slotSem s hs)) (via := ReadAs.same) () pieceN rfl subset_rfl (D := delivery c q fc s b hb n) hk (Nat.zero_le _) (q := q) (fs := fc) (fd := f) ?_) $$ [HB Hf1 Hc1]
  · unfold delivery
    refine sep_mono (Entails.of_eq ?_) (Entails.of_eq ?_)
    · refine Eq.trans ?_ (pointsTo_congr (ℓ := kvLoc c) fun x hx => landed hb h₁ h₂ fc f x hx)
      rw [← kvAt_set h₁]
    · rw [← cacheAt_set h₂]
  · isplitl [Hc1]; · iexact Hc1
    isplitl [Hf1]; · iexact Hf1
    iexact HB
  iintro HB
  iapply Hk
  isplitl [HB]; · iexact HB
  isplitl [Hf2]; · iexists f; iexact Hf2
  iexact Hc2

theorem wp_land (Q : α → sProp 𝕄) {n k : ℕ} (hk : k < n) {o₀ : Fin 1 → ℕ} {o₁ o₂ : Fin 3 → ℕ} (e₀ : o₀ = ![s])
    (h₀ h₁ h₂) (hs : ∀ a, (![s] : Fin 1 → ℕ) a + S1.size a ≤ S2.size a) {wsrc wdst} (K : PUnit → Prog (TpuEff nD τ sig (Elt F) Λ₀ .tc) α) :
    iprop(flight c q fc s b hb (slotSem s hs) n n (pieceN * k) ∗ (∃ W, owes (c : Thread nD τ) 0 W))
      ⊢ iprop((iprop(flight c q fc s b hb (slotSem s hs) n n (pieceN * (k + 1)) ∗ (∃ W, owes (c : Thread nD τ) 0 W)) -∗ wp frame (wpE (defs₀ (F := F)) 𝒱 (c : Thread nD τ) bd) Set.univ (K ⟨⟩) Q)
        -∗ wp frame (wpE (defs₀ (F := F)) 𝒱 (c : Thread nD τ) bd) Set.univ
          (.op (.waitDma2 ((cc0_scratch5.slice (Rect.unit (s := S2) o₀ S1.size h₀)).squeeze S_ squeezes_S1_S_).sem (cacheAt o₂ h₂) (kvAt o₁ h₁) wsrc wdst) K) Q) := by
  subst e₀
  unfold flight
  iintro ⟨HB, ⟨%W, HO⟩⟩ Hk
  iapply (Transfers.wp_waitBatchMul (countersEmb (U := Pipeline.UD sig nD τ)) 𝒱 (c : Thread nD τ) bd (sem := slotSem s hs) (srcw := cacheAt o₂ h₂) (dstw := kvAt o₁ h₁)
    () 1 (N := pieceN) (by rw [kvAt_credit, Nat.one_mul]) (D := delivery c q fc s b hb n) (j := n) (u := pieceN * k)
    (by rw [Nat.one_mul, ← Nat.mul_succ]; exact Nat.mul_le_mul_left _ hk)) $$ [HB HO]
  · isplitl [HB] <;> iassumption
  rw [Nat.one_mul, ← Nat.mul_succ]
  iintro ⟨HB, HO⟩
  iapply Hk
  isplitl [HB]; · iexact HB
  iexists _; iexact HO

end Cert.KernelIdeal
-- ==== Proof.KernelIdeal.Flights.lean ====
/-
  The loops over the pieces of one request: starting every copy of a request into a slot, and waiting for every copy.
-/
module

public import proofs.«01_k».proof.Proof.KernelIdeal.Pieces

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (q : PosShare TreeShare) (fc : S128x4096x656.Idx → Elt F .i8) (𝒱 : Variants) (bd : Option 𝒱.V)

section
variable (i : grid0.Coords) (arg1 : Memref sig .tc .smem S128 .i32) (harg1 : arg1.IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (arg10 : Memref sig .tc .vmem S8x16x512 .f32) (harg10 : arg10.IsWhole)
  (arg11 : Memref sig .tc .vmem S8x16x512 .f32) (harg11 : arg11.IsWhole) (arg12 : Memref sig .tc .vmem S8x8x512 .f32) (harg12 : arg12.IsWhole)
  (arg13 : Memref sig .tc .vmem S16x512 .f32) (harg13 : arg13.IsWhole)

theorem issue1 (hc : k0_cond1 i = 1#1) (w : Elt F .i32) (hw : k0_chk1 i w) (h : BitVec.toNat (w : BitVec 32) ≤ 4096)  (hb : 0 < 128)
    (hs : ∀ a, (![0] : Fin 1 → ℕ) a + S1.size a ≤ S2.size a) (hok) :
    iprop(flight c q fc (0) (0) hb (slotSem (0) hs) (pieces (BitVec.toNat (w : BitVec 32))) 0 0 ∗ rest c q fc (0) (0) 0)
      ⊢ wp frame (wpE (defs₀ (F := F)) 𝒱 (c : Thread nD τ) bd) Set.univ
        (Scf.Loop.for (k0_t1_loop w) hok 0#32 (k0_t1_body i arg1 harg1 arg2 harg2 arg3 harg3 arg4 harg4 arg5 harg5 arg6 harg6 (Memref.whole main_arg4) harg7 arg8 harg8 (Memref.whole cc0_scratch0) harg9 arg10 harg10 arg11 harg11 arg12 harg12 arg13 harg13 cc0_scratch5 hc w hw))
        (fun _ => flying c q fc (0) (0) hb (slotSem (0) hs) (pieces (BitVec.toNat (w : BitVec 32)))) := by
  have hn := t1_trips w h
  refine BIBase.Entails.trans ?_ (Scf.wp_for frame (wpE (defs₀ (F := F)) 𝒱 (c : Thread nD τ) bd) Set.univ _ _ _ hok 0#32 _
    (fun k _ => iprop(flight c q fc (0) (0) hb (slotSem (0) hs) (pieces (BitVec.toNat (w : BitVec 32))) k 0 ∗ rest c q fc (0) (0) k)) ?_)
  · iintro ⟨HB, HR⟩
    isplitl [HB HR]
    · isplitl [HB] <;> iassumption
    iintro %acc H
    unfold flying
    iapply (Entails.of_eq (by rw [← hn])) $$ H
  · intro k acc
    have hk : k.val < pieces (BitVec.toNat (w : BitVec 32)) := lt_of_lt_of_eq k.isLt hn
    simp only [k0_t1_body, Prog.lift, Prog.bind_op, Prog.bind_ret, Prog.pure_eq_ret, Prog.bind_assoc]
    iintro H
    iapply (wp_issue c q fc (0) (0) hb 𝒱 bd _ hk rfl (off1_eq w h k) (off2_eq w h k) _ _ _ hs _) $$ H
    iintro H
    rw [wp_ret]
    imodintro
    iexact H

theorem issue3 (hc : k0_cond2 i = 1#1) (w : Elt F .i32) (hw : k0_chk2 i w) (h : BitVec.toNat (w : BitVec 32) ≤ 4096)  (hb : (i 0).val + 1 < 128)
    (hs : ∀ a, (![((i 0).val + 1) % 2] : Fin 1 → ℕ) a + S1.size a ≤ S2.size a) (hok) :
    iprop(flight c q fc (((i 0).val + 1) % 2) ((i 0).val + 1) hb (slotSem (((i 0).val + 1) % 2) hs) (pieces (BitVec.toNat (w : BitVec 32))) 0 0 ∗ rest c q fc (((i 0).val + 1) % 2) ((i 0).val + 1) 0)
      ⊢ wp frame (wpE (defs₀ (F := F)) 𝒱 (c : Thread nD τ) bd) Set.univ
        (Scf.Loop.for (k0_t3_loop w) hok 0#32 (k0_t3_body i arg1 harg1 arg2 harg2 arg3 harg3 arg4 harg4 arg5 harg5 arg6 harg6 (Memref.whole main_arg4) harg7 arg8 harg8 (Memref.whole cc0_scratch0) harg9 arg10 harg10 arg11 harg11 arg12 harg12 arg13 harg13 cc0_scratch5 hc w hw))
        (fun _ => flying c q fc (((i 0).val + 1) % 2) ((i 0).val + 1) hb (slotSem (((i 0).val + 1) % 2) hs) (pieces (BitVec.toNat (w : BitVec 32)))) := by
  have hn := t3_trips w h
  refine BIBase.Entails.trans ?_ (Scf.wp_for frame (wpE (defs₀ (F := F)) 𝒱 (c : Thread nD τ) bd) Set.univ _ _ _ hok 0#32 _
    (fun k _ => iprop(flight c q fc (((i 0).val + 1) % 2) ((i 0).val + 1) hb (slotSem (((i 0).val + 1) % 2) hs) (pieces (BitVec.toNat (w : BitVec 32))) k 0 ∗ rest c q fc (((i 0).val + 1) % 2) ((i 0).val + 1) k)) ?_)
  · iintro ⟨HB, HR⟩
    isplitl [HB HR]
    · isplitl [HB] <;> iassumption
    iintro %acc H
    unfold flying
    iapply (Entails.of_eq (by rw [← hn])) $$ H
  · intro k acc
    have hk : k.val < pieces (BitVec.toNat (w : BitVec 32)) := lt_of_lt_of_eq k.isLt hn
    simp only [k0_t3_body, Prog.lift, Prog.bind_op, Prog.bind_ret, Prog.pure_eq_ret, Prog.bind_assoc]
    iintro H
    iapply (wp_issue c q fc (((i 0).val + 1) % 2) ((i 0).val + 1) hb 𝒱 bd _ hk (off6_eq i) (off7_eq i w h k) (off8_eq i w h k) _ _ _ hs _) $$ H
    iintro H
    rw [wp_ret]
    imodintro
    iexact H

theorem land5 (w : Elt F .i32) (hw : k0_chk3 i w) (h : BitVec.toNat (w : BitVec 32) ≤ 4096) (hb : (i 0).val < 128)
    (hs : ∀ a, (![(i 0).val % 2] : Fin 1 → ℕ) a + S1.size a ≤ S2.size a) (hok) :
    iprop(flying c q fc ((i 0).val % 2) ((i 0).val) hb (slotSem ((i 0).val % 2) hs) (pieces (BitVec.toNat (w : BitVec 32))) ∗ (∃ W, owes (c : Thread nD τ) 0 W))
      ⊢ wp frame (wpE (defs₀ (F := F)) 𝒱 (c : Thread nD τ) bd) Set.univ
        (Scf.Loop.for (k0_t5_loop w) hok 0#32 (k0_t5_body i arg1 harg1 arg2 harg2 arg3 harg3 arg4 harg4 arg5 harg5 arg6 harg6 (Memref.whole main_arg4) harg7 arg8 harg8 (Memref.whole cc0_scratch0) harg9 arg10 harg10 arg11 harg11 arg12 harg12 arg13 harg13 cc0_scratch5 w hw))
        (fun _ => iprop(landedSlot c q fc ((i 0).val % 2) ((i 0).val) hb (slotSem ((i 0).val % 2) hs) (pieces (BitVec.toNat (w : BitVec 32))) ∗ (∃ W, owes (c : Thread nD τ) 0 W))) := by
  have hn := t5_trips w h
  refine BIBase.Entails.trans ?_ (wp_fupd frame (wpE (defs₀ (F := F)) 𝒱 (c : Thread nD τ) bd) Set.univ _ _)
  refine BIBase.Entails.trans ?_ (Scf.wp_for frame (wpE (defs₀ (F := F)) 𝒱 (c : Thread nD τ) bd) Set.univ _ _ _ hok 0#32 _
    (fun k _ => iprop(rest c q fc ((i 0).val % 2) ((i 0).val) (pieces (BitVec.toNat (w : BitVec 32)))
      ∗ flight c q fc ((i 0).val % 2) ((i 0).val) hb (slotSem ((i 0).val % 2) hs) (pieces (BitVec.toNat (w : BitVec 32))) (pieces (BitVec.toNat (w : BitVec 32))) (pieceN * k) ∗ (∃ W, owes (c : Thread nD τ) 0 W))) ?_)
  · unfold flying
    iintro ⟨⟨HB, HR⟩, HO⟩
    isplitl [HB HR HO]
    · isplitl [HR]; · iexact HR
      isplitl [HB] <;> iassumption
    iintro %acc ⟨HR, HB, HO⟩
    ihave HB' := (show flight c q fc ((i 0).val % 2) ((i 0).val) hb (slotSem ((i 0).val % 2) hs) (pieces (BitVec.toNat (w : BitVec 32))) (pieces (BitVec.toNat (w : BitVec 32))) (pieceN * (k0_t5_loop w).trips)
        ⊢ flight c q fc ((i 0).val % 2) ((i 0).val) hb (slotSem ((i 0).val % 2) hs) (pieces (BitVec.toNat (w : BitVec 32))) (pieces (BitVec.toNat (w : BitVec 32))) (pieceN * pieces (BitVec.toNat (w : BitVec 32))) from
      Entails.of_eq (by rw [hn])) $$ HB
    imod (flight_done c q fc ((i 0).val % 2) ((i 0).val) hb (slotSem ((i 0).val % 2) hs) (pieces (BitVec.toNat (w : BitVec 32)))) $$ [HB' HR] with HL
    · isplitl [HB'] <;> iassumption
    imodintro
    isplitl [HL] <;> iassumption
  · intro k acc
    have hk : k.val < pieces (BitVec.toNat (w : BitVec 32)) := lt_of_lt_of_eq k.isLt hn
    simp only [k0_t5_body, Prog.lift, Prog.bind_op, Prog.bind_ret, Prog.pure_eq_ret, Prog.bind_assoc]
    iintro ⟨HR, HB, HO⟩
    iapply (wp_land c q fc ((i 0).val % 2) ((i 0).val) hb 𝒱 bd _ hk (off13_eq i) _ _ _ hs _) $$ [HB HO]
    · isplitl [HB] <;> iassumption
    iintro ⟨HB, HO⟩
    rw [wp_ret]
    imodintro
    isplitl [HR]; · iexact HR
    isplitl [HB] <;> iassumption

end

end Cert.KernelIdeal
-- ==== Proof.KernelIdeal.Compute.lean ====
/-
  The three loops over the chunks of 512 rows of one request, each with what it leaves: the scores and the scales, the
  exponentials, and the weighted sum of the rows.
-/
module

public import proofs.«01_k».proof.Proof.KernelIdeal.Flights

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A chunk's plane of the score buffer and of the scale buffer -/

/-- An entry of plane `j`, and plane `j`, of the buffer of 16-row planes. -/
def ix16 (j : Fin 8) (x : S1x16x512.Idx) : S8x16x512.Idx :=
  fun a => match a with | 0 => (j : Fin 8) | 1 => (x 1 : Fin 16) | 2 => (x 2 : Fin 512)
def plane16 (j : Fin 8) (g : S8x16x512.Idx → Elt F .f32) : Vec F S1x16x512 .f32 := fun x => g (ix16 j x)

theorem read16 {o : Fin 3 → ℕ} {j : Fin 8} (e : o = ![j.val, 0, 0]) (h : ∀ a, o a + S1x16x512.size a ≤ S8x16x512.size a) (g : S8x16x512.Idx → Elt F .f32) :
    ((Memref.whole cc0_scratch1).access (Rect.unit (s := S8x16x512) o S1x16x512.size h)).read (Elt F) g = plane16 j g := by
  subst e
  funext x
  show g _ = g _
  refine congrArg g (funext fun (a : Fin 3) => Fin.ext ?_)
  match a with
  | 0 =>
    have h0 : (x 0).val < 1 := (x 0).isLt
    show j.val + 1 * (x 0).val = j.val
    omega
  | 1 => show 0 + 1 * (x 1).val = (x 1).val; omega
  | 2 => show 0 + 1 * (x 2).val = (x 2).val; omega

theorem plane16_write {o : Fin 3 → ℕ} {j : Fin 8} (e : o = ![j.val, 0, 0]) (h : ∀ a, o a + S1x16x512.size a ≤ S8x16x512.size a) (g : S8x16x512.Idx → Elt F .f32) (v : Vec F S1x16x512 .f32) :
    plane16 j (((Memref.whole cc0_scratch1).access (Rect.unit (s := S8x16x512) o S1x16x512.size h)).write (Elt F) g v Finset.univ) = v := by
  rw [← read16 e h]
  exact View.read_write_univ (Val := Elt F) _ _

theorem plane16_inb (j : Fin 8) (a : Fin 3) : (![j.val, 0, 0] : Fin 3 → ℕ) a + S1x16x512.size a ≤ S8x16x512.size a := by
  have := j.isLt
  match a with
  | 0 => show j.val + 1 ≤ 8; omega
  | 1 => show 0 + 16 ≤ 16; omega
  | 2 => show 0 + 512 ≤ 512; omega

theorem plane16_disj {o o' : Fin 3 → ℕ} {j j' : Fin 8} (e : o = ![j.val, 0, 0]) (e' : o' = ![j'.val, 0, 0]) (hj : j' ≠ j) (h : ∀ a, o a + S1x16x512.size a ≤ S8x16x512.size a) (h' : ∀ a, o' a + S1x16x512.size a ≤ S8x16x512.size a) :
    Disjoint (Rect.unit (s := S8x16x512) o' S1x16x512.size h').set (Rect.unit (s := S8x16x512) o S1x16x512.size h).set := by
  refine Finset.disjoint_left.mpr fun x hx hx' => ?_
  have h0 := Rect.mem_set_unit.mp hx (0 : Fin 3)
  have h1 := Rect.mem_set_unit.mp hx' (0 : Fin 3)
  subst e e'
  have h2 : j'.val ≤ (x (0 : Fin 3)).val ∧ (x (0 : Fin 3)).val < j'.val + 1 := h0
  have h3 : j.val ≤ (x (0 : Fin 3)).val ∧ (x (0 : Fin 3)).val < j.val + 1 := h1
  exact hj (Fin.ext (by omega))

theorem plane16_write_ne {o : Fin 3 → ℕ} {j j' : Fin 8} (e : o = ![j.val, 0, 0]) (hj : j' ≠ j) (h : ∀ a, o a + S1x16x512.size a ≤ S8x16x512.size a) (g : S8x16x512.Idx → Elt F .f32) (v : Vec F S1x16x512 .f32) :
    plane16 j' (((Memref.whole cc0_scratch1).access (Rect.unit (s := S8x16x512) o S1x16x512.size h)).write (Elt F) g v Finset.univ) = plane16 j' g := by
  rw [← read16 (j := j') rfl (plane16_inb j'), ← read16 (j := j') rfl (plane16_inb j') g]
  refine View.read_slice_write_slice_of_disjoint (Val := Elt F) _ _ _ _ _ ?_
  show Disjoint _ ((Memref.whole cc0_scratch1).access (Rect.unit (s := S8x16x512) o S1x16x512.size h)).set
  rw [show ((Memref.whole cc0_scratch1).view.slice (Rect.unit (s := S8x16x512) ![j'.val, 0, 0] S1x16x512.size (plane16_inb j'))).set = _ from View.set_slice_whole cc0_scratch1 _,
    show ((Memref.whole cc0_scratch1).access (Rect.unit (s := S8x16x512) o S1x16x512.size h)).set = _ from View.set_slice_whole cc0_scratch1 _]
  exact plane16_disj e rfl hj h _

/-- An entry of plane `j`, and plane `j`, of the buffer of 8-row planes. -/
def ix8 (j : Fin 8) (x : S1x8x512.Idx) : S8x8x512.Idx :=
  fun a => match a with | 0 => (j : Fin 8) | 1 => (x 1 : Fin 8) | 2 => (x 2 : Fin 512)
def plane8 (j : Fin 8) (g : S8x8x512.Idx → Elt F .f32) : Vec F S1x8x512 .f32 := fun x => g (ix8 j x)

theorem read8 {o : Fin 3 → ℕ} {j : Fin 8} (e : o = ![j.val, 0, 0]) (h : ∀ a, o a + S1x8x512.size a ≤ S8x8x512.size a) (g : S8x8x512.Idx → Elt F .f32) :
    ((Memref.whole cc0_scratch3).access (Rect.unit (s := S8x8x512) o S1x8x512.size h)).read (Elt F) g = plane8 j g := by
  subst e
  funext x
  show g _ = g _
  refine congrArg g (funext fun (a : Fin 3) => Fin.ext ?_)
  match a with
  | 0 =>
    have h0 : (x 0).val < 1 := (x 0).isLt
    show j.val + 1 * (x 0).val = j.val
    omega
  | 1 => show 0 + 1 * (x 1).val = (x 1).val; omega
  | 2 => show 0 + 1 * (x 2).val = (x 2).val; omega

theorem plane8_write {o : Fin 3 → ℕ} {j : Fin 8} (e : o = ![j.val, 0, 0]) (h : ∀ a, o a + S1x8x512.size a ≤ S8x8x512.size a) (g : S8x8x512.Idx → Elt F .f32) (v : Vec F S1x8x512 .f32) :
    plane8 j (((Memref.whole cc0_scratch3).access (Rect.unit (s := S8x8x512) o S1x8x512.size h)).write (Elt F) g v Finset.univ) = v := by
  rw [← read8 e h]
  exact View.read_write_univ (Val := Elt F) _ _

theorem plane8_inb (j : Fin 8) (a : Fin 3) : (![j.val, 0, 0] : Fin 3 → ℕ) a + S1x8x512.size a ≤ S8x8x512.size a := by
  have := j.isLt
  match a with
  | 0 => show j.val + 1 ≤ 8; omega
  | 1 => show 0 + 8 ≤ 8; omega
  | 2 => show 0 + 512 ≤ 512; omega

theorem plane8_disj {o o' : Fin 3 → ℕ} {j j' : Fin 8} (e : o = ![j.val, 0, 0]) (e' : o' = ![j'.val, 0, 0]) (hj : j' ≠ j) (h : ∀ a, o a + S1x8x512.size a ≤ S8x8x512.size a) (h' : ∀ a, o' a + S1x8x512.size a ≤ S8x8x512.size a) :
    Disjoint (Rect.unit (s := S8x8x512) o' S1x8x512.size h').set (Rect.unit (s := S8x8x512) o S1x8x512.size h).set := by
  refine Finset.disjoint_left.mpr fun x hx hx' => ?_
  have h0 := Rect.mem_set_unit.mp hx (0 : Fin 3)
  have h1 := Rect.mem_set_unit.mp hx' (0 : Fin 3)
  subst e e'
  have h2 : j'.val ≤ (x (0 : Fin 3)).val ∧ (x (0 : Fin 3)).val < j'.val + 1 := h0
  have h3 : j.val ≤ (x (0 : Fin 3)).val ∧ (x (0 : Fin 3)).val < j.val + 1 := h1
  exact hj (Fin.ext (by omega))

theorem plane8_write_ne {o : Fin 3 → ℕ} {j j' : Fin 8} (e : o = ![j.val, 0, 0]) (hj : j' ≠ j) (h : ∀ a, o a + S1x8x512.size a ≤ S8x8x512.size a) (g : S8x8x512.Idx → Elt F .f32) (v : Vec F S1x8x512 .f32) :
    plane8 j' (((Memref.whole cc0_scratch3).access (Rect.unit (s := S8x8x512) o S1x8x512.size h)).write (Elt F) g v Finset.univ) = plane8 j' g := by
  rw [← read8 (j := j') rfl (plane8_inb j'), ← read8 (j := j') rfl (plane8_inb j') g]
  refine View.read_slice_write_slice_of_disjoint (Val := Elt F) _ _ _ _ _ ?_
  show Disjoint _ ((Memref.whole cc0_scratch3).access (Rect.unit (s := S8x8x512) o S1x8x512.size h)).set
  rw [show ((Memref.whole cc0_scratch3).view.slice (Rect.unit (s := S8x8x512) ![j'.val, 0, 0] S1x8x512.size (plane8_inb j'))).set = _ from View.set_slice_whole cc0_scratch3 _,
    show ((Memref.whole cc0_scratch3).access (Rect.unit (s := S8x8x512) o S1x8x512.size h)).set = _ from View.set_slice_whole cc0_scratch3 _]
  exact plane8_disj e rfl hj h _

/-! ## Tiles of a slot -/

/-- The byte of slot `s`, row `y`, lane `z`. -/
def byteAt (f : S2x4096x656.Idx → Elt F .i8) (s y z : ℕ) : Elt F .i8 :=
  f (fun a => match a with | 0 => (⟨s % 2, Nat.mod_lt _ (by decide)⟩ : Fin 2) | 1 => (⟨y % 4096, Nat.mod_lt _ (by decide)⟩ : Fin 4096) | 2 => (⟨z % 656, Nat.mod_lt _ (by decide)⟩ : Fin 656))

/-- The 512 rows from row `y` of slot `s`, the lanes from `z`. -/
def tile (n : ℕ) (f : S2x4096x656.Idx → Elt F .i8) (s y z : ℕ) : Vec F ⟨3, ![1, 512, n]⟩ .i8 :=
  fun x => byteAt f s (y + (x 1).val) (z + (x 2).val)

theorem read_kv {n s y z : ℕ} {o : Fin 3 → ℕ} (e : o = ![s, y, z]) (h : ∀ a, o a + (![1, 512, n] : Fin 3 → ℕ) a ≤ S2x4096x656.size a) (f : S2x4096x656.Idx → Elt F .i8) :
    ((Memref.whole cc0_scratch0).access (Rect.unit (s := S2x4096x656) o (![1, 512, n] : Fin 3 → ℕ) h)).read (Elt F) f = tile n f s y z := by
  subst e
  funext x
  show f _ = f _
  refine congrArg f (funext fun (a : Fin 3) => Fin.ext ?_)
  have h0 : s + 1 ≤ 2 := h 0
  have h1 : y + 512 ≤ 4096 := h 1
  have h2 : z + n ≤ 656 := h 2
  match a with
  | 0 =>
    have h0' : (x 0).val < 1 := (x 0).isLt
    show s + 1 * (x 0).val = s % 2
    omega
  | 1 =>
    have h1' : (x 1).val < 512 := (x 1).isLt
    show y + 1 * (x 1).val = (y + (x 1).val) % 4096
    omega
  | 2 =>
    have h2' : (x 2).val < n := (x 2).isLt
    show z + 1 * (x 2).val = (z + (x 2).val) % 656
    omega

theorem kv_sub {n s y z : ℕ} {o : Fin 3 → ℕ} (e : o = ![s, y, z]) (h : ∀ a, o a + (![1, 512, n] : Fin 3 → ℕ) a ≤ S2x4096x656.size a) :
    ((Memref.whole cc0_scratch0).access (Rect.unit (s := S2x4096x656) o (![1, 512, n] : Fin 3 → ℕ) h)).set ⊆ slotSet s := by
  subst e
  intro x hx
  have hx' : x ∈ (Rect.unit (s := S2x4096x656) ![s, y, z] (![1, 512, n] : Fin 3 → ℕ) h).set := by
    rw [← View.set_slice_whole cc0_scratch0]; exact hx
  have h0 := Rect.mem_set_unit.mp hx' 0
  change s ≤ (x 0).val ∧ (x 0).val < s + 1 at h0
  exact Finset.mem_filter.mpr ⟨Finset.mem_univ _, by omega⟩

variable (c : Dev nD) (q : PosShare TreeShare) (𝒱 : Variants) (bd : Option 𝒱.V)

theorem wp_load1 {α : Type} (Q : α → sProp 𝕄) {o : Fin 3 → ℕ} {j : Fin 8} (e : o = ![j.val, 0, 0]) (h : ∀ a, o a + S1x16x512.size a ≤ S8x16x512.size a) {hl} (g : S8x16x512.Idx → Elt F .f32)
    (K : Vec F S1x16x512 .f32 → Prog (TpuEff nD τ sig (Elt F) Λ₀ .tc) α) :
    ((Memref.whole cc0_scratch1).view.loc (c : Thread nD τ) ↦{fullShare} g)
      ⊢ iprop((((Memref.whole cc0_scratch1).view.loc (c : Thread nD τ) ↦{fullShare} g) -∗ wp frame (wpE (defs₀ (F := F)) 𝒱 (c : Thread nD τ) bd) Set.univ (K (plane16 j g)) Q)
        -∗ wp frame (wpE (defs₀ (F := F)) 𝒱 (c : Thread nD τ) bd) Set.univ
          (.op (.load (Memref.whole cc0_scratch1) (Rect.unit (s := S8x16x512) o S1x16x512.size h).toLoadRect hl) K) Q) := by
  rw [← read16 e h g]
  exact wp_load_rect (defs := defs₀ (F := F)) 𝒱 (c : Thread nD τ) bd Set.univ (Q := Q) (m := Memref.whole cc0_scratch1) (r := Rect.unit (s := S8x16x512) o S1x16x512.size h) (hl := hl) (k := K) (S := Finset.univ) (q := fullShare) (f := g) (Finset.subset_univ _)

theorem wp_store1 {α : Type} (Q : α → sProp 𝕄) {o : Fin 3 → ℕ} {j : Fin 8} (e : o = ![j.val, 0, 0]) (h : ∀ a, o a + S1x16x512.size a ≤ S8x16x512.size a) {hx hm} (g : S8x16x512.Idx → Elt F .f32) (v : Vec F S1x16x512 .f32)
    (K : PUnit → Prog (TpuEff nD τ sig (Elt F) Λ₀ .tc) α) :
    ((Memref.whole cc0_scratch1).view.loc (c : Thread nD τ) ↦{fullShare} g)
      ⊢ iprop((iprop(∃ g' : S8x16x512.Idx → Elt F .f32, ⌜plane16 j g' = v ∧ ∀ j', j' ≠ j → plane16 j' g' = plane16 j' g⌝ ∗ ((Memref.whole cc0_scratch1).view.loc (c : Thread nD τ) ↦{fullShare} g')) -∗ wp frame (wpE (defs₀ (F := F)) 𝒱 (c : Thread nD τ) bd) Set.univ (K ⟨⟩) Q)
        -∗ wp frame (wpE (defs₀ (F := F)) 𝒱 (c : Thread nD τ) bd) Set.univ
          (.op (.store (Memref.whole cc0_scratch1) (Rect.unit (s := S8x16x512) o S1x16x512.size h) v Finset.univ hx hm) K) Q) := by
  iintro H Hk
  iapply (wp_store (defs := defs₀ (F := F)) 𝒱 (c : Thread nD τ) bd Set.univ (m := Memref.whole cc0_scratch1) (r := Rect.unit (s := S8x16x512) o S1x16x512.size h) (S := Finset.univ) (f := g) (Finset.subset_univ _)) $$ H
  iintro H
  iapply Hk
  iexists _
  isplitr; swap; · iexact H
  ipureintro
  exact ⟨plane16_write e h g v, fun j' hj => plane16_write_ne e hj h g v⟩

theorem wp_load3 {α : Type} (Q : α → sProp 𝕄) {o : Fin 3 → ℕ} {j : Fin 8} (e : o = ![j.val, 0, 0]) (h : ∀ a, o a + S1x8x512.size a ≤ S8x8x512.size a) {hl} (g : S8x8x512.Idx → Elt F .f32)
    (K : Vec F S1x8x512 .f32 → Prog (TpuEff nD τ sig (Elt F) Λ₀ .tc) α) :
    ((Memref.whole cc0_scratch3).view.loc (c : Thread nD τ) ↦{fullShare} g)
      ⊢ iprop((((Memref.whole cc0_scratch3).view.loc (c : Thread nD τ) ↦{fullShare} g) -∗ wp frame (wpE (defs₀ (F := F)) 𝒱 (c : Thread nD τ) bd) Set.univ (K (plane8 j g)) Q)
        -∗ wp frame (wpE (defs₀ (F := F)) 𝒱 (c : Thread nD τ) bd) Set.univ
          (.op (.load (Memref.whole cc0_scratch3) (Rect.unit (s := S8x8x512) o S1x8x512.size h).toLoadRect hl) K) Q) := by
  rw [← read8 e h g]
  exact wp_load_rect (defs := defs₀ (F := F)) 𝒱 (c : Thread nD τ) bd Set.univ (Q := Q) (m := Memref.whole cc0_scratch3) (r := Rect.unit (s := S8x8x512) o S1x8x512.size h) (hl := hl) (k := K) (S := Finset.univ) (q := fullShare) (f := g) (Finset.subset_univ _)

theorem wp_store3 {α : Type} (Q : α → sProp 𝕄) {o : Fin 3 → ℕ} {j : Fin 8} (e : o = ![j.val, 0, 0]) (h : ∀ a, o a + S1x8x512.size a ≤ S8x8x512.size a) {hx hm} (g : S8x8x512.Idx → Elt F .f32) (v : Vec F S1x8x512 .f32)
    (K : PUnit → Prog (TpuEff nD τ sig (Elt F) Λ₀ .tc) α) :
    ((Memref.whole cc0_scratch3).view.loc (c : Thread nD τ) ↦{fullShare} g)
      ⊢ iprop((iprop(∃ g' : S8x8x512.Idx → Elt F .f32, ⌜plane8 j g' = v ∧ ∀ j', j' ≠ j → plane8 j' g' = plane8 j' g⌝ ∗ ((Memref.whole cc0_scratch3).view.loc (c : Thread nD τ) ↦{fullShare} g')) -∗ wp frame (wpE (defs₀ (F := F)) 𝒱 (c : Thread nD τ) bd) Set.univ (K ⟨⟩) Q)
        -∗ wp frame (wpE (defs₀ (F := F)) 𝒱 (c : Thread nD τ) bd) Set.univ
          (.op (.store (Memref.whole cc0_scratch3) (Rect.unit (s := S8x8x512) o S1x8x512.size h) v Finset.univ hx hm) K) Q) := by
  iintro H Hk
  iapply (wp_store (defs := defs₀ (F := F)) 𝒱 (c : Thread nD τ) bd Set.univ (m := Memref.whole cc0_scratch3) (r := Rect.unit (s := S8x8x512) o S1x8x512.size h) (S := Finset.univ) (f := g) (Finset.subset_univ _)) $$ H
  iintro H
  iapply Hk
  iexists _
  isplitr; swap; · iexact H
  ipureintro
  exact ⟨plane8_write e h g v, fun j' hj => plane8_write_ne e hj h g v⟩

theorem wp_loadkv {α : Type} (Q : α → sProp 𝕄) {n s y z : ℕ} {o : Fin 3 → ℕ} (e : o = ![s, y, z]) (h : ∀ a, o a + (![1, 512, n] : Fin 3 → ℕ) a ≤ S2x4096x656.size a) {hl} (f : S2x4096x656.Idx → Elt F .i8)
    (K : Vec F ⟨3, ![1, 512, n]⟩ .i8 → Prog (TpuEff nD τ sig (Elt F) Λ₀ .tc) α) :
    (kvLoc c ↦[slotSet s]{fullShare} f)
      ⊢ iprop(((kvLoc c ↦[slotSet s]{fullShare} f) -∗ wp frame (wpE (defs₀ (F := F)) 𝒱 (c : Thread nD τ) bd) Set.univ (K (tile n f s y z)) Q)
        -∗ wp frame (wpE (defs₀ (F := F)) 𝒱 (c : Thread nD τ) bd) Set.univ
          (.op (.load (Memref.whole cc0_scratch0) (Rect.unit (s := S2x4096x656) o (![1, 512, n] : Fin 3 → ℕ) h).toLoadRect hl) K) Q) := by
  rw [← read_kv e h f]
  exact wp_load_rect (defs := defs₀ (F := F)) 𝒱 (c : Thread nD τ) bd Set.univ (Q := Q) (m := Memref.whole cc0_scratch0) (r := Rect.unit (s := S2x4096x656) o (![1, 512, n] : Fin 3 → ℕ) h) (hl := hl) (k := K) (S := slotSet s) (q := fullShare) (f := f) (kv_sub e h)

/-! ## The first loop: scores and scales -/

/-- The scale rows of chunk `k`, and its masked and scaled scores. -/
def scaleTile (v38 : Vec F S1x1x16x256 .bf16) (v40 : Vec F S16x256 .bf16) (f : S2x4096x656.Idx → Elt F .i8) (s k : ℕ) : Vec F S1x8x512 .f32 :=
  k0_pay23 (F := F) (k0_pay20 (k0_pay49 v38 v40) (tile 128 f s (512 * k) 512) (tile 16 f s (512 * k) 640) (tile 128 f s (512 * k) 512))
    (k0_pay21 (k0_pay49 v38 v40) (tile 128 f s (512 * k) 512) (tile 16 f s (512 * k) 640) (tile 128 f s (512 * k) 512))

def scoreTile (w : BitVec 32) (v26 : FVec F S16x512 .bf16) (v27 : FVec F S16x128 .bf16) (v32 : FVec F S32x256 .bf16) (v38 : Vec F S1x1x16x256 .bf16) (v40 : Vec F S16x256 .bf16)
    (f : S2x4096x656.Idx → Elt F .i8) (s k : ℕ) : FVec F S16x512 .f32 :=
  k0_pay24 w v32 (k0_pay48 v26 v27) (Scalar.muli (Scf.iv 0#32 1#32 k) 512#32)
    (k0_pay19 (k0_pay49 v38 v40) (tile 128 f s (512 * k) 512) (tile 16 f s (512 * k) 640) (tile 128 f s (512 * k) 512))
    (k0_pay20 (k0_pay49 v38 v40) (tile 128 f s (512 * k) 512) (tile 16 f s (512 * k) 640) (tile 128 f s (512 * k) 512))
    (k0_pay21 (k0_pay49 v38 v40) (tile 128 f s (512 * k) 512) (tile 16 f s (512 * k) 640) (tile 128 f s (512 * k) 512))
    (tile 256 f s (512 * k) 0) (tile 256 f s (512 * k) 256)

section
variable (i : grid0.Coords) (arg1 : Memref sig .tc .smem S128 .i32) (harg1 : arg1.IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (harg10 : (Memref.whole cc0_scratch1).IsWhole)
  (harg11 : (Memref.whole cc0_scratch2).IsWhole) (harg12 : (Memref.whole cc0_scratch3).IsWhole) (harg13 : (Memref.whole cc0_scratch4).IsWhole)

variable (v3 : BitVec 32) (w : Elt F .i32) (hw : k0_chk4 i w) (h : BitVec.toNat (w : BitVec 32) ≤ 4096)

include h in
theorem t7_step (v24 : BitVec 32) (v26 : FVec F S16x512 .bf16) (v27 : FVec F S16x128 .bf16) (v32 : FVec F S32x256 .bf16) (v38 : Vec F S1x1x16x256 .bf16) (v40 : Vec F S16x256 .bf16)
    (f : S2x4096x656.Idx → Elt F .i8) (g1 : S8x16x512.Idx → Elt F .f32) (g3 : S8x8x512.Idx → Elt F .f32)
    (k : Fin (k0_t7_loop w).trips) (j : Fin 8) (hj : j.val = k.val) (acc : FVec F S16x1 .f32) :
    iprop((kvLoc c ↦[slotSet ((i 0).val % 2)]{fullShare} f)
       ∗ ((Memref.whole cc0_scratch1).view.loc (c : Thread nD τ) ↦{fullShare} g1)
       ∗ ((Memref.whole cc0_scratch3).view.loc (c : Thread nD τ) ↦{fullShare} g3))
      ⊢ wp frame (wpE (defs₀ (F := F)) 𝒱 (c : Thread nD τ) bd) Set.univ
        (k0_t7_body i arg1 harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 v3 w hw v24 v26 v27 v32 v38 v40 k acc)
        (fun acc' => (iprop(⌜acc' = k0_pay53 acc (scoreTile w v26 v27 v32 v38 v40 f ((i 0).val % 2) k.val)⌝
          ∗ (kvLoc c ↦[slotSet ((i 0).val % 2)]{fullShare} f)
          ∗ (∃ g1' : S8x16x512.Idx → Elt F .f32, ⌜plane16 j g1' = k0_pay52 (scoreTile w v26 v27 v32 v38 v40 f ((i 0).val % 2) k.val) ∧ ∀ j', j' ≠ j → plane16 j' g1' = plane16 j' g1⌝
              ∗ ((Memref.whole cc0_scratch1).view.loc (c : Thread nD τ) ↦{fullShare} g1'))
          ∗ (∃ g3' : S8x8x512.Idx → Elt F .f32, ⌜plane8 j g3' = scaleTile v38 v40 f ((i 0).val % 2) k.val ∧ ∀ j', j' ≠ j → plane8 j' g3' = plane8 j' g3⌝
              ∗ ((Memref.whole cc0_scratch3).view.loc (c : Thread nD τ) ↦{fullShare} g3'))) : sProp 𝕄)) := by
  have e22 : k0_off22 w k = ![j.val, 0, 0] := by rw [hj]; exact off22_eq w h k
  have e25 : k0_off25 w k = ![j.val, 0, 0] := by rw [hj]; exact off25_eq w h k
  iintro ⟨Hkv, H1, H3⟩
  simp only [k0_t7_body, k0_part1_eq_skeleton, k0_part1_skel, k0_part2_eq_skeleton, k0_part2_skel, Prog.lift, Prog.bind_op, Prog.bind_ret, Prog.pure_eq_ret, Prog.bind_assoc]
  iapply (wp_loadkv c 𝒱 bd _ (off20_eq i w h k) (k0_off20_inb i w hw k) f _) $$ Hkv
  iintro Hkv
  iapply (wp_loadkv c 𝒱 bd _ (off21_eq i w h k) (k0_off21_inb i w hw k) f _) $$ Hkv
  iintro Hkv
  iapply (wp_loadkv c 𝒱 bd _ (off20_eq i w h k) (k0_off20_inb i w hw k) f _) $$ Hkv
  iintro Hkv
  iapply (wp_load3 c 𝒱 bd _ e22 (k0_off22_inb i w hw k) g3 _) $$ H3
  iintro H3
  iapply (wp_store3 c 𝒱 bd _ e22 (k0_off22_inb i w hw k) g3 _ _) $$ H3
  iintro H3
  iapply (wp_loadkv c 𝒱 bd _ (off23_eq i w h k) (k0_off23_inb i w hw k) f _) $$ Hkv
  iintro Hkv
  iapply (wp_loadkv c 𝒱 bd _ (off24_eq i w h k) (k0_off24_inb i w hw k) f _) $$ Hkv
  iintro Hkv
  iapply (wp_load1 c 𝒱 bd _ e25 (k0_off25_inb i w hw k) g1 _) $$ H1
  iintro H1
  iapply (wp_store1 c 𝒱 bd _ e25 (k0_off25_inb i w hw k) g1 _ _) $$ H1
  iintro H1
  rw [wp_ret]
  imodintro
  isplitr; · ipureintro; rfl
  isplitl [Hkv]; · iexact Hkv
  isplitl [H1]; · iexact H1
  iexact H3

end

end Cert.KernelIdeal
-- ==== Proof.KernelIdeal.Loops.lean ====
/-
  The three loops over the chunks of one request, whole: each with what it computes, as a function of the request's rows
  and of the values before the loop.
-/
module

public import proofs.«01_k».proof.Proof.KernelIdeal.Compute

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the loops compute -/

/-- The running maximum after `k` chunks with the scores `sc`. -/
def maxUpto (init : FVec F S16x1 .f32) (sc : ℕ → FVec F S16x512 .f32) : ℕ → FVec F S16x1 .f32
  | 0 => init
  | k + 1 => k0_pay53 (maxUpto init sc k) (sc k)

/-- The running sum after `k` chunks of the exponentials of the scores `sc` less `m`. -/
def sumUpto (m init : FVec F S16x1 .f32) (sc : ℕ → FVec F S16x512 .f32) : ℕ → FVec F S16x1 .f32
  | 0 => init
  | k + 1 => k0_pay6 m (sumUpto m init sc k) (k0_pay52 (sc k))

/-- The columns from `o` of the accumulator, 128 of them. -/
abbrev colRect (o : Fin 2 → ℕ) (h : ∀ a, o a + S16x128.size a ≤ S16x512.size a) : Rect S16x512 := Rect.unit (s := S16x512) o S16x128.size h
def colRead (o : Fin 2 → ℕ) (h : ∀ a, o a + S16x128.size a ≤ S16x512.size a) (g : S16x512.Idx → Elt F .f32) : Vec F S16x128 .f32 :=
  ((Memref.whole cc0_scratch4).access (colRect o h)).read (Elt F) g
def colWrite (o : Fin 2 → ℕ) (h : ∀ a, o a + S16x128.size a ≤ S16x512.size a) (g : S16x512.Idx → Elt F .f32) (v : Vec F S16x128 .f32) : S16x512.Idx → Elt F .f32 :=
  ((Memref.whole cc0_scratch4).access (colRect o h)).write (Elt F) g v Finset.univ

/-- The accumulator after one chunk: each quarter of the columns gains its product. -/
def acc1 (v79 : FVec F S16x1 .f32) (p : Vec F S1x16x512 .f32) (sl : Vec F S1x8x512 .f32) (a : Vec F S1x512x256 .i8) (g : S16x512.Idx → Elt F .f32) : S16x512.Idx → Elt F .f32 :=
  colWrite ![0, 0] inb_S16x512_S16x128_0_0 g (k0_pay35 v79 p sl a (colRead ![0, 0] inb_S16x512_S16x128_0_0 g))
def acc2 (v79 : FVec F S16x1 .f32) (p : Vec F S1x16x512 .f32) (sl : Vec F S1x8x512 .f32) (a : Vec F S1x512x256 .i8) (g : S16x512.Idx → Elt F .f32) : S16x512.Idx → Elt F .f32 :=
  colWrite ![0, 128] inb_S16x512_S16x128_0_128 g (k0_pay36 v79 p sl a (colRead ![0, 128] inb_S16x512_S16x128_0_128 g))
def acc3 (v79 : FVec F S16x1 .f32) (p : Vec F S1x16x512 .f32) (sl : Vec F S1x8x512 .f32) (b : Vec F S1x512x256 .i8) (g : S16x512.Idx → Elt F .f32) : S16x512.Idx → Elt F .f32 :=
  colWrite ![0, 256] inb_S16x512_S16x128_0_256 g (k0_pay12 (k0_pay32 v79 p) (k0_pay33 sl) (k0_pay37 b) (colRead ![0, 256] inb_S16x512_S16x128_0_256 g))
def acc4 (v79 : FVec F S16x1 .f32) (p : Vec F S1x16x512 .f32) (sl : Vec F S1x8x512 .f32) (b : Vec F S1x512x256 .i8) (g : S16x512.Idx → Elt F .f32) : S16x512.Idx → Elt F .f32 :=
  colWrite ![0, 384] inb_S16x512_S16x128_0_384 g (k0_pay13 (k0_pay32 v79 p) (k0_pay33 sl) (k0_pay37 b) (colRead ![0, 384] inb_S16x512_S16x128_0_384 g))
def accStep (v79 : FVec F S16x1 .f32) (p : Vec F S1x16x512 .f32) (sl : Vec F S1x8x512 .f32) (a b : Vec F S1x512x256 .i8) (g : S16x512.Idx → Elt F .f32) : S16x512.Idx → Elt F .f32 :=
  acc4 v79 p sl b (acc3 v79 p sl b (acc2 v79 p sl a (acc1 v79 p sl a g)))

/-- The accumulator after `k` chunks, from `g`. -/
def accUpto (v79 : FVec F S16x1 .f32) (p : ℕ → Vec F S1x16x512 .f32) (sl : ℕ → Vec F S1x8x512 .f32) (a b : ℕ → Vec F S1x512x256 .i8) (g : S16x512.Idx → Elt F .f32) : ℕ → S16x512.Idx → Elt F .f32
  | 0 => g
  | k + 1 => accStep v79 (p k) (sl k) (a k) (b k) (accUpto v79 p sl a b g k)

variable (c : Dev nD) (q : PosShare TreeShare) (𝒱 : Variants) (bd : Option 𝒱.V)

theorem wp_load4 {α : Type} (Q : α → sProp 𝕄) (r : Rect S16x512) {hl} (g4 : S16x512.Idx → Elt F .f32)
    (K : Vec F r.shape .f32 → Prog (TpuEff nD τ sig (Elt F) Λ₀ .tc) α) :
    ((Memref.whole cc0_scratch4).view.loc (c : Thread nD τ) ↦{fullShare} g4)
      ⊢ iprop((((Memref.whole cc0_scratch4).view.loc (c : Thread nD τ) ↦{fullShare} g4) -∗ wp frame (wpE (defs₀ (F := F)) 𝒱 (c : Thread nD τ) bd) Set.univ (K (((Memref.whole cc0_scratch4).access r).read (Elt F) g4)) Q)
        -∗ wp frame (wpE (defs₀ (F := F)) 𝒱 (c : Thread nD τ) bd) Set.univ
          (.op (.load (Memref.whole cc0_scratch4) r.toLoadRect hl) K) Q) :=
  wp_load_rect (defs := defs₀ (F := F)) 𝒱 (c : Thread nD τ) bd Set.univ (Q := Q) (m := Memref.whole cc0_scratch4) (r := r) (hl := hl) (k := K) (S := Finset.univ) (q := fullShare) (f := g4) (Finset.subset_univ _)

theorem wp_store4 {α : Type} (Q : α → sProp 𝕄) (r : Rect S16x512) {hx hm} (g4 : S16x512.Idx → Elt F .f32) (v : Vec F r.shape .f32)
    (K : PUnit → Prog (TpuEff nD τ sig (Elt F) Λ₀ .tc) α) :
    ((Memref.whole cc0_scratch4).view.loc (c : Thread nD τ) ↦{fullShare} g4)
      ⊢ iprop((((Memref.whole cc0_scratch4).view.loc (c : Thread nD τ) ↦{fullShare} (((Memref.whole cc0_scratch4).access r).write (Elt F) g4 v Finset.univ : S16x512.Idx → Elt F .f32)) -∗ wp frame (wpE (defs₀ (F := F)) 𝒱 (c : Thread nD τ) bd) Set.univ (K ⟨⟩) Q)
        -∗ wp frame (wpE (defs₀ (F := F)) 𝒱 (c : Thread nD τ) bd) Set.univ
          (.op (.store (Memref.whole cc0_scratch4) r v Finset.univ hx hm) K) Q) :=
  wp_store (defs := defs₀ (F := F)) 𝒱 (c : Thread nD τ) bd Set.univ (m := Memref.whole cc0_scratch4) (r := r) (S := Finset.univ) (f := g4) (Finset.subset_univ _)

section
variable (i : grid0.Coords) (arg1 : Memref sig .tc .smem S128 .i32) (harg1 : arg1.IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (harg10 : (Memref.whole cc0_scratch1).IsWhole)
  (harg11 : (Memref.whole cc0_scratch2).IsWhole) (harg12 : (Memref.whole cc0_scratch3).IsWhole) (harg13 : (Memref.whole cc0_scratch4).IsWhole)

variable (v3 : BitVec 32) (w : Elt F .i32) (hw : k0_chk4 i w) (h : BitVec.toNat (w : BitVec 32) ≤ 4096)

include h in
theorem loop7 (v24 : BitVec 32) (v26 : FVec F S16x512 .bf16) (v27 : FVec F S16x128 .bf16) (v32 : FVec F S32x256 .bf16) (v38 : Vec F S1x1x16x256 .bf16) (v40 : Vec F S16x256 .bf16)
    (f : S2x4096x656.Idx → Elt F .i8) (init : FVec F S16x1 .f32) (hok) :
    iprop((kvLoc c ↦[slotSet ((i 0).val % 2)]{fullShare} f) ∗ (∃ g1 : S8x16x512.Idx → Elt F .f32, ((Memref.whole cc0_scratch1).view.loc (c : Thread nD τ) ↦{fullShare} g1)) ∗ (∃ g3 : S8x8x512.Idx → Elt F .f32, ((Memref.whole cc0_scratch3).view.loc (c : Thread nD τ) ↦{fullShare} g3)))
      ⊢ wp frame (wpE (defs₀ (F := F)) 𝒱 (c : Thread nD τ) bd) Set.univ
        (Scf.Loop.for (k0_t7_loop w) hok init (k0_t7_body i arg1 harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 v3 w hw v24 v26 v27 v32 v38 v40))
        (fun acc => (iprop(⌜acc = maxUpto init (scoreTile w v26 v27 v32 v38 v40 f ((i 0).val % 2)) (chunks (BitVec.toNat (w : BitVec 32)))⌝ ∗ (kvLoc c ↦[slotSet ((i 0).val % 2)]{fullShare} f)
          ∗ (∃ g1 : S8x16x512.Idx → Elt F .f32, ⌜∀ j : Fin 8, j.val < (chunks (BitVec.toNat (w : BitVec 32))) → plane16 j g1 = k0_pay52 (scoreTile w v26 v27 v32 v38 v40 f ((i 0).val % 2) j.val)⌝ ∗ ((Memref.whole cc0_scratch1).view.loc (c : Thread nD τ) ↦{fullShare} g1))
          ∗ (∃ g3 : S8x8x512.Idx → Elt F .f32, ⌜∀ j : Fin 8, j.val < (chunks (BitVec.toNat (w : BitVec 32))) → plane8 j g3 = scaleTile v38 v40 f ((i 0).val % 2) j.val⌝ ∗ ((Memref.whole cc0_scratch3).view.loc (c : Thread nD τ) ↦{fullShare} g3))) : sProp 𝕄)) := by
  have hn := t7_trips w h
  refine BIBase.Entails.trans ?_ (Scf.wp_for frame (wpE (defs₀ (F := F)) 𝒱 (c : Thread nD τ) bd) Set.univ _ _ _ hok init _
    (fun k acc => iprop(⌜acc = maxUpto init (scoreTile w v26 v27 v32 v38 v40 f ((i 0).val % 2)) k⌝ ∗ (kvLoc c ↦[slotSet ((i 0).val % 2)]{fullShare} f)
          ∗ (∃ g1 : S8x16x512.Idx → Elt F .f32, ⌜∀ j : Fin 8, j.val < k → plane16 j g1 = k0_pay52 (scoreTile w v26 v27 v32 v38 v40 f ((i 0).val % 2) j.val)⌝ ∗ ((Memref.whole cc0_scratch1).view.loc (c : Thread nD τ) ↦{fullShare} g1))
          ∗ (∃ g3 : S8x8x512.Idx → Elt F .f32, ⌜∀ j : Fin 8, j.val < k → plane8 j g3 = scaleTile v38 v40 f ((i 0).val % 2) j.val⌝ ∗ ((Memref.whole cc0_scratch3).view.loc (c : Thread nD τ) ↦{fullShare} g3)))) ?_)
  · iintro ⟨HK, ⟨%g1, H1⟩, ⟨%g3, H3⟩⟩
    isplitl [HK H1 H3]
    · isplitr; · ipureintro; rfl
      isplitl [HK]; · iexact HK
      isplitl [H1]
      · iexists g1; isplitr; · ipureintro; intro j hj; exact absurd hj (Nat.not_lt_zero _)
        iexact H1
      · iexists g3; isplitr; · ipureintro; intro j hj; exact absurd hj (Nat.not_lt_zero _)
        iexact H3
    iintro %acc H
    iapply (Entails.of_eq (by rw [← hn])) $$ H
  · intro k acc
    have hk : k.val < chunks (BitVec.toNat (w : BitVec 32)) := lt_of_lt_of_eq k.isLt hn
    have hk8 : k.val < 8 := lt_of_lt_of_le hk (chunks_le h)
    iintro ⟨%ha, HK, ⟨%g1, %h1, H1⟩, ⟨%g3, %h3, H3⟩⟩
    subst ha
    iapply (wp_mono frame (wpE (defs₀ (F := F)) 𝒱 (c : Thread nD τ) bd) Set.univ ?_) $$ [HK H1 H3]
    rotate_left
    · iapply (t7_step c 𝒱 bd i arg1 harg1 arg2 harg2 arg3 harg3 arg4 harg4 arg5 harg5 arg6 harg6 harg7 arg8 harg8 harg9 harg10 harg11 harg12 harg13 v3 w hw h v24 v26 v27 v32 v38 v40 f g1 g3 k ⟨k.val, hk8⟩ rfl _)
      isplitl [HK]; · iexact HK
      isplitl [H1] <;> iassumption
    · intro acc'
      iintro ⟨%ha, HK, ⟨%g1', %h1', H1⟩, ⟨%g3', %h3', H3⟩⟩
      isplitr; · ipureintro; exact ha
      isplitl [HK]; · iexact HK
      isplitl [H1]
      · iexists g1'
        isplitr; swap; · iexact H1
        ipureintro
        intro j hj
        by_cases e : j = ⟨k.val, hk8⟩
        · subst e; exact h1'.1
        · rw [h1'.2 j e]; exact h1 j (by have : j.val ≠ k.val := fun x => e (Fin.ext x); omega)
      · iexists g3'
        isplitr; swap; · iexact H3
        ipureintro
        intro j hj
        by_cases e : j = ⟨k.val, hk8⟩
        · subst e; exact h3'.1
        · rw [h3'.2 j e]; exact h3 j (by have : j.val ≠ k.val := fun x => e (Fin.ext x); omega)

include h in
theorem loop9 (m init : FVec F S16x1 .f32) (sc : ℕ → FVec F S16x512 .f32) (hok) :
    iprop(∃ g1 : S8x16x512.Idx → Elt F .f32, ⌜∀ j : Fin 8, j.val < (chunks (BitVec.toNat (w : BitVec 32))) → plane16 j g1 = k0_pay52 (sc j.val)⌝ ∗ ((Memref.whole cc0_scratch1).view.loc (c : Thread nD τ) ↦{fullShare} g1))
      ⊢ wp frame (wpE (defs₀ (F := F)) 𝒱 (c : Thread nD τ) bd) Set.univ
        (Scf.Loop.for (k0_t9_loop w) hok init (k0_t9_body i arg1 harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 w hw m))
        (fun acc => (iprop(⌜acc = sumUpto m init sc (chunks (BitVec.toNat (w : BitVec 32)))⌝
          ∗ (∃ g1 : S8x16x512.Idx → Elt F .f32, ⌜∀ j : Fin 8, j.val < (chunks (BitVec.toNat (w : BitVec 32))) → plane16 j g1 = k0_pay5 m (k0_pay52 (sc j.val))⌝ ∗ ((Memref.whole cc0_scratch1).view.loc (c : Thread nD τ) ↦{fullShare} g1))) : sProp 𝕄)) := by
  have hn := t9_trips w h
  refine BIBase.Entails.trans ?_ (Scf.wp_for frame (wpE (defs₀ (F := F)) 𝒱 (c : Thread nD τ) bd) Set.univ _ _ _ hok init _
    (fun k acc => iprop(⌜acc = sumUpto m init sc k⌝
          ∗ (∃ g1 : S8x16x512.Idx → Elt F .f32, ⌜∀ j : Fin 8, (j.val < k → plane16 j g1 = k0_pay5 m (k0_pay52 (sc j.val))) ∧ (k ≤ j.val → j.val < (chunks (BitVec.toNat (w : BitVec 32))) → plane16 j g1 = k0_pay52 (sc j.val))⌝ ∗ ((Memref.whole cc0_scratch1).view.loc (c : Thread nD τ) ↦{fullShare} g1)))) ?_)
  · iintro ⟨%g1, %h1, H1⟩
    isplitl [H1]
    · isplitr; · ipureintro; rfl
      iexists g1; isplitr
      · ipureintro; intro j; exact ⟨fun hj => absurd hj (Nat.not_lt_zero _), fun _ hj => h1 j hj⟩
      iexact H1
    iintro %acc ⟨%ha, ⟨%g1', %h1', H1⟩⟩
    rw [show Scf.trips (k0_t9_loop w).lb (k0_t9_loop w).ub (k0_t9_loop w).st = _ from hn] at ha h1'
    isplitr; · ipureintro; exact ha
    iexists g1'
    isplitr; · ipureintro; exact fun j hj => (h1' j).1 hj
    iexact H1
  · intro k acc
    have hk : k.val < chunks (BitVec.toNat (w : BitVec 32)) := lt_of_lt_of_eq k.isLt hn
    have hk8 : k.val < 8 := lt_of_lt_of_le hk (chunks_le h)
    iintro ⟨%ha, ⟨%g1, %h1, H1⟩⟩
    subst ha
    have e32 : k0_off32 w k = ![(⟨k.val, hk8⟩ : Fin 8).val, 0, 0] := off32_eq w h k
    simp only [k0_t9_body, Prog.lift, Prog.bind_op, Prog.bind_ret, Prog.pure_eq_ret, Prog.bind_assoc]
    iapply (wp_load1 c 𝒱 bd _ e32 (k0_off32_inb i w hw k) g1 _) $$ H1
    iintro H1
    iapply (wp_load1 c 𝒱 bd _ e32 (k0_off32_inb i w hw k) g1 _) $$ H1
    iintro H1
    iapply (wp_store1 c 𝒱 bd _ e32 (k0_off32_inb i w hw k) g1 _ _) $$ H1
    iintro ⟨%g1', %h1', H1⟩
    have hp : plane16 (⟨k.val, hk8⟩ : Fin 8) g1 = k0_pay52 (sc k.val) := (h1 ⟨k.val, hk8⟩).2 (le_refl _) hk
    rw [wp_ret]
    imodintro
    isplitr; · ipureintro; rw [hp]; rfl
    iexists g1'
    isplitr; swap; · iexact H1
    ipureintro
    intro j
    by_cases e : j = ⟨k.val, hk8⟩
    · subst e; exact ⟨fun _ => by rw [h1'.1, hp], fun hj => absurd hj (by simp)⟩
    · have hne : j.val ≠ k.val := fun x => e (Fin.ext x)
      rw [h1'.2 j e]
      exact ⟨fun hj => (h1 j).1 (by omega), fun hj hj' => (h1 j).2 (by omega) hj'⟩

include h in
theorem loop11 (v79 : FVec F S16x1 .f32) (p : ℕ → Vec F S1x16x512 .f32) (sl : ℕ → Vec F S1x8x512 .f32)
    (f : S2x4096x656.Idx → Elt F .i8) (g1 : S8x16x512.Idx → Elt F .f32) (g3 : S8x8x512.Idx → Elt F .f32) (g4 : S16x512.Idx → Elt F .f32)
    (h1 : ∀ j : Fin 8, j.val < (chunks (BitVec.toNat (w : BitVec 32))) → plane16 j g1 = p j.val) (h3 : ∀ j : Fin 8, j.val < (chunks (BitVec.toNat (w : BitVec 32))) → plane8 j g3 = sl j.val) (hok) :
    iprop((kvLoc c ↦[slotSet ((i 0).val % 2)]{fullShare} f) ∗ ((Memref.whole cc0_scratch1).view.loc (c : Thread nD τ) ↦{fullShare} g1) ∗ ((Memref.whole cc0_scratch3).view.loc (c : Thread nD τ) ↦{fullShare} g3) ∗ ((Memref.whole cc0_scratch4).view.loc (c : Thread nD τ) ↦{fullShare} g4))
      ⊢ wp frame (wpE (defs₀ (F := F)) 𝒱 (c : Thread nD τ) bd) Set.univ
        (Scf.Loop.for (k0_t11_loop w) hok 0#32 (k0_t11_body i arg1 harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 v3 w hw v79))
        (fun _ => (iprop((kvLoc c ↦[slotSet ((i 0).val % 2)]{fullShare} f) ∗ ((Memref.whole cc0_scratch1).view.loc (c : Thread nD τ) ↦{fullShare} g1) ∗ ((Memref.whole cc0_scratch3).view.loc (c : Thread nD τ) ↦{fullShare} g3)
          ∗ ((Memref.whole cc0_scratch4).view.loc (c : Thread nD τ) ↦{fullShare} (accUpto v79 p sl (fun k => tile 256 f ((i 0).val % 2) (512 * k) 0) (fun k => tile 256 f ((i 0).val % 2) (512 * k) 256) g4 (chunks (BitVec.toNat (w : BitVec 32))) : S16x512.Idx → Elt F .f32))) : sProp 𝕄)) := by
  have hn := t11_trips w h
  refine BIBase.Entails.trans ?_ (Scf.wp_for frame (wpE (defs₀ (F := F)) 𝒱 (c : Thread nD τ) bd) Set.univ _ _ _ hok 0#32 _
    (fun k _ => iprop((kvLoc c ↦[slotSet ((i 0).val % 2)]{fullShare} f) ∗ ((Memref.whole cc0_scratch1).view.loc (c : Thread nD τ) ↦{fullShare} g1) ∗ ((Memref.whole cc0_scratch3).view.loc (c : Thread nD τ) ↦{fullShare} g3)
          ∗ ((Memref.whole cc0_scratch4).view.loc (c : Thread nD τ) ↦{fullShare} (accUpto v79 p sl (fun k => tile 256 f ((i 0).val % 2) (512 * k) 0) (fun k => tile 256 f ((i 0).val % 2) (512 * k) 256) g4 k : S16x512.Idx → Elt F .f32)))) ?_)
  · iintro ⟨HK, H1, H3, H4⟩
    isplitl [HK H1 H3 H4]
    · isplitl [HK]; · iexact HK
      isplitl [H1]; · iexact H1
      isplitl [H3]; · iexact H3
      iexact H4
    iintro %acc H
    iapply (Entails.of_eq (by rw [← hn])) $$ H
  · intro k acc
    have hk : k.val < chunks (BitVec.toNat (w : BitVec 32)) := lt_of_lt_of_eq k.isLt hn
    have hk8 : k.val < 8 := lt_of_lt_of_le hk (chunks_le h)
    iintro ⟨HK, H1, H3, H4⟩
    have e34 : k0_off34 w k = ![(⟨k.val, hk8⟩ : Fin 8).val, 0, 0] := off34_eq w h k
    have e35 : k0_off35 w k = ![(⟨k.val, hk8⟩ : Fin 8).val, 0, 0] := off35_eq w h k
    have hp1 : plane16 (⟨k.val, hk8⟩ : Fin 8) g1 = p k.val := h1 ⟨k.val, hk8⟩ hk
    have hp3 : plane8 (⟨k.val, hk8⟩ : Fin 8) g3 = sl k.val := h3 ⟨k.val, hk8⟩ hk
    simp only [k0_t11_body, k0_part5_eq_skeleton, k0_part5_skel, Prog.lift, Prog.bind_op, Prog.bind_ret, Prog.pure_eq_ret, Prog.bind_assoc]
    iapply (wp_load1 c 𝒱 bd _ e34 (k0_off34_inb i w hw k) g1 _) $$ H1
    iintro H1
    iapply (wp_load3 c 𝒱 bd _ e35 (k0_off35_inb i w hw k) g3 _) $$ H3
    iintro H3
    iapply (wp_loadkv c 𝒱 bd _ (off36_eq i w h k) (k0_off36_inb i w hw k) f _) $$ HK
    iintro HK
    iapply (wp_load4 c 𝒱 bd _ _ _ _) $$ H4
    iintro H4
    iapply (wp_load4 c 𝒱 bd _ _ _ _) $$ H4
    iintro H4
    iapply (wp_store4 c 𝒱 bd _ _ _ _ _) $$ H4
    iintro H4
    iapply (wp_load4 c 𝒱 bd _ _ _ _) $$ H4
    iintro H4
    iapply (wp_load4 c 𝒱 bd _ _ _ _) $$ H4
    iintro H4
    iapply (wp_store4 c 𝒱 bd _ _ _ _ _) $$ H4
    iintro H4
    iapply (wp_loadkv c 𝒱 bd _ (off37_eq i w h k) (k0_off37_inb i w hw k) f _) $$ HK
    iintro HK
    iapply (wp_load4 c 𝒱 bd _ _ _ _) $$ H4
    iintro H4
    iapply (wp_load4 c 𝒱 bd _ _ _ _) $$ H4
    iintro H4
    iapply (wp_store4 c 𝒱 bd _ _ _ _ _) $$ H4
    iintro H4
    iapply (wp_load4 c 𝒱 bd _ _ _ _) $$ H4
    iintro H4
    iapply (wp_load4 c 𝒱 bd _ _ _ _) $$ H4
    iintro H4
    iapply (wp_store4 c 𝒱 bd _ _ _ _ _) $$ H4
    iintro H4
    rw [wp_ret]
    imodintro
    isplitl [HK]; · iexact HK
    isplitl [H1]; · iexact H1
    isplitl [H3]; · iexact H3
    rw [hp1, hp3]
    iexact H4

end

end Cert.KernelIdeal
-- ==== Proof.KernelIdeal.Slots.lean ====
/-
  The two slots before each grid point, the lengths read from the prefetched table, and the loads and stores of whole
  windows.
-/
module

public import proofs.«01_k».proof.Proof.KernelIdeal.Loops

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The request lengths -/

/-- The length of request `b`, as the table holds it. -/
def lenAt (ft : S128.Idx → Elt F .i32) (b : ℕ) : Elt F .i32 := ft (fun (a : Fin 1) => match a with | 0 => (⟨b % 128, Nat.mod_lt _ (by decide)⟩ : Fin 128))
def lenN (ft : S128.Idx → Elt F .i32) (b : ℕ) : ℕ := BitVec.toNat (lenAt ft b : BitVec 32)

abbrev tabLoc (c : Dev nD) : Loc nD τ sig := (Memref.whole main_arg5).view.loc (c : Thread nD τ)

theorem read_len {o : Fin 1 → ℕ} {b : ℕ} (e : o = ![b]) (h : ∀ a, o a + S1.size a ≤ S128.size a) (ft : S128.Idx → Elt F .i32) (x : S1.Idx) :
    ((Memref.whole main_arg5).access (Rect.unit (s := S128) o S1.size h)).read (Elt F) ft x = lenAt ft b := by
  subst e
  show ft _ = ft _
  refine congrArg ft (funext fun (a : Fin 1) => Fin.ext ?_)
  have h0 : b + 1 ≤ 128 := h 0
  have hx : (x 0).val < 1 := (x 0).isLt
  match a with
  | 0 => show b + 1 * (x 0).val = b % 128; omega

/-! ## Slots by the parity of a point -/

theorem slot_inb (b : ℕ) (a : Fin 1) : (![b % 2] : Fin 1 → ℕ) a + S1.size a ≤ S2.size a := by
  match a with
  | 0 => show b % 2 + 1 ≤ 2; omega

/-- The share of the cache a slot's copies read under. -/
def sh (b : ℕ) : PosShare TreeShare := if b % 2 = 0 then fullShare.left else fullShare.right

section
variable (c : Dev nD) (fc : S128x4096x656.Idx → Elt F .i8) (ft : S128.Idx → Elt F .i32)

def idleP (b : ℕ) : sProp 𝕄 := idle c (sh b) fc (b % 2) (slotSem (b % 2) (slot_inb b))
def flyP (b : ℕ) (hb : b < 128) : sProp 𝕄 := flying c (sh b) fc (b % 2) b hb (slotSem (b % 2) (slot_inb b)) (pieces (lenN ft b))

theorem idleP_congr {b b' : ℕ} (h : b % 2 = b' % 2) : (idleP c fc b : sProp 𝕄) = idleP c fc b' := by
  have hs : sh b = sh b' := by unfold sh; rw [h]
  have hm : slotSem (b % 2) (slot_inb b) = slotSem (b' % 2) (slot_inb b') := by congr 1
  unfold idleP
  rw [hs, hm, h]

/-- The slot of request `b` before its point: on its way, but before the first point and after the last. -/
def front (b : ℕ) : sProp 𝕄 := if hb : 0 < b ∧ b < 128 then flyP c fc ft b hb.2 else idleP c fc b

/-- Both slots before point `b`. -/
def slots (b : ℕ) : sProp 𝕄 := iprop(front c fc ft b ∗ idleP c fc (b + 1))

theorem kv_join (f0 f1 : S2x4096x656.Idx → Elt F .i8) :
    iprop((kvLoc c ↦[slotSet 0]{fullShare} f0) ∗ (kvLoc c ↦[slotSet 1]{fullShare} f1)) ⊢ (iprop(∃ g : S2x4096x656.Idx → Elt F .i8, kvLoc c ↦{fullShare} g) : sProp 𝕄) := by
  let g : S2x4096x656.Idx → Elt F .i8 := fun x => if (x 0).val = 0 then f0 x else f1 x
  rw [show (kvLoc c ↦[slotSet 0]{fullShare} f0 : sProp 𝕄) = kvLoc c ↦[slotSet 0]{fullShare} g from
      pointsTo_congr fun x hx => (if_pos (Finset.mem_filter.mp hx).2).symm,
    show (kvLoc c ↦[slotSet 1]{fullShare} f1 : sProp 𝕄) = kvLoc c ↦[slotSet 1]{fullShare} g from
      pointsTo_congr fun x hx => (if_neg (by have := (Finset.mem_filter.mp hx).2; omega)).symm]
  refine BIBase.Entails.trans (pointsTo_union (ℓ := kvLoc c) slots_disj).2 ?_
  rw [slots_join]
  iintro H
  iexists g
  iexact H

theorem kv_split (g : S2x4096x656.Idx → Elt F .i8) :
    (kvLoc c ↦{fullShare} g : sProp 𝕄) ⊢ iprop((kvLoc c ↦[slotSet 0]{fullShare} g) ∗ (kvLoc c ↦[slotSet 1]{fullShare} g)) := by
  refine BIBase.Entails.trans (Entails.of_eq ?_) (pointsTo_union (ℓ := kvLoc c) slots_disj).1
  rw [slots_join]

end

variable (c : Dev nD) (q : PosShare TreeShare) (𝒱 : Variants) (bd : Option 𝒱.V)

/-- One step of cutting a body: what the first part needs, then the rest from what it leaves. -/
theorem wp_cut {α β : Type} {p : Prog (TpuEff nD τ sig (Elt F) Λ₀ .tc) α} {K : α → Prog (TpuEff nD τ sig (Elt F) Λ₀ .tc) β} {P : sProp 𝕄} {R : α → sProp 𝕄} {Q : β → sProp 𝕄}
    (h : P ⊢ wp frame (wpE (defs₀ (F := F)) 𝒱 (c : Thread nD τ) bd) Set.univ p R) :
    P ⊢ iprop((∀ v, R v -∗ wp frame (wpE (defs₀ (F := F)) 𝒱 (c : Thread nD τ) bd) Set.univ (K v) Q) -∗ wp frame (wpE (defs₀ (F := F)) 𝒱 (c : Thread nD τ) bd) Set.univ (p >>= K) Q) := by
  rw [wp_bind]
  iintro H Hk
  iapply (wp_wand_r frame (wpE (defs₀ (F := F)) 𝒱 (c : Thread nD τ) bd) Set.univ)
  isplitl [H]
  · iapply h $$ H
  · iexact Hk

theorem wp_len {α : Type} (Q : α → sProp 𝕄) {o : Fin 1 → ℕ} {b : ℕ} (e : o = ![b]) (h : ∀ a, o a + S1.size a ≤ S128.size a) {h1 hp} (ft : S128.Idx → Elt F .i32)
    (K : Elt F .i32 → Prog (TpuEff nD τ sig (Elt F) Λ₀ .tc) α) :
    (tabLoc c ↦{q} ft)
      ⊢ iprop(((tabLoc c ↦{q} ft) -∗ wp frame (wpE (defs₀ (F := F)) 𝒱 (c : Thread nD τ) bd) Set.univ (K (lenAt ft b)) Q)
        -∗ wp frame (wpE (defs₀ (F := F)) 𝒱 (c : Thread nD τ) bd) Set.univ (smemLoad (Memref.whole main_arg5) (Rect.unit (s := S128) o S1.size h) h1 hp >>= K) Q) := by
  rw [← read_len e h ft (Shape.Idx.first (h1.symm ▸ Nat.one_pos))]
  exact wp_smemLoadElt (defs := defs₀ (F := F)) 𝒱 (c : Thread nD τ) bd Set.univ (Q := Q) (m := Memref.whole main_arg5) (r := Rect.unit (s := S128) o S1.size h)
    (hw := View.loads_smem_one hp h1) (x := Shape.Idx.first (h1.symm ▸ Nat.one_pos)) (k := K) (S := Finset.univ) (q := q) (f := ft) (Finset.subset_univ _)

/-! ## A window's whole buffer -/

section
variable {s : Shape} {e : EltTy} (m : Memref sig .tc .vmem s e) {o : Fin s.rank → ℕ} (ho : ∀ a, o a = 0) (h : ∀ a, o a + s.size a ≤ s.size a)

include ho in
theorem read_full (f : m.view.ty.Contents (Elt F)) :
    (m.access (Rect.unit (s := s) o s.size h)).read (Elt F) f = m.view.read (Elt F) f := by
  funext x
  refine congrArg (fun y => m.view.read (Elt F) f y) (funext fun a => Fin.ext ?_)
  show o a + 1 * (x a).val = (x a).val
  rw [ho a]; omega

include ho in
theorem wp_loadw {α : Type} (Q : α → sProp 𝕄) {hl} (X : s.Idx → Elt F e)
    (K : (s.Idx → Elt F e) → Prog (TpuEff nD τ sig (Elt F) Λ₀ .tc) α) :
    owns (c : Thread nD τ) m q X
      ⊢ iprop((owns (c : Thread nD τ) m q X -∗ wp frame (wpE (defs₀ (F := F)) 𝒱 (c : Thread nD τ) bd) Set.univ (K X) Q)
        -∗ wp frame (wpE (defs₀ (F := F)) 𝒱 (c : Thread nD τ) bd) Set.univ (.op (.load m (Rect.unit (s := s) o s.size h).toLoadRect hl) K) Q) := by
  unfold owns
  iintro ⟨%f, %hf, H⟩ Hk
  iapply (wp_load_rect (defs := defs₀ (F := F)) 𝒱 (c : Thread nD τ) bd Set.univ (Q := Q) (m := m) (r := Rect.unit (s := s) o s.size h) (hl := hl) (k := K) (S := m.view.set) (q := q) (f := f)
    (View.set_slice_subset _ _)) $$ H
  iintro H
  rw [read_full m ho h, hf]
  iapply Hk
  iexists f
  isplitr; · ipureintro; exact hf
  iexact H

include ho in
theorem wp_storew {α : Type} (Q : α → sProp 𝕄) {hx hm} (X v : s.Idx → Elt F e)
    (K : PUnit → Prog (TpuEff nD τ sig (Elt F) Λ₀ .tc) α) :
    owns (c : Thread nD τ) m fullShare X
      ⊢ iprop((owns (c : Thread nD τ) m fullShare v -∗ wp frame (wpE (defs₀ (F := F)) 𝒱 (c : Thread nD τ) bd) Set.univ (K ⟨⟩) Q)
        -∗ wp frame (wpE (defs₀ (F := F)) 𝒱 (c : Thread nD τ) bd) Set.univ (.op (.store m (Rect.unit (s := s) o s.size h) v Finset.univ hx hm) K) Q) := by
  unfold owns
  iintro ⟨%f, %hf, H⟩ Hk
  iapply (wp_store (defs := defs₀ (F := F)) 𝒱 (c : Thread nD τ) bd Set.univ (m := m) (r := Rect.unit (s := s) o s.size h) (S := m.view.set) (f := f)
    (View.set_slice_subset _ _)) $$ H
  iintro H
  iapply Hk
  iexists _
  isplitr; swap; · iexact H
  ipureintro
  rw [← read_full m ho h]
  exact View.read_write_univ (Val := Elt F) _ _
end

end Cert.KernelIdeal
-- ==== Proof.KernelIdeal.Blocks.lean ====
/-
  The first half of the kernel body in three pieces: starting the first request's copies at the first point, starting
  the next request's copies, and waiting for this request's.
-/
module

public import proofs.«01_k».proof.Proof.KernelIdeal.Slots

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- At the first point: clear both slots and start the first request's copies. -/
def startFirst (i : grid0.Coords) (arg1 : Memref sig .tc .smem S128 .i32) (harg1 : arg1.IsWhole) (arg2 : Memref sig .tc .vmem S1x1x16x512 .bf16) (harg2 : arg2.IsWhole) (arg3 : Memref sig .tc .vmem S1x1x16x256 .bf16) (harg3 : arg3.IsWhole) (arg4 : Memref sig .tc .vmem S1x1x512 .bf16) (harg4 : arg4.IsWhole) (arg5 : Memref sig .tc .vmem S1x1x256 .bf16) (harg5 : arg5.IsWhole) (arg6 : Memref sig .tc .vmem S16x256 .bf16) (harg6 : arg6.IsWhole) (arg7 : Memref sig .tc .hbm S128x4096x656 .i8) (harg7 : arg7.IsWhole) (arg8 : Memref sig .tc .vmem S1x1x16x512 .bf16) (harg8 : arg8.IsWhole) (arg9 : Memref sig .tc .vmem S2x4096x656 .i8) (harg9 : arg9.IsWhole) (arg10 : Memref sig .tc .vmem S8x16x512 .f32) (harg10 : arg10.IsWhole) (arg11 : Memref sig .tc .vmem S8x16x512 .f32) (harg11 : arg11.IsWhole) (arg12 : Memref sig .tc .vmem S8x8x512 .f32) (harg12 : arg12.IsWhole) (arg13 : Memref sig .tc .vmem S16x512 .f32) (harg13 : arg13.IsWhole) (arg14 : DmaSems sig S2) : Prog (TpuEff nD τ sig (Elt F) Λ₀ .tc) PUnit := do
  if k0_h1 : k0_cond1 i = 1#1 then do
    let v103 : Vec F S2x4096x656 .i8 ← Prog.lift (.load arg9 (Rect.unit (s := S2x4096x656) ![0, 0, 0] S2x4096x656.size inb_S2x4096x656_S2x4096x656_0_0_0).toLoadRect (View.loadsAt_vmem h_S2x4096x656))
    Prog.lift (.store arg9 (Rect.unit (s := S2x4096x656) ![0, 0, 0] S2x4096x656.size inb_S2x4096x656_S2x4096x656_0_0_0) k0_pay44 Finset.univ (View.stores_vmem h_S2x4096x656 (harg9.storeExact_slice rfl _ packedi8_S2x4096x656_S2x4096x656_0_0_0) (fun _ => rfl)) (.inl rfl))
    let v106 : Elt F .i32 ← smemLoad arg1 (Rect.unit (s := S128) ![0] S1.size inb_S128_S1_0) numel1_S1 rfl
    have k0_hw1 : k0_chk1 i v106 := (← Prog.lift (TpuEff.assume (k0_chk1 i v106) (k0_chk1.dec i v106))).down
    let v115 : BitVec 32 ← Scf.Loop.for (k0_t1_loop v106) (k0_t1_ok i v106 k0_hw1 k0_h1) 0#32 (k0_t1_body i arg1 harg1 arg2 harg2 arg3 harg3 arg4 harg4 arg5 harg5 arg6 harg6 arg7 harg7 arg8 harg8 arg9 harg9 arg10 harg10 arg11 harg11 arg12 harg12 arg13 harg13 arg14 k0_h1 v106 k0_hw1)
    let v116 : BitVec 32 ← Scf.Loop.for (k0_t2_loop v106) (k0_t2_ok i v106 k0_hw1 k0_h1) v115 (k0_t2_body i arg1 harg1 arg2 harg2 arg3 harg3 arg4 harg4 arg5 harg5 arg6 harg6 arg7 harg7 arg8 harg8 arg9 harg9 arg10 harg10 arg11 harg11 arg12 harg12 arg13 harg13 arg14 k0_h1 v106 k0_hw1)
    pure ⟨⟩
  else do
    pure ⟨⟩

/-- At every point but the last: start the next request's copies. -/
def startNext (i : grid0.Coords) (arg1 : Memref sig .tc .smem S128 .i32) (harg1 : arg1.IsWhole) (arg2 : Memref sig .tc .vmem S1x1x16x512 .bf16) (harg2 : arg2.IsWhole) (arg3 : Memref sig .tc .vmem S1x1x16x256 .bf16) (harg3 : arg3.IsWhole) (arg4 : Memref sig .tc .vmem S1x1x512 .bf16) (harg4 : arg4.IsWhole) (arg5 : Memref sig .tc .vmem S1x1x256 .bf16) (harg5 : arg5.IsWhole) (arg6 : Memref sig .tc .vmem S16x256 .bf16) (harg6 : arg6.IsWhole) (arg7 : Memref sig .tc .hbm S128x4096x656 .i8) (harg7 : arg7.IsWhole) (arg8 : Memref sig .tc .vmem S1x1x16x512 .bf16) (harg8 : arg8.IsWhole) (arg9 : Memref sig .tc .vmem S2x4096x656 .i8) (harg9 : arg9.IsWhole) (arg10 : Memref sig .tc .vmem S8x16x512 .f32) (harg10 : arg10.IsWhole) (arg11 : Memref sig .tc .vmem S8x16x512 .f32) (harg11 : arg11.IsWhole) (arg12 : Memref sig .tc .vmem S8x8x512 .f32) (harg12 : arg12.IsWhole) (arg13 : Memref sig .tc .vmem S16x512 .f32) (harg13 : arg13.IsWhole) (arg14 : DmaSems sig S2) : Prog (TpuEff nD τ sig (Elt F) Λ₀ .tc) PUnit := do
  if k0_h2 : k0_cond2 i = 1#1 then do
    let v106 : Elt F .i32 ← smemLoad arg1 (Rect.unit (s := S128) (k0_off5 i) S1.size (k0_off5_inb i k0_h2)) numel1_S1 rfl
    have k0_hw2 : k0_chk2 i v106 := (← Prog.lift (TpuEff.assume (k0_chk2 i v106) (k0_chk2.dec i v106))).down
    let v115 : BitVec 32 ← Scf.Loop.for (k0_t3_loop v106) (k0_t3_ok i v106 k0_hw2 k0_h2) 0#32 (k0_t3_body i arg1 harg1 arg2 harg2 arg3 harg3 arg4 harg4 arg5 harg5 arg6 harg6 arg7 harg7 arg8 harg8 arg9 harg9 arg10 harg10 arg11 harg11 arg12 harg12 arg13 harg13 arg14 k0_h2 v106 k0_hw2)
    let v116 : BitVec 32 ← Scf.Loop.for (k0_t4_loop v106) (k0_t4_ok i v106 k0_hw2 k0_h2) v115 (k0_t4_body i arg1 harg1 arg2 harg2 arg3 harg3 arg4 harg4 arg5 harg5 arg6 harg6 arg7 harg7 arg8 harg8 arg9 harg9 arg10 harg10 arg11 harg11 arg12 harg12 arg13 harg13 arg14 k0_h2 v106 k0_hw2)
    pure ⟨⟩
  else do
    pure ⟨⟩

/-- Wait for this request's copies, then read its length and its query. -/
def arrive (i : grid0.Coords) (arg1 : Memref sig .tc .smem S128 .i32) (harg1 : arg1.IsWhole) (arg2 : Memref sig .tc .vmem S1x1x16x512 .bf16) (harg2 : arg2.IsWhole) (arg3 : Memref sig .tc .vmem S1x1x16x256 .bf16) (harg3 : arg3.IsWhole) (arg4 : Memref sig .tc .vmem S1x1x512 .bf16) (harg4 : arg4.IsWhole) (arg5 : Memref sig .tc .vmem S1x1x256 .bf16) (harg5 : arg5.IsWhole) (arg6 : Memref sig .tc .vmem S16x256 .bf16) (harg6 : arg6.IsWhole) (arg7 : Memref sig .tc .hbm S128x4096x656 .i8) (harg7 : arg7.IsWhole) (arg8 : Memref sig .tc .vmem S1x1x16x512 .bf16) (harg8 : arg8.IsWhole) (arg9 : Memref sig .tc .vmem S2x4096x656 .i8) (harg9 : arg9.IsWhole) (arg10 : Memref sig .tc .vmem S8x16x512 .f32) (harg10 : arg10.IsWhole) (arg11 : Memref sig .tc .vmem S8x16x512 .f32) (harg11 : arg11.IsWhole) (arg12 : Memref sig .tc .vmem S8x8x512 .f32) (harg12 : arg12.IsWhole) (arg13 : Memref sig .tc .vmem S16x512 .f32) (harg13 : arg13.IsWhole) (arg14 : DmaSems sig S2) : Prog (TpuEff nD τ sig (Elt F) Λ₀ .tc) (Σ' (v3 : BitVec 32) (v21 : Elt F .i32) (k0_hw4 : k0_chk4 i v21) (v24 : BitVec 32) (v26 : FVec F S16x512 .bf16) (v27 : FVec F S16x128 .bf16), FVec F S32x256 .bf16) := do
  let arg0 : BitVec 32 := BitVec.ofNat 32 (i 0).val
  let v3 : BitVec 32 := Scalar.andi arg0 1#32
  let v9 : Elt F .i32 ← smemLoad arg1 (Rect.unit (s := S128) (k0_off12 i) S1.size (k0_off12_inb i)) numel1_S1 rfl
  have k0_hw3 : k0_chk3 i v9 := (← Prog.lift (TpuEff.assume (k0_chk3 i v9) (k0_chk3.dec i v9))).down
  let v18 : BitVec 32 ← Scf.Loop.for (k0_t5_loop v9) (k0_t5_ok i v9 k0_hw3) 0#32 (k0_t5_body i arg1 harg1 arg2 harg2 arg3 harg3 arg4 harg4 arg5 harg5 arg6 harg6 arg7 harg7 arg8 harg8 arg9 harg9 arg10 harg10 arg11 harg11 arg12 harg12 arg13 harg13 arg14 v9 k0_hw3)
  let v19 : BitVec 32 ← Scf.Loop.for (k0_t6_loop v9) (k0_t6_ok i v9 k0_hw3) v18 (k0_t6_body i arg1 harg1 arg2 harg2 arg3 harg3 arg4 harg4 arg5 harg5 arg6 harg6 arg7 harg7 arg8 harg8 arg9 harg9 arg10 harg10 arg11 harg11 arg12 harg12 arg13 harg13 arg14 v9 k0_hw3)
  let v21 : Elt F .i32 ← smemLoad arg1 (Rect.unit (s := S128) (k0_off19 i) S1.size (k0_off19_inb i)) numel1_S1 rfl
  have k0_hw4 : k0_chk4 i v21 := (← Prog.lift (TpuEff.assume (k0_chk4 i v21) (k0_chk4.dec i v21))).down
  let v22 : BitVec 32 := Scalar.addi v21 512#32
  let v23 : BitVec 32 := Scalar.subi v22 1#32
  let v24 : BitVec 32 := Scalar.shrui v23 9#32
  let v25 : Vec F S1x1x16x512 .bf16 ← Prog.lift (.load arg2 (Rect.unit (s := S1x1x16x512) ![0, 0, 0, 0] S1x1x16x512.size inb_S1x1x16x512_S1x1x16x512_0_0_0_0).toLoadRect (View.loadsAt_vmem h_S1x1x16x512))
  pure ⟨v3, v21, k0_hw4, v24, k0_pay45 v25, k0_pay46 (F := F), k0_pay47 v25⟩

set_option maxRecDepth 65536 in
theorem part7_cut (i : grid0.Coords) (arg1 : Memref sig .tc .smem S128 .i32) (harg1 : arg1.IsWhole) (arg2 : Memref sig .tc .vmem S1x1x16x512 .bf16) (harg2 : arg2.IsWhole) (arg3 : Memref sig .tc .vmem S1x1x16x256 .bf16) (harg3 : arg3.IsWhole) (arg4 : Memref sig .tc .vmem S1x1x512 .bf16) (harg4 : arg4.IsWhole) (arg5 : Memref sig .tc .vmem S1x1x256 .bf16) (harg5 : arg5.IsWhole) (arg6 : Memref sig .tc .vmem S16x256 .bf16) (harg6 : arg6.IsWhole) (arg7 : Memref sig .tc .hbm S128x4096x656 .i8) (harg7 : arg7.IsWhole) (arg8 : Memref sig .tc .vmem S1x1x16x512 .bf16) (harg8 : arg8.IsWhole) (arg9 : Memref sig .tc .vmem S2x4096x656 .i8) (harg9 : arg9.IsWhole) (arg10 : Memref sig .tc .vmem S8x16x512 .f32) (harg10 : arg10.IsWhole) (arg11 : Memref sig .tc .vmem S8x16x512 .f32) (harg11 : arg11.IsWhole) (arg12 : Memref sig .tc .vmem S8x8x512 .f32) (harg12 : arg12.IsWhole) (arg13 : Memref sig .tc .vmem S16x512 .f32) (harg13 : arg13.IsWhole) (arg14 : DmaSems sig S2) :
    k0_part7 (F := F) i arg1 harg1 arg2 harg2 arg3 harg3 arg4 harg4 arg5 harg5 arg6 harg6 arg7 harg7 arg8 harg8 arg9 harg9 arg10 harg10 arg11 harg11 arg12 harg12 arg13 harg13 arg14
      = (startFirst i arg1 harg1 arg2 harg2 arg3 harg3 arg4 harg4 arg5 harg5 arg6 harg6 arg7 harg7 arg8 harg8 arg9 harg9 arg10 harg10 arg11 harg11 arg12 harg12 arg13 harg13 arg14 >>= fun _ => startNext i arg1 harg1 arg2 harg2 arg3 harg3 arg4 harg4 arg5 harg5 arg6 harg6 arg7 harg7 arg8 harg8 arg9 harg9 arg10 harg10 arg11 harg11 arg12 harg12 arg13 harg13 arg14 >>= fun _ => arrive i arg1 harg1 arg2 harg2 arg3 harg3 arg4 harg4 arg5 harg5 arg6 harg6 arg7 harg7 arg8 harg8 arg9 harg9 arg10 harg10 arg11 harg11 arg12 harg12 arg13 harg13 arg14) := by
  rw [k0_part7_eq_skeleton]
  unfold k0_part7_skel startFirst startNext arrive
  by_cases h1 : k0_cond1 i = 1#1 <;> by_cases h2 : k0_cond2 i = 1#1 <;>
    simp only [dif_pos, dif_neg, h1, h2, Prog.lift, Prog.bind_op, Prog.bind_ret, Prog.pure_eq_ret, Prog.bind_assoc, not_false_eq_true]

end Cert.KernelIdeal
-- ==== Proof.KernelIdeal.Body.lean ====
/-
  The kernel body at one grid point: from the two slots as they stand before the point to the two slots after it, and
  the output block written.
-/
module

public import proofs.«01_k».proof.Proof.KernelIdeal.Blocks

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (q : PosShare TreeShare) (𝒱 : Variants) (bd : Option 𝒱.V)

/-- A loop of no trips. -/
theorem wp_skip {σ β : Type} {L : Scf.Loop 32} (h : L.trips = 0) (hok : L.OK) (init : σ) (body : Fin L.trips → σ → Prog (TpuEff nD τ sig (Elt F) Λ₀ .tc) σ)
    (K : σ → Prog (TpuEff nD τ sig (Elt F) Λ₀ .tc) β) (Q : β → sProp 𝕄) :
    wp frame (wpE (defs₀ (F := F)) 𝒱 (c : Thread nD τ) bd) Set.univ (K init) Q ⊢ wp frame (wpE (defs₀ (F := F)) 𝒱 (c : Thread nD τ) bd) Set.univ (Scf.Loop.for L hok init body >>= K) Q :=
  Scf.wp_for0_bind' frame (wpE (defs₀ (F := F)) 𝒱 (c : Thread nD τ) bd) Set.univ L.lb L.ub L.st hok init body h K Q _ .rfl

variable (fc : S128x4096x656.Idx → Elt F .i8) (ft : S128.Idx → Elt F .i32)
variable (i : grid0.Coords) (harg1 : (Memref.whole main_arg5).IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (harg10 : (Memref.whole cc0_scratch1).IsWhole)
  (harg11 : (Memref.whole cc0_scratch2).IsWhole) (harg12 : (Memref.whole cc0_scratch3).IsWhole) (harg13 : (Memref.whole cc0_scratch4).IsWhole)

variable (hl : ∀ b, lenN ft b ≤ 4096)

theorem zero3 : ∀ a : Fin 3, (![0, 0, 0] : Fin 3 → ℕ) a = 0 := by decide
theorem zero4 : ∀ a : Fin 4, (![0, 0, 0, 0] : Fin 4 → ℕ) a = 0 := by decide
theorem zero2 : ∀ a : Fin 2, (![0, 0] : Fin 2 → ℕ) a = 0 := by decide

/-- Two idle slots make up the whole double buffer, which can be overwritten. -/
theorem idle_two (g : S2x4096x656.Idx → Elt F .i8) :
    iprop(idleP c fc 0 ∗ idleP c fc 1) ⊢ (iprop((∃ f : S2x4096x656.Idx → Elt F .i8, owns (c : Thread nD τ) (Memref.whole cc0_scratch0) fullShare f)
      ∗ (owns (c : Thread nD τ) (Memref.whole cc0_scratch0) fullShare g -∗ idleP c fc 0 ∗ idleP c fc 1)) : sProp 𝕄) := by
  unfold idleP idle
  iintro ⟨⟨⟨%f0, H0⟩, Hc0, Hs0⟩, ⟨⟨%f1, H1⟩, Hc1, Hs1⟩⟩
  ihave Hk := (kv_join c f0 f1) $$ [H0 H1]
  · isplitl [H0] <;> iassumption
  icases Hk with ⟨%f, Hk⟩
  isplitl [Hk]
  · iexists f
    iapply (Entails.of_eq (owns_whole (c : Thread nD τ) cc0_scratch0 fullShare f).symm) $$ Hk
  · iintro Hg
    ihave Hg := (Entails.of_eq (owns_whole (c : Thread nD τ) cc0_scratch0 fullShare g)) $$ Hg
    ihave Hg := (kv_split c g) $$ Hg
    icases Hg with ⟨H0, H1⟩
    isplitl [H0 Hc0 Hs0]
    · isplitl [H0]; · iexists g; iexact H0
      isplitl [Hc0] <;> iassumption
    · isplitl [H1]; · iexists g; iexact H1
      isplitl [Hc1] <;> iassumption

theorem flyP_eq (b : ℕ) (hb : b < 128) : (flyP c fc ft b hb : sProp 𝕄)
    = flying c (sh b) fc (b % 2) b hb (slotSem (b % 2) (slot_inb b)) (pieces (BitVec.toNat (lenAt ft b : BitVec 32))) := rfl

set_option maxHeartbeats 1000000 in
include hl in
theorem start_first {b : ℕ} (e : (i 0).val = b) (hb : b < 128) :
    iprop((tabLoc c ↦{q} ft) ∗ slots c fc ft b)
      ⊢ wp frame (wpE (defs₀ (F := F)) 𝒱 (c : Thread nD τ) bd) Set.univ (startFirst (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5)
        (fun _ => (iprop((tabLoc c ↦{q} ft) ∗ flyP c fc ft b hb ∗ idleP c fc (b + 1)) : sProp 𝕄)) := by
  unfold startFirst
  by_cases h1 : k0_cond1 i = 1#1
  · have h0 : b = 0 := by rw [← e]; exact (cond1_iff i).mp h1
    subst h0
    simp only [dif_pos h1, Prog.lift, Prog.bind_op, Prog.bind_ret, Prog.pure_eq_ret, Prog.bind_assoc]
    unfold slots front
    rw [dif_neg (fun h : 0 < 0 ∧ 0 < 128 => absurd h.1 (Nat.lt_irrefl _))]
    iintro ⟨HT, H0, H1⟩
    ihave HK := (idle_two c fc k0_pay44) $$ [H0 H1]
    · isplitl [H0] <;> iassumption
    icases HK with ⟨⟨%f, HK⟩, Hback⟩
    iapply (wp_loadw c fullShare 𝒱 bd (Memref.whole cc0_scratch0) zero3 inb_S2x4096x656_S2x4096x656_0_0_0 _ f) $$ HK
    iintro HK
    iapply (wp_storew c 𝒱 bd (Memref.whole cc0_scratch0) zero3 inb_S2x4096x656_S2x4096x656_0_0_0 _ f k0_pay44) $$ HK
    iintro HK
    ihave HB := Hback $$ HK
    icases HB with ⟨H0, H1⟩
    iapply (wp_len c q 𝒱 bd _ (b := 0) rfl inb_S128_S1_0 ft) $$ HT
    iintro HT
    iapply (wp_assume 𝒱 (c : Thread nD τ) bd Set.univ (chk1 i (lenAt ft 0) (hl 0)))
    imod (show idleP c fc 0 ⊢ (|={Set.univ}=> iprop(flight c (sh 0) fc 0 0 hb (slotSem 0 (slot_inb 0)) (pieces (BitVec.toNat (lenAt ft 0 : BitVec 32))) 0 0 ∗ rest c (sh 0) fc 0 0 0) : sProp 𝕄)
      from idle_start c (sh 0) fc 0 0 hb (slotSem 0 (slot_inb 0)) (pieces (BitVec.toNat (lenAt ft 0 : BitVec 32)))) $$ H0 with H0
    iapply (wp_cut c 𝒱 bd (issue1 c (sh 0) fc 𝒱 bd i (Memref.whole main_arg5) harg1 arg2 harg2 arg3 harg3 arg4 harg4 arg5 harg5 arg6 harg6 harg7 arg8 harg8 harg9 (Memref.whole cc0_scratch1) harg10 (Memref.whole cc0_scratch2) harg11 (Memref.whole cc0_scratch3) harg12 (Memref.whole cc0_scratch4) harg13 h1 (lenAt ft 0) _ (hl 0) hb (slot_inb 0) _)) $$ H0
    iintro %v H0
    iapply (wp_skip c 𝒱 bd (t2_trips (lenAt ft 0)) _ _ _ _ _)
    rw [wp_ret]
    imodintro
    isplitl [HT]; · iexact HT
    isplitl [H0]; · rw [flyP_eq]; iexact H0
    iexact H1
  · have h0 : 0 < b := by
      rcases Nat.eq_zero_or_pos b with h | h
      · exact absurd ((cond1_iff i).mpr (e.trans h)) h1
      · exact h
    simp only [dif_neg h1, Prog.pure_eq_ret]
    unfold slots front
    rw [dif_pos ⟨h0, hb⟩, wp_ret]
    iintro H
    imodintro
    iexact H

set_option maxHeartbeats 1000000 in
include hl in
theorem start_next :
    iprop((tabLoc c ↦{q} ft) ∗ idleP c fc ((i 0).val + 1))
      ⊢ wp frame (wpE (defs₀ (F := F)) 𝒱 (c : Thread nD τ) bd) Set.univ (startNext (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5)
        (fun _ => (iprop((tabLoc c ↦{q} ft) ∗ front c fc ft ((i 0).val + 1)) : sProp 𝕄)) := by
  unfold startNext
  by_cases h1 : k0_cond2 i = 1#1
  · have hb : (i 0).val + 1 < 128 := (cond2_iff i).mp h1
    simp only [dif_pos h1, Prog.lift, Prog.bind_op, Prog.bind_ret, Prog.pure_eq_ret, Prog.bind_assoc]
    unfold front
    rw [dif_pos ⟨Nat.succ_pos _, hb⟩]
    iintro ⟨HT, H0⟩
    iapply (wp_len c q 𝒱 bd _ (off5_eq i) _ ft) $$ HT
    iintro HT
    iapply (wp_assume 𝒱 (c : Thread nD τ) bd Set.univ (chk2 i (lenAt ft ((i 0).val + 1)) (hl _) hb))
    unfold idleP
    imod (idle_start c (sh ((i 0).val + 1)) fc (((i 0).val + 1) % 2) ((i 0).val + 1) hb (slotSem (((i 0).val + 1) % 2) (slot_inb _)) (pieces (BitVec.toNat (lenAt ft ((i 0).val + 1) : BitVec 32)))) $$ H0 with H0
    iapply (wp_cut c 𝒱 bd (issue3 c (sh ((i 0).val + 1)) fc 𝒱 bd i (Memref.whole main_arg5) harg1 arg2 harg2 arg3 harg3 arg4 harg4 arg5 harg5 arg6 harg6 harg7 arg8 harg8 harg9 (Memref.whole cc0_scratch1) harg10 (Memref.whole cc0_scratch2) harg11 (Memref.whole cc0_scratch3) harg12 (Memref.whole cc0_scratch4) harg13 h1 (lenAt ft ((i 0).val + 1)) _ (hl _) hb (slot_inb _) _)) $$ H0
    iintro %v H0
    iapply (wp_skip c 𝒱 bd (t4_trips (lenAt ft ((i 0).val + 1))) _ _ _ _ _)
    rw [wp_ret]
    imodintro
    isplitl [HT]; · iexact HT
    rw [flyP_eq]; iexact H0
  · have hb : ¬ (i 0).val + 1 < 128 := fun h => h1 ((cond2_iff i).mpr h)
    simp only [dif_neg h1, Prog.pure_eq_ret]
    unfold front
    rw [dif_neg (fun h => hb h.2), wp_ret]
    iintro H
    imodintro
    iexact H

/-- The slot of request `b` once its copies are in. -/
def landP (b : ℕ) (hb : b < 128) : sProp 𝕄 := landedSlot c (sh b) fc (b % 2) b hb (slotSem (b % 2) (slot_inb b)) (pieces (lenN ft b))

theorem landP_eq (b : ℕ) (hb : b < 128) : (landP c fc ft b hb : sProp 𝕄)
    = landedSlot c (sh b) fc (b % 2) b hb (slotSem (b % 2) (slot_inb b)) (pieces (BitVec.toNat (lenAt ft b : BitVec 32))) := rfl

set_option maxHeartbeats 1000000 in
include hl in
theorem wp_arrive {α : Type} (Q : α → sProp 𝕄) (hb : (i 0).val < 128) (X2 : S1x1x16x512.Idx → Elt F .bf16) (K) :
    iprop((tabLoc c ↦{q} ft) ∗ flyP c fc ft (i 0).val hb ∗ owns (c : Thread nD τ) arg2 fullShare X2 ∗ (∃ W, owes (c : Thread nD τ) 0 W))
      ⊢ iprop((((tabLoc c ↦{q} ft) ∗ landP c fc ft (i 0).val hb ∗ owns (c : Thread nD τ) arg2 fullShare X2 ∗ (∃ W, owes (c : Thread nD τ) 0 W))
          -∗ wp frame (wpE (defs₀ (F := F)) 𝒱 (c : Thread nD τ) bd) Set.univ (K ⟨Scalar.andi (BitVec.ofNat 32 (i 0).val) 1#32, lenAt ft (i 0).val, chk4 i (lenAt ft (i 0).val) (hl _),
            Scalar.shrui (Scalar.subi (Scalar.addi (lenAt ft (i 0).val) 512#32) 1#32) 9#32, k0_pay45 X2, k0_pay46 (F := F), k0_pay47 X2⟩) Q)
        -∗ wp frame (wpE (defs₀ (F := F)) 𝒱 (c : Thread nD τ) bd) Set.univ (arrive (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5 >>= K) Q) := by
  unfold arrive
  rw [flyP_eq, landP_eq]
  simp only [Prog.lift, Prog.bind_op, Prog.bind_ret, Prog.pure_eq_ret, Prog.bind_assoc]
  iintro ⟨HT, HF, H2, HO⟩ Hk
  iapply (wp_len c q 𝒱 bd _ (off12_eq i) _ ft) $$ HT
  iintro HT
  iapply (wp_assume 𝒱 (c : Thread nD τ) bd Set.univ (chk3 i (lenAt ft (i 0).val) (hl _)))
  iapply (wp_cut c 𝒱 bd (land5 c (sh (i 0).val) fc 𝒱 bd i (Memref.whole main_arg5) harg1 arg2 harg2 arg3 harg3 arg4 harg4 arg5 harg5 arg6 harg6 harg7 arg8 harg8 harg9 (Memref.whole cc0_scratch1) harg10 (Memref.whole cc0_scratch2) harg11 (Memref.whole cc0_scratch3) harg12 (Memref.whole cc0_scratch4) harg13 (lenAt ft (i 0).val) _ (hl _) hb (slot_inb _) _)) $$ [HF HO]
  · isplitl [HF] <;> iassumption
  iintro %v ⟨HL, HO⟩
  iapply (wp_skip c 𝒱 bd (t6_trips (lenAt ft (i 0).val)) _ _ _ _ _)
  iapply (wp_len c q 𝒱 bd _ (off19_eq i) _ ft) $$ HT
  iintro HT
  iapply (wp_assume 𝒱 (c : Thread nD τ) bd Set.univ (chk4 i (lenAt ft (i 0).val) (hl _)))
  iapply (wp_loadw c fullShare 𝒱 bd arg2 zero4 inb_S1x1x16x512_S1x1x16x512_0_0_0_0 _ X2) $$ H2
  iintro H2
  iapply Hk
  isplitl [HT]; · iexact HT
  isplitl [HL]; · iexact HL
  isplitl [H2] <;> iassumption

/-! ## What a point writes -/

/-- The new token's score, from which the running maximum starts. -/
def outStart (a2 : S1x1x16x512.Idx → Elt F .bf16) (a3 : S1x1x16x256.Idx → Elt F .bf16) (a4 : S1x1x512.Idx → Elt F .bf16) (a5 : S1x1x256.Idx → Elt F .bf16) : FVec F S16x1 .f32 :=
  k0_pay51 (k0_pay45 a2) a4 a5 a3

/-- A chunk's scores. -/
def outScore (w : Elt F .i32) (p : ℕ) (a2 : S1x1x16x512.Idx → Elt F .bf16) (a3 : S1x1x16x256.Idx → Elt F .bf16) (a6 : S16x256.Idx → Elt F .bf16)
    (f : S2x4096x656.Idx → Elt F .i8) (k : ℕ) : FVec F S16x512 .f32 :=
  scoreTile w (k0_pay45 a2) (k0_pay46 (F := F)) (k0_pay47 a2) a3 a6 f p k

/-- The maximum over the new token and every live row. -/
def outMax (w : Elt F .i32) (p : ℕ) (a2 : S1x1x16x512.Idx → Elt F .bf16) (a3 : S1x1x16x256.Idx → Elt F .bf16) (a4 : S1x1x512.Idx → Elt F .bf16) (a5 : S1x1x256.Idx → Elt F .bf16)
    (a6 : S16x256.Idx → Elt F .bf16) (f : S2x4096x656.Idx → Elt F .i8) : FVec F S16x1 .f32 :=
  maxUpto (outStart a2 a3 a4 a5) (outScore w p a2 a3 a6 f) (chunks (BitVec.toNat (w : BitVec 32)))

/-- The sum of exponentials over the new token and every live row. -/
def outSum (w : Elt F .i32) (p : ℕ) (a2 : S1x1x16x512.Idx → Elt F .bf16) (a3 : S1x1x16x256.Idx → Elt F .bf16) (a4 : S1x1x512.Idx → Elt F .bf16) (a5 : S1x1x256.Idx → Elt F .bf16)
    (a6 : S16x256.Idx → Elt F .bf16) (f : S2x4096x656.Idx → Elt F .i8) : FVec F S16x1 .f32 :=
  sumUpto (outMax w p a2 a3 a4 a5 a6 f) (k0_pay3 (outStart a2 a3 a4 a5) (outMax w p a2 a3 a4 a5 a6 f)) (outScore w p a2 a3 a6 f) (chunks (BitVec.toNat (w : BitVec 32)))

/-- The point's output block. -/
def outVal (w : Elt F .i32) (p : ℕ) (a2 : S1x1x16x512.Idx → Elt F .bf16) (a3 : S1x1x16x256.Idx → Elt F .bf16) (a4 : S1x1x512.Idx → Elt F .bf16) (a5 : S1x1x256.Idx → Elt F .bf16)
    (a6 : S16x256.Idx → Elt F .bf16) (f : S2x4096x656.Idx → Elt F .i8) : S1x1x16x512.Idx → Elt F .bf16 :=
  k0_pay17 (accUpto (outSum w p a2 a3 a4 a5 a6 f) (fun k => k0_pay5 (outMax w p a2 a3 a4 a5 a6 f) (k0_pay52 (outScore w p a2 a3 a6 f k))) (scaleTile a3 a6 f p)
    (fun k => tile 256 f p (512 * k) 0) (fun k => tile 256 f p (512 * k) 256)
    (k0_pay10 (k0_pay50 a4) (outStart a2 a3 a4 a5) (outMax w p a2 a3 a4 a5 a6 f) (outSum w p a2 a3 a4 a5 a6 f)) (chunks (BitVec.toNat (w : BitVec 32))))

/-- The double buffer holds request `b`'s live pieces in slot `b % 2`. -/
def Holds (b : ℕ) (hb : b < 128) (f : S2x4096x656.Idx → Elt F .i8) : Prop :=
  ∀ x, (x 0).val = b % 2 → (x 1).val < 256 * pieces (lenN ft b) → f x = rowsOf fc b hb x

/-- The scratch buffers the arithmetic works in. -/
def work : sProp 𝕄 :=
  iprop((∃ g1 : S8x16x512.Idx → Elt F .f32, (Memref.whole cc0_scratch1).view.loc (c : Thread nD τ) ↦{fullShare} g1) ∗ (∃ g3 : S8x8x512.Idx → Elt F .f32, (Memref.whole cc0_scratch3).view.loc (c : Thread nD τ) ↦{fullShare} g3)
    ∗ (∃ g4 : S16x512.Idx → Elt F .f32, (Memref.whole cc0_scratch4).view.loc (c : Thread nD τ) ↦{fullShare} g4))

set_option maxHeartbeats 2000000 in
set_option maxRecDepth 65536 in
include hl in
theorem body_run (hb : (i 0).val < 128) (X2 : S1x1x16x512.Idx → Elt F .bf16) (X3 : S1x1x16x256.Idx → Elt F .bf16) (X4 : S1x1x512.Idx → Elt F .bf16) (X5 : S1x1x256.Idx → Elt F .bf16)
    (X6 : S16x256.Idx → Elt F .bf16) (X8 : S1x1x16x512.Idx → Elt F .bf16) :
    iprop((tabLoc c ↦{q} ft) ∗ slots c fc ft (i 0).val ∗ work c ∗ (∃ W, owes (c : Thread nD τ) 0 W)
        ∗ owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg8 fullShare X8)
      ⊢ wp frame (wpE (defs₀ (F := F)) 𝒱 (c : Thread nD τ) bd) Set.univ (cc0_mla_decode (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5)
        (fun _ => (iprop((tabLoc c ↦{q} ft) ∗ slots c fc ft ((i 0).val + 1) ∗ work c ∗ (∃ W, owes (c : Thread nD τ) 0 W)
        ∗ owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6
        ∗ (∃ f, ⌜Holds fc ft (i 0).val hb f⌝ ∗ owns (c : Thread nD τ) arg8 fullShare (outVal (lenAt ft (i 0).val) ((i 0).val % 2) X2 X3 X4 X5 X6 f))) : sProp 𝕄)) := by
  rw [cc0_mla_decode_eq_skeleton]
  unfold cc0_mla_decode_skel
  rw [part7_cut, k0_part8_eq_skeleton]
  unfold k0_part8_skel
  simp only [Prog.lift, Prog.bind_op, Prog.bind_ret, Prog.pure_eq_ret, Prog.bind_assoc]
  iintro ⟨HT, HS, HW, HO, H2, H3, H4, H5, H6, H8⟩
  iapply (wp_cut c 𝒱 bd (start_first c q 𝒱 bd fc ft i harg1 arg2 harg2 arg3 harg3 arg4 harg4 arg5 harg5 arg6 harg6 harg7 arg8 harg8 harg9 harg10 harg11 harg12 harg13 hl rfl hb)) $$ [HT HS]
  · isplitl [HT] <;> iassumption
  iintro %v1 ⟨HT, HF, HI⟩
  iapply (wp_cut c 𝒱 bd (start_next c q 𝒱 bd fc ft i harg1 arg2 harg2 arg3 harg3 arg4 harg4 arg5 harg5 arg6 harg6 harg7 arg8 harg8 harg9 harg10 harg11 harg12 harg13 hl)) $$ [HT HI]
  · isplitl [HT] <;> iassumption
  iintro %v2 ⟨HT, HN⟩
  iapply (wp_arrive c q 𝒱 bd fc ft i harg1 arg2 harg2 arg3 harg3 arg4 harg4 arg5 harg5 arg6 harg6 harg7 arg8 harg8 harg9 harg10 harg11 harg12 harg13 hl _ hb X2 _) $$ [HT HF H2 HO]
  · isplitl [HT]; · iexact HT
    isplitl [HF]; · iexact HF
    isplitl [H2] <;> iassumption
  iintro ⟨HT, HL, H2, HO⟩
  dsimp only
  iapply (wp_loadw c fullShare 𝒱 bd arg3 zero4 inb_S1x1x16x256_S1x1x16x256_0_0_0_0 _ X3) $$ H3
  iintro H3
  iapply (wp_loadw c fullShare 𝒱 bd arg6 zero2 inb_S16x256_S16x256_0_0 _ X6) $$ H6
  iintro H6
  iapply (wp_loadw c fullShare 𝒱 bd arg4 zero3 inb_S1x1x512_S1x1x512_0_0_0 _ X4) $$ H4
  iintro H4
  iapply (wp_loadw c fullShare 𝒱 bd arg5 zero3 inb_S1x1x256_S1x1x256_0_0_0 _ X5) $$ H5
  iintro H5
  iapply (wp_loadw c fullShare 𝒱 bd arg3 zero4 inb_S1x1x16x256_S1x1x16x256_0_0_0_0 _ X3) $$ H3
  iintro H3
  unfold landP landedSlot work
  icases HL with ⟨⟨%f, %hf, HK⟩, HC, HM⟩
  icases HW with ⟨H1, HP, ⟨%g4, HA⟩⟩
  iapply (wp_cut c 𝒱 bd (loop7 c 𝒱 bd i (Memref.whole main_arg5) harg1 arg2 harg2 arg3 harg3 arg4 harg4 arg5 harg5 arg6 harg6 harg7 arg8 harg8 harg9 harg10 harg11 harg12 harg13 _ (lenAt ft (i 0).val) _ (hl _) _ _ _ _ X3 X6 f _ _)) $$ [HK H1 HP]
  · isplitl [HK]; · iexact HK
    isplitl [H1] <;> iassumption
  iintro %m7 ⟨%e7, HK, H1, ⟨%g3, %hg3, HP⟩⟩
  subst e7
  iapply (wp_skip c 𝒱 bd (t8_trips (lenAt ft (i 0).val)) _ _ _ _ _)
  iapply (wp_cut c 𝒱 bd (loop9 c 𝒱 bd i (Memref.whole main_arg5) harg1 arg2 harg2 arg3 harg3 arg4 harg4 arg5 harg5 arg6 harg6 harg7 arg8 harg8 harg9 harg10 harg11 harg12 harg13 (lenAt ft (i 0).val) _ (hl _) _ _ _ _)) $$ H1
  iintro %m9 ⟨%e9, ⟨%g1, %hg1, H1⟩⟩
  subst e9
  iapply (wp_skip c 𝒱 bd (t10_trips (lenAt ft (i 0).val)) _ _ _ _ _)
  ihave HA := (Entails.of_eq (owns_whole (c : Thread nD τ) cc0_scratch4 fullShare g4).symm) $$ HA
  iapply (wp_loadw c fullShare 𝒱 bd (Memref.whole cc0_scratch4) zero2 inb_S16x512_S16x512_0_0 _ g4) $$ HA
  iintro HA
  iapply (wp_storew c 𝒱 bd (Memref.whole cc0_scratch4) zero2 inb_S16x512_S16x512_0_0 _ g4 _) $$ HA
  iintro HA
  ihave HA := (Entails.of_eq (owns_whole (c : Thread nD τ) cc0_scratch4 fullShare _)) $$ HA
  iapply (wp_cut c 𝒱 bd (loop11 c 𝒱 bd i (Memref.whole main_arg5) harg1 arg2 harg2 arg3 harg3 arg4 harg4 arg5 harg5 arg6 harg6 harg7 arg8 harg8 harg9 harg10 harg11 harg12 harg13 _ (lenAt ft (i 0).val) _ (hl _) _ (fun k => k0_pay5 (outMax (lenAt ft (i 0).val) ((i 0).val % 2) X2 X3 X4 X5 X6 f) (k0_pay52 (outScore (lenAt ft (i 0).val) ((i 0).val % 2) X2 X3 X6 f k))) (scaleTile X3 X6 f ((i 0).val % 2)) f g1 g3 _ hg1 hg3 _)) $$ [HK H1 HP HA]
  · isplitl [HK]; · iexact HK
    isplitl [H1]; · iexact H1
    isplitl [HP] <;> iassumption
  iintro %v11 ⟨HK, H1, HP, HA⟩
  iapply (wp_skip c 𝒱 bd (t12_trips (lenAt ft (i 0).val)) _ _ _ _ _)
  ihave HA := (Entails.of_eq (owns_whole (c : Thread nD τ) cc0_scratch4 fullShare _).symm) $$ HA
  iapply (wp_loadw c fullShare 𝒱 bd (Memref.whole cc0_scratch4) zero2 inb_S16x512_S16x512_0_0 _ _) $$ HA
  iintro HA
  iapply (wp_loadw c fullShare 𝒱 bd arg8 zero4 inb_S1x1x16x512_S1x1x16x512_0_0_0_0 _ X8) $$ H8
  iintro H8
  iapply (wp_storew c 𝒱 bd arg8 zero4 inb_S1x1x16x512_S1x1x16x512_0_0_0_0 _ X8 _) $$ H8
  iintro H8
  ihave HA := (Entails.of_eq (owns_whole (c : Thread nD τ) cc0_scratch4 fullShare _)) $$ HA
  rw [wp_ret]
  imodintro
  isplitl [HT]; · iexact HT
  isplitl [HN HK HC HM]
  · unfold slots
    isplitl [HN]; · iexact HN
    rw [idleP_congr c fc (show ((i 0).val + 1 + 1) % 2 = (i 0).val % 2 by omega)]
    unfold idleP idle
    isplitl [HK]; · iexists f; iexact HK
    isplitl [HC] <;> iassumption
  isplitl [H1 HP HA]
  · isplitl [H1]; · iexists g1; iexact H1
    isplitl [HP]; · iexists g3; iexact HP
    iexists _; iexact HA
  isplitl [HO]; · iexact HO
  isplitl [H2]; · iexact H2
  isplitl [H3]; · iexact H3
  isplitl [H4]; · iexact H4
  isplitl [H5]; · iexact H5
  isplitl [H6]; · iexact H6
  iexists f
  isplitr; · ipureintro; exact hf
  iexact H8

end Cert.KernelIdeal
-- ==== Proof.KernelIdeal.Frame.lean ====
/-
  The kernel's run: its host lines, then the 128 points of its pipeline. Between points both slots of the double
  buffer, the two semaphores, the cache and the table of lengths stand as `slots` says.
-/
module

public import proofs.«01_k».proof.Proof.KernelIdeal.Body
public import proofs.«01_k».proof.Proof.Gen.KernelIdeal.Launch
public import Idealize.ShloMosaic.Lib.Pipeline.FrameBody

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers when the pipeline starts -/

/-- Every buffer after the host lines. -/
abbrev V0 (c : Dev nD) : Valuation τ sig (Elt F) := StableHlo.after (List.flatten [hostOps0, hostOps0_1, hostOps0_2, hostOps0_3]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
set_option maxRecDepth 16384 in
set_option maxHeartbeats 2000000 in
theorem hostOps0_3_fresh : (hostOps0_3 : List (HloOp τ sig (Elt F))).Forall fun op => op.fresh = ∅ := by
  simp only [List.Forall]; repeat' constructor

set_option maxHeartbeats 2000000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    ⟨hostOps0_sub, hostOps0_1_sub, hostOps0_2_sub, hostOps0_3_sub⟩
    ⟨hostOps0_fresh, hostOps0_1_fresh, hostOps0_2_fresh, hostOps0_3_fresh⟩
    (fun c => (main_chain c).trans rfl)

set_option maxRecDepth 32768 in
set_option maxHeartbeats 2000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

set_option maxRecDepth 32768 in
set_option maxHeartbeats 2000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes,
      StableHlo.binaryIndexed_writes, StableHlo.nary_writes, StableHlo.TRef.unary, StableHlo.TRef.binary, Finset.mem_singleton]
    repeat' apply And.intro
    all_goals exact StableHlo.devRef_ne_of_ne (by decide)))

/-! ## The table, the cells, the cache -/

set_option backward.proofsInPublic true in
/-- The pipeline's table: the lengths as launched. -/
def tabs : pre0.Contents (Elt F) := fun | ⟨0, _⟩ => V m 0 main_arg5 | ⟨_ + 1, h⟩ => absurd h (by simp)
abbrev adm (p : Fin 1) : (pcfgs (F := F) p).Adm := ⟨tabs m, trivial⟩
abbrev cfgK : Cfg sig Λ₀ := Pipeline.pin pcfgs (adm m) 0

theorem dev_zero (c : Dev nD) : c = 0 := by revert c; decide

theorem tabs_eq (c : Dev nD) (k) : V m c ((pcfgs (F := F) 0).pre.ref k) = (adm m 0).1 k := by
  obtain rfl := dev_zero c
  match k with
  | ⟨0, _⟩ => rfl

/-- The lengths and the cache on device `c`. -/
abbrev lens (c : Dev nD) : S128.Idx → Elt F .i32 := V m c main_arg5
abbrev cache (c : Dev nD) : S128x4096x656.Idx → Elt F .i8 := V m c main_arg4

/-- The two semaphores of the double buffer. -/
abbrev osem0 : Fin 2 → SemLoc sig := ![SemLoc.dma 11, SemLoc.dma 12]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0) := by
  rw [Pipeline.ownSems0_eq_of_list c osem0 [0, 1] (by decide) (by decide)]; rfl
def H0 : Finset (Ref sig .tc) := {main_arg4}
theorem H0_sub : H0 ⊆ Pipeline.restRefsP sig pre0 spec0 := by decide
theorem cachePts_eq (c : Dev nD) :
    (bigSep H0 (fun b => ((c : Thread nD τ).loc b) ↦{fullShare} V m c b) : sProp 𝕄) = iprop(cacheLoc c ↦{fullShare} cache m c) := by
  rw [BI.bigSep_eq_bigSepL_of_eq [main_arg4] (by decide) (by decide)]; rfl
theorem PhiD_eq (c : Dev nD) :
    (Pipeline.ΦD osem0 spec0 H0 (V m) c : sProp 𝕄)
      = iprop(iprop((∃ f : S2x4096x656.Idx → Elt F .i8, kvLoc c ↦{fullShare} f)
              ∗ (∃ f : S8x16x512.Idx → Elt F .f32, (Memref.whole cc0_scratch1).view.loc (c : Thread nD τ) ↦{fullShare} f)
              ∗ (∃ f : Buf (Elt F) ((c : Thread nD τ).loc cc0_scratch2), ((c : Thread nD τ).loc cc0_scratch2) ↦{fullShare} f)
              ∗ (∃ f : S8x8x512.Idx → Elt F .f32, (Memref.whole cc0_scratch3).view.loc (c : Thread nD τ) ↦{fullShare} f)
              ∗ (∃ f : S16x512.Idx → Elt F .f32, (Memref.whole cc0_scratch4).view.loc (c : Thread nD τ) ↦{fullShare} f))
          ∗ (∃ r, prngReg c r)
          ∗ iprop(semVal ((c : Thread nD τ), SemLoc.dma 11) 0 ∗ semVal ((c : Thread nD τ), SemLoc.dma 12) 0)
          ∗ (cacheLoc c ↦{fullShare} cache m c)) := by
  rw [Pipeline.ΦD_eq, scopedRest0_eq, ownSems00_eq, cachePts_eq]; rfl
theorem PhiT_eq (c : Dev nD) :
    (Pipeline.ΦT pre0 (adm m 0).1 c : sProp 𝕄) = iprop(tabLoc c ↦{fullShare.right} lens m c) := by
  obtain rfl := dev_zero c
  unfold Pipeline.ΦT Pipeline.prefHeld
  rw [bigSep_univ_eq_bigSepL [(0 : Fin 1)] (by decide) (by decide)]; rfl

/-! ## Between points -/

/-- What the region holds before point `b`, beside its windows. -/
def between (c : Dev nD) (b : ℕ) : sProp 𝕄 :=
  iprop((tabLoc c ↦{fullShare.right} lens m c) ∗ slots c (cache m c) (lens m c) b ∗ work c
    ∗ (∃ f : Buf (Elt F) ((c : Thread nD τ).loc cc0_scratch2), ((c : Thread nD τ).loc cc0_scratch2) ↦{fullShare} f) ∗ (∃ r, prngReg c r))

theorem idle_zero (c : Dev nD) (fc : S128x4096x656.Idx → Elt F .i8) :
    (idleP c fc 0 : sProp 𝕄) = iprop((∃ f, kvLoc c ↦[slotSet 0]{fullShare} f) ∗ (cacheLoc c ↦{fullShare.left} fc) ∗ semVal ((c : Thread nD τ), .dma 11) 0) := by
  unfold idleP idle; rfl
theorem idle_one (c : Dev nD) (fc : S128x4096x656.Idx → Elt F .i8) :
    (idleP c fc 1 : sProp 𝕄) = iprop((∃ f, kvLoc c ↦[slotSet 1]{fullShare} f) ∗ (cacheLoc c ↦{fullShare.right} fc) ∗ semVal ((c : Thread nD τ), .dma 12) 0) := by
  unfold idleP idle; rfl
theorem slots_first (c : Dev nD) (fc : S128x4096x656.Idx → Elt F .i8) (ft : S128.Idx → Elt F .i32) :
    (slots c fc ft 0 : sProp 𝕄) = iprop(idleP c fc 0 ∗ idleP c fc 1) := by
  unfold slots front; rw [dif_neg (by omega)]
theorem slots_last (c : Dev nD) (fc : S128x4096x656.Idx → Elt F .i8) (ft : S128.Idx → Elt F .i32) :
    (slots c fc ft 128 : sProp 𝕄) = iprop(idleP c fc 0 ∗ idleP c fc 1) := by
  unfold slots front; rw [dif_neg (by omega), idleP_congr c fc (b := 128) (b' := 0) rfl, idleP_congr c fc (b := 128 + 1) (b' := 1) rfl]

theorem between_in (c : Dev nD) : iprop(Pipeline.ΦD osem0 spec0 H0 (V m) c ∗ Pipeline.ΦT pre0 (adm m 0).1 c) ⊢ (between m c 0 : sProp 𝕄) := by
  rw [PhiD_eq, PhiT_eq]
  unfold between work
  rw [slots_first, idle_zero, idle_one]
  iintro ⟨⟨⟨⟨%f0, H0⟩, H1, H2, H3, H4⟩, Hr, ⟨Hs1, Hs2⟩, Hc⟩, HT⟩
  ihave Hk := (kv_split c f0) $$ H0
  icases Hk with ⟨Ha, Hb⟩
  ihave Hc := (pointsTo_share (PosShare.mem_left_op_right fullShare)).1 $$ Hc
  icases Hc with ⟨Hc1, Hc2⟩
  isplitl [HT]; · iexact HT
  isplitl [Ha Hb Hc1 Hc2 Hs1 Hs2]
  · isplitl [Ha Hc1 Hs1]
    · isplitl [Ha]
      · iexists f0; iexact Ha
      isplitl [Hc1] <;> iassumption
    · isplitl [Hb]
      · iexists f0; iexact Hb
      isplitl [Hc2] <;> iassumption
  isplitl [H1 H3 H4]
  · isplitl [H1]; · iexact H1
    isplitl [H3] <;> iassumption
  isplitl [H2] <;> iassumption

theorem between_out (c : Dev nD) : (between m c 128 : sProp 𝕄) ⊢ Pipeline.ΦD osem0 spec0 H0 (V m) c := by
  rw [PhiD_eq]
  unfold between work
  rw [slots_last, idle_zero, idle_one]
  iintro ⟨-, ⟨⟨⟨%f0, Ha⟩, Hc1, Hs1⟩, ⟨⟨%f1, Hb⟩, Hc2, Hs2⟩⟩, ⟨H1, H3, H4⟩, H2, Hr⟩
  ihave Hk := (kv_join c f0 f1) $$ [Ha Hb]
  · isplitl [Ha] <;> iassumption
  ihave Hc := (pointsTo_share (PosShare.mem_left_op_right fullShare)).2 $$ [Hc1 Hc2]
  · isplitl [Hc1] <;> iassumption
  isplitl [Hk H1 H2 H3 H4]
  · isplitl [Hk]; · iexact Hk
    isplitl [H1]; · iexact H1
    isplitl [H2]; · iexact H2
    isplitl [H3] <;> iassumption
  isplitl [Hr]; · iexact Hr
  isplitl [Hs1 Hs2]
  · isplitl [Hs1] <;> iassumption
  iexact Hc

/-! ## What a point leaves -/

/-- A window's block at a point, of the array as the pipeline finds it. -/
def iblk (c : Dev nD) (w : Fin 6) (t : Fin (cfgK m).N) : (((cfgK m).win w).xblock ((cfgK m).grid.coords t)).Idx → Elt F ((cfgK m).win w).elt :=
  (((cfgK m).win w).blk t).view.read (Elt F) (V m c (Pipeline.arrRef spec0 w))

abbrev arg0Blk (c : Dev nD) (t : Fin (cfgK m).N) : S1x1x16x512.Idx → Elt F .bf16 := iblk m c 0 t
abbrev ropeBlk (c : Dev nD) (t : Fin (cfgK m).N) : S1x1x16x256.Idx → Elt F .bf16 := iblk m c 1 t
abbrev newBlk (c : Dev nD) (t : Fin (cfgK m).N) : S1x1x512.Idx → Elt F .bf16 := iblk m c 2 t
abbrev newRopeBlk (c : Dev nD) (t : Fin (cfgK m).N) : S1x1x256.Idx → Elt F .bf16 := iblk m c 3 t
abbrev weightBlk (c : Dev nD) (t : Fin (cfgK m).N) : S16x256.Idx → Elt F .bf16 := iblk m c 4 t

/-- The output block at point `t`: the body's value at some contents of the double buffer holding request `t`. -/
def leaves (c : Dev nD) (t : Fin (cfgK m).N) (X : S1x1x16x512.Idx → Elt F .bf16) : Prop :=
  ∃ (hb : t.val < 128) (f : S2x4096x656.Idx → Elt F .i8), Holds (cache m c) (lens m c) t.val hb f
    ∧ X = outVal (lenAt (lens m c) t.val) (t.val % 2) (arg0Blk m c t) (ropeBlk m c t) (newBlk m c t) (newRopeBlk m c t) (weightBlk m c t) f

def rdat (c : Dev nD) : RDat τ (Elt F) Unit ℕ (Pipeline.UD sig nD τ) ℕ (cfgK m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => leaves m c t X
    | ⟨_ + 6, h⟩ => absurd h (Nat.not_lt.2 (Nat.le_add_left _ _))
  Φ t := between m c t.val
  q _ := fullShare
  owed _ := 0

theorem coord_val (t : Fin (cfgK m).N) : ((cfgK m).grid.coords t 0).val = t.val := by
  rw [Pipeline.Grid.coords_val (G := grid0) t 0 (S := 1) (B := 128) (by decide) rfl]
  have : t.val < 128 := lt_of_lt_of_eq t.isLt N_0
  omega

theorem finds0 (c : Dev nD) (t Y) (h : (rdat m c).Finds 0 t Y) : Y = arg0Blk m c t := by
  obtain ⟨d, e⟩ := (rdat m c).finds_in_eq_fetched 0 rfl (fun _ _ _ => rfl) (fun _ _ _ h => h) t Y h
  rw [e]; unfold RDat.fetched RDat.blockOf arg0Blk iblk; rfl
theorem finds1 (c : Dev nD) (t Y) (h : (rdat m c).Finds 1 t Y) : Y = ropeBlk m c t := by
  obtain ⟨d, e⟩ := (rdat m c).finds_in_eq_fetched 1 rfl (fun _ _ _ => rfl) (fun _ _ _ h => h) t Y h
  rw [e]; unfold RDat.fetched RDat.blockOf ropeBlk iblk; rfl
theorem finds2 (c : Dev nD) (t Y) (h : (rdat m c).Finds 2 t Y) : Y = newBlk m c t := by
  obtain ⟨d, e⟩ := (rdat m c).finds_in_eq_fetched 2 rfl (fun _ _ _ => rfl) (fun _ _ _ h => h) t Y h
  rw [e]; unfold RDat.fetched RDat.blockOf newBlk iblk; rfl
theorem finds3 (c : Dev nD) (t Y) (h : (rdat m c).Finds 3 t Y) : Y = newRopeBlk m c t := by
  obtain ⟨d, e⟩ := (rdat m c).finds_in_eq_fetched 3 rfl (fun _ _ _ => rfl) (fun _ _ _ h => h) t Y h
  rw [e]; unfold RDat.fetched RDat.blockOf newRopeBlk iblk; rfl
theorem finds4 (c : Dev nD) (t Y) (h : (rdat m c).Finds 4 t Y) : Y = weightBlk m c t := by
  obtain ⟨d, e⟩ := (rdat m c).finds_in_eq_fetched 4 rfl (fun _ _ _ => rfl) (fun _ _ _ h => h) t Y h
  rw [e]; unfold RDat.fetched RDat.blockOf weightBlk iblk; rfl

section

variable (c : Dev nD) (q : PosShare TreeShare) (𝒱 : Variants) (bd : Option 𝒱.V)
variable (fc : S128x4096x656.Idx → Elt F .i8) (ft : S128.Idx → Elt F .i32)
variable (i : grid0.Coords) (harg1 : (Memref.whole main_arg5).IsWhole) (arg2 : Memref sig .tc .vmem S1x1x16x512 .bf16) (harg2 : arg2.IsWhole)
  (arg3 : Memref sig .tc .vmem S1x1x16x256 .bf16) (harg3 : arg3.IsWhole) (arg4 : Memref sig .tc .vmem S1x1x512 .bf16) (harg4 : arg4.IsWhole)
  (arg5 : Memref sig .tc .vmem S1x1x256 .bf16) (harg5 : arg5.IsWhole) (arg6 : Memref sig .tc .vmem S16x256 .bf16) (harg6 : arg6.IsWhole)
  (harg7 : (Memref.whole main_arg4).IsWhole) (arg8 : Memref sig .tc .vmem S1x1x16x512 .bf16) (harg8 : arg8.IsWhole)
  (harg9 : (Memref.whole cc0_scratch0).IsWhole) (harg10 : (Memref.whole cc0_scratch1).IsWhole)
  (harg11 : (Memref.whole cc0_scratch2).IsWhole) (harg12 : (Memref.whole cc0_scratch3).IsWhole) (harg13 : (Memref.whole cc0_scratch4).IsWhole)
variable (hl : ∀ b, lenN ft b ≤ 4096)

set_option maxHeartbeats 1000000 in
include hl in
/-- The body at a point whose number is `n`. -/
theorem body_at {n : ℕ} (e : (i 0).val = n) (hb : n < 128) (X2 : S1x1x16x512.Idx → Elt F .bf16) (X3 : S1x1x16x256.Idx → Elt F .bf16) (X4 : S1x1x512.Idx → Elt F .bf16) (X5 : S1x1x256.Idx → Elt F .bf16)
    (X6 : S16x256.Idx → Elt F .bf16) (X8 : S1x1x16x512.Idx → Elt F .bf16) :
    iprop((tabLoc c ↦{q} ft) ∗ slots c fc ft n ∗ work c ∗ (∃ W, owes (c : Thread nD τ) 0 W)
        ∗ owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg8 fullShare X8)
      ⊢ wp frame (wpE (defs₀ (F := F)) 𝒱 (c : Thread nD τ) bd) Set.univ (cc0_mla_decode (F := F) i (Memref.whole main_arg5) harg1 arg2 harg2 arg3 harg3 arg4 harg4 arg5 harg5 arg6 harg6 (Memref.whole main_arg4) harg7 arg8 harg8 (Memref.whole cc0_scratch0) harg9 (Memref.whole cc0_scratch1) harg10 (Memref.whole cc0_scratch2) harg11 (Memref.whole cc0_scratch3) harg12 (Memref.whole cc0_scratch4) harg13 cc0_scratch5)
        (fun _ => (iprop((tabLoc c ↦{q} ft) ∗ slots c fc ft (n + 1) ∗ work c ∗ (∃ W, owes (c : Thread nD τ) 0 W)
        ∗ owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6
        ∗ (∃ f, ⌜Holds fc ft n hb f⌝ ∗ owns (c : Thread nD τ) arg8 fullShare (outVal (lenAt ft n) (n % 2) X2 X3 X4 X5 X6 f))) : sProp 𝕄)) := by
  subst e
  exact body_run c q 𝒱 bd fc ft i harg1 arg2 harg2 arg3 harg3 arg4 harg4 arg5 harg5 arg6 harg6 harg7 arg8 harg8 harg9 harg10 harg11 harg12 harg13 hl hb X2 X3 X4 X5 X6 X8

end

/-- A step leaves alone what it does not take. -/
theorem wp_rest (c : Dev nD) (𝒱 : Variants) (bd : Option 𝒱.V) {α : Type} {p : Prog (TpuEff nD τ sig (Elt F) Λ₀ .tc) α} {P : sProp 𝕄} {Q : α → sProp 𝕄}
    (h : P ⊢ wp frame (wpE (defs₀ (F := F)) 𝒱 (c : Thread nD τ) bd) Set.univ p Q) (R : sProp 𝕄) :
    iprop(P ∗ R) ⊢ wp frame (wpE (defs₀ (F := F)) 𝒱 (c : Thread nD τ) bd) Set.univ p (fun a => iprop(Q a ∗ R)) := by
  iintro ⟨H, HR⟩
  iapply (wp_frame_r frame (wpE (defs₀ (F := F)) 𝒱 (c : Thread nD τ) bd) Set.univ)
  isplitl [H]
  · iapply h $$ H
  · iexact HR

theorem defs₀_row (t) (s) :
    defs₀ (F := F) .tc 0 (t, s) = cc0_mla_decode (grid0.coords t) (Memref.whole main_arg5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole main_arg4) (Memref.isWhole_whole _) (spec0_5.stage (s 5)) (hstage0_5 ((s 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 := by
  unfold defs₀; rw [Defs.onTc_tc]

set_option maxHeartbeats 2000000 in
theorem body_obligation (c : Dev nD) (hl : ∀ b, lenN (lens m c) b ≤ 4096) :
    (rdat m c).BodyObligation (defs₀ (F := F)) Variants.none () Set.univ := by
  intro t Y hY
  have hb : t.val < 128 := lt_of_lt_of_eq t.isLt N_0
  rw [bigSep_W0, bigSep_W0]
  have h0 := finds0 m c t (Y 0) (hY 0)
  have h1 := finds1 m c t (Y 1) (hY 1)
  have h2 := finds2 m c t (Y 2) (hY 2)
  have h3 := finds3 m c t (Y 3) (hY 3)
  have h4 := finds4 m c t (Y 4) (hY 4)
  let s := (cfgK m).slots t
  have B := body_at c fullShare.right Variants.none none (cache m c) (lens m c) (grid0.coords t) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.isWhole_whole _) (spec0_5.stage (s 5)) (hstage0_5 ((s 5).cast nbuf0_5)) (Memref.isWhole_whole _) (Memref.isWhole_whole _) (Memref.isWhole_whole _) (Memref.isWhole_whole _) (Memref.isWhole_whole _) hl (coord_val m t) hb (Y 0) (Y 1) (Y 2) (Y 3) (Y 4) (Y 5)
  rw [← defs₀_row t s] at B
  refine triple_restated (wp_rest c Variants.none none B iprop((∃ f : Buf (Elt F) ((c : Thread nD τ).loc cc0_scratch2), ((c : Thread nD τ).loc cc0_scratch2) ↦{fullShare} f) ∗ (∃ r, prngReg c r))) rfl ?_ fun _ => ?_
  · show iprop(between m c t.val ∗ (rdat m c).owesAt () t.castSucc ∗ _) ⊢ _
    unfold between RDat.owesAt Pipeline.owesWithin
    iintro ⟨⟨HT, HS, HW, H2, Hr⟩, ⟨%W, -, HO⟩, X0, X1, X2, X3, X4, X5⟩
    isplitr [H2 Hr]
    · isplitl [HT]; · iexact HT
      isplitl [HS]; · iexact HS
      isplitl [HW]; · iexact HW
      isplitl [HO]
      · iexists W; iexact HO
      isplitl [X0]; · iexact X0
      isplitl [X1]; · iexact X1
      isplitl [X2]; · iexact X2
      isplitl [X3]; · iexact X3
      isplitl [X4] <;> iassumption
    · isplitl [H2] <;> iassumption
  · show _ ⊢ iprop(between m c (t.val + 1) ∗ (rdat m c).owesAt () t.succ ∗ _)
    unfold between RDat.owesAt Pipeline.owesWithin
    iintro ⟨⟨HT, HS, HW, ⟨%W', HO⟩, X0, X1, X2, X3, X4, ⟨%f, %hf, X5⟩⟩, H2, Hr⟩
    isplitl [HT HS HW H2 Hr]
    · isplitl [HT]; · iexact HT
      isplitl [HS]; · iexact HS
      isplitl [HW]; · iexact HW
      isplitl [H2] <;> iassumption
    isplitl [HO]
    · iexists W'
      isplitr
      · ipureintro; exact fun _ _ => Or.inl trivial
      · iexact HO
    isplitl [X0]
    · iexists (Y 0); isplitr
      · ipureintro; exact rfl
      · iexact X0
    isplitl [X1]
    · iexists (Y 1); isplitr
      · ipureintro; exact rfl
      · iexact X1
    isplitl [X2]
    · iexists (Y 2); isplitr
      · ipureintro; exact rfl
      · iexact X2
    isplitl [X3]
    · iexists (Y 3); isplitr
      · ipureintro; exact rfl
      · iexact X3
    isplitl [X4]
    · iexists (Y 4); isplitr
      · ipureintro; exact rfl
      · iexact X4
    iexists (outVal (lenAt (lens m c) t.val) (t.val % 2) (Y 0) (Y 1) (Y 2) (Y 3) (Y 4) f)
    isplitr
    · ipureintro
      exact ⟨hb, f, hf, by rw [h0, h1, h2, h3, h4]⟩
    · iexact X5

set_option backward.isDefEq.respectTransparency.types false in
theorem run_main (hl : ∀ c b, lenN (lens m c) b ≤ 4096) :
    θ_run defs (onTc (τ := τ) (main (F := F))) (s₀ m ρ) (fun r => RDat.FramePost (cfgK m) (rdat m) (V m) r ∧ r.2.sem = fun _ => 0) :=
  Pipeline.RDat.θ_run_frameP_dma (Q' := _) pcfgs (adm m) (0 : Fin 1) launch0 osem0 defs₀ Variants.none (rdat m) ownSemFacts0 H0 H0_sub m ρ main
    (hbody := fun c => body_obligation m c (hl c)) (hshare := fun c => (rdat m c).share_full fun _ => rfl)
    (howed := fun _ _ => rfl) (V := V m) (hmain := hmain m Variants.none) (hA := fun _ _ => rfl) (hpf := tabs_eq m)
    (hin := fun c => between_in m c) (hout := fun c => between_out m c) (hQ' := fun _ h => h)

theorem frame (hl : ∀ c b, lenN (lens m c) b ≤ 4096) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, h.2⟩) (run_main m ρ hl)
  have hA := (h.1 c).1
  have hR := (h.1 c).2
  have r1 : main_arg1 ∈ Pipeline.restRefs sig spec0 := Pipeline.mem_restRefs_of main_arg1 (by decide) (by decide)
  have r3 : main_arg3 ∈ Pipeline.restRefs sig spec0 := Pipeline.mem_restRefs_of main_arg3 (by decide) (by decide)
  have r4 : main_arg4 ∈ Pipeline.restRefs sig spec0 := Pipeline.mem_restRefs_of main_arg4 (by decide) (by decide)
  have r5 : main_arg5 ∈ Pipeline.restRefs sig spec0 := Pipeline.mem_restRefs_of main_arg5 (by decide) (by decide)
  have a0 := hA 0
  rw [(rdat m c).ArrAt_in 0 rfl] at a0
  have a2 := hA 2
  rw [(rdat m c).ArrAt_in 2 rfl] at a2
  exact ⟨a0.trans (V_main_arg0 m c), (hR main_arg1 r1).trans (V_main_arg1 m c), a2.trans (V_main_arg2 m c),
    (hR main_arg3 r3).trans (V_main_arg3 m c),
    (hR main_arg4 r4).trans (V_main_arg4 m c),
    (hR main_arg5 r5).trans (V_main_arg5 m c)⟩

end Cert.KernelIdeal

end
-- ==== Proof.Value.Spec.lean ====
/-
  The attention of one head over extended reals, as the reference writes it (`Head.out`) and as the kernel adds it up
  (`Head.kout`: the latent products of a group of 128 lanes scaled after they are added, chunks of 512 rows up to the
  length), and that the two agree when the numbers are real.
-/
module

public import Idealize.ShloMosaic.PureOps.Ideal.Laws
public import Idealize.ShloMosaic.Lib.IdealHost

@[expose] public section

noncomputable section

open scoped BigOperators

namespace Cert.Value

open Idealize.ShloMosaic

/-- The latent code in byte `c` of a cached row. -/
def codeOf (row : ℕ → BitVec 8) (c : ℕ) : EReal := Ideal.ofBits .fp8e4m3 (row c)
/-- The four bytes of a cached row that hold group `g`'s scale, as a word. -/
def scaleWord (row : ℕ → BitVec 8) (g : ℕ) : BitVec 32 :=
  row (512 + 4 * g + 3) ++ row (512 + 4 * g + 2) ++ row (512 + 4 * g + 1) ++ row (512 + 4 * g)
/-- Group `g`'s scale. -/
def scaleOf (row : ℕ → BitVec 8) (g : ℕ) : EReal := Ideal.ofBits .f32 (scaleWord row g)
/-- The two bytes of a cached row that hold position element `r`, as a word. -/
def ropeWord (row : ℕ → BitVec 8) (r : ℕ) : BitVec 16 := row (528 + 2 * r + 1) ++ row (528 + 2 * r)
/-- Position element `r`. -/
def ropeOf (row : ℕ → BitVec 8) (r : ℕ) : EReal := Ideal.ofBits .bf16 (ropeWord row r)
/-- The factor of every score. -/
def sm : EReal := Ideal.ofBits .f32 0x3D93CD3A#32

/-- What one head of one sequence is computed from. -/
structure Head where
  x : ℕ → EReal
  q : ℕ → EReal
  kn : ℕ → EReal
  rn : ℕ → EReal
  row : ℕ → ℕ → BitVec 8
  len : ℕ

namespace Head
variable (H : Head)

/-- The new token's score. -/
def snew : EReal := (∑ c ∈ Finset.range 512, H.x c * H.kn c + ∑ r ∈ Finset.range 64, H.q r * H.rn r) * sm
/-- Cached row `t`'s score; that of a row past the length is minus infinity. -/
def score (t : ℕ) : EReal :=
  if t < H.len then
    (∑ c ∈ Finset.range 512, H.x c * (codeOf (H.row t) c * scaleOf (H.row t) (c / 128)) + ∑ r ∈ Finset.range 64, H.q r * ropeOf (H.row t) r) * sm
  else ⊥
/-- The largest score. -/
def top : EReal := max H.snew ((Finset.range 4096).sup H.score)
/-- The sum of the exponentials. -/
def tot : EReal := Ideal.exp (H.snew - H.top) + ∑ t ∈ Finset.range 4096, Ideal.exp (H.score t - H.top)
/-- Output element `c`. -/
def out (c : ℕ) : EReal :=
  ∑ t ∈ Finset.range 4096, Ideal.div (Ideal.exp (H.score t - H.top)) H.tot * (codeOf (H.row t) c * scaleOf (H.row t) (c / 128))
    + Ideal.div (Ideal.exp (H.snew - H.top)) H.tot * H.kn c

/-- The latent products of group `g`, not yet scaled. -/
def part (t g : ℕ) : EReal := ∑ c ∈ Finset.range 128, H.x (128 * g + c) * codeOf (H.row t) (128 * g + c)
/-- The kernel's score of row `t`. -/
def kscore (t : ℕ) : EReal :=
  if t < H.len then
    (∑ r ∈ Finset.range 64, H.q r * ropeOf (H.row t) r + H.part t 0 * scaleOf (H.row t) 0 + H.part t 1 * scaleOf (H.row t) 1
      + H.part t 2 * scaleOf (H.row t) 2 + H.part t 3 * scaleOf (H.row t) 3) * sm
  else ⊥
/-- The kernel's largest score over `n` chunks. -/
def ktop (n : ℕ) : EReal := max H.snew ((Finset.range (512 * n)).sup H.kscore)
/-- The kernel's sum of exponentials over `n` chunks. -/
def ktot (n : ℕ) : EReal := Ideal.exp (H.snew - H.ktop n) + ∑ t ∈ Finset.range (512 * n), Ideal.exp (H.kscore t - H.ktop n)
/-- The kernel's output element `c` over `n` chunks. -/
def kout (n c : ℕ) : EReal :=
  Ideal.div (Ideal.exp (H.snew - H.ktop n)) (H.ktot n) * H.kn c
    + ∑ t ∈ Finset.range (512 * n), (Ideal.div (Ideal.exp (H.kscore t - H.ktop n)) (H.ktot n) * scaleOf (H.row t) (c / 128)) * codeOf (H.row t) c

end Head

/-- A real number among the extended reals. -/
def IsReal (a : EReal) : Prop := ∃ r : ℝ, a = (r : EReal)

namespace IsReal
theorem mk {a : EReal} (ht : a ≠ ⊤) (hb : a ≠ ⊥) : IsReal a := ⟨a.toReal, (EReal.coe_toReal ht hb).symm⟩
theorem zero : IsReal 0 := ⟨0, rfl⟩
theorem add {a b : EReal} : IsReal a → IsReal b → IsReal (a + b)
  | ⟨r, hr⟩, ⟨s, hs⟩ => ⟨r + s, by rw [hr, hs, EReal.coe_add]⟩
theorem mul {a b : EReal} : IsReal a → IsReal b → IsReal (a * b)
  | ⟨r, hr⟩, ⟨s, hs⟩ => ⟨r * s, by rw [hr, hs, EReal.coe_mul]⟩
theorem sum {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))
theorem ne_top {a : EReal} : IsReal a → a ≠ ⊤
  | ⟨r, hr⟩ => hr ▸ EReal.coe_ne_top r
theorem ne_bot {a : EReal} : IsReal a → a ≠ ⊥
  | ⟨r, hr⟩ => hr ▸ EReal.coe_ne_bot r
theorem add_mul {a b c : EReal} : IsReal a → IsReal b → IsReal c → (a + b) * c = a * c + b * c
  | ⟨r, hr⟩, ⟨s, hs⟩, ⟨u, hu⟩ => by rw [hr, hs, hu]; norm_cast; ring
theorem sum_mul {ι : Type*} (s : Finset ι) (f : ι → EReal) {c : EReal} (h : ∀ i ∈ s, IsReal (f i)) (hc : IsReal c) :
    (∑ i ∈ s, f i) * c = ∑ i ∈ s, f i * c := by
  classical
  induction s using Finset.induction_on with
  | empty => simp
  | insert a s ha ih =>
    have h' : ∀ i ∈ s, IsReal (f i) := fun i hi => h i (Finset.mem_insert_of_mem hi)
    rw [Finset.sum_insert ha, Finset.sum_insert ha, add_mul (h a (Finset.mem_insert_self a s)) (sum s f h') hc, ih h']
end IsReal

theorem sm_real : IsReal sm := by
  unfold sm Ideal.ofBits Ideal.ieee
  simp only []
  split_ifs
  all_goals first
    | exact ⟨_, rfl⟩
    | (rename_i h _; exact absurd h (by decide))
    | (rename_i h; exact absurd h (by decide))

/-- The numbers of a head are real: of the cached rows, only those below the length. -/
structure Head.Real (H : Head) : Prop where
  x : ∀ c, IsReal (H.x c)
  q : ∀ c, IsReal (H.q c)
  kn : ∀ c, IsReal (H.kn c)
  rn : ∀ c, IsReal (H.rn c)
  code : ∀ t, t < H.len → ∀ c, c < 512 → IsReal (codeOf (H.row t) c)
  scale : ∀ t, t < H.len → ∀ g, g < 4 → IsReal (scaleOf (H.row t) g)
  rope : ∀ t, t < H.len → ∀ r, r < 64 → IsReal (ropeOf (H.row t) r)

namespace Head
variable {H : Head} (hr : H.Real)

/-- A sum over 512 is the sum over four groups of 128. -/
theorem sum_512 (f : ℕ → EReal) :
    ∑ c ∈ Finset.range 512, f c = ∑ c ∈ Finset.range 128, f (128 * 0 + c) + ∑ c ∈ Finset.range 128, f (128 * 1 + c)
      + ∑ c ∈ Finset.range 128, f (128 * 2 + c) + ∑ c ∈ Finset.range 128, f (128 * 3 + c) := by
  rw [show (512 : ℕ) = 128 + 128 + 128 + 128 from rfl, Finset.sum_range_add, Finset.sum_range_add, Finset.sum_range_add]
  simp

include hr in
theorem part_mul {t g : ℕ} (ht : t < H.len) (hg : g < 4) :
    H.part t g * scaleOf (H.row t) g = ∑ c ∈ Finset.range 128, H.x (128 * g + c) * (codeOf (H.row t) (128 * g + c) * scaleOf (H.row t) ((128 * g + c) / 128)) := by
  unfold part
  rw [IsReal.sum_mul _ _ (fun c hc => (hr.x _).mul (hr.code t ht _ (by have := Finset.mem_range.mp hc; omega))) (hr.scale t ht g hg)]
  refine Finset.sum_congr rfl fun c hc => ?_
  rw [show (128 * g + c) / 128 = g by have := Finset.mem_range.mp hc; omega, mul_assoc]

include hr in
theorem kscore_eq (t : ℕ) : H.kscore t = H.score t := by
  unfold kscore score
  split
  · rename_i ht
    rw [sum_512, part_mul hr ht (by omega), part_mul hr ht (by omega), part_mul hr ht (by omega), part_mul hr ht (by omega)]
    congr 1
    ac_rfl
  · rfl

include hr in
theorem snew_real : IsReal H.snew :=
  ((IsReal.sum _ _ fun c _ => (hr.x c).mul (hr.kn c)).add (IsReal.sum _ _ fun c _ => (hr.q c).mul (hr.rn c))).mul sm_real

include hr in
theorem score_ne_top (t : ℕ) : H.score t ≠ ⊤ := by
  unfold score
  split
  · rename_i ht
    exact (((IsReal.sum _ _ fun c hc => (hr.x c).mul ((hr.code t ht c (Finset.mem_range.mp hc)).mul (hr.scale t ht _ (by have := Finset.mem_range.mp hc; omega)))).add
      (IsReal.sum _ _ fun r h => (hr.q r).mul (hr.rope t ht r (Finset.mem_range.mp h)))).mul sm_real).ne_top
  · exact bot_ne_top

theorem score_past {t : ℕ} (h : H.len ≤ t) : H.score t = ⊥ := if_neg (by omega)

include hr in
theorem top_real : IsReal H.top := by
  refine IsReal.mk ?_ ?_
  · unfold top
    refine ne_of_lt (max_lt (lt_top_iff_ne_top.mpr (snew_real hr).ne_top) ?_)
    rw [Finset.sup_lt_iff (by exact bot_lt_top)]
    exact fun t _ => lt_top_iff_ne_top.mpr (score_ne_top hr t)
  · exact ne_bot_of_le_ne_bot (snew_real hr).ne_bot (le_max_left _ _)

theorem exp_nonneg (a : EReal) : 0 ≤ Ideal.exp a := by
  induction a using EReal.rec with
  | bot => exact le_refl (0 : EReal)
  | coe r => exact EReal.coe_nonneg.mpr (Real.exp_nonneg r)
  | top => exact le_top

theorem exp_bot : Ideal.exp ⊥ = 0 := rfl

include hr in
theorem tot_ne_zero : H.tot ≠ 0 := by
  obtain ⟨a, ha⟩ := snew_real hr
  obtain ⟨b, hb⟩ := top_real hr
  have h1 : 0 < Ideal.exp (H.snew - H.top) := by
    rw [ha, hb, ← EReal.coe_sub]
    exact EReal.coe_pos.mpr (Real.exp_pos _)
  exact ne_of_gt (lt_of_lt_of_le h1 (le_add_of_nonneg_right (Finset.sum_nonneg fun t _ => exp_nonneg _)))

theorem past_exp {t : ℕ} (h : H.len ≤ t) : Ideal.exp (H.score t - H.top) = 0 := by
  rw [score_past h]
  exact (congrArg Ideal.exp (EReal.bot_sub _)).trans exp_bot

include hr in
theorem past_zero {t : ℕ} (h : H.len ≤ t) : Ideal.div (Ideal.exp (H.score t - H.top)) H.tot = 0 := by
  rw [past_exp h]; exact Ideal.zero_div (tot_ne_zero hr)

section
variable {n : ℕ} (hn : H.len ≤ 512 * n) (hn' : 512 * n ≤ 4096)

/-- A sum whose terms vanish past the length may stop at any bound past it. -/
theorem sum_stop (hn : H.len ≤ 512 * n) (hn' : 512 * n ≤ 4096) (f : ℕ → EReal) (hf : ∀ t, H.len ≤ t → f t = 0) :
    ∑ t ∈ Finset.range (512 * n), f t = ∑ t ∈ Finset.range 4096, f t := by
  refine Finset.sum_subset (Finset.range_subset_range.mpr hn') fun t _ h => hf t ?_
  have : ¬ t < 512 * n := fun h' => h (Finset.mem_range.mpr h')
  omega

include hr hn hn' in
theorem ktop_eq : H.ktop n = H.top := by
  unfold ktop top
  rw [show H.kscore = H.score from funext (kscore_eq hr)]
  congr 1
  refine le_antisymm (Finset.sup_mono (Finset.range_subset_range.mpr hn')) (Finset.sup_le fun t _ => ?_)
  by_cases h : t < 512 * n
  · exact Finset.le_sup (Finset.mem_range.mpr h)
  · rw [score_past (by omega)]; exact bot_le

include hr hn hn' in
theorem ktot_eq : H.ktot n = H.tot := by
  unfold ktot tot
  rw [ktop_eq hr hn hn', show H.kscore = H.score from funext (kscore_eq hr), sum_stop hn hn' _ fun t h => past_exp h]

include hr hn hn' in
/-- The kernel's output element is the reference's. -/
theorem kout_eq (c : ℕ) : H.kout n c = H.out c := by
  unfold kout out
  rw [ktop_eq hr hn hn', ktot_eq hr hn hn', show H.kscore = H.score from funext (kscore_eq hr), add_comm,
    sum_stop hn hn' _ fun t h => by rw [past_zero hr h, zero_mul, zero_mul]]
  refine congrArg (· + _) (Finset.sum_congr rfl fun t _ => ?_)
  rw [mul_assoc, mul_comm (scaleOf _ _)]
end

/-- The kernel's output depends only on the cached rows below the length. -/
theorem kscore_congr {H' : Head} (hx : H'.x = H.x) (hq : H'.q = H.q) (hl : H'.len = H.len) (hrow : ∀ t, t < H.len → ∀ z, z < 656 → H'.row t z = H.row t z) (t : ℕ) :
    H'.kscore t = H.kscore t := by
  unfold kscore part codeOf scaleOf ropeOf scaleWord ropeWord
  rw [hl, hx, hq]
  split
  · rename_i ht
    have e := hrow t ht
    rw [e _ (by omega), e _ (by omega), e _ (by omega), e _ (by omega), e _ (by omega), e _ (by omega), e _ (by omega), e _ (by omega),
      e _ (by omega), e _ (by omega), e _ (by omega), e _ (by omega), e _ (by omega), e _ (by omega), e _ (by omega), e _ (by omega)]
    congr 1
    congr 1
    · congr 1
      · congr 1
        · congr 1
          · refine Finset.sum_congr rfl fun r h => ?_
            have := Finset.mem_range.mp h
            rw [e _ (by omega), e _ (by omega)]
          · congr 1
            exact Finset.sum_congr rfl fun r h => by have := Finset.mem_range.mp h; rw [e _ (by omega)]
        · congr 1
          exact Finset.sum_congr rfl fun r h => by have := Finset.mem_range.mp h; rw [e _ (by omega)]
      · congr 1
        exact Finset.sum_congr rfl fun r h => by have := Finset.mem_range.mp h; rw [e _ (by omega)]
    · congr 1
      exact Finset.sum_congr rfl fun r h => by have := Finset.mem_range.mp h; rw [e _ (by omega)]
  · rfl

end Head

end Cert.Value

end
-- ==== Proof.Value.Rope.lean ====
/-
  The cached position elements of a chunk as the kernel assembles them from bytes: the two bytes of an element lie in
  neighbouring lanes, and the even lanes of the assembled array hold the elements.
-/
module

public import proofs.«01_k».proof.Proof.Value.Spec
public import proofs.«01_k».proof.Proof.KernelIdeal.Compute
public import Idealize.ShloMosaic.Lib.BitcastFour
public import Idealize.ShloMosaic.Lib.BitcastPair
public import Idealize.ShloMosaic.Lib.MatmulPlain
public import Idealize.ShloMosaic.Lib.Pipeline.Value

@[expose] public section

noncomputable section

open scoped BigOperators

namespace Cert.Value

open Cert.KernelIdeal Cert.KernelIdeal.Gen
open Idealize.ShloMosaic Idealize.ShloMosaic.ValueIdx

/-- Rank 2 words read at another width along the rows: bit `q` of row `a` is a bit of the source row that holds bit
    `a * w + q` of the lane. -/
theorem bitcast_two {R r n v w : ℕ} (x : (⟨2, ![R, n]⟩ : Shape).Idx → BitVec v) (h : (⟨2, ![R, n]⟩ : Shape).Bitcasts v ⟨2, ![r, n]⟩ w)
    (a : Fin r) (l : Fin n) (q : ℕ) (hq : q < w) (hv : 0 < v) (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  refine congrArg (fun i => BitVec.getLsbD (x i) ((a.val * w + q) % v)) ?_
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The bytes the kernel puts in lane `l` of row `t`. -/
def laneByte (A : S1x512x128.Idx → BitVec 8) (B : S1x512x16.Idx → BitVec 8) (t : Fin 512) (l : ℕ) : BitVec 8 :=
  if h : l < 16 then B (ix3 0 t ⟨l, h⟩) else A (ix3 0 t ⟨l % 128, Nat.mod_lt _ (by decide)⟩)

section
variable (A : S1x512x128.Idx → BitVec 8) (B : S1x512x16.Idx → BitVec 8)

theorem drop_three {n : ℕ} (x : (⟨3, ![1, 512, n]⟩ : Shape).Idx → BitVec 8) (h : (⟨3, ![1, 512, n]⟩ : Shape).ShapeCasts ⟨2, ![512, n]⟩) (t : Fin 512) (l : Fin n) :
    shapeCast ⟨2, ![512, n]⟩ x h (ix2 t l) = x (ix3 0 t l) := by
  refine shapeCast_apply x h _ _ ?_
  rw [Shape.rowMajor_val_three, Shape.rowMajor_val_two]
  show ((0 : ℕ) * 512 + t.val) * n + l.val = t.val * n + l.val
  simp

/-- The four rows of words, before the lanes are turned. -/
def joined : IVec S128x128 32 :=
  concatenate S128x128 1 [⟨S128x16, bitcast S128x16 32 (shapeCast S512x16 B shapeCasts_S1x512x16_S512x16) bitcasts_S512x16_w8_S128x16_w32⟩,
    ⟨S128x112, extractStridedSlice S128x112 ![0, 16] (bitcast S128x128 32 (shapeCast S512x128 A shapeCasts_S1x512x128_S512x128) bitcasts_S512x128_w8_S128x128_w32) slices_S128x128_o0_16_S128x112⟩]
    concatenates_S128x16_S128x112_S128x128_d1

theorem joined_bit (a : Fin 128) (l : Fin 128) (q : ℕ) (hq : q < 32) (t : Fin 512) (ht : t.val = (a.val * 32 + q) / 8) :
    (joined A B (ix2 a l)).getLsbD q = (laneByte A B t l.val).getLsbD ((a.val * 32 + q) % 8) := by
  unfold joined laneByte
  by_cases h : l.val < 16
  · rw [dif_pos h, concatenate_pair_apply_left (t := S128x128) (s₁ := S128x16) (s₂ := S128x112) 1 _ _ _ (ix2 a l) rfl (ix2 a (⟨l.val, h⟩ : Fin 16)) (by
        intro b; match b with
        | ⟨0, _⟩ => rfl
        | ⟨1, _⟩ => rfl),
      bitcast_two _ _ a (⟨l.val, h⟩ : Fin 16) q hq (by decide) t ht, drop_three]
  · have hl := l.isLt
    rw [dif_neg h, concatenate_pair_apply_right (t := S128x128) (s₁ := S128x16) (s₂ := S128x112) 1 _ _ _ (ix2 a l) rfl rfl (ix2 a (⟨l.val - 16, by omega⟩ : Fin 112)) (by
        intro b hb; match b with
        | ⟨0, _⟩ => rfl
        | ⟨1, _⟩ => exact absurd rfl hb) (by show l.val - 16 + 16 = l.val; omega),
      extractStridedSlice_apply _ _ _ _ (ix2 a l) (by
        intro b; match b with
        | ⟨0, _⟩ => show a.val = 0 + a.val; omega
        | ⟨1, _⟩ => show l.val = 16 + (l.val - 16); omega),
      bitcast_two _ _ a l q hq (by decide) t ht, drop_three]
    exact congrArg (fun i : Fin 128 => BitVec.getLsbD (A (ix3 0 t i)) ((a.val * 32 + q) % 8)) (Fin.ext (Nat.mod_eq_of_lt hl).symm)

theorem rot_apply (x : IVec S128x128 32) (a l : Fin 128) :
    dynamicRotate 1 127#32 none x rotates_S128x128_d1 (ix2 a l) = x (ix2 a ⟨(l.val + 1) % 128, Nat.mod_lt _ (by decide)⟩) := by
  unfold dynamicRotate
  refine congrArg x (funext fun b => ?_)
  match b with
  | ⟨0, _⟩ => rfl
  | ⟨1, _⟩ => exact Fin.ext (by
      show (l.val + 128 - (127#32).toNat % 128) % 128 = (l.val + 1) % 128
      rw [show (127#32).toNat % 128 = 127 from rfl]; congr 1)

theorem bytes_apply (t : Fin 512) (l : Fin 128) :
    bitcast S512x128 8 (joined A B) bitcasts_S128x128_w32_S512x128_w8 (ix2 t l) = laneByte A B t l.val := by
  apply BitVec.eq_of_getLsbD_eq
  intro q hq
  have ht := t.isLt
  rw [bitcast_two _ _ t l q hq (by decide) ⟨t.val / 4, by omega⟩ (by show t.val / 4 = _; omega),
    joined_bit A B _ l _ (by omega) t (by show t.val = (t.val / 4 * 32 + _) / 8; omega)]
  congr 1
  show (t.val / 4 * 32 + (t.val * 8 + q) % 32) % 8 = q
  omega

theorem turned_apply (t : Fin 512) (l : Fin 128) :
    bitcast S512x128 8 (dynamicRotate 1 127#32 none (joined A B) rotates_S128x128_d1) bitcasts_S128x128_w32_S512x128_w8 (ix2 t l) = laneByte A B t ((l.val + 1) % 128) := by
  apply BitVec.eq_of_getLsbD_eq
  intro q hq
  have ht := t.isLt
  rw [bitcast_two _ _ t l q hq (by decide) ⟨t.val / 4, by omega⟩ (by show t.val / 4 = _; omega), rot_apply,
    joined_bit A B _ _ _ (by omega) t (by show t.val = (t.val / 4 * 32 + _) / 8; omega)]
  congr 1
  show (t.val / 4 * 32 + (t.val * 8 + q) % 32) % 8 = q
  omega

/-- The lanes' bytes, two rows to a word. -/
def wide : IVec S256x128 32 :=
  bitcast S256x128 32 (extui 16 (bitcast S512x128 8 (joined A B) bitcasts_S128x128_w32_S512x128_w8) natLt_8_16) bitcasts_S512x128_w16_S256x128_w32
/-- The same with the lanes turned by one. -/
def wideTurned : IVec S256x128 32 :=
  bitcast S256x128 32 (extui 16 (bitcast S512x128 8 (dynamicRotate 1 127#32 none (joined A B) rotates_S128x128_d1) bitcasts_S128x128_w32_S512x128_w8) natLt_8_16) bitcasts_S512x128_w16_S256x128_w32

theorem wide_bit (a : Fin 256) (l : Fin 128) (p : ℕ) (hp' : p < 32) (t' : Fin 512) (ht' : t'.val = (a.val * 32 + p) / 16) :
    (wide A B (ix2 a l)).getLsbD p = (laneByte A B t' l.val).getLsbD (p % 16) := by
  unfold wide
  rw [bitcast_two _ _ _ l p hp' (by decide) t' ht', ← bytes_apply A B t' l]
  show (BitVec.setWidth 16 _).getLsbD ((a.val * 32 + p) % 16) = _
  rw [show (a.val * 32 + p) % 16 = p % 16 by omega, BitVec.getLsbD_setWidth, decide_eq_true (Nat.mod_lt _ (by decide)), Bool.true_and]

theorem wideTurned_bit (a : Fin 256) (l : Fin 128) (p : ℕ) (hp' : p < 32) (t' : Fin 512) (ht' : t'.val = (a.val * 32 + p) / 16) :
    (wideTurned A B (ix2 a l)).getLsbD p = (laneByte A B t' ((l.val + 1) % 128)).getLsbD (p % 16) := by
  unfold wideTurned
  rw [bitcast_two _ _ _ l p hp' (by decide) t' ht', ← turned_apply A B t' l]
  show (BitVec.setWidth 16 _).getLsbD ((a.val * 32 + p) % 16) = _
  rw [show (a.val * 32 + p) % 16 = p % 16 by omega, BitVec.getLsbD_setWidth, decide_eq_true (Nat.mod_lt _ (by decide)), Bool.true_and]

/-- The words of the position elements of a chunk, from the chunk's bytes 512 to 639 and 640 to 655. -/
def ropeBits : IVec S512x128 16 :=
  bitcast S512x128 16
    (select (cmpi .eq (andi (iota .tc S256x128 32 [1] iota_S256x128_d1_w32) (broadcast S256x128 1#32)) (broadcast S256x128 0#32))
      (ori (wide A B) (shli (wideTurned A B) (broadcast S256x128 8#32))) (broadcast S256x128 0#32))
    bitcasts_S256x128_w32_S512x128_w16

theorem even_bit (l : Fin 128) : (IntOp.andi (BitVec.ofNat 32 l.val) 1#32 = 0#32) ↔ l.val % 2 = 0 := by
  revert l; decide

theorem even_mask (a : Fin 256) (l : Fin 128) :
    cmpi .eq (andi (iota .tc S256x128 32 [1] iota_S256x128_d1_w32) (broadcast S256x128 1#32)) (broadcast S256x128 0#32) (ix2 a l)
      = if l.val % 2 = 0 then 1#1 else 0#1 := by
  show IntOp.cmpi .eq (IntOp.andi (iota .tc S256x128 32 [1] iota_S256x128_d1_w32 (ix2 a l)) 1#32) 0#32 = _
  rw [iota_single_apply]
  show IntOp.cmpi .eq (IntOp.andi (BitVec.ofNat 32 l.val) 1#32) 0#32 = _
  revert l; decide

theorem or_shift_bit (x y : BitVec 32) (b c : BitVec 8) (h q : ℕ) (hh : h < 2) (hq : q < 16)
    (hx : ∀ i, i < 16 → x.getLsbD (16 * h + i) = b.getLsbD i) (hy : ∀ i, i < 16 → y.getLsbD (16 * h + i) = c.getLsbD i)
    (hy' : h = 1 → ∀ i, 8 ≤ i → i < 16 → y.getLsbD i = false) :
    (IntOp.ori x (IntOp.shli .vector y 8#32)).getLsbD (16 * h + q) = (c ++ b).getLsbD q := by
  show (x ||| (y <<< 8)).getLsbD _ = _
  rw [BitVec.getLsbD_or, BitVec.getLsbD_append, BitVec.getLsbD_shiftLeft, hx q hq, decide_eq_true (show 16 * h + q < 32 by omega), Bool.true_and]
  by_cases h8 : q < 8
  · rw [if_pos h8]
    obtain rfl | rfl : h = 0 ∨ h = 1 := by omega
    · rw [decide_eq_true (show 16 * 0 + q < 8 by omega)]; simp
    · rw [hy' rfl _ (by omega) (by omega)]; simp
  · rw [if_neg h8, BitVec.getLsbD_of_ge b q (by omega), decide_eq_false (show ¬ 16 * h + q < 8 by omega),
      show 16 * h + q - 8 = 16 * h + (q - 8) by omega, hy _ (by omega)]
    simp

/-- An even lane holds its byte and the next lane's as one word, an odd lane zero. -/
theorem ropeBits_apply (t : Fin 512) (l : Fin 128) :
    ropeBits A B (ix2 t l) = if l.val % 2 = 0 then laneByte A B t ((l.val + 1) % 128) ++ laneByte A B t l.val else 0#16 := by
  apply BitVec.eq_of_getLsbD_eq
  intro q hq
  have ht := t.isLt
  have hp : t.val / 2 < 256 := by omega
  unfold ropeBits
  rw [bitcast_two _ _ t l q hq (by decide) ⟨t.val / 2, hp⟩ (by show t.val / 2 = _; omega), select_apply, even_mask]
  by_cases h : l.val % 2 = 0
  · rw [if_pos h, if_pos h, select_one, show (t.val * 16 + q) % 32 = 16 * (t.val % 2) + q by omega]
    refine or_shift_bit _ _ _ _ _ _ (by omega) hq (fun i hi => ?_) (fun i hi => ?_) (fun h1 i h8 hi => ?_)
    · rw [wide_bit A B _ l _ (by omega) t (by show t.val = (t.val / 2 * 32 + _) / 16; omega)]; congr 1; omega
    · show (wideTurned A B _).getLsbD _ = _
      rw [wideTurned_bit A B _ l _ (by omega) t (by show t.val = (t.val / 2 * 32 + _) / 16; omega)]; congr 1; omega
    · show (wideTurned A B _).getLsbD _ = _
      rw [wideTurned_bit A B _ l _ (by omega) ⟨t.val - 1, by omega⟩ (by show t.val - 1 = (t.val / 2 * 32 + _) / 16; omega)]
      exact BitVec.getLsbD_of_ge _ _ (by omega)
  · rw [if_neg h, if_neg h, select_zero]
    show (0#32).getLsbD _ = (0#16).getLsbD _
    simp

end

end Cert.Value

end
-- ==== Proof.Value.Tile.lean ====
/-
  The matrix products of a chunk of 512 rows read one element at a time: the scales, and the masked scores.
-/
module

public import proofs.«01_k».proof.Proof.Value.Rope

@[expose] public section

noncomputable section

open scoped BigOperators

namespace Cert.Value

open Cert.KernelIdeal Cert.KernelIdeal.Gen
open Idealize.ShloMosaic Idealize.ShloMosaic.ValueIdx

section
variable {α : Type}

theorem cat_cols_left {m n1 n2 N : ℕ} (x₁ : (⟨2, ![m, n1]⟩ : Shape).Idx → α) (x₂ : (⟨2, ![m, n2]⟩ : Shape).Idx → α)
    (h : Shape.Concatenates [⟨2, ![m, n1]⟩, ⟨2, ![m, n2]⟩] ⟨2, ![m, N]⟩ 1) (r : Fin m) (c : Fin N) (c' : Fin n1) (hc : c'.val = c.val) :
    concatenate ⟨2, ![m, N]⟩ 1 [⟨⟨2, ![m, n1]⟩, x₁⟩, ⟨⟨2, ![m, n2]⟩, x₂⟩] h (ix2 r c) = x₁ (ix2 r c') :=
  concatenate_pair_apply_left (t := ⟨2, ![m, N]⟩) (s₁ := ⟨2, ![m, n1]⟩) (s₂ := ⟨2, ![m, n2]⟩) 1 _ _ _ (ix2 r c) rfl (ix2 r c') (by
    intro b; match b with
    | ⟨0, _⟩ => rfl
    | ⟨1, _⟩ => exact hc)

theorem cat_cols_right {m n1 n2 N : ℕ} (x₁ : (⟨2, ![m, n1]⟩ : Shape).Idx → α) (x₂ : (⟨2, ![m, n2]⟩ : Shape).Idx → α)
    (h : Shape.Concatenates [⟨2, ![m, n1]⟩, ⟨2, ![m, n2]⟩] ⟨2, ![m, N]⟩ 1) (r : Fin m) (c : Fin N) (c' : Fin n2) (hc : c'.val + n1 = c.val) :
    concatenate ⟨2, ![m, N]⟩ 1 [⟨⟨2, ![m, n1]⟩, x₁⟩, ⟨⟨2, ![m, n2]⟩, x₂⟩] h (ix2 r c) = x₂ (ix2 r c') :=
  concatenate_pair_apply_right (t := ⟨2, ![m, N]⟩) (s₁ := ⟨2, ![m, n1]⟩) (s₂ := ⟨2, ![m, n2]⟩) 1 _ _ _ (ix2 r c) rfl rfl (ix2 r c') (by
    intro b hb; match b with
    | ⟨0, _⟩ => rfl
    | ⟨1, _⟩ => exact absurd rfl hb) hc

theorem cat_rows_left {m1 m2 M n : ℕ} (x₁ : (⟨2, ![m1, n]⟩ : Shape).Idx → α) (x₂ : (⟨2, ![m2, n]⟩ : Shape).Idx → α)
    (h : Shape.Concatenates [⟨2, ![m1, n]⟩, ⟨2, ![m2, n]⟩] ⟨2, ![M, n]⟩ 0) (r : Fin M) (c : Fin n) (r' : Fin m1) (hr : r'.val = r.val) :
    concatenate ⟨2, ![M, n]⟩ 0 [⟨⟨2, ![m1, n]⟩, x₁⟩, ⟨⟨2, ![m2, n]⟩, x₂⟩] h (ix2 r c) = x₁ (ix2 r' c) :=
  concatenate_pair_apply_left (t := ⟨2, ![M, n]⟩) (s₁ := ⟨2, ![m1, n]⟩) (s₂ := ⟨2, ![m2, n]⟩) 0 _ _ _ (ix2 r c) rfl (ix2 r' c) (by
    intro b; match b with
    | ⟨0, _⟩ => exact hr
    | ⟨1, _⟩ => rfl)

theorem cat_rows_right {m1 m2 M n : ℕ} (x₁ : (⟨2, ![m1, n]⟩ : Shape).Idx → α) (x₂ : (⟨2, ![m2, n]⟩ : Shape).Idx → α)
    (h : Shape.Concatenates [⟨2, ![m1, n]⟩, ⟨2, ![m2, n]⟩] ⟨2, ![M, n]⟩ 0) (r : Fin M) (c : Fin n) (r' : Fin m2) (hr : r'.val + m1 = r.val) :
    concatenate ⟨2, ![M, n]⟩ 0 [⟨⟨2, ![m1, n]⟩, x₁⟩, ⟨⟨2, ![m2, n]⟩, x₂⟩] h (ix2 r c) = x₂ (ix2 r' c) :=
  concatenate_pair_apply_right (t := ⟨2, ![M, n]⟩) (s₁ := ⟨2, ![m1, n]⟩) (s₂ := ⟨2, ![m2, n]⟩) 0 _ _ _ (ix2 r c) rfl rfl (ix2 r' c) (by
    intro b hb; match b with
    | ⟨0, _⟩ => exact absurd rfl hb
    | ⟨1, _⟩ => rfl) hr

theorem slice_two {m n M N a b : ℕ} (x : (⟨2, ![M, N]⟩ : Shape).Idx → α) (h : (⟨2, ![M, N]⟩ : Shape).Slices ![a, b] ⟨2, ![m, n]⟩)
    (r : Fin m) (c : Fin n) (r' : Fin M) (c' : Fin N) (hr : r'.val = a + r.val) (hc : c'.val = b + c.val) :
    extractStridedSlice ⟨2, ![m, n]⟩ ![a, b] x h (ix2 r c) = x (ix2 r' c') :=
  extractStridedSlice_apply _ _ _ _ (ix2 r' c') (by
    intro d; match d with
    | ⟨0, _⟩ => exact hr
    | ⟨1, _⟩ => exact hc)
end

/-- A product of 32 rows with the 512 rows of a chunk, over 256 lanes. -/
theorem mm_apply {φ₁ φ₂ : FTy} (L : FVec Ideal S32x256 φ₁) (R : FVec Ideal S512x256 φ₂) (r : Fin 32) (t : Fin 512) :
    matmul dot_S32x256_S512x256_S32x512_1_1_0_0_n_n none L R (constant S32x512 .f32 0x00000000#32) (ix2 r t)
      = ∑ k : Fin 256, L (ix2 r k) * R (ix2 t k) := by
  refine (Ideal.matmul_transposedRhs_apply none L R (constant S32x512 .f32 0x00000000#32) r t).trans ?_
  rw [constant_apply, show Ideal.ofBits .f32 0x00000000#32 = (0 : EReal) by simp [Ideal.ofBits, Ideal.ieee], zero_add]

/-- The lanes a product with the position elements and the scale bytes runs over. -/
def rightTile (A : S1x512x128.Idx → BitVec 8) (B : S1x512x16.Idx → BitVec 8) (C : S1x512x128.Idx → BitVec 8) : FVec Ideal S512x256 .bf16 :=
  concatenate S512x256 1 [⟨S512x128, bitcastToFloat (F := Ideal) .bf16 (ropeBits A B)⟩, ⟨S512x128, uitofp (F := Ideal) .bf16 (shapeCast S512x128 C shapeCasts_S1x512x128_S512x128)⟩]
    concatenates_S512x128_S512x128_S512x256_d1

theorem pay18_eq (L : FVec Ideal S32x256 .bf16) (A : S1x512x128.Idx → BitVec 8) (B : S1x512x16.Idx → BitVec 8) (C : S1x512x128.Idx → BitVec 8) :
    k0_pay18 (F := Ideal) L A B C = matmul dot_S32x256_S512x256_S32x512_1_1_0_0_n_n none L (rightTile A B C) (constant S32x512 .f32 0x00000000#32) := rfl

theorem rightTile_low (A : S1x512x128.Idx → BitVec 8) (B : S1x512x16.Idx → BitVec 8) (C : S1x512x128.Idx → BitVec 8) (t : Fin 512) (k : Fin 256) (hk : k.val < 128) :
    rightTile A B C (ix2 t k) = Ideal.ofBits .bf16 (if k.val % 2 = 0 then laneByte A B t ((k.val + 1) % 128) ++ laneByte A B t k.val else 0#16) := by
  unfold rightTile
  rw [cat_cols_left _ _ _ t k (⟨k.val, hk⟩ : Fin 128) rfl]
  show Ideal.ofBits .bf16 (ropeBits A B (ix2 t (⟨k.val, hk⟩ : Fin 128))) = _
  rw [ropeBits_apply]

theorem rightTile_high (A : S1x512x128.Idx → BitVec 8) (B : S1x512x16.Idx → BitVec 8) (C : S1x512x128.Idx → BitVec 8) (t : Fin 512) (k : Fin 256) (k' : Fin 128) (hk : k'.val + 128 = k.val) :
    rightTile A B C (ix2 t k) = (((C (ix3 0 t k')).toNat : ℝ) : EReal) := by
  unfold rightTile
  rw [cat_cols_right _ _ _ t k k' hk]
  show (((shapeCast S512x128 C shapeCasts_S1x512x128_S512x128 (ix2 t k')).toNat : ℝ) : EReal) = _
  rw [drop_three]

/-- The four bytes of a tile that hold group `g`'s scale, as a word. -/
def tileScale (C : S1x512x128.Idx → BitVec 8) (t : Fin 512) (g : Fin 4) : BitVec 32 :=
  C (ix3 0 t ⟨4 * g.val + 3, by omega⟩) ++ C (ix3 0 t ⟨4 * g.val + 2, by omega⟩) ++ C (ix3 0 t ⟨4 * g.val + 1, by omega⟩) ++ C (ix3 0 t ⟨4 * g.val, by omega⟩)

/-- The weights that gather two scale bytes into one number: group `g`'s high bytes in row `g`, its low ones in row `8 + g`. -/
def IsWeights (w : S16x256.Idx → EReal) : Prop :=
  ∀ (g : Fin 4) (ro hi lo : ℕ), (ro = 0 ∧ hi = 3 ∧ lo = 2 ∨ ro = 8 ∧ hi = 1 ∧ lo = 0) → ∀ (r : Fin 16), r.val = ro + g.val → ∀ (k : Fin 256),
    w (ix2 r k) = if k.val = 128 + 4 * g.val + hi then 256 else if k.val = 128 + 4 * g.val + lo then 1 else 0

section
variable (a3 : FVec Ideal S1x1x16x256 .bf16) (a6 : FVec Ideal S16x256 .bf16)
  (A : S1x512x128.Idx → BitVec 8) (B : S1x512x16.Idx → BitVec 8) (C : S1x512x128.Idx → BitVec 8)

theorem pay49_top (h : Fin 16) (k : Fin 256) (r : Fin 32) (hr : h.val = r.val) : k0_pay49 (F := Ideal) a3 a6 (ix2 r k) = a3 (ix4 0 0 h k) := by
  unfold k0_pay49
  refine (cat_rows_left _ _ _ r k h hr).trans (shapeCast_apply _ _ _ _ ?_)
  rw [Shape.rowMajor_val_four, Shape.rowMajor_val_two]
  show (((0 : ℕ) * 1 + 0) * 16 + h.val) * 256 + k.val = h.val * 256 + k.val
  omega

theorem pay49_bottom (h : Fin 16) (k : Fin 256) (r : Fin 32) (hr : h.val + 16 = r.val) : k0_pay49 (F := Ideal) a3 a6 (ix2 r k) = a6 (ix2 h k) := by
  unfold k0_pay49
  exact (cat_rows_right _ _ _ r k h hr).trans (shapeCast_apply _ _ _ _ rfl)

/-- A gathered row: 256 times one byte and another. -/
theorem gathered (hw : IsWeights a6) (g : Fin 4) (ro hi lo : ℕ) (hc : ro = 0 ∧ hi = 3 ∧ lo = 2 ∨ ro = 8 ∧ hi = 1 ∧ lo = 0)
    (t : Fin 512) (r : Fin 32) (hr : r.val = 16 + (ro + g.val)) (c1 c2 : Fin 128) (h1 : c1.val = 4 * g.val + hi) (h2 : c2.val = 4 * g.val + lo) :
    k0_pay18 (F := Ideal) (k0_pay49 a3 a6) A B C (ix2 r t) = (((256 * (C (ix3 0 t c1)).toNat + (C (ix3 0 t c2)).toNat : ℕ) : ℝ) : EReal) := by
  have hg := g.isLt
  rw [pay18_eq, mm_apply]
  have hterm (k : Fin 256) : k0_pay49 (F := Ideal) a3 a6 (ix2 r k) = if k.val = 128 + 4 * g.val + hi then 256 else if k.val = 128 + 4 * g.val + lo then 1 else 0 := by
    rw [pay49_bottom a3 a6 ⟨ro + g.val, by omega⟩ k r (by show ro + g.val + 16 = r.val; omega)]
    exact hw g ro hi lo hc _ rfl k
  have b1 : 128 + 4 * g.val + hi < 256 := by omega
  have b2 : 128 + 4 * g.val + lo < 256 := by omega
  have ht1 : k0_pay49 (F := Ideal) a3 a6 (ix2 r ⟨128 + 4 * g.val + hi, b1⟩) = 256 := (hterm _).trans (if_pos rfl)
  have ht2 : k0_pay49 (F := Ideal) a3 a6 (ix2 r ⟨128 + 4 * g.val + lo, b2⟩) = 1 :=
    (hterm _).trans ((if_neg (by show ¬ 128 + 4 * g.val + lo = 128 + 4 * g.val + hi; omega)).trans (if_pos rfl))
  rw [Fintype.sum_eq_add (⟨128 + 4 * g.val + hi, b1⟩ : Fin 256) ⟨128 + 4 * g.val + lo, b2⟩
    (by intro e; have := congrArg Fin.val e; simp only [] at this; omega)
    (by
      rintro k ⟨h1, h2⟩
      rw [hterm, if_neg (fun e => h1 (Fin.ext e)), if_neg (fun e => h2 (Fin.ext e)), zero_mul])]
  rw [ht1, ht2, rightTile_high A B C t _ c1 (by show _ + 128 = 128 + _ + _; omega),
    rightTile_high A B C t _ c2 (by show _ + 128 = 128 + _ + _; omega), one_mul]
  rw [show (256 : EReal) = ((256 : ℝ) : EReal) from rfl, ← EReal.coe_mul, ← EReal.coe_add]
  congr 1
  push_cast
  rfl

theorem fptosi_nat (n : ℕ) (hn : n < 2 ^ 31) : FloatOps.fptosi (F := Ideal) (φ := .f32) 32 (((n : ℕ) : ℝ) : EReal) = BitVec.ofNat 32 n := by
  show BitVec.ofInt 32 (max (-(2 ^ (32 - 1) : ℕ) : ℤ) (min (((2 ^ (32 - 1) : ℕ) : ℤ) - 1) (if 0 ≤ ((n : ℕ) : ℝ) then ⌊((n : ℕ) : ℝ)⌋ else ⌈((n : ℕ) : ℝ)⌉))) = _
  rw [if_pos (Nat.cast_nonneg n), Int.floor_natCast, min_eq_right (by norm_num <;> omega), max_eq_right (by norm_num <;> omega)]
  exact BitVec.ofInt_natCast 32 n

theorem join_words (b3 b2 b1 b0 : BitVec 8) :
    IntOp.ori (IntOp.shli .vector (BitVec.ofNat 32 (256 * b3.toNat + b2.toNat)) 16#32) (BitVec.ofNat 32 (256 * b1.toNat + b0.toNat)) = b3 ++ b2 ++ b1 ++ b0 := by
  show (BitVec.ofNat 32 (256 * b3.toNat + b2.toNat)) <<< 16 ||| BitVec.ofNat 32 (256 * b1.toNat + b0.toNat) = _
  have h3 := b3.isLt
  have h2 := b2.isLt
  have h1 := b1.isLt
  have h0 := b0.isLt
  apply BitVec.eq_of_toNat_eq
  rw [BitVec.toNat_or, BitVec.toNat_shiftLeft, BitVec.toNat_ofNat, BitVec.toNat_ofNat, BitVec.toNat_append, BitVec.toNat_append, BitVec.toNat_append,
    ← Nat.shiftLeft_add_eq_or_of_lt h2, ← Nat.shiftLeft_add_eq_or_of_lt h1, ← Nat.shiftLeft_add_eq_or_of_lt h0]
  simp only [Nat.shiftLeft_eq]
  rw [Nat.mod_eq_of_lt (show 256 * b3.toNat + b2.toNat < 2 ^ 32 by omega), Nat.mod_eq_of_lt (show 256 * b1.toNat + b0.toNat < 2 ^ 32 by omega),
    Nat.mod_eq_of_lt (show (256 * b3.toNat + b2.toNat) * 2 ^ 16 < 2 ^ 32 by omega), ← Nat.shiftLeft_eq,
    ← Nat.shiftLeft_add_eq_or_of_lt (show 256 * b1.toNat + b0.toNat < 2 ^ 16 by omega), Nat.shiftLeft_eq]
  omega

/-- Group `g`'s scale in the chunk's row `t`. -/
theorem scale_apply (hw : IsWeights a6) (g : Fin 4) (t : Fin 512) (g8 : Fin 8) (h8 : g8.val = g.val) :
    k0_pay22 (F := Ideal) (k0_pay20 (F := Ideal) (k0_pay49 (F := Ideal) a3 a6) A B C) (k0_pay21 (F := Ideal) (k0_pay49 (F := Ideal) a3 a6) A B C) (ix2 g8 t)
      = Ideal.ofBits .f32 (tileScale C t g) := by
  show Ideal.ofBits .f32 (IntOp.ori (IntOp.shli .vector (FloatOps.fptosi 32 (extractStridedSlice S8x512 ![16, 0] (k0_pay18 (F := Ideal) (k0_pay49 (F := Ideal) a3 a6) A B C) slices_S32x512_o16_0_S8x512 (ix2 g8 t))) 16#32)
    (FloatOps.fptosi 32 (extractStridedSlice S8x512 ![24, 0] (k0_pay18 (F := Ideal) (k0_pay49 (F := Ideal) a3 a6) A B C) slices_S32x512_o24_0_S8x512 (ix2 g8 t)))) = _
  have hg := g.isLt
  have bb (c : Fin 128) := (C (ix3 0 t c)).isLt
  rw [slice_two _ _ g8 t (⟨16 + g.val, by omega⟩ : Fin 32) t (by show 16 + g.val = 16 + g8.val; omega) (by omega),
    slice_two _ _ g8 t (⟨24 + g.val, by omega⟩ : Fin 32) t (by show 24 + g.val = 24 + g8.val; omega) (by omega),
    gathered a3 a6 A B C hw g 0 3 2 (by omega) t _ (by show 16 + g.val = _; omega) ⟨4 * g.val + 3, by omega⟩ ⟨4 * g.val + 2, by omega⟩ rfl rfl,
    gathered a3 a6 A B C hw g 8 1 0 (by omega) t _ (by show 24 + g.val = _; omega) ⟨4 * g.val + 1, by omega⟩ ⟨4 * g.val, by omega⟩ rfl rfl,
    fptosi_nat _ (by have := bb ⟨4 * g.val + 3, by omega⟩; have := bb ⟨4 * g.val + 2, by omega⟩; omega),
    fptosi_nat _ (by have := bb ⟨4 * g.val + 1, by omega⟩; have := bb ⟨4 * g.val, by omega⟩; omega),
    join_words]
  rfl

/-- The query's position elements in the lanes the kernel meets the cached ones in. -/
def IsTurned (v : ℕ → EReal) (q : ℕ → EReal) : Prop :=
  ∀ k, k < 256 → v k = if k < 128 ∧ k % 2 = 0 then q ((k / 2 + 56) % 64) else 0

theorem sum_pairs (G : ℕ → EReal) (n : ℕ) : ∑ k ∈ Finset.range (2 * n), G k = ∑ i ∈ Finset.range n, (G (2 * i) + G (2 * i + 1)) := by
  induction n with
  | zero => rfl
  | succ n ih => rw [show 2 * (n + 1) = 2 * n + 1 + 1 by ring, Finset.sum_range_succ, Finset.sum_range_succ, ih, Finset.sum_range_succ, add_assoc]

/-- A sum over the turned lanes is the sum over the elements. -/
theorem sum_turned (f : ℕ → EReal) : ∑ k ∈ Finset.range 256, (if k < 128 ∧ k % 2 = 0 then f ((k / 2 + 56) % 64) else 0) = ∑ r ∈ Finset.range 64, f r := by
  rw [show (256 : ℕ) = 2 * (64 + 64) from rfl, sum_pairs, Finset.sum_range_add]
  have h2 : ∑ x ∈ Finset.range 64, ((if 2 * (64 + x) < 128 ∧ 2 * (64 + x) % 2 = 0 then f ((2 * (64 + x) / 2 + 56) % 64) else 0)
      + if 2 * (64 + x) + 1 < 128 ∧ (2 * (64 + x) + 1) % 2 = 0 then f (((2 * (64 + x) + 1) / 2 + 56) % 64) else 0) = 0 :=
    Finset.sum_eq_zero fun x _ => by rw [if_neg (by omega), if_neg (by omega), add_zero]
  have h1 : ∑ x ∈ Finset.range 64, ((if 2 * x < 128 ∧ 2 * x % 2 = 0 then f ((2 * x / 2 + 56) % 64) else 0)
      + if 2 * x + 1 < 128 ∧ (2 * x + 1) % 2 = 0 then f (((2 * x + 1) / 2 + 56) % 64) else 0) = ∑ x ∈ Finset.range 64, f ((x + 56) % 64) :=
    Finset.sum_congr rfl fun x hx => by
      have := Finset.mem_range.mp hx
      rw [if_pos (by omega), if_neg (by omega), add_zero, show 2 * x / 2 = x by omega]
  rw [h1, h2, add_zero]
  have e1 : ∑ x ∈ Finset.range 64, f ((x + 56) % 64) = ∑ x ∈ Finset.range 8, f (56 + x) + ∑ x ∈ Finset.range 56, f x := by
    rw [show (64 : ℕ) = 8 + 56 from rfl, Finset.sum_range_add]
    exact congrArg₂ (· + ·) (Finset.sum_congr rfl fun x hx => congrArg f (by have := Finset.mem_range.mp hx; omega))
      (Finset.sum_congr rfl fun x hx => congrArg f (by have := Finset.mem_range.mp hx; omega))
  have e2 : ∑ x ∈ Finset.range 64, f x = ∑ x ∈ Finset.range 56, f x + ∑ x ∈ Finset.range 8, f (56 + x) := by
    rw [show (64 : ℕ) = 56 + 8 from rfl, Finset.sum_range_add]
  rw [e1, e2, add_comm]

/-- The position product of head `h` with row `t`. -/
theorem rope_apply (h : Fin 16) (q : ℕ → EReal) (hq : IsTurned (fun k => a3 (ix4 0 0 h ⟨k % 256, Nat.mod_lt _ (by decide)⟩)) q)
    (row : ℕ → BitVec 8) (t : Fin 512) (hA : ∀ l : Fin 128, A (ix3 0 t l) = row (512 + l.val)) (hB : ∀ l : Fin 16, B (ix3 0 t l) = row (640 + l.val)) :
    k0_pay19 (F := Ideal) (k0_pay49 a3 a6) A B C (ix2 h t) = ∑ r ∈ Finset.range 64, q r * ropeOf row r := by
  unfold k0_pay19
  refine (slice_two _ _ h t (⟨h.val, by omega⟩ : Fin 32) t (by show h.val = 0 + h.val; omega) (by omega)).trans ?_
  rw [pay18_eq, mm_apply, ← sum_turned, Finset.sum_range]
  refine Finset.sum_congr rfl fun k _ => ?_
  have hk := k.isLt
  rw [pay49_top a3 a6 h k _ rfl]
  have e := hq k.val hk
  simp only [Nat.mod_eq_of_lt hk] at e
  rw [e]
  by_cases hc : k.val < 128 ∧ k.val % 2 = 0
  · rw [if_pos hc, if_pos hc, rightTile_low A B C t k hc.1, if_pos hc.2]
    refine congrArg (q _ * Ideal.ofBits .bf16 ·) ?_
    unfold ropeWord laneByte
    have : (k.val + 1) % 128 = k.val + 1 := by omega
    by_cases h16 : k.val < 16
    · rw [dif_pos (by omega), dif_pos h16, hB, hB]
      congr 1
      · congr 1; show 640 + (k.val + 1) % 128 = _; omega
      · congr 1; show 640 + k.val = _; omega
    · rw [dif_neg (by omega), dif_neg h16, hA, hA]
      congr 1
      · congr 1; show 512 + (k.val + 1) % 128 % 128 = _; omega
      · congr 1; show 512 + k.val % 128 = _; omega
  · rw [if_neg hc, if_neg hc, zero_mul]

end

end Cert.Value

end
-- ==== Proof.Value.Score.lean ====
/-
  The masked scores of a chunk of 512 rows, element by element: what `Head.kscore` says.
-/
module

public import proofs.«01_k».proof.Proof.Value.Tile

@[expose] public section

noncomputable section

open scoped BigOperators

namespace Cert.Value

open Cert.KernelIdeal Cert.KernelIdeal.Gen
open Idealize.ShloMosaic Idealize.ShloMosaic.ValueIdx

/-- Row `y` of the slot `s` of a scratch of cached rows. -/
def slotRow (f : S2x4096x656.Idx → BitVec 8) (s y : ℕ) : ℕ → BitVec 8 := fun z => byteAt (F := Ideal) f s y z

theorem tile_row (n : ℕ) (f : S2x4096x656.Idx → BitVec 8) (s y z : ℕ) (t : Fin 512) (l : Fin n) :
    tile (F := Ideal) n f s y z (ix3 0 t l) = slotRow f s (y + t.val) (z + l.val) := rfl

section
variable (a2 : FVec Ideal S1x1x16x512 .bf16) (a3 : FVec Ideal S1x1x16x256 .bf16) (a6 : FVec Ideal S16x256 .bf16)

/-- Head `h`'s latent query. -/
def xOf (h : Fin 16) : ℕ → EReal := fun c => a2 (ix4 0 0 h ⟨c % 512, Nat.mod_lt _ (by decide)⟩)

theorem pay45_apply (h : Fin 16) (c : Fin 512) : k0_pay45 (F := Ideal) a2 (ix2 h c) = xOf a2 h c.val := by
  unfold k0_pay45 xOf
  refine (shapeCast_apply _ _ _ (ix4 0 0 h c) ?_).trans ?_
  · rw [Shape.rowMajor_val_four, Shape.rowMajor_val_two]
    show (((0 : ℕ) * 1 + 0) * 16 + h.val) * 512 + c.val = h.val * 512 + c.val
    omega
  · exact congrArg (fun i : Fin 512 => a2 (ix4 0 0 h i)) (Fin.ext (Nat.mod_eq_of_lt c.isLt).symm)

theorem pay46_apply (h : Fin 16) (c : Fin 128) : k0_pay46 (F := Ideal) (ix2 h c) = 0 := by
  show Ideal.ofBits .bf16 0x0000#16 = 0
  exact Ideal.ofBits_zero_bf16

/-- Two groups of 128 lanes beside each other's zeros. -/
def IsSplit (w : FVec Ideal S32x256 .bf16) (g : ℕ) : Prop :=
  ∀ (h : Fin 16) (r : Fin 32) (k : Fin 256),
    (r.val = h.val → w (ix2 r k) = if k.val < 128 then xOf a2 h (128 * g + k.val) else 0)
    ∧ (r.val = 16 + h.val → w (ix2 r k) = if k.val < 128 then 0 else xOf a2 h (128 * g + k.val))

theorem split_of (off0 off1 : ℕ) (g : ℕ) (h0 : S16x512.Slices ![0, off0] S16x128) (h1 : S16x512.Slices ![0, off1] S16x128)
    (e0 : off0 = 128 * g) (e1 : off1 = 128 * g + 128) (hg : g ≤ 2) :
    IsSplit a2 (concatenate S32x256 0 [⟨S16x256, concatenate S16x256 1 [⟨S16x128, extractStridedSlice S16x128 ![0, off0] (k0_pay45 (F := Ideal) a2) h0⟩, ⟨S16x128, k0_pay46 (F := Ideal)⟩] concatenates_S16x128_S16x128_S16x256_d1⟩,
      ⟨S16x256, concatenate S16x256 1 [⟨S16x128, k0_pay46 (F := Ideal)⟩, ⟨S16x128, extractStridedSlice S16x128 ![0, off1] (k0_pay45 (F := Ideal) a2) h1⟩] concatenates_S16x128_S16x128_S16x256_d1⟩]
      concatenates_S16x256_S16x256_S32x256_d0) g := by
  intro h r k
  have hk := k.isLt
  constructor
  · intro hr
    refine (cat_rows_left _ _ _ r k h hr.symm).trans ?_
    by_cases hc : k.val < 128
    · rw [if_pos hc]
      refine (cat_cols_left _ _ _ h k (⟨k.val, hc⟩ : Fin 128) rfl).trans ?_
      refine (slice_two _ _ h _ h (⟨128 * g + k.val, by omega⟩ : Fin 512) (by omega) (by show 128 * g + k.val = off0 + k.val; omega)).trans ?_
      exact pay45_apply a2 h _
    · rw [if_neg hc]
      exact (cat_cols_right _ _ _ h k (⟨k.val - 128, by omega⟩ : Fin 128) (by show k.val - 128 + 128 = k.val; omega)).trans (pay46_apply h _)
  · intro hr
    refine (cat_rows_right _ _ _ r k h (by omega)).trans ?_
    by_cases hc : k.val < 128
    · rw [if_pos hc]
      exact (cat_cols_left _ _ _ h k (⟨k.val, hc⟩ : Fin 128) rfl).trans (pay46_apply h _)
    · rw [if_neg hc]
      refine (cat_cols_right _ _ _ h k (⟨k.val - 128, by omega⟩ : Fin 128) (by show k.val - 128 + 128 = k.val; omega)).trans ?_
      refine (slice_two _ _ h _ h (⟨128 * g + k.val, by omega⟩ : Fin 512) (by omega) (by show 128 * g + k.val = off1 + (k.val - 128); omega)).trans ?_
      exact pay45_apply a2 h _

theorem pay47_split : IsSplit a2 (k0_pay47 (F := Ideal) a2) 0 := split_of a2 0 128 0 _ _ rfl rfl (by omega)
theorem pay48_split : IsSplit a2 (k0_pay48 (F := Ideal) (k0_pay45 (F := Ideal) a2) (k0_pay46 (F := Ideal))) 2 := split_of a2 256 384 2 _ _ rfl rfl (by omega)

/-- The latent products of a group. -/
theorem part_apply (w : FVec Ideal S32x256 .bf16) (g : ℕ) (hw : IsSplit a2 w g) (D : S1x512x256.Idx → BitVec 8) (row : ℕ → BitVec 8) (t : Fin 512)
    (hD : ∀ l : Fin 256, D (ix3 0 t l) = row (128 * g + l.val)) (h : Fin 16) (H : Head) (y : ℕ) (hx : H.x = xOf a2 h) (hrow : H.row y = row) (r : Fin 32) :
    (r.val = h.val → matmul dot_S32x256_S512x256_S32x512_1_1_0_0_n_n none w (bitcastToFloat (F := Ideal) .fp8e4m3 (shapeCast S512x256 D shapeCasts_S1x512x256_S512x256)) (constant S32x512 .f32 0x00000000#32) (ix2 r t) = H.part y g)
    ∧ (r.val = 16 + h.val → matmul dot_S32x256_S512x256_S32x512_1_1_0_0_n_n none w (bitcastToFloat (F := Ideal) .fp8e4m3 (shapeCast S512x256 D shapeCasts_S1x512x256_S512x256)) (constant S32x512 .f32 0x00000000#32) (ix2 r t) = H.part y (g + 1)) := by
  rw [mm_apply]
  have hR (k : Fin 256) : bitcastToFloat (F := Ideal) .fp8e4m3 (shapeCast S512x256 D shapeCasts_S1x512x256_S512x256) (ix2 t k) = codeOf row (128 * g + k.val) := by
    show Ideal.ofBits .fp8e4m3 (shapeCast S512x256 D shapeCasts_S1x512x256_S512x256 (ix2 t k)) = _
    rw [drop_three, hD]; rfl
  constructor
  · intro hr
    have e : ∑ k : Fin 256, w (ix2 r k) * bitcastToFloat (F := Ideal) .fp8e4m3 (shapeCast S512x256 D shapeCasts_S1x512x256_S512x256) (ix2 t k)
        = ∑ k ∈ Finset.range 256, (if k < 128 then xOf a2 h (128 * g + k) else 0) * codeOf row (128 * g + k) := by
      rw [Finset.sum_range]
      exact Finset.sum_congr rfl fun k _ => by rw [hR, (hw h r k).1 hr]
    rw [e, show (256 : ℕ) = 128 + 128 from rfl, Finset.sum_range_add, Finset.sum_eq_zero (s := Finset.range 128) (f := fun x => (if 128 + x < 128 then xOf a2 h (128 * g + (128 + x)) else 0) * codeOf row (128 * g + (128 + x)))
      (fun x _ => by rw [if_neg (by omega), zero_mul]), add_zero]
    unfold Head.part
    rw [hx, hrow]
    exact Finset.sum_congr rfl fun k hk => by rw [if_pos (Finset.mem_range.mp hk)]
  · intro hr
    have e : ∑ k : Fin 256, w (ix2 r k) * bitcastToFloat (F := Ideal) .fp8e4m3 (shapeCast S512x256 D shapeCasts_S1x512x256_S512x256) (ix2 t k)
        = ∑ k ∈ Finset.range 256, (if k < 128 then 0 else xOf a2 h (128 * g + k)) * codeOf row (128 * g + k) := by
      rw [Finset.sum_range]
      exact Finset.sum_congr rfl fun k _ => by rw [hR, (hw h r k).2 hr]
    rw [e, show (256 : ℕ) = 128 + 128 from rfl, Finset.sum_range_add, Finset.sum_eq_zero (s := Finset.range 128) (f := fun x => (if x < 128 then 0 else xOf a2 h (128 * g + x)) * codeOf row (128 * g + x))
      (fun x hx => by rw [if_pos (Finset.mem_range.mp hx), zero_mul]), zero_add]
    unfold Head.part
    rw [hx, hrow]
    exact Finset.sum_congr rfl fun k hk => by rw [if_neg (by omega), show 128 * g + (128 + k) = 128 * (g + 1) + k by ring]

/-- The chunk's row `t` is below the length. -/
theorem below (w : BitVec 32) (hw : w.toNat ≤ 4096) (k : ℕ) (hk : k < 8) (t : Fin 512) (h : Fin 16) :
    cmpi .slt (addi (iota .tc S16x512 32 [1] iota_S16x512_d1_w32) (broadcast S16x512 (Scalar.muli (Scf.iv 0#32 1#32 k) 512#32))) (broadcast S16x512 w) (ix2 h t)
      = if 512 * k + t.val < w.toNat then 1#1 else 0#1 := by
  show IntOp.cmpi .slt (IntOp.addi (iota .tc S16x512 32 [1] iota_S16x512_d1_w32 (ix2 h t)) (Scalar.muli (Scf.iv 0#32 1#32 k) 512#32)) w = _
  rw [iota_single_apply]
  have ht := t.isLt
  have e : IntOp.addi (BitVec.ofNat 32 t.val) (Scalar.muli (Scf.iv 0#32 1#32 k) 512#32) = BitVec.ofNat 32 (512 * k + t.val) := by
    show BitVec.ofNat 32 t.val + (0#32 + BitVec.ofNat 32 k * 1#32) * 512#32 = _
    apply BitVec.eq_of_toNat_eq
    simp only [BitVec.toNat_add, BitVec.toNat_mul, BitVec.toNat_ofNat]
    omega
  show IntOp.cmpi .slt (IntOp.addi (BitVec.ofNat 32 t.val) _) w = _
  rw [e]
  show BitVec.ofBool ((BitVec.ofNat 32 (512 * k + t.val)).slt w) = _
  have hlt : (BitVec.ofNat 32 (512 * k + t.val)).slt w = decide (512 * k + t.val < w.toNat) := by
    rw [BitVec.slt, BitVec.toInt_eq_toNat_cond, BitVec.toInt_eq_toNat_cond, BitVec.toNat_ofNat, Nat.mod_eq_of_lt (show 512 * k + t.val < 2 ^ 32 by omega),
      if_pos (by omega), if_pos (by omega)]
    exact decide_eq_decide.mpr Int.ofNat_lt
  rw [hlt]
  by_cases hb : 512 * k + t.val < w.toNat
  · rw [if_pos hb, decide_eq_true hb]; rfl
  · rw [if_neg hb, decide_eq_false hb]; rfl

theorem bcast_row (x : FVec Ideal S1x512 .f32) (h : Fin 16) (t : Fin 512) : broadcastTo S16x512 x broadcasts_S1x512_S16x512 (ix2 h t) = x (ix2 0 t) := by
  refine broadcastTo_apply _ _ _ _ ?_
  intro a; match a with
  | ⟨0, _⟩ => rfl
  | ⟨1, _⟩ => rfl

theorem scale_row (x : FVec Ideal S8x512 .f32) (g : ℕ) (h : S8x512.Slices ![g, 0] S1x512) (g8 : Fin 8) (hg : g8.val = g) (t : Fin 512) :
    extractStridedSlice S1x512 ![g, 0] x h (ix2 0 t) = x (ix2 g8 t) := slice_two _ _ 0 t g8 t hg (by omega)

theorem product_rows (x : FVec Ideal S32x512 .f32) (a : ℕ) (hs : S32x512.Slices ![a, 0] S16x512) (h : Fin 16) (r : Fin 32) (hr : r.val = a + h.val) (t : Fin 512) :
    extractStridedSlice S16x512 ![a, 0] x hs (ix2 h t) = x (ix2 r t) := slice_two _ _ h t r t hr (by omega)

/-- What a head is computed from, the cached rows read from the scratch. -/
def slotHead (h : Fin 16) (q kn rn : ℕ → EReal) (w : BitVec 32) (f : S2x4096x656.Idx → BitVec 8) (s : ℕ) : Head :=
  ⟨xOf a2 h, q, kn, rn, fun t => slotRow f s t, w.toNat⟩

theorem tileScale_eq (f : S2x4096x656.Idx → BitVec 8) (s k : ℕ) (t : Fin 512) (g : Fin 4) :
    tileScale (tile (F := Ideal) 128 f s (512 * k) 512) t g = scaleWord (slotRow f s (512 * k + t.val)) g.val := by
  unfold tileScale scaleWord
  rw [tile_row, tile_row, tile_row, tile_row]
  congr 1

set_option maxHeartbeats 1000000 in
/-- The kernel's score of head `h` in row `512 k + t`. -/
theorem score_apply (hwt : IsWeights a6) (h : Fin 16) (q kn rn : ℕ → EReal)
    (hq : IsTurned (fun k => a3 (ix4 0 0 h ⟨k % 256, Nat.mod_lt _ (by decide)⟩)) q)
    (w : BitVec 32) (hw : w.toNat ≤ 4096) (f : S2x4096x656.Idx → BitVec 8) (s k : ℕ) (hk : k < 8) (t : Fin 512) :
    scoreTile (F := Ideal) w (k0_pay45 (F := Ideal) a2) (k0_pay46 (F := Ideal)) (k0_pay47 (F := Ideal) a2) a3 a6 f s k (ix2 h t)
      = (slotHead a2 h q kn rn w f s).kscore (512 * k + t.val) := by
  unfold scoreTile k0_pay24
  have hS (g : Fin 4) (g8 : Fin 8) (h8 : g8.val = g.val) := (scale_apply a3 a6 (tile (F := Ideal) 128 f s (512 * k) 512) (tile (F := Ideal) 16 f s (512 * k) 640) (tile (F := Ideal) 128 f s (512 * k) 512) hwt g t g8 h8).trans
    (congrArg (Ideal.ofBits .f32) (tileScale_eq f s k t g))
  have hr0 : ∀ r : Fin 32, r.val = h.val → _ := fun r => (part_apply a2 _ 0 (pay47_split a2) (tile (F := Ideal) 256 f s (512 * k) 0) (slotRow f s (512 * k + t.val)) t (fun l => by rw [tile_row]) h (slotHead a2 h q kn rn w f s) (512 * k + t.val) rfl rfl r).1
  have hr1 : ∀ r : Fin 32, r.val = 16 + h.val → _ := fun r => (part_apply a2 _ 0 (pay47_split a2) (tile (F := Ideal) 256 f s (512 * k) 0) (slotRow f s (512 * k + t.val)) t (fun l => by rw [tile_row]) h (slotHead a2 h q kn rn w f s) (512 * k + t.val) rfl rfl r).2
  have hr2 : ∀ r : Fin 32, r.val = h.val → _ := fun r => (part_apply a2 _ 2 (pay48_split a2) (tile (F := Ideal) 256 f s (512 * k) 256) (slotRow f s (512 * k + t.val)) t (fun l => by rw [tile_row]) h (slotHead a2 h q kn rn w f s) (512 * k + t.val) rfl rfl r).1
  have hr3 : ∀ r : Fin 32, r.val = 16 + h.val → _ := fun r => (part_apply a2 _ 2 (pay48_split a2) (tile (F := Ideal) 256 f s (512 * k) 256) (slotRow f s (512 * k + t.val)) t (fun l => by rw [tile_row]) h (slotHead a2 h q kn rn w f s) (512 * k + t.val) rfl rfl r).2
  have hrope := rope_apply a3 a6 (tile (F := Ideal) 128 f s (512 * k) 512) (tile (F := Ideal) 16 f s (512 * k) 640) (tile (F := Ideal) 128 f s (512 * k) 512) h q hq (slotRow f s (512 * k + t.val)) t
    (fun l => tile_row _ _ _ _ _ _ _) (fun l => tile_row _ _ _ _ _ _ _)
  rw [select_apply, below w hw k hk t h]
  unfold Head.kscore
  by_cases hb : 512 * k + t.val < w.toNat
  · rw [if_pos hb, if_pos (show 512 * k + t.val < (slotHead a2 h q kn rn w f s).len from hb), select_one]
    rw [mulf_apply, addf_apply, addf_apply, addf_apply, addf_apply, mulf_apply, mulf_apply, mulf_apply, mulf_apply,
      bcast_row, bcast_row, bcast_row, bcast_row, hrope,
      product_rows _ 0 _ h ⟨h.val, by omega⟩ (by show h.val = 0 + h.val; omega), product_rows _ 16 _ h ⟨16 + h.val, by omega⟩ rfl,
      product_rows _ 0 _ h ⟨h.val, by omega⟩ (by show h.val = 0 + h.val; omega), product_rows _ 16 _ h ⟨16 + h.val, by omega⟩ rfl,
      hr0 _ rfl, hr1 _ rfl, hr2 _ rfl, hr3 _ rfl,
      scale_row _ 0 _ 0 rfl, hS 0 0 rfl, scale_row _ 1 _ 1 rfl, hS 1 1 rfl, scale_row _ 2 _ 2 rfl, hS 2 2 rfl, scale_row _ 3 _ 3 rfl, hS 3 3 rfl]
    rfl
  · rw [if_neg hb, if_neg (show ¬ 512 * k + t.val < (slotHead a2 h q kn rn w f s).len from hb), select_zero]
    show Ideal.ofBits .f32 0xFF800000#32 = ⊥
    simp [Ideal.ofBits, Ideal.ieee]

end

end Cert.Value

end
-- ==== Proof.Value.Out.lean ====
/-
  What the kernel leaves for one sequence, element by element: `Head.kout`.
-/
module

public import proofs.«01_k».proof.Proof.Value.Score
public import proofs.«01_k».proof.Proof.KernelIdeal.Loops
public import proofs.«01_k».proof.Proof.KernelIdeal.Body

@[expose] public section

noncomputable section

open scoped BigOperators

namespace Cert.Value

open Cert.KernelIdeal Cert.KernelIdeal.Gen
open Idealize.ShloMosaic Idealize.ShloMosaic.ValueIdx

theorem col_cast (x : FVec Ideal S16 .f32) (h : Fin 16) : shapeCast S16x1 x shapeCasts_S16_S16x1 (ix2 h 0) = x (ix1 h) := by
  refine shapeCast_apply _ _ _ _ ?_
  rw [Shape.rowMajor_val_one, Shape.rowMajor_val_two]
  show h.val = h.val * 1 + 0
  omega

theorem bcast_col (x : FVec Ideal S16x1 .f32) (h : Fin 16) (t : Fin 512) : broadcastTo S16x512 x broadcasts_S16x1_S16x512 (ix2 h t) = x (ix2 h 0) := by
  refine broadcastTo_apply _ _ _ _ ?_
  intro a; match a with
  | ⟨0, _⟩ => rfl
  | ⟨1, _⟩ => rfl

theorem bcast_row256 (x : FVec Ideal S1x256 .f32) (h : Fin 16) (t : Fin 256) : broadcastTo S16x256 x broadcasts_S1x256_S16x256 (ix2 h t) = x (ix2 0 t) := by
  refine broadcastTo_apply _ _ _ _ ?_
  intro a; match a with
  | ⟨0, _⟩ => rfl
  | ⟨1, _⟩ => rfl

theorem drop_lead {α : Type} {m n : ℕ} (x : (⟨3, ![1, m, n]⟩ : Shape).Idx → α) (h : (⟨3, ![1, m, n]⟩ : Shape).ShapeCasts ⟨2, ![m, n]⟩) (t : Fin m) (l : Fin n) :
    shapeCast ⟨2, ![m, n]⟩ x h (ix2 t l) = x (ix3 0 t l) := by
  refine shapeCast_apply x h _ _ ?_
  rw [Shape.rowMajor_val_three, Shape.rowMajor_val_two]
  show ((0 : ℕ) * m + t.val) * n + l.val = t.val * n + l.val
  simp

theorem add_lead {α : Type} {m n : ℕ} (x : (⟨2, ![m, n]⟩ : Shape).Idx → α) (h : (⟨2, ![m, n]⟩ : Shape).ShapeCasts ⟨3, ![1, m, n]⟩) (t : Fin m) (l : Fin n) :
    shapeCast ⟨3, ![1, m, n]⟩ x h (ix3 0 t l) = x (ix2 t l) := by
  refine shapeCast_apply x h _ _ ?_
  rw [Shape.rowMajor_val_three, Shape.rowMajor_val_two]
  show t.val * n + l.val = ((0 : ℕ) * m + t.val) * n + l.val
  simp

theorem row_sum (x : FVec Ideal S16x512 .f32) (h : Fin 16) :
    multiReduction .add [1] S16 x 0x00000000#32 reduces_S16x512_S16 (.inl rfl) rfl (ix1 h) = ∑ t : Fin 512, x (ix2 h t) := by
  refine (Ideal.multiReduction_add_single x _ reduces_S16x512_S16 _ _ (ix1 h)).trans ?_
  refine Finset.sum_congr rfl fun t _ => congrArg x (funext fun a => ?_)
  match a with
  | ⟨0, _⟩ => rfl
  | ⟨1, _⟩ => rfl

theorem row_sum256 (x : FVec Ideal S16x256 .f32) (h : Fin 16) :
    multiReduction .add [1] S16 x 0x00000000#32 reduces_S16x256_S16 (.inl rfl) rfl (ix1 h) = ∑ t : Fin 256, x (ix2 h t) := by
  refine (Ideal.multiReduction_add_single x _ reduces_S16x256_S16 _ _ (ix1 h)).trans ?_
  refine Finset.sum_congr rfl fun t _ => congrArg x (funext fun a => ?_)
  match a with
  | ⟨0, _⟩ => rfl
  | ⟨1, _⟩ => rfl

theorem minus_inf : Ideal.ofBits .f32 0xFF800000#32 = (⊥ : EReal) := by simp [Ideal.ofBits, Ideal.ieee]

theorem row_max (x : FVec Ideal S16x512 .f32) (h : Fin 16) :
    multiReduction .maximumf [1] S16 x 0xFF800000#32 reduces_S16x512_S16 (.inl rfl) rfl (ix1 h) = (Finset.univ : Finset (Fin 512)).sup fun t => (x (ix2 h t) : EReal) := by
  refine (Ideal.multiReduction_maximumf_single x _ reduces_S16x512_S16 _ _ (ix1 h)).trans ?_
  have e : x ∘ reduces_S16x512_S16.lift (ix1 h) = fun t : Fin 512 => x (ix2 h t) := funext fun t => congrArg x (funext fun a => by
    match a with
    | ⟨0, _⟩ => rfl
    | ⟨1, _⟩ => rfl)
  rw [e]
  show (Finset.univ : Finset (Fin 512)).fold max (Ideal.ofBits .f32 0xFF800000#32) _ = _
  rw [minus_inf]
  rfl

/-- Head by head: the new token's latent and position elements. -/
def knOf (a4 : FVec Ideal S1x1x512 .bf16) : ℕ → EReal := fun c => a4 (ix3 0 0 ⟨c % 512, Nat.mod_lt _ (by decide)⟩)

section
variable (a2 : FVec Ideal S1x1x16x512 .bf16) (a3 : FVec Ideal S1x1x16x256 .bf16) (a4 : FVec Ideal S1x1x512 .bf16) (a5 : FVec Ideal S1x1x256 .bf16) (a6 : FVec Ideal S16x256 .bf16)
  (h : Fin 16) (q rn : ℕ → EReal) (w : BitVec 32) (f : S2x4096x656.Idx → BitVec 8) (p : ℕ)

/-- The head, with the scratch's rows. -/
def theHead : Head := slotHead a2 h q (knOf a4) rn w f p

theorem pay50_apply (c : Fin 512) : k0_pay50 (F := Ideal) a4 (ix2 0 c) = knOf a4 c.val := by
  unfold k0_pay50 knOf
  exact (drop_lead _ _ 0 c).trans (congrArg (fun i : Fin 512 => a4 (ix3 0 0 i)) (Fin.ext (Nat.mod_eq_of_lt c.isLt).symm))

theorem start_apply (hq : IsTurned (fun k => a3 (ix4 0 0 h ⟨k % 256, Nat.mod_lt _ (by decide)⟩)) q)
    (hrn : IsTurned (fun k => a5 (ix3 0 0 ⟨k % 256, Nat.mod_lt _ (by decide)⟩)) rn) :
    outStart (F := Ideal) a2 a3 a4 a5 (ix2 h 0) = (theHead a2 a4 h q rn w f p).snew := by
  unfold outStart k0_pay51
  rw [mulf_apply, addf_apply, col_cast, col_cast, row_sum, row_sum256]
  unfold Head.snew
  refine congrArg₂ (· * ·) (congrArg₂ (· + ·) ?_ ?_) rfl
  · rw [Finset.sum_range]
    refine Finset.sum_congr rfl fun c _ => ?_
    rw [mulf_apply, bcast_row]
    exact congrArg₂ (· * ·) (pay45_apply a2 h c) (pay50_apply a4 c)
  · rw [← sum_turned, Finset.sum_range]
    refine Finset.sum_congr rfl fun c _ => ?_
    rw [mulf_apply, bcast_row256]
    have e1 := hq c.val c.isLt
    have e2 := hrn c.val c.isLt
    simp only [Nat.mod_eq_of_lt c.isLt] at e1 e2
    have i1 : extf .f32 (shapeCast S16x256 a3 shapeCasts_S1x1x16x256_S16x256) bitsLt_bf16_f32 (ix2 h c) = a3 (ix4 0 0 h c) := by
      rw [extf_apply]
      refine shapeCast_apply _ _ _ _ ?_
      rw [Shape.rowMajor_val_four, Shape.rowMajor_val_two]
      show (((0 : ℕ) * 1 + 0) * 16 + h.val) * 256 + c.val = h.val * 256 + c.val
      omega
    have i2 : extf .f32 (shapeCast S1x256 a5 shapeCasts_S1x1x256_S1x256) bitsLt_bf16_f32 (ix2 0 c) = a5 (ix3 0 0 c) := by
      rw [extf_apply]
      exact drop_lead _ _ 0 c
    rw [i1, i2, e1, e2]
    by_cases hc : c.val < 128 ∧ c.val % 2 = 0
    · rw [if_pos hc, if_pos hc, if_pos hc]; rfl
    · rw [if_neg hc, if_neg hc, if_neg hc, zero_mul]

section
variable (hq : IsTurned (fun k => a3 (ix4 0 0 h ⟨k % 256, Nat.mod_lt _ (by decide)⟩)) q)
    (hrn : IsTurned (fun k => a5 (ix3 0 0 ⟨k % 256, Nat.mod_lt _ (by decide)⟩)) rn) (hwt : IsWeights a6) (hw : w.toNat ≤ 4096)

include hq hwt hw in
theorem outScore_apply (k : ℕ) (hk : k < 8) (t : Fin 512) :
    outScore (F := Ideal) w p a2 a3 a6 f k (ix2 h t) = (theHead a2 a4 h q rn w f p).kscore (512 * k + t.val) :=
  score_apply a2 a3 a6 hwt h q (knOf a4) rn hq w hw f p k hk t

theorem sup_chunk (g : ℕ → EReal) (n : ℕ) :
    (Finset.range (512 * (n + 1))).sup g = max ((Finset.range (512 * n)).sup g) ((Finset.univ : Finset (Fin 512)).sup fun t => g (512 * n + t.val)) := by
  apply le_antisymm
  · refine Finset.sup_le fun t ht => ?_
    have := Finset.mem_range.mp ht
    by_cases h : t < 512 * n
    · exact (Finset.le_sup (Finset.mem_range.mpr h)).trans (le_max_left _ _)
    · have e : t = 512 * n + (⟨t - 512 * n, by omega⟩ : Fin 512).val := by show t = 512 * n + (t - 512 * n); omega
      refine le_trans ?_ (le_max_right _ _)
      rw [e]
      exact Finset.le_sup (f := fun t : Fin 512 => g (512 * n + t.val)) (Finset.mem_univ _)
  · refine max_le (Finset.sup_mono (Finset.range_subset_range.mpr (by omega))) (Finset.sup_le fun t _ => ?_)
    exact Finset.le_sup (Finset.mem_range.mpr (by have := t.isLt; omega))

theorem sum_chunk (g : ℕ → EReal) (n : ℕ) :
    ∑ t ∈ Finset.range (512 * (n + 1)), g t = ∑ t ∈ Finset.range (512 * n), g t + ∑ t : Fin 512, g (512 * n + t.val) := by
  rw [show 512 * (n + 1) = 512 * n + 512 by ring, Finset.sum_range_add]
  exact congrArg _ (Finset.sum_range _)

include hq hrn hwt hw in
theorem max_apply (n : ℕ) (hn : n ≤ 8) :
    maxUpto (F := Ideal) (outStart a2 a3 a4 a5) (outScore (F := Ideal) w p a2 a3 a6 f) n (ix2 h 0) = (theHead a2 a4 h q rn w f p).ktop n := by
  induction n with
  | zero =>
    refine (start_apply a2 a3 a4 a5 h q rn w f p hq hrn).trans ?_
    unfold Head.ktop
    simp
  | succ n ih =>
    show k0_pay53 (F := Ideal) _ _ (ix2 h 0) = _
    unfold k0_pay53
    rw [maximumf_apply, ih (by omega), col_cast, row_max]
    unfold Head.ktop
    rw [sup_chunk, ← max_assoc]
    exact congrArg _ (Finset.sup_congr rfl fun t _ => outScore_apply a2 a3 a4 a6 h q rn w f p hq hwt hw n (by omega) t)

/-- An exponential of a chunk. -/
theorem pay4_apply (m : FVec Ideal S16x1 .f32) (sc : FVec Ideal S16x512 .f32) (t : Fin 512) :
    k0_pay4 (F := Ideal) m (k0_pay52 (F := Ideal) sc) (ix2 h t) = Ideal.exp (sc (ix2 h t) - m (ix2 h 0)) := by
  unfold k0_pay4 k0_pay52
  show Ideal.exp (shapeCast S16x512 (shapeCast S1x16x512 sc shapeCasts_S16x512_S1x16x512) shapeCasts_S1x16x512_S16x512 (ix2 h t) - broadcastTo S16x512 m broadcasts_S16x1_S16x512 (ix2 h t)) = _
  rw [bcast_col, drop_lead, add_lead]

theorem pay5_apply (m : FVec Ideal S16x1 .f32) (sc : FVec Ideal S16x512 .f32) (t : Fin 512) :
    k0_pay5 (F := Ideal) m (k0_pay52 (F := Ideal) sc) (ix3 0 h t) = Ideal.exp (sc (ix2 h t) - m (ix2 h 0)) := by
  unfold k0_pay5
  rw [add_lead, pay4_apply]

include hq hrn hwt hw in
theorem sum_apply (N : ℕ) (hN : N ≤ 8) (m : FVec Ideal S16x1 .f32) (hm : m (ix2 h 0) = (theHead a2 a4 h q rn w f p).ktop N) (n : ℕ) (hn : n ≤ 8) :
    sumUpto (F := Ideal) m (k0_pay3 (outStart a2 a3 a4 a5) m) (outScore (F := Ideal) w p a2 a3 a6 f) n (ix2 h 0)
      = Ideal.exp ((theHead a2 a4 h q rn w f p).snew - (theHead a2 a4 h q rn w f p).ktop N)
        + ∑ t ∈ Finset.range (512 * n), Ideal.exp ((theHead a2 a4 h q rn w f p).kscore t - (theHead a2 a4 h q rn w f p).ktop N) := by
  induction n with
  | zero =>
    show Ideal.exp (outStart (F := Ideal) a2 a3 a4 a5 (ix2 h 0) - m (ix2 h 0)) = _
    rw [hm, start_apply a2 a3 a4 a5 h q rn w f p hq hrn]
    simp
  | succ n ih =>
    show k0_pay6 (F := Ideal) m _ _ (ix2 h 0) = _
    unfold k0_pay6
    rw [addf_apply, ih (by omega), col_cast, row_sum, sum_chunk, add_assoc]
    refine congrArg _ (congrArg _ (Finset.sum_congr rfl fun t _ => ?_))
    rw [pay4_apply, hm, outScore_apply a2 a3 a4 a6 h q rn w f p hq hwt hw n (by omega) t]

end
end

/-! ## The weighted rows -/

section
variable (l : FVec Ideal S16x1 .f32) (pr : FVec Ideal S1x16x512 .f32) (sl : FVec Ideal S1x8x512 .f32) (a b : S1x512x256.Idx → BitVec 8) (g : S16x512.Idx → EReal) (h : Fin 16)

theorem colRead_apply (o : ℕ) (hb : ∀ a, (![0, o] : Fin 2 → ℕ) a + S16x128.size a ≤ S16x512.size a) (c : Fin 128) (c' : Fin 512) (hc : c'.val = o + c.val) :
    colRead (F := Ideal) ![0, o] hb g (ix2 h c) = g (ix2 h c') := by
  refine congrArg g (funext fun d => Fin.ext ?_)
  match d with
  | ⟨0, _⟩ => show 0 + 1 * h.val = h.val; omega
  | ⟨1, _⟩ => show o + 1 * c.val = c'.val; omega

omit g h in
theorem colEmb (o : ℕ) (hb : ∀ a, (![0, o] : Fin 2 → ℕ) a + S16x128.size a ≤ S16x512.size a) (y : S16x128.Idx) :
    ((Memref.whole cc0_scratch4).access (colRect ![0, o] hb)).emb y = (ix2 ⟨(y 0).val, (y 0).isLt⟩ ⟨o + (y 1).val, lt_of_lt_of_le (Nat.add_lt_add_left (y 1).isLt o) (hb 1)⟩ : S16x512.Idx) := by
  refine funext fun d => Fin.ext ?_
  match d with
  | ⟨0, _⟩ => exact (show 0 + 1 * (y 0).val = (y 0).val by omega)
  | ⟨1, _⟩ => exact (show o + 1 * (y 1).val = o + (y 1).val by omega)

theorem colWrite_in (o : ℕ) (hb : ∀ a, (![0, o] : Fin 2 → ℕ) a + S16x128.size a ≤ S16x512.size a) (v : FVec Ideal S16x128 .f32) (c : Fin 128) (c' : Fin 512) (hc : c'.val = o + c.val) :
    colWrite (F := Ideal) ![0, o] hb g v (ix2 h c') = v (ix2 h c) := by
  have e : ((Memref.whole cc0_scratch4).access (colRect ![0, o] hb)).emb (ix2 h c) = (ix2 h c' : S16x512.Idx) := by
    rw [colEmb]
    refine congrArg₂ ix2 (Fin.ext ?_) (Fin.ext ?_)
    · rfl
    · exact hc.symm
  unfold colWrite
  rw [← e]
  exact View.write_emb_of_mem _ _ (Finset.mem_univ _)

theorem colWrite_out (o : ℕ) (hb : ∀ a, (![0, o] : Fin 2 → ℕ) a + S16x128.size a ≤ S16x512.size a) (v : FVec Ideal S16x128 .f32) (c' : Fin 512) (hc : c'.val < o ∨ o + 128 ≤ c'.val) :
    colWrite (F := Ideal) ![0, o] hb g v (ix2 h c') = g (ix2 h c') := by
  refine View.write_of_not_mem _ _ _ fun hm => ?_
  obtain ⟨y, -, e⟩ := Finset.mem_map.mp hm
  have e1 : o + (y 1).val = c'.val := congrArg (fun i : S16x512.Idx => (i 1).val) ((colEmb o hb y).symm.trans e)
  have := (y 1).isLt
  change (y 1).val < 128 at this
  omega

/-- What a chunk's rows add to column `c`. -/
def gain (D : S1x512x256.Idx → BitVec 8) (gr : Fin 8) (k : Fin 256) : EReal :=
  ∑ t : Fin 512, (Ideal.div (pr (ix3 0 h t)) (l (ix2 h 0)) * sl (ix3 0 gr t)) * Ideal.ofBits .fp8e4m3 (D (ix3 0 t k))

theorem mmPlain_apply (L : FVec Ideal S32x512 .bf16) (R : FVec Ideal S512x256 .fp8e4m3) (r : Fin 32) (c : Fin 256) :
    matmul dot_S32x512_S512x256_S32x256_1_0_0_1_n_n none L R (constant S32x256 .f32 0x00000000#32) (ix2 r c)
      = ∑ k : Fin 512, L (ix2 r k) * R (ix2 k c) := by
  refine (Ideal.matmul_plain_apply none L R (constant S32x256 .f32 0x00000000#32) r c).trans ?_
  rw [constant_apply, show Ideal.ofBits .f32 0x00000000#32 = (0 : EReal) by simp [Ideal.ofBits, Ideal.ieee], zero_add]

theorem pay32_apply (t : Fin 512) : k0_pay32 (F := Ideal) l pr (ix2 h t) = Ideal.div (pr (ix3 0 h t)) (l (ix2 h 0)) := by
  unfold k0_pay32
  rw [truncf_apply, divf_apply, bcast_col, drop_lead]

theorem pay33_apply (gr : Fin 8) (t : Fin 512) : k0_pay33 (F := Ideal) sl (ix2 gr t) = sl (ix3 0 gr t) := by
  unfold k0_pay33
  rw [truncf_apply, drop_lead]

theorem bcast_rowb (x : FVec Ideal S1x512 .bf16) (t : Fin 512) : broadcastTo S16x512 x broadcasts_S1x512_S16x512 (ix2 h t) = x (ix2 0 t) := bcast_row (x : FVec Ideal S1x512 .f32) h t

theorem weighted (g0 g1 : ℕ) (h0 : S8x512.Slices ![g0, 0] S1x512) (h1 : S8x512.Slices ![g1, 0] S1x512) (gr0 gr1 : Fin 8) (e0 : gr0.val = g0) (e1 : gr1.val = g1)
    (D : S1x512x256.Idx → BitVec 8) (r : Fin 32) (k : Fin 256) (o : ℕ) (X : FVec Ideal S32x256 .f32)
    (hX : X = matmul dot_S32x512_S512x256_S32x256_1_0_0_1_n_n none
      (concatenate S32x512 0 [⟨S16x512, mulf (k0_pay32 (F := Ideal) l pr) (broadcastTo S16x512 (extractStridedSlice S1x512 ![g0, 0] (k0_pay33 (F := Ideal) sl) h0) broadcasts_S1x512_S16x512)⟩,
        ⟨S16x512, mulf (k0_pay32 (F := Ideal) l pr) (broadcastTo S16x512 (extractStridedSlice S1x512 ![g1, 0] (k0_pay33 (F := Ideal) sl) h1) broadcasts_S1x512_S16x512)⟩] concatenates_S16x512_S16x512_S32x512_d0)
      (bitcastToFloat (F := Ideal) .fp8e4m3 (shapeCast S512x256 D shapeCasts_S1x512x256_S512x256)) (constant S32x256 .f32 0x00000000#32)) :
    (r.val = h.val → X (ix2 r k) = gain l pr sl h D gr0 k) ∧ (r.val = 16 + h.val → X (ix2 r k) = gain l pr sl h D gr1 k) := by
  have hR (t : Fin 512) : bitcastToFloat (F := Ideal) .fp8e4m3 (shapeCast S512x256 D shapeCasts_S1x512x256_S512x256) (ix2 t k) = Ideal.ofBits .fp8e4m3 (D (ix3 0 t k)) := by
    show Ideal.ofBits .fp8e4m3 (shapeCast S512x256 D shapeCasts_S1x512x256_S512x256 (ix2 t k)) = _
    rw [drop_lead]
  subst hX
  rw [mmPlain_apply]
  constructor
  · intro hr
    refine Finset.sum_congr rfl fun t _ => ?_
    rw [hR, cat_rows_left _ _ _ r t h hr.symm, mulf_apply, pay32_apply, bcast_rowb,
      slice_two _ h0 0 t gr0 t e0 (by omega), pay33_apply]
  · intro hr
    refine Finset.sum_congr rfl fun t _ => ?_
    rw [hR, cat_rows_right _ _ _ r t h (by omega), mulf_apply, pay32_apply, bcast_rowb,
      slice_two _ h1 0 t gr1 t e1 (by omega), pay33_apply]

theorem acc1_apply (c : Fin 512) : acc1 (F := Ideal) l pr sl a g (ix2 h c)
    = if hc : c.val < 128 then g (ix2 h c) + gain l pr sl h a 0 ⟨c.val, by omega⟩ else g (ix2 h c) := by
  unfold acc1
  split
  · rename_i hc
    rw [colWrite_in g h 0 _ _ ⟨c.val, hc⟩ c (by show c.val = 0 + c.val; omega)]
    unfold k0_pay35
    rw [shapeCast_self, addf_apply, colRead_apply g h 0 _ ⟨c.val, hc⟩ c (by show c.val = 0 + c.val; omega),
      slice_two _ _ h ⟨c.val, hc⟩ (⟨h.val, by omega⟩ : Fin 32) (⟨c.val, by omega⟩ : Fin 256) (by show h.val = 0 + h.val; omega) (by show c.val = 0 + c.val; omega),
      (weighted l pr sl h 0 1 slices_S8x512_o0_0_S1x512 slices_S8x512_o1_0_S1x512 0 1 rfl rfl a ⟨h.val, by omega⟩ ⟨c.val, by omega⟩ 0 (k0_pay34 (F := Ideal) l pr sl a) rfl).1 rfl]
  · rename_i hc
    exact colWrite_out g h 0 _ _ c (by omega)

theorem acc2_apply (c : Fin 512) : acc2 (F := Ideal) l pr sl a g (ix2 h c)
    = if hc : 128 ≤ c.val ∧ c.val < 256 then g (ix2 h c) + gain l pr sl h a 1 ⟨c.val, by omega⟩ else g (ix2 h c) := by
  unfold acc2
  split
  · rename_i hc
    rw [colWrite_in g h 128 _ _ ⟨c.val - 128, by omega⟩ c (by show c.val = 128 + (c.val - 128); omega)]
    unfold k0_pay36
    rw [shapeCast_self, addf_apply, colRead_apply g h 128 _ ⟨c.val - 128, by omega⟩ c (by show c.val = 128 + (c.val - 128); omega),
      slice_two _ _ h ⟨c.val - 128, by omega⟩ (⟨16 + h.val, by omega⟩ : Fin 32) (⟨c.val, by omega⟩ : Fin 256) rfl (by show c.val = 128 + (c.val - 128); omega),
      (weighted l pr sl h 0 1 slices_S8x512_o0_0_S1x512 slices_S8x512_o1_0_S1x512 0 1 rfl rfl a ⟨16 + h.val, by omega⟩ ⟨c.val, by omega⟩ 0 (k0_pay34 (F := Ideal) l pr sl a) rfl).2 rfl]
  · rename_i hc
    exact colWrite_out g h 128 _ _ c (by omega)

theorem acc3_apply (c : Fin 512) : acc3 (F := Ideal) l pr sl b g (ix2 h c)
    = if hc : 256 ≤ c.val ∧ c.val < 384 then g (ix2 h c) + gain l pr sl h b 2 ⟨c.val - 256, by omega⟩ else g (ix2 h c) := by
  unfold acc3
  split
  · rename_i hc
    rw [colWrite_in g h 256 _ _ ⟨c.val - 256, by omega⟩ c (by show c.val = 256 + (c.val - 256); omega)]
    unfold k0_pay12
    rw [shapeCast_self, addf_apply, colRead_apply g h 256 _ ⟨c.val - 256, by omega⟩ c (by show c.val = 256 + (c.val - 256); omega),
      slice_two _ _ h ⟨c.val - 256, by omega⟩ (⟨h.val, by omega⟩ : Fin 32) (⟨c.val - 256, by omega⟩ : Fin 256) (by show h.val = 0 + h.val; omega) (by show c.val - 256 = 0 + (c.val - 256); omega),
      (weighted l pr sl h 2 3 slices_S8x512_o2_0_S1x512 slices_S8x512_o3_0_S1x512 2 3 rfl rfl b ⟨h.val, by omega⟩ ⟨c.val - 256, by omega⟩ 0 (k0_pay11 (F := Ideal) (k0_pay32 (F := Ideal) l pr) (k0_pay33 (F := Ideal) sl) (k0_pay37 (F := Ideal) b)) rfl).1 rfl]
  · rename_i hc
    exact colWrite_out g h 256 _ _ c (by omega)

theorem acc4_apply (c : Fin 512) : acc4 (F := Ideal) l pr sl b g (ix2 h c)
    = if hc : 384 ≤ c.val then g (ix2 h c) + gain l pr sl h b 3 ⟨c.val - 256, by omega⟩ else g (ix2 h c) := by
  unfold acc4
  split
  · rename_i hc
    rw [colWrite_in g h 384 _ _ ⟨c.val - 384, by omega⟩ c (by show c.val = 384 + (c.val - 384); omega)]
    unfold k0_pay13
    rw [shapeCast_self, addf_apply, colRead_apply g h 384 _ ⟨c.val - 384, by omega⟩ c (by show c.val = 384 + (c.val - 384); omega),
      slice_two _ _ h ⟨c.val - 384, by omega⟩ (⟨16 + h.val, by omega⟩ : Fin 32) (⟨c.val - 256, by omega⟩ : Fin 256) rfl (by show c.val - 256 = 128 + (c.val - 384); omega),
      (weighted l pr sl h 2 3 slices_S8x512_o2_0_S1x512 slices_S8x512_o3_0_S1x512 2 3 rfl rfl b ⟨16 + h.val, by omega⟩ ⟨c.val - 256, by omega⟩ 0 (k0_pay11 (F := Ideal) (k0_pay32 (F := Ideal) l pr) (k0_pay33 (F := Ideal) sl) (k0_pay37 (F := Ideal) b)) rfl).2 rfl]
  · rename_i hc
    exact colWrite_out g h 384 _ _ c (by omega)

/-- One chunk's step, in terms of the cached bytes. -/
theorem accStep_apply (f : S2x4096x656.Idx → BitVec 8) (s y : ℕ) (c : Fin 512) :
    accStep (F := Ideal) l pr sl (tile (F := Ideal) 256 f s y 0) (tile (F := Ideal) 256 f s y 256) g (ix2 h c)
      = g (ix2 h c) + ∑ t : Fin 512, (Ideal.div (pr (ix3 0 h t)) (l (ix2 h 0)) * sl (ix3 0 ⟨c.val / 128, by omega⟩ t)) * codeOf (slotRow f s (y + t.val)) c.val := by
  have hg (D : S1x512x256.Idx → BitVec 8) (gr : Fin 8) (k : Fin 256) (hgr : gr.val = c.val / 128) (hD : ∀ t, D (ix3 0 t k) = slotRow f s (y + t.val) c.val) :
      gain l pr sl h D gr k = ∑ t : Fin 512, (Ideal.div (pr (ix3 0 h t)) (l (ix2 h 0)) * sl (ix3 0 ⟨c.val / 128, by omega⟩ t)) * codeOf (slotRow f s (y + t.val)) c.val := by
    have e : (⟨c.val / 128, by omega⟩ : Fin 8) = gr := Fin.ext hgr.symm
    rw [e]
    refine Finset.sum_congr rfl fun t _ => ?_
    rw [hD]; rfl
  have hc := c.isLt
  unfold accStep
  rw [acc4_apply, acc3_apply, acc2_apply, acc1_apply]
  by_cases h1 : c.val < 128
  · rw [dif_neg (by omega), dif_neg (by omega), dif_neg (by omega), dif_pos h1,
      hg _ _ _ (by show 0 = c.val / 128; omega) fun t => by rw [tile_row]; congr 1; exact Nat.zero_add _]
  · by_cases h2 : c.val < 256
    · rw [dif_neg (by omega), dif_neg (by omega), dif_pos (by omega), dif_neg h1,
        hg _ _ _ (by show 1 = c.val / 128; omega) fun t => by rw [tile_row]; congr 1; exact Nat.zero_add _]
    · by_cases h3 : c.val < 384
      · rw [dif_neg (by omega), dif_pos (by omega), dif_neg (by omega), dif_neg h1,
          hg _ _ _ (by show 2 = c.val / 128; omega) fun t => by rw [tile_row]; congr 1; show 256 + (c.val - 256) = c.val; omega]
      · rw [dif_pos (by omega), dif_neg (by omega), dif_neg (by omega), dif_neg h1,
          hg _ _ _ (by show 3 = c.val / 128; omega) fun t => by rw [tile_row]; congr 1; show 256 + (c.val - 256) = c.val; omega]

end

section
variable (a2 : FVec Ideal S1x1x16x512 .bf16) (a3 : FVec Ideal S1x1x16x256 .bf16) (a4 : FVec Ideal S1x1x512 .bf16) (a5 : FVec Ideal S1x1x256 .bf16) (a6 : FVec Ideal S16x256 .bf16)
  (h : Fin 16) (q rn : ℕ → EReal) (w : BitVec 32) (f : S2x4096x656.Idx → BitVec 8) (p : ℕ)

theorem scaleTile_apply (hwt : IsWeights a6) (k : ℕ) (gr : Fin 8) (hgr : gr.val < 4) (t : Fin 512) :
    scaleTile (F := Ideal) a3 a6 f p k (ix3 0 gr t) = scaleOf (slotRow f p (512 * k + t.val)) gr.val := by
  unfold scaleTile k0_pay23
  rw [add_lead]
  exact (scale_apply a3 a6 _ _ _ hwt ⟨gr.val, hgr⟩ t gr rfl).trans (congrArg (Ideal.ofBits .f32) (tileScale_eq f p k t ⟨gr.val, hgr⟩))

theorem chunks_le (n : ℕ) (hn : n ≤ 4096) : chunks n ≤ 8 := by unfold chunks; omega

/-- The kernel's output block, element by element. -/
theorem outVal_apply (hq : IsTurned (fun k => a3 (ix4 0 0 h ⟨k % 256, Nat.mod_lt _ (by decide)⟩)) q)
    (hrn : IsTurned (fun k => a5 (ix3 0 0 ⟨k % 256, Nat.mod_lt _ (by decide)⟩)) rn) (hwt : IsWeights a6) (hw : w.toNat ≤ 4096) (c : Fin 512) :
    outVal (F := Ideal) w p a2 a3 a4 a5 a6 f (ix4 0 0 h c) = (theHead a2 a4 h q rn w f p).kout (chunks w.toNat) c.val := by
  have hN := chunks_le w.toNat hw
  have hm := max_apply a2 a3 a4 a5 a6 h q rn w f p hq hrn hwt hw (chunks w.toNat) hN
  have hl := sum_apply a2 a3 a4 a5 a6 h q rn w f p hq hrn hwt hw (chunks w.toNat) hN _ hm (chunks w.toNat) hN
  have hm' : outMax (F := Ideal) w p a2 a3 a4 a5 a6 f (ix2 h 0) = (theHead a2 a4 h q rn w f p).ktop (chunks w.toNat) := hm
  have hl' : outSum (F := Ideal) w p a2 a3 a4 a5 a6 f (ix2 h 0) = (theHead a2 a4 h q rn w f p).ktot (chunks w.toNat) := hl
  unfold outVal k0_pay17
  refine (shapeCast_apply _ _ _ (ix2 h c) ?_).trans ?_
  · rw [Shape.rowMajor_val_four, Shape.rowMajor_val_two]
    show h.val * 512 + c.val = (((0 : ℕ) * 1 + 0) * 16 + h.val) * 512 + c.val
    omega
  rw [truncf_apply]
  unfold Head.kout
  have hc := c.isLt
  have key (n : ℕ) (hn : n ≤ 8) : accUpto (F := Ideal) (outSum (F := Ideal) w p a2 a3 a4 a5 a6 f) (fun k => k0_pay5 (outMax (F := Ideal) w p a2 a3 a4 a5 a6 f) (k0_pay52 (outScore (F := Ideal) w p a2 a3 a6 f k)))
      (scaleTile (F := Ideal) a3 a6 f p) (fun k => tile (F := Ideal) 256 f p (512 * k) 0) (fun k => tile (F := Ideal) 256 f p (512 * k) 256)
      (k0_pay10 (k0_pay50 a4) (outStart (F := Ideal) a2 a3 a4 a5) (outMax (F := Ideal) w p a2 a3 a4 a5 a6 f) (outSum (F := Ideal) w p a2 a3 a4 a5 a6 f)) n (ix2 h c)
      = Ideal.div (Ideal.exp ((theHead a2 a4 h q rn w f p).snew - (theHead a2 a4 h q rn w f p).ktop (chunks w.toNat))) ((theHead a2 a4 h q rn w f p).ktot (chunks w.toNat)) * (theHead a2 a4 h q rn w f p).kn c.val
        + ∑ t ∈ Finset.range (512 * n), (Ideal.div (Ideal.exp ((theHead a2 a4 h q rn w f p).kscore t - (theHead a2 a4 h q rn w f p).ktop (chunks w.toNat))) ((theHead a2 a4 h q rn w f p).ktot (chunks w.toNat))
            * scaleOf ((theHead a2 a4 h q rn w f p).row t) (c.val / 128)) * codeOf ((theHead a2 a4 h q rn w f p).row t) c.val := by
    induction n with
    | zero =>
      show k0_pay10 (F := Ideal) _ _ _ _ (ix2 h c) = _
      unfold k0_pay10
      rw [shapeCast_self, mulf_apply, bcast_col, bcast_row, extf_apply, truncf_apply, divf_apply, extf_apply, hl', pay50_apply]
      rw [show k0_pay3 (F := Ideal) (outStart (F := Ideal) a2 a3 a4 a5) (outMax (F := Ideal) w p a2 a3 a4 a5 a6 f) (ix2 h 0) = Ideal.exp (outStart (F := Ideal) a2 a3 a4 a5 (ix2 h 0) - outMax (F := Ideal) w p a2 a3 a4 a5 a6 f (ix2 h 0)) from rfl,
        hm', start_apply a2 a3 a4 a5 h q rn w f p hq hrn]
      simp
      rfl
    | succ n ih =>
      refine (accStep_apply _ _ _ _ h f p (512 * n) c).trans ?_
      rw [ih (by omega), sum_chunk, ← add_assoc]
      refine congrArg _ (Finset.sum_congr rfl fun t _ => ?_)
      rw [hl', scaleTile_apply a3 a6 f p hwt n ⟨c.val / 128, by omega⟩ (by show c.val / 128 < 4; omega) t]
      refine congrArg₂ (· * ·) (congrArg₂ (· * ·) (congrArg (Ideal.div · _) ((pay5_apply h _ _ t).trans ?_)) rfl) rfl
      rw [hm', outScore_apply a2 a3 a4 a6 h q rn w f p hq hwt hw n (by omega) t]
  exact key _ hN

end

end Cert.Value

end
-- ==== Proof.Value.Host.lean ====
/-
  The kernel's operands after the host's lines: the query's and the new key's position parts turned by eight and spread over even
  lanes, and the table of byte weights.
-/
module

public import proofs.«01_k».proof.Proof.Value.Out
public import proofs.«01_k».proof.Proof.KernelIdeal.Frame
public import Idealize.ShloMosaic.Lib.StableHlo.RunRead

@[expose] public section

noncomputable section

open scoped BigOperators

open Idealize.ShloMosaic Idealize.ShloMosaic.ValueIdx Idealize.ShloMosaic.StableHlo

namespace Cert.Value
open Cert.KernelIdeal Cert.KernelIdeal.Gen

/-! ## The table of byte weights -/

def pair (a b : IVec S1 32) : IVec S2 32 := concatenate S2 0 [⟨S1, a⟩, ⟨S1, b⟩] concatenates_S1_S1_S2_d0

theorem pair_fold (a b : IVec S1 32) : concatenate S2 0 [⟨S1, a⟩, ⟨S1, b⟩] concatenates_S1_S1_S2_d0 = pair a b := by rw [pair]

def one (r : BitVec 32) : IVec S1 32 := broadcastInDim S1 ![] bcast_S_S1 (constantI S_ 32 r)

/-- One weight put at a row and a lane. -/
def put (x : FVec Ideal S16x256 .bf16) (r c : BitVec 32) (v : BitVec 16) : FVec Ideal S16x256 .bf16 :=
  Host.scatter scatter_S16x256_S2_S__n_01_01_0 (fun _ b => b) x (pair (one r) (one c)) (constant S_ .bf16 v)

theorem pair_zero (r c : BitVec 32) : pair (one r) (one c) (ix1 0) = r := by
  refine (concatenate_pair_apply_left (t := S2) (s₁ := S1) (s₂ := S1) 0 _ _ _ (ix1 (0 : Fin 2)) rfl (ix1 (0 : Fin 1)) (fun b => ?_)).trans rfl
  match b with
  | ⟨0, _⟩ => rfl

theorem pair_one (r c : BitVec 32) : pair (one r) (one c) (ix1 1) = c := by
  refine (concatenate_pair_apply_right (t := S2) (s₁ := S1) (s₂ := S1) 0 _ _ _ (ix1 (1 : Fin 2)) rfl rfl (ix1 (0 : Fin 1)) ?_ ?_).trans rfl
  · intro b hb
    match b with
    | ⟨0, _⟩ => exact absurd rfl hb
  · rfl

theorem target (i : IVec S2 32) (r c : ℕ) (hr : (i (ix1 0)).toInt = r) (hc : (i (ix1 1)).toInt = c) (hr' : r < 16) (hc' : c < 256) (j : S_.Idx) :
    (scatter_S16x256_S2_S__n_01_01_0).resultIdx? j i = some (ix2 ⟨r, hr'⟩ ⟨c, hc'⟩) := by
  have m0 : (0 : Fin S16x256.rank) ∈ (scatter_S16x256_S2_S__n_01_01_0).scatterDimsToOperandDims := by show (0 : Fin 2) ∈ [0, 1]; decide
  have m1 : (1 : Fin S16x256.rank) ∈ (scatter_S16x256_S2_S__n_01_01_0).scatterDimsToOperandDims := by show (1 : Fin 2) ∈ [0, 1]; decide
  have e0 : (scatter_S16x256_S2_S__n_01_01_0).start j i 0 = r := by
    rw [← hr]; unfold ScatterDims.start; rw [dif_pos m0]
    refine congrArg (fun y => (i y).toInt) (funext fun b => Fin.ext ?_)
    match b with
    | ⟨0, _⟩ => rfl
  have e1 : (scatter_S16x256_S2_S__n_01_01_0).start j i 1 = c := by
    rw [← hc]; unfold ScatterDims.start; rw [dif_pos m1]
    refine congrArg (fun y => (i y).toInt) (funext fun b => Fin.ext ?_)
    match b with
    | ⟨0, _⟩ => rfl
  have w0 (a : Fin 2) : (scatter_S16x256_S2_S__n_01_01_0).window j a = 0 := by
    unfold ScatterDims.window; rw [dif_neg]
    revert a; decide
  have hall : ∀ a, 0 ≤ (scatter_S16x256_S2_S__n_01_01_0).start j i a + ((scatter_S16x256_S2_S__n_01_01_0).window j a : ℕ)
      ∧ (scatter_S16x256_S2_S__n_01_01_0).start j i a + ((scatter_S16x256_S2_S__n_01_01_0).window j a : ℕ) < (S16x256.size a : ℕ) := fun a => by
    match a with
    | ⟨0, _⟩ =>
      have := w0 0
      show 0 ≤ (scatter_S16x256_S2_S__n_01_01_0).start j i 0 + ((scatter_S16x256_S2_S__n_01_01_0).window j (0 : Fin 2) : ℕ) ∧ (scatter_S16x256_S2_S__n_01_01_0).start j i 0 + ((scatter_S16x256_S2_S__n_01_01_0).window j (0 : Fin 2) : ℕ) < ((16 : ℕ) : ℤ)
      rw [e0, this]; omega
    | ⟨1, _⟩ =>
      have := w0 1
      show 0 ≤ (scatter_S16x256_S2_S__n_01_01_0).start j i 1 + ((scatter_S16x256_S2_S__n_01_01_0).window j (1 : Fin 2) : ℕ) ∧ (scatter_S16x256_S2_S__n_01_01_0).start j i 1 + ((scatter_S16x256_S2_S__n_01_01_0).window j (1 : Fin 2) : ℕ) < ((256 : ℕ) : ℤ)
      rw [e1, this]; omega
  unfold ScatterDims.resultIdx?
  rw [dif_pos hall]
  refine congrArg some (funext fun a => Fin.ext ?_)
  match a with
  | ⟨0, _⟩ =>
    have := w0 0
    show ((scatter_S16x256_S2_S__n_01_01_0).start j i 0 + ((scatter_S16x256_S2_S__n_01_01_0).window j (0 : Fin 2) : ℕ)).toNat = r
    rw [e0, this]; omega
  | ⟨1, _⟩ =>
    have := w0 1
    show ((scatter_S16x256_S2_S__n_01_01_0).start j i 1 + ((scatter_S16x256_S2_S__n_01_01_0).window j (1 : Fin 2) : ℕ)).toNat = c
    rw [e1, this]; omega

theorem put_apply (x : FVec Ideal S16x256 .bf16) (r c : BitVec 32) (v : BitVec 16) (hr : r.toNat < 16) (hc : c.toNat < 256) (g : Fin 16) (k : Fin 256) :
    put x r c v (ix2 g k) = if g.val = r.toNat ∧ k.val = c.toNat then Ideal.ofBits .bf16 v else x (ix2 g k) := by
  have hr1 : ((pair (one r) (one c)) (ix1 0)).toInt = (r.toNat : ℤ) := by rw [pair_zero, BitVec.toInt_eq_toNat_cond, if_pos (by omega)]
  have hc1 : ((pair (one r) (one c)) (ix1 1)).toInt = (c.toNat : ℤ) := by rw [pair_one, BitVec.toInt_eq_toNat_cond, if_pos (by omega)]
  unfold put Host.scatter
  have el : List.finRange S_.numel = [⟨0, by decide⟩] := by rfl
  rw [el]
  simp only [List.foldl_cons, List.foldl_nil]
  rw [target _ _ _ hr1 hc1 hr hc]
  show (if ix2 g k = ix2 (⟨r.toNat, hr⟩ : Fin 16) (⟨c.toNat, hc⟩ : Fin 256) then Ideal.ofBits .bf16 v else x (ix2 g k)) = _
  by_cases h : g.val = r.toNat ∧ k.val = c.toNat
  · rw [if_pos h, if_pos (by rw [show g = ⟨r.toNat, hr⟩ from Fin.ext h.1, show k = ⟨c.toNat, hc⟩ from Fin.ext h.2])]
  · rw [if_neg h, if_neg]
    intro e
    exact h ⟨congrArg (fun f : S16x256.Idx => (f 0).val) e, congrArg (fun f : S16x256.Idx => (f 1).val) e⟩

section
variable (m : (ℓ : Loc nD τ sig) → Buf (Elt Idealize.ShloMosaic.Ideal) ℓ) (c : Dev nD)

set_option maxHeartbeats 2000000 in
set_option maxRecDepth 65536 in
theorem weights_line : (V m c main_v82 : S16x256.Idx → EReal)
    = put (put (put (put (put (put (put (put (put (put (put (put (put (put (put (put (broadcastInDim S16x256 ![] bcast_S_S16x256 (constant S_ .bf16 0x0000#16))
        0#32 131#32 0x4380#16) 0#32 130#32 0x3F80#16) 8#32 129#32 0x4380#16) 8#32 128#32 0x3F80#16)
        1#32 135#32 0x4380#16) 1#32 134#32 0x3F80#16) 9#32 133#32 0x4380#16) 9#32 132#32 0x3F80#16)
        2#32 139#32 0x4380#16) 2#32 138#32 0x3F80#16) 10#32 137#32 0x4380#16) 10#32 136#32 0x3F80#16)
        3#32 143#32 0x4380#16) 3#32 142#32 0x3F80#16) 11#32 141#32 0x4380#16) 11#32 140#32 0x3F80#16 := by
  show after (List.flatten [hostOps0, hostOps0_1, hostOps0_2, hostOps0_3]) (fun b => m (c, b)) (Proc.devRef .tc main_v82) = _
  simp only [List.flatten_cons, List.flatten_nil, List.append_nil]
  after_reads_simp
  simp only [pair_fold]
  after_reads_simp
  rfl

theorem bits_zero : Ideal.ofBits .bf16 0x0000#16 = 0 := by simp [Ideal.ofBits, Ideal.ieee]
theorem bits_one : Ideal.ofBits .bf16 0x3F80#16 = 1 := by
  rw [show (1 : EReal) = ((1 : ℝ) : EReal) by norm_cast]
  simp [Ideal.ofBits, Ideal.ieee, -EReal.coe_mul]; norm_num
theorem bits_256 : Ideal.ofBits .bf16 0x4380#16 = 256 := by
  rw [show (256 : EReal) = ((256 : ℝ) : EReal) by norm_cast]
  simp [Ideal.ofBits, Ideal.ieee, -EReal.coe_mul]; norm_num

theorem weights_at : IsWeights (V m c main_v82 : S16x256.Idx → EReal) := by
  rw [weights_line]
  intro g ro hi lo h r hr k
  have hz : (broadcastInDim S16x256 ![] bcast_S_S16x256 (constant (F := Idealize.ShloMosaic.Ideal) S_ .bf16 0x0000#16)) (ix2 r k) = (0 : EReal) := bits_zero
  rw [put_apply _ _ _ _ (by decide) (by decide), put_apply _ _ _ _ (by decide) (by decide), put_apply _ _ _ _ (by decide) (by decide), put_apply _ _ _ _ (by decide) (by decide),
    put_apply _ _ _ _ (by decide) (by decide), put_apply _ _ _ _ (by decide) (by decide), put_apply _ _ _ _ (by decide) (by decide), put_apply _ _ _ _ (by decide) (by decide),
    put_apply _ _ _ _ (by decide) (by decide), put_apply _ _ _ _ (by decide) (by decide), put_apply _ _ _ _ (by decide) (by decide), put_apply _ _ _ _ (by decide) (by decide),
    put_apply _ _ _ _ (by decide) (by decide), put_apply _ _ _ _ (by decide) (by decide), put_apply _ _ _ _ (by decide) (by decide), put_apply _ _ _ _ (by decide) (by decide), hz,
    bits_one, bits_256, hr]
  have hg := g.isLt
  rcases h with ⟨rfl, rfl, rfl⟩ | ⟨rfl, rfl, rfl⟩
  · match g with
    | ⟨0, _⟩ => simp; split_ifs <;> first | rfl | omega
    | ⟨1, _⟩ => simp; split_ifs <;> first | rfl | omega
    | ⟨2, _⟩ => simp; split_ifs <;> first | rfl | omega
    | ⟨3, _⟩ => simp; split_ifs <;> first | rfl | omega
  · match g with
    | ⟨0, _⟩ => simp; split_ifs <;> first | rfl | omega
    | ⟨1, _⟩ => simp; split_ifs <;> first | rfl | omega
    | ⟨2, _⟩ => simp; split_ifs <;> first | rfl | omega
    | ⟨3, _⟩ => simp; split_ifs <;> first | rfl | omega

/-! ## The turned position parts -/

def catA (a : FVec Ideal S128x1x16x8 .bf16) (b : FVec Ideal S128x1x16x56 .bf16) : FVec Ideal S128x1x16x64 .bf16 :=
  concatenate S128x1x16x64 3 [⟨S128x1x16x8, a⟩, ⟨S128x1x16x56, b⟩] concatenates_S128x1x16x8_S128x1x16x56_S128x1x16x64_d3
def catB (a b : FVec Ideal S128x1x16x64x1 .bf16) : FVec Ideal S128x1x16x64x2 .bf16 :=
  concatenate S128x1x16x64x2 4 [⟨S128x1x16x64x1, a⟩, ⟨S128x1x16x64x1, b⟩] concatenates_S128x1x16x64x1_S128x1x16x64x1_S128x1x16x64x2_d4
def catC (a : FVec Ideal S128x1x16x128 .bf16) (b c : FVec Ideal S128x1x16x64 .bf16) : FVec Ideal S128x1x16x256 .bf16 :=
  concatenate S128x1x16x256 3 [⟨S128x1x16x128, a⟩, ⟨S128x1x16x64, b⟩, ⟨S128x1x16x64, c⟩] concatenates_S128x1x16x128_S128x1x16x64_S128x1x16x64_S128x1x16x256_d3
def catD (a : FVec Ideal S128x1x8 .bf16) (b : FVec Ideal S128x1x56 .bf16) : FVec Ideal S128x1x64 .bf16 :=
  concatenate S128x1x64 2 [⟨S128x1x8, a⟩, ⟨S128x1x56, b⟩] concatenates_S128x1x8_S128x1x56_S128x1x64_d2
def catE (a b : FVec Ideal S128x1x64x1 .bf16) : FVec Ideal S128x1x64x2 .bf16 :=
  concatenate S128x1x64x2 3 [⟨S128x1x64x1, a⟩, ⟨S128x1x64x1, b⟩] concatenates_S128x1x64x1_S128x1x64x1_S128x1x64x2_d3
def catF (a : FVec Ideal S128x1x128 .bf16) (b c : FVec Ideal S128x1x64 .bf16) : FVec Ideal S128x1x256 .bf16 :=
  concatenate S128x1x256 2 [⟨S128x1x128, a⟩, ⟨S128x1x64, b⟩, ⟨S128x1x64, c⟩] concatenates_S128x1x128_S128x1x64_S128x1x64_S128x1x256_d2

theorem catA_fold (a : FVec Ideal S128x1x16x8 .bf16) (b : FVec Ideal S128x1x16x56 .bf16) :
    concatenate S128x1x16x64 3 [⟨S128x1x16x8, a⟩, ⟨S128x1x16x56, b⟩] concatenates_S128x1x16x8_S128x1x16x56_S128x1x16x64_d3 = catA a b := by rw [catA]
theorem catB_fold (a b : FVec Ideal S128x1x16x64x1 .bf16) :
    concatenate S128x1x16x64x2 4 [⟨S128x1x16x64x1, a⟩, ⟨S128x1x16x64x1, b⟩] concatenates_S128x1x16x64x1_S128x1x16x64x1_S128x1x16x64x2_d4 = catB a b := by rw [catB]
theorem catC_fold (a : FVec Ideal S128x1x16x128 .bf16) (b c : FVec Ideal S128x1x16x64 .bf16) :
    concatenate S128x1x16x256 3 [⟨S128x1x16x128, a⟩, ⟨S128x1x16x64, b⟩, ⟨S128x1x16x64, c⟩] concatenates_S128x1x16x128_S128x1x16x64_S128x1x16x64_S128x1x16x256_d3 = catC a b c := by rw [catC]
theorem catD_fold (a : FVec Ideal S128x1x8 .bf16) (b : FVec Ideal S128x1x56 .bf16) :
    concatenate S128x1x64 2 [⟨S128x1x8, a⟩, ⟨S128x1x56, b⟩] concatenates_S128x1x8_S128x1x56_S128x1x64_d2 = catD a b := by rw [catD]
theorem catE_fold (a b : FVec Ideal S128x1x64x1 .bf16) :
    concatenate S128x1x64x2 3 [⟨S128x1x64x1, a⟩, ⟨S128x1x64x1, b⟩] concatenates_S128x1x64x1_S128x1x64x1_S128x1x64x2_d3 = catE a b := by rw [catE]
theorem catF_fold (a : FVec Ideal S128x1x128 .bf16) (b c : FVec Ideal S128x1x64 .bf16) :
    concatenate S128x1x256 2 [⟨S128x1x128, a⟩, ⟨S128x1x64, b⟩, ⟨S128x1x64, c⟩] concatenates_S128x1x128_S128x1x64_S128x1x64_S128x1x256_d2 = catF a b c := by rw [catF]

def zeros4 : FVec Ideal S128x1x16x64 .bf16 := broadcastInDim S128x1x16x64 ![] bcast_S_S128x1x16x64 (constant S_ .bf16 0x0000#16)
def zeros3 : FVec Ideal S128x1x64 .bf16 := broadcastInDim S128x1x64 ![] bcast_S_S128x1x64 (constant S_ .bf16 0x0000#16)

def turnQ (x : FVec Ideal S128x1x16x64 .bf16) : FVec Ideal S128x1x16x256 .bf16 :=
  catC (shapeCast S128x1x16x128 (catB
      (broadcastInDim S128x1x16x64x1 ![0, 1, 2, 3] bcast_S128x1x16x64_S128x1x16x64x1_0_1_2_3
        (catA (extractStridedSlice S128x1x16x8 ![0, 0, 0, 56] x slices_S128x1x16x64_S128x1x16x8_0_0_0_56) (extractStridedSlice S128x1x16x56 ![0, 0, 0, 0] x slices_S128x1x16x64_S128x1x16x56_0_0_0_0)))
      (broadcastInDim S128x1x16x64x1 ![0, 1, 2, 3] bcast_S128x1x16x64_S128x1x16x64x1_0_1_2_3 zeros4)) shapeCasts_S128x1x16x64x2_S128x1x16x128) zeros4 zeros4

def turnK (x : FVec Ideal S128x1x64 .bf16) : FVec Ideal S128x1x256 .bf16 :=
  catF (shapeCast S128x1x128 (catE
      (broadcastInDim S128x1x64x1 ![0, 1, 2] bcast_S128x1x64_S128x1x64x1_0_1_2
        (catD (extractStridedSlice S128x1x8 ![0, 0, 56] x slices_S128x1x64_S128x1x8_0_0_56) (extractStridedSlice S128x1x56 ![0, 0, 0] x slices_S128x1x64_S128x1x56_0_0_0)))
      (broadcastInDim S128x1x64x1 ![0, 1, 2] bcast_S128x1x64_S128x1x64x1_0_1_2 zeros3)) shapeCasts_S128x1x64x2_S128x1x128) zeros3 zeros3

theorem turnQ_line : (V m c main_v8 : S128x1x16x256.Idx → EReal) = turnQ (m ((c.tc : Thread nD τ).loc main_arg1)) := by
  show after (List.flatten [hostOps0, hostOps0_1, hostOps0_2, hostOps0_3]) (fun b => m (c, b)) (Proc.devRef .tc main_v8) = _
  simp only [List.flatten_cons, List.flatten_nil, List.append_nil]
  after_reads_simp
  refine (catC_fold _ _ _).trans ?_
  show catC (upto (hostOps0 ++ (hostOps0_1 ++ (hostOps0_2 ++ hostOps0_3))) (fun b => m (c, b)) 13 (Proc.devRef .tc main_v5))
    (upto (hostOps0 ++ (hostOps0_1 ++ (hostOps0_2 ++ hostOps0_3))) (fun b => m (c, b)) 13 (Proc.devRef .tc main_v6))
    (upto (hostOps0 ++ (hostOps0_1 ++ (hostOps0_2 ++ hostOps0_3))) (fun b => m (c, b)) 13 (Proc.devRef .tc main_v7)) = _
  after_reads_simp
  simp only [catB_fold]
  after_reads_simp
  simp only [catA_fold]
  after_reads_simp
  rfl

theorem turnK_line : (V m c main_v17 : S128x1x256.Idx → EReal) = turnK (m ((c.tc : Thread nD τ).loc main_arg3)) := by
  show after (List.flatten [hostOps0, hostOps0_1, hostOps0_2, hostOps0_3]) (fun b => m (c, b)) (Proc.devRef .tc main_v17) = _
  simp only [List.flatten_cons, List.flatten_nil, List.append_nil]
  after_reads_simp
  refine (catF_fold _ _ _).trans ?_
  show catF (upto (hostOps0 ++ (hostOps0_1 ++ (hostOps0_2 ++ hostOps0_3))) (fun b => m (c, b)) 27 (Proc.devRef .tc main_v14))
    (upto (hostOps0 ++ (hostOps0_1 ++ (hostOps0_2 ++ hostOps0_3))) (fun b => m (c, b)) 27 (Proc.devRef .tc main_v15))
    (upto (hostOps0 ++ (hostOps0_1 ++ (hostOps0_2 ++ hostOps0_3))) (fun b => m (c, b)) 27 (Proc.devRef .tc main_v16)) = _
  after_reads_simp
  simp only [catE_fold]
  after_reads_simp
  simp only [catD_fold]
  after_reads_simp
  rfl

end

end Cert.Value

end
-- ==== Proof.Value.Turn.lean ====
/-
  The turned position parts, lane by lane.
-/
module

public import proofs.«01_k».proof.Proof.Value.Host

@[expose] public section

noncomputable section

open scoped BigOperators

open Idealize.ShloMosaic Idealize.ShloMosaic.ValueIdx Idealize.ShloMosaic.StableHlo

namespace Cert.Value
open Cert.KernelIdeal Cert.KernelIdeal.Gen

section
variable (b : Fin 128) (h : Fin 16)

theorem zeros4_apply (j : S128x1x16x64.Idx) : zeros4 j = (0 : EReal) := bits_zero
theorem zeros3_apply (j : S128x1x64.Idx) : zeros3 j = (0 : EReal) := bits_zero

theorem rolled_low (x : FVec Ideal S128x1x16x64 .bf16) (r : Fin 64) (z : Fin 64) (hr : r.val < 8) (hz : z.val = 56 + r.val) :
    catA (extractStridedSlice S128x1x16x8 ![0, 0, 0, 56] x slices_S128x1x16x64_S128x1x16x8_0_0_0_56) (extractStridedSlice S128x1x16x56 ![0, 0, 0, 0] x slices_S128x1x16x64_S128x1x16x56_0_0_0_0) (ix4 b 0 h r) = x (ix4 b 0 h z) := by
  unfold catA
  refine (concatenate_pair_apply_left (t := S128x1x16x64) (s₁ := S128x1x16x8) (s₂ := S128x1x16x56) 3 _ _ _ (ix4 b 0 h r) rfl (ix4 b 0 h ⟨r.val, hr⟩) (fun d => ?_)).trans ?_
  · match d with
    | ⟨0, _⟩ => rfl
    | ⟨1, _⟩ => rfl
    | ⟨2, _⟩ => rfl
    | ⟨3, _⟩ => rfl
  · exact extractStridedSlice_apply _ _ _ _ (ix4 b 0 h z) fun d => by
      match d with
      | ⟨0, _⟩ => exact (Nat.zero_add _).symm
      | ⟨1, _⟩ => exact (Nat.zero_add _).symm
      | ⟨2, _⟩ => exact (Nat.zero_add _).symm
      | ⟨3, _⟩ => exact hz

theorem rolled_high (x : FVec Ideal S128x1x16x64 .bf16) (r : Fin 64) (z : Fin 64) (hr : 8 ≤ r.val) (hz : r.val = 8 + z.val) :
    catA (extractStridedSlice S128x1x16x8 ![0, 0, 0, 56] x slices_S128x1x16x64_S128x1x16x8_0_0_0_56) (extractStridedSlice S128x1x16x56 ![0, 0, 0, 0] x slices_S128x1x16x64_S128x1x16x56_0_0_0_0) (ix4 b 0 h r) = x (ix4 b 0 h z) := by
  unfold catA
  refine (concatenate_pair_apply_right (t := S128x1x16x64) (s₁ := S128x1x16x8) (s₂ := S128x1x16x56) 3 _ _ _ (ix4 b 0 h r) rfl rfl (ix4 b 0 h ⟨z.val, by omega⟩) (fun d hd => ?_) ?_).trans ?_
  · match d with
    | ⟨0, _⟩ => rfl
    | ⟨1, _⟩ => rfl
    | ⟨2, _⟩ => rfl
    | ⟨3, _⟩ => exact absurd rfl hd
  · show z.val + 8 = r.val
    omega
  · exact extractStridedSlice_apply _ _ _ _ (ix4 b 0 h z) fun d => by
      match d with
      | ⟨0, _⟩ => exact (Nat.zero_add _).symm
      | ⟨1, _⟩ => exact (Nat.zero_add _).symm
      | ⟨2, _⟩ => exact (Nat.zero_add _).symm
      | ⟨3, _⟩ => exact (Nat.zero_add _).symm

theorem bcast5 (x : FVec Ideal S128x1x16x64 .bf16) (r : Fin 64) :
    broadcastInDim S128x1x16x64x1 ![0, 1, 2, 3] bcast_S128x1x16x64_S128x1x16x64x1_0_1_2_3 x (ix5 b 0 h r 0) = x (ix4 b 0 h r) :=
  broadcastInDim_apply _ _ _ _ (ix4 b 0 h r) fun d => by
    match d with
    | ⟨0, _⟩ => rfl
    | ⟨1, _⟩ => rfl
    | ⟨2, _⟩ => rfl
    | ⟨3, _⟩ => rfl

theorem spread_even (x y : FVec Ideal S128x1x16x64x1 .bf16) (r : Fin 64) : catB x y (ix5 b 0 h r 0) = x (ix5 b 0 h r 0) := by
  unfold catB
  refine (concatenate_pair_apply_left (t := S128x1x16x64x2) (s₁ := S128x1x16x64x1) (s₂ := S128x1x16x64x1) 4 _ _ _ (ix5 b 0 h r 0) rfl (ix5 b 0 h r 0) (fun d => ?_))
  match d with
  | ⟨0, _⟩ => rfl
  | ⟨1, _⟩ => rfl
  | ⟨2, _⟩ => rfl
  | ⟨3, _⟩ => rfl
  | ⟨4, _⟩ => rfl

theorem spread_odd (x y : FVec Ideal S128x1x16x64x1 .bf16) (r : Fin 64) : catB x y (ix5 b 0 h r 1) = y (ix5 b 0 h r 0) := by
  unfold catB
  refine (concatenate_pair_apply_right (t := S128x1x16x64x2) (s₁ := S128x1x16x64x1) (s₂ := S128x1x16x64x1) 4 _ _ _ (ix5 b 0 h r 1) rfl rfl (ix5 b 0 h r 0) (fun d hd => ?_) rfl)
  match d with
  | ⟨0, _⟩ => rfl
  | ⟨1, _⟩ => rfl
  | ⟨2, _⟩ => rfl
  | ⟨3, _⟩ => rfl
  | ⟨4, _⟩ => exact absurd rfl hd

theorem flat5 (x : FVec Ideal S128x1x16x64x2 .bf16) (k : Fin 128) (r : Fin 64) (p : Fin 2) (hk : k.val = r.val * 2 + p.val) :
    shapeCast S128x1x16x128 x shapeCasts_S128x1x16x64x2_S128x1x16x128 (ix4 b 0 h k) = x (ix5 b 0 h r p) := by
  refine shapeCast_apply _ _ _ (ix5 b 0 h r p) ?_
  rw [Shape.rowMajor_val_five, Shape.rowMajor_val_four]
  show (((b.val * 1 + 0) * 16 + h.val) * 64 + r.val) * 2 + p.val = ((b.val * 1 + 0) * 16 + h.val) * 128 + k.val
  omega

theorem catC_first (x : FVec Ideal S128x1x16x128 .bf16) (y z : FVec Ideal S128x1x16x64 .bf16) (k : Fin 256) (k' : Fin 128) (hk : k.val = k'.val) :
    catC x y z (ix4 b 0 h k) = x (ix4 b 0 h k') := by
  unfold catC
  refine concatenate_apply_piece (t := S128x1x16x256) 3 _ _ (ix4 b 0 h k) 0 (by show 0 < 3; omega) S128x1x16x128 x rfl rfl 0 rfl (ix4 b 0 h k') (fun d hd => ?_) ?_
  · match d with
    | ⟨0, _⟩ => rfl
    | ⟨1, _⟩ => rfl
    | ⟨2, _⟩ => rfl
    | ⟨3, _⟩ => exact absurd rfl hd
  · show 0 + k'.val = k.val
    omega

theorem catC_second (x : FVec Ideal S128x1x16x128 .bf16) (y z : FVec Ideal S128x1x16x64 .bf16) (k : Fin 256) (k' : Fin 64) (hk : k.val = 128 + k'.val) :
    catC x y z (ix4 b 0 h k) = y (ix4 b 0 h k') := by
  unfold catC
  refine concatenate_apply_piece (t := S128x1x16x256) 3 _ _ (ix4 b 0 h k) 1 (by show 1 < 3; omega) S128x1x16x64 y rfl rfl 128 rfl (ix4 b 0 h k') (fun d hd => ?_) ?_
  · match d with
    | ⟨0, _⟩ => rfl
    | ⟨1, _⟩ => rfl
    | ⟨2, _⟩ => rfl
    | ⟨3, _⟩ => exact absurd rfl hd
  · show 128 + k'.val = k.val
    omega

theorem catC_third (x : FVec Ideal S128x1x16x128 .bf16) (y z : FVec Ideal S128x1x16x64 .bf16) (k : Fin 256) (k' : Fin 64) (hk : k.val = 192 + k'.val) :
    catC x y z (ix4 b 0 h k) = z (ix4 b 0 h k') := by
  unfold catC
  refine concatenate_apply_piece (t := S128x1x16x256) 3 _ _ (ix4 b 0 h k) 2 (by show 2 < 3; omega) S128x1x16x64 z rfl rfl 192 rfl (ix4 b 0 h k') (fun d hd => ?_) ?_
  · match d with
    | ⟨0, _⟩ => rfl
    | ⟨1, _⟩ => rfl
    | ⟨2, _⟩ => rfl
    | ⟨3, _⟩ => exact absurd rfl hd
  · show 192 + k'.val = k.val
    omega

/-- The query's position part. -/
theorem turnQ_turned (x : FVec Ideal S128x1x16x64 .bf16) :
    IsTurned (fun k => turnQ x (ix4 b 0 h ⟨k % 256, Nat.mod_lt _ (by decide)⟩)) (fun r => x (ix4 b 0 h ⟨r % 64, Nat.mod_lt _ (by decide)⟩)) := by
  intro k hk
  show turnQ x (ix4 b 0 h ⟨k % 256, Nat.mod_lt _ (by decide)⟩) = if k < 128 ∧ k % 2 = 0 then x (ix4 b 0 h ⟨(k / 2 + 56) % 64 % 64, Nat.mod_lt _ (by decide)⟩) else (0 : EReal)
  rw [show (⟨k % 256, Nat.mod_lt _ (by decide)⟩ : Fin 256) = ⟨k, hk⟩ from Fin.ext (Nat.mod_eq_of_lt hk)]
  unfold turnQ
  by_cases h1 : k < 128
  · rw [catC_first b h _ _ _ ⟨k, hk⟩ ⟨k, h1⟩ rfl]
    by_cases h2 : k % 2 = 0
    · rw [flat5 b h _ ⟨k, h1⟩ ⟨k / 2, by omega⟩ 0 (by show k = k / 2 * 2 + 0; omega), spread_even, bcast5, if_pos ⟨h1, h2⟩]
      by_cases h3 : k / 2 < 8
      · exact rolled_low b h x ⟨k / 2, by omega⟩ _ h3 (by show (k / 2 + 56) % 64 % 64 = 56 + k / 2; omega)
      · exact rolled_high b h x ⟨k / 2, by omega⟩ _ (by show 8 ≤ k / 2; omega) (by show k / 2 = 8 + (k / 2 + 56) % 64 % 64; omega)
    · rw [flat5 b h _ ⟨k, h1⟩ ⟨k / 2, by omega⟩ 1 (by show k = k / 2 * 2 + 1; omega), spread_odd, bcast5, if_neg (by omega)]
      exact zeros4_apply _
  · rw [if_neg (by omega)]
    by_cases h2 : k < 192
    · rw [catC_second b h _ _ _ ⟨k, hk⟩ ⟨k - 128, by omega⟩ (by show k = 128 + (k - 128); omega)]
      exact zeros4_apply _
    · rw [catC_third b h _ _ _ ⟨k, hk⟩ ⟨k - 192, by omega⟩ (by show k = 192 + (k - 192); omega)]
      exact zeros4_apply _

theorem rolledK_low (x : FVec Ideal S128x1x64 .bf16) (r : Fin 64) (z : Fin 64) (hr : r.val < 8) (hz : z.val = 56 + r.val) :
    catD (extractStridedSlice S128x1x8 ![0, 0, 56] x slices_S128x1x64_S128x1x8_0_0_56) (extractStridedSlice S128x1x56 ![0, 0, 0] x slices_S128x1x64_S128x1x56_0_0_0) (ix3 b 0 r) = x (ix3 b 0 z) := by
  unfold catD
  refine (concatenate_pair_apply_left (t := S128x1x64) (s₁ := S128x1x8) (s₂ := S128x1x56) 2 _ _ _ (ix3 b 0 r) rfl (ix3 b 0 ⟨r.val, hr⟩) (fun d => ?_)).trans ?_
  · match d with
    | ⟨0, _⟩ => rfl
    | ⟨1, _⟩ => rfl
    | ⟨2, _⟩ => rfl
  · exact extractStridedSlice_apply _ _ _ _ (ix3 b 0 z) fun d => by
      match d with
      | ⟨0, _⟩ => exact (Nat.zero_add _).symm
      | ⟨1, _⟩ => exact (Nat.zero_add _).symm
      | ⟨2, _⟩ => exact hz

theorem rolledK_high (x : FVec Ideal S128x1x64 .bf16) (r : Fin 64) (z : Fin 64) (hr : 8 ≤ r.val) (hz : r.val = 8 + z.val) :
    catD (extractStridedSlice S128x1x8 ![0, 0, 56] x slices_S128x1x64_S128x1x8_0_0_56) (extractStridedSlice S128x1x56 ![0, 0, 0] x slices_S128x1x64_S128x1x56_0_0_0) (ix3 b 0 r) = x (ix3 b 0 z) := by
  unfold catD
  refine (concatenate_pair_apply_right (t := S128x1x64) (s₁ := S128x1x8) (s₂ := S128x1x56) 2 _ _ _ (ix3 b 0 r) rfl rfl (ix3 b 0 ⟨z.val, by omega⟩) (fun d hd => ?_) ?_).trans ?_
  · match d with
    | ⟨0, _⟩ => rfl
    | ⟨1, _⟩ => rfl
    | ⟨2, _⟩ => exact absurd rfl hd
  · show z.val + 8 = r.val
    omega
  · exact extractStridedSlice_apply _ _ _ _ (ix3 b 0 z) fun d => by
      match d with
      | ⟨0, _⟩ => exact (Nat.zero_add _).symm
      | ⟨1, _⟩ => exact (Nat.zero_add _).symm
      | ⟨2, _⟩ => exact (Nat.zero_add _).symm

theorem bcastK (x : FVec Ideal S128x1x64 .bf16) (r : Fin 64) :
    broadcastInDim S128x1x64x1 ![0, 1, 2] bcast_S128x1x64_S128x1x64x1_0_1_2 x (ix4 b 0 r 0) = x (ix3 b 0 r) :=
  broadcastInDim_apply _ _ _ _ (ix3 b 0 r) fun d => by
    match d with
    | ⟨0, _⟩ => rfl
    | ⟨1, _⟩ => rfl
    | ⟨2, _⟩ => rfl

theorem spreadK_even (x y : FVec Ideal S128x1x64x1 .bf16) (r : Fin 64) : catE x y (ix4 b 0 r 0) = x (ix4 b 0 r 0) := by
  unfold catE
  refine (concatenate_pair_apply_left (t := S128x1x64x2) (s₁ := S128x1x64x1) (s₂ := S128x1x64x1) 3 _ _ _ (ix4 b 0 r 0) rfl (ix4 b 0 r 0) (fun d => ?_))
  match d with
  | ⟨0, _⟩ => rfl
  | ⟨1, _⟩ => rfl
  | ⟨2, _⟩ => rfl
  | ⟨3, _⟩ => rfl

theorem spreadK_odd (x y : FVec Ideal S128x1x64x1 .bf16) (r : Fin 64) : catE x y (ix4 b 0 r 1) = y (ix4 b 0 r 0) := by
  unfold catE
  refine (concatenate_pair_apply_right (t := S128x1x64x2) (s₁ := S128x1x64x1) (s₂ := S128x1x64x1) 3 _ _ _ (ix4 b 0 r 1) rfl rfl (ix4 b 0 r 0) (fun d hd => ?_) rfl)
  match d with
  | ⟨0, _⟩ => rfl
  | ⟨1, _⟩ => rfl
  | ⟨2, _⟩ => rfl
  | ⟨3, _⟩ => exact absurd rfl hd

theorem flatK (x : FVec Ideal S128x1x64x2 .bf16) (k : Fin 128) (r : Fin 64) (p : Fin 2) (hk : k.val = r.val * 2 + p.val) :
    shapeCast S128x1x128 x shapeCasts_S128x1x64x2_S128x1x128 (ix3 b 0 k) = x (ix4 b 0 r p) := by
  refine shapeCast_apply _ _ _ (ix4 b 0 r p) ?_
  rw [Shape.rowMajor_val_four, Shape.rowMajor_val_three]
  show ((b.val * 1 + 0) * 64 + r.val) * 2 + p.val = (b.val * 1 + 0) * 128 + k.val
  omega

theorem catF_first (x : FVec Ideal S128x1x128 .bf16) (y z : FVec Ideal S128x1x64 .bf16) (k : Fin 256) (k' : Fin 128) (hk : k.val = k'.val) :
    catF x y z (ix3 b 0 k) = x (ix3 b 0 k') := by
  unfold catF
  refine concatenate_apply_piece (t := S128x1x256) 2 _ _ (ix3 b 0 k) 0 (by show 0 < 3; omega) S128x1x128 x rfl rfl 0 rfl (ix3 b 0 k') (fun d hd => ?_) ?_
  · match d with
    | ⟨0, _⟩ => rfl
    | ⟨1, _⟩ => rfl
    | ⟨2, _⟩ => exact absurd rfl hd
  · show 0 + k'.val = k.val
    omega

theorem catF_second (x : FVec Ideal S128x1x128 .bf16) (y z : FVec Ideal S128x1x64 .bf16) (k : Fin 256) (k' : Fin 64) (hk : k.val = 128 + k'.val) :
    catF x y z (ix3 b 0 k) = y (ix3 b 0 k') := by
  unfold catF
  refine concatenate_apply_piece (t := S128x1x256) 2 _ _ (ix3 b 0 k) 1 (by show 1 < 3; omega) S128x1x64 y rfl rfl 128 rfl (ix3 b 0 k') (fun d hd => ?_) ?_
  · match d with
    | ⟨0, _⟩ => rfl
    | ⟨1, _⟩ => rfl
    | ⟨2, _⟩ => exact absurd rfl hd
  · show 128 + k'.val = k.val
    omega

theorem catF_third (x : FVec Ideal S128x1x128 .bf16) (y z : FVec Ideal S128x1x64 .bf16) (k : Fin 256) (k' : Fin 64) (hk : k.val = 192 + k'.val) :
    catF x y z (ix3 b 0 k) = z (ix3 b 0 k') := by
  unfold catF
  refine concatenate_apply_piece (t := S128x1x256) 2 _ _ (ix3 b 0 k) 2 (by show 2 < 3; omega) S128x1x64 z rfl rfl 192 rfl (ix3 b 0 k') (fun d hd => ?_) ?_
  · match d with
    | ⟨0, _⟩ => rfl
    | ⟨1, _⟩ => rfl
    | ⟨2, _⟩ => exact absurd rfl hd
  · show 192 + k'.val = k.val
    omega

/-- The new key's position part. -/
theorem turnK_turned (x : FVec Ideal S128x1x64 .bf16) :
    IsTurned (fun k => turnK x (ix3 b 0 ⟨k % 256, Nat.mod_lt _ (by decide)⟩)) (fun r => x (ix3 b 0 ⟨r % 64, Nat.mod_lt _ (by decide)⟩)) := by
  intro k hk
  show turnK x (ix3 b 0 ⟨k % 256, Nat.mod_lt _ (by decide)⟩) = if k < 128 ∧ k % 2 = 0 then x (ix3 b 0 ⟨(k / 2 + 56) % 64 % 64, Nat.mod_lt _ (by decide)⟩) else (0 : EReal)
  rw [show (⟨k % 256, Nat.mod_lt _ (by decide)⟩ : Fin 256) = ⟨k, hk⟩ from Fin.ext (Nat.mod_eq_of_lt hk)]
  unfold turnK
  by_cases h1 : k < 128
  · rw [catF_first b _ _ _ ⟨k, hk⟩ ⟨k, h1⟩ rfl]
    by_cases h2 : k % 2 = 0
    · rw [flatK b _ ⟨k, h1⟩ ⟨k / 2, by omega⟩ 0 (by show k = k / 2 * 2 + 0; omega), spreadK_even, bcastK, if_pos ⟨h1, h2⟩]
      by_cases h3 : k / 2 < 8
      · exact rolledK_low b x ⟨k / 2, by omega⟩ _ h3 (by show (k / 2 + 56) % 64 % 64 = 56 + k / 2; omega)
      · exact rolledK_high b x ⟨k / 2, by omega⟩ _ (by show 8 ≤ k / 2; omega) (by show k / 2 = 8 + (k / 2 + 56) % 64 % 64; omega)
    · rw [flatK b _ ⟨k, h1⟩ ⟨k / 2, by omega⟩ 1 (by show k = k / 2 * 2 + 1; omega), spreadK_odd, bcastK, if_neg (by omega)]
      exact zeros3_apply _
  · rw [if_neg (by omega)]
    by_cases h2 : k < 192
    · rw [catF_second b _ _ _ ⟨k, hk⟩ ⟨k - 128, by omega⟩ (by show k = 128 + (k - 128); omega)]
      exact zeros3_apply _
    · rw [catF_third b _ _ _ ⟨k, hk⟩ ⟨k - 192, by omega⟩ (by show k = 192 + (k - 192); omega)]
      exact zeros3_apply _

end

end Cert.Value

end
-- ==== Proof.Value.Result.lean ====
/-
  The kernel's blocks as elements of its arrays, and its result as the blocks its points leave.
-/
module

public import proofs.«01_k».proof.Proof.Value.Turn
public import Idealize.ShloMosaic.Lib.Pipeline.ArrRel
public import Idealize.ShloMosaic.Lib.Pipeline.ValueKit.Geometry

@[expose] public section

noncomputable section

open scoped BigOperators

open Idealize.ShloMosaic Idealize.ShloMosaic.ValueIdx Idealize.ShloMosaic.StableHlo

namespace Cert.Value
open Cert.KernelIdeal Cert.KernelIdeal.Gen

section
variable (m : (ℓ : Loc nD τ sig) → Buf (Elt Idealize.ShloMosaic.Ideal) ℓ) (c : Dev nD)

theorem point_lt (t : Fin (cfgK m).N) : t.val < 128 := t.isLt

theorem coord_word (t : Fin (cfgK m).N) : (BitVec.ofNat 32 ((cfgK m).grid.coords t 0).val).toNat = t.val := by
  have := point_lt m t
  rw [coord_val, BitVec.toNat_ofNat, Nat.mod_eq_of_lt (by omega)]

theorem arg0Blk_apply (t : Fin (cfgK m).N) (b : Fin 128) (hb : b.val = t.val) (h : Fin 16) (k : Fin 512) :
    arg0Blk m c t (ix4 0 0 h k) = m ((c.tc : Thread nD τ).loc main_arg0) (ix4 b 0 h k) := by
  rw [← V_main_arg0 m c]
  show V m c main_arg0 ((((cfgK m).win 0).rect t).emb (ix4 0 0 h k)) = _
  refine congrArg _ (funext fun a => Fin.ext ?_)
  refine (Pipeline.Window.rect_emb_val ((cfgK m).win 0) t (ix4 0 0 h k) a).trans ?_
  match a with
  | ⟨0, _⟩ =>
    show (BitVec.ofNat 32 ((cfgK m).grid.coords t 0).val).toNat * 1 + 0 = b.val
    rw [coord_word, hb]; omega
  | ⟨1, _⟩ => rfl
  | ⟨2, _⟩ => show 0 * 16 + h.val = h.val; omega
  | ⟨3, _⟩ => show 0 * 512 + k.val = k.val; omega

theorem ropeBlk_apply (t : Fin (cfgK m).N) (b : Fin 128) (hb : b.val = t.val) (h : Fin 16) (k : Fin 256) :
    ropeBlk m c t (ix4 0 0 h k) = turnQ (m ((c.tc : Thread nD τ).loc main_arg1)) (ix4 b 0 h k) := by
  rw [← turnQ_line m c]
  show V m c main_v8 ((((cfgK m).win 1).rect t).emb (ix4 0 0 h k)) = _
  refine congrArg _ (funext fun a => Fin.ext ?_)
  refine (Pipeline.Window.rect_emb_val ((cfgK m).win 1) t (ix4 0 0 h k) a).trans ?_
  match a with
  | ⟨0, _⟩ =>
    show (BitVec.ofNat 32 ((cfgK m).grid.coords t 0).val).toNat * 1 + 0 = b.val
    rw [coord_word, hb]; omega
  | ⟨1, _⟩ => rfl
  | ⟨2, _⟩ => show 0 * 16 + h.val = h.val; omega
  | ⟨3, _⟩ => show 0 * 256 + k.val = k.val; omega

theorem newBlk_apply (t : Fin (cfgK m).N) (b : Fin 128) (hb : b.val = t.val) (k : Fin 512) :
    newBlk m c t (ix3 0 0 k) = m ((c.tc : Thread nD τ).loc main_arg2) (ix3 b 0 k) := by
  rw [← V_main_arg2 m c]
  show V m c main_arg2 ((((cfgK m).win 2).rect t).emb (ix3 0 0 k)) = _
  refine congrArg _ (funext fun a => Fin.ext ?_)
  refine (Pipeline.Window.rect_emb_val ((cfgK m).win 2) t (ix3 0 0 k) a).trans ?_
  match a with
  | ⟨0, _⟩ =>
    show (BitVec.ofNat 32 ((cfgK m).grid.coords t 0).val).toNat * 1 + 0 = b.val
    rw [coord_word, hb]; omega
  | ⟨1, _⟩ => rfl
  | ⟨2, _⟩ => show 0 * 512 + k.val = k.val; omega

theorem newRopeBlk_apply (t : Fin (cfgK m).N) (b : Fin 128) (hb : b.val = t.val) (k : Fin 256) :
    newRopeBlk m c t (ix3 0 0 k) = turnK (m ((c.tc : Thread nD τ).loc main_arg3)) (ix3 b 0 k) := by
  rw [← turnK_line m c]
  show V m c main_v17 ((((cfgK m).win 3).rect t).emb (ix3 0 0 k)) = _
  refine congrArg _ (funext fun a => Fin.ext ?_)
  refine (Pipeline.Window.rect_emb_val ((cfgK m).win 3) t (ix3 0 0 k) a).trans ?_
  match a with
  | ⟨0, _⟩ =>
    show (BitVec.ofNat 32 ((cfgK m).grid.coords t 0).val).toNat * 1 + 0 = b.val
    rw [coord_word, hb]; omega
  | ⟨1, _⟩ => rfl
  | ⟨2, _⟩ => show 0 * 256 + k.val = k.val; omega

theorem weightBlk_apply (t : Fin (cfgK m).N) (r : Fin 16) (k : Fin 256) : weightBlk m c t (ix2 r k) = V m c main_v82 (ix2 r k) := by
  show V m c main_v82 ((((cfgK m).win 4).rect t).emb (ix2 r k)) = _
  refine congrArg _ (funext fun a => Fin.ext ?_)
  refine (Pipeline.Window.rect_emb_val ((cfgK m).win 4) t (ix2 r k) a).trans ?_
  match a with
  | ⟨0, _⟩ => show 0 * 16 + r.val = r.val; omega
  | ⟨1, _⟩ => show 0 * 256 + k.val = k.val; omega

theorem weightBlk_weights (t : Fin (cfgK m).N) : IsWeights (weightBlk m c t) := fun g ro hi lo h r hr k =>
  (weightBlk_apply m c t r k).trans (weights_at m c g ro hi lo h r hr k)

theorem ropeBlk_turned (t : Fin (cfgK m).N) (b : Fin 128) (hb : b.val = t.val) (h : Fin 16) :
    IsTurned (fun k => ropeBlk m c t (ix4 0 0 h ⟨k % 256, Nat.mod_lt _ (by decide)⟩)) (fun r => m ((c.tc : Thread nD τ).loc main_arg1) (ix4 b 0 h ⟨r % 64, Nat.mod_lt _ (by decide)⟩)) := fun k hk =>
  (ropeBlk_apply m c t b hb h _).trans (turnQ_turned b h (m ((c.tc : Thread nD τ).loc main_arg1)) k hk)

theorem newRopeBlk_turned (t : Fin (cfgK m).N) (b : Fin 128) (hb : b.val = t.val) :
    IsTurned (fun k => newRopeBlk m c t (ix3 0 0 ⟨k % 256, Nat.mod_lt _ (by decide)⟩)) (fun r => m ((c.tc : Thread nD τ).loc main_arg3) (ix3 b 0 ⟨r % 64, Nat.mod_lt _ (by decide)⟩)) := fun k hk =>
  (newRopeBlk_apply m c t b hb _).trans (turnK_turned b (m ((c.tc : Thread nD τ).loc main_arg3)) k hk)

/-! ## The result -/

theorem index5 (t : Fin (cfgK m).N) : ((cfgK m).win 5).index t (0 : Fin 4) = t.val := coord_word m t

theorem index5_inj (t t' : Fin (cfgK m).N) (h : ((cfgK m).win 5).index t = ((cfgK m).win 5).index t') : t = t' :=
  Fin.ext ((index5 m t).symm.trans ((congrFun h (0 : Fin 4)).trans (index5 m t')))

theorem flush5 (t : Fin (cfgK m).N) : ((cfgK m).win 5).flush t = true := by
  show (true && (decide (t.val + 1 = (cfgK m).N) || decide (∃ h : t.val + 1 < (cfgK m).N, ((cfgK m).win 5).index ⟨t.val + 1, h⟩ ≠ ((cfgK m).win 5).index t))) = true
  rw [Bool.true_and, Bool.or_eq_true, decide_eq_true_eq, decide_eq_true_eq]
  by_cases h : t.val + 1 = (cfgK m).N
  · exact Or.inl h
  · refine Or.inr ⟨by have := t.isLt; omega, fun e => ?_⟩
    have := index5_inj m _ _ e
    have := congrArg Fin.val this
    simp at this

theorem final_block (G : (w : Fin (cfgK m).W) → Buf (Elt Idealize.ShloMosaic.Ideal) (((cfgK m).win w).arr.view.loc (c.tc : Thread nD τ)))
    (hG : ∀ w, (rdat m c).ArrAt w (cfgK m).N (G w)) (t : Fin (cfgK m).N) (b : Fin 128) (hb : b.val = t.val) :
    ∃ X : S1x1x16x512.Idx → EReal, leaves m c t X ∧ ∀ (h : Fin 16) (k : Fin 512), (G 5 : S128x1x16x512.Idx → EReal) (ix4 b 0 h k) = X (ix4 0 0 h k) := by
  obtain ⟨after, hl, ha⟩ := Pipeline.RDat.ArrAt.exists_exact_all hG
  refine ⟨after 5 t, ?_, fun h k => ?_⟩
  · obtain ⟨Y, -, hY⟩ := hl 5 t t.isLt (flush5 m t)
    exact hY
  · have e := ((rdat m c).withAfter after).arrAt_emb_eq_flushed 5
      (Pipeline.Window.hdisj_of_index_inj _ fun t t' _ _ e => index5_inj m t t' e) t (flush5 m t) (ix4 0 0 h k)
    rw [← ha 5] at e
    refine Eq.trans ?_ e
    refine congrArg (G 5 : S128x1x16x512.Idx → EReal) (funext fun a => Fin.ext ?_)
    refine Eq.trans ?_ (Pipeline.Window.rect_emb_val ((cfgK m).win 5) t (ix4 0 0 h k) a).symm
    match a with
    | ⟨0, _⟩ =>
      show b.val = (BitVec.ofNat 32 ((cfgK m).grid.coords t 0).val).toNat * 1 + 0
      rw [coord_word, hb]; omega
    | ⟨1, _⟩ => rfl
    | ⟨2, _⟩ => show h.val = 0 * 16 + h.val; omega
    | ⟨3, _⟩ => show k.val = 0 * 512 + k.val; omega

end

end Cert.Value

end
-- ==== Proof.Value.Reference.lean ====
/-
  What the reference computes for one sequence and head, element by element: `Head.out`.
-/
module

public import proofs.«01_k».proof.Proof.Value.Spec
public import proofs.«01_k».proof.Proof.Gen.ReferenceIdeal.Frame
public import Idealize.ShloMosaic.Lib.ValueIdx
public import Idealize.ShloMosaic.Lib.IdealHost
public import Idealize.ShloMosaic.Lib.KernelVsHost
public import Idealize.ShloMosaic.Lib.BitcastConvert

@[expose] public section

noncomputable section

open scoped BigOperators

open Idealize.ShloMosaic Idealize.ShloMosaic.ValueIdx

namespace Cert.Value
open Cert.ReferenceIdeal Cert.ReferenceIdeal.Gen

/-! ## The products -/

theorem dot_latent (L : FVec Ideal S128x1x16x512 .bf16) (R : FVec Ideal S128x4096x512 .bf16) (b : Fin 128) (h : Fin 16) (t : Fin 4096) :
    Host.dotGeneral dot_S128x1x16x512_S128x4096x512_S128x1x16x4096_3_2_12_1_0_0 none L R (ix4 b 0 h t) = ∑ k : Fin 512, L (ix4 b 0 h k) * R (ix3 b t k) := by
  refine (Ideal.dotGeneral_apply _ none _ L R (ix4 b 0 h t)).trans ?_
  refine (Equiv.sum_comp (contrEquiv1 dot_S128x1x16x512_S128x4096x512_S128x1x16x4096_3_2_12_1_0_0 512 rfl rfl).symm _).symm.trans (Finset.sum_congr rfl fun k _ => ?_)
  refine congrArg₂ (fun a b : EReal => a * b) (congrArg L (funext fun a => ?_)) (congrArg R (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem dot_rope (L : FVec Ideal S128x1x16x64 .bf16) (R : FVec Ideal S128x4096x64 .bf16) (b : Fin 128) (h : Fin 16) (t : Fin 4096) :
    Host.dotGeneral dot_S128x1x16x64_S128x4096x64_S128x1x16x4096_3_2_12_1_0_0 none L R (ix4 b 0 h t) = ∑ k : Fin 64, L (ix4 b 0 h k) * R (ix3 b t k) := by
  refine (Ideal.dotGeneral_apply _ none _ L R (ix4 b 0 h t)).trans ?_
  refine (Equiv.sum_comp (contrEquiv1 dot_S128x1x16x64_S128x4096x64_S128x1x16x4096_3_2_12_1_0_0 64 rfl rfl).symm _).symm.trans (Finset.sum_congr rfl fun k _ => ?_)
  refine congrArg₂ (fun a b : EReal => a * b) (congrArg L (funext fun a => ?_)) (congrArg R (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem dot_new (L : FVec Ideal S128x1x16x512 .bf16) (R : FVec Ideal S128x1x512 .bf16) (b : Fin 128) (h : Fin 16) :
    Host.dotGeneral dot_S128x1x16x512_S128x1x512_S128x1x16x1_3_2_12_1_0_0 none L R (ix4 b 0 h 0) = ∑ k : Fin 512, L (ix4 b 0 h k) * R (ix3 b 0 k) := by
  refine (Ideal.dotGeneral_apply _ none _ L R (ix4 b 0 h 0)).trans ?_
  refine (Equiv.sum_comp (contrEquiv1 dot_S128x1x16x512_S128x1x512_S128x1x16x1_3_2_12_1_0_0 512 rfl rfl).symm _).symm.trans (Finset.sum_congr rfl fun k _ => ?_)
  refine congrArg₂ (fun a b : EReal => a * b) (congrArg L (funext fun a => ?_)) (congrArg R (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem dot_new_rope (L : FVec Ideal S128x1x16x64 .bf16) (R : FVec Ideal S128x1x64 .bf16) (b : Fin 128) (h : Fin 16) :
    Host.dotGeneral dot_S128x1x16x64_S128x1x64_S128x1x16x1_3_2_12_1_0_0 none L R (ix4 b 0 h 0) = ∑ k : Fin 64, L (ix4 b 0 h k) * R (ix3 b 0 k) := by
  refine (Ideal.dotGeneral_apply _ none _ L R (ix4 b 0 h 0)).trans ?_
  refine (Equiv.sum_comp (contrEquiv1 dot_S128x1x16x64_S128x1x64_S128x1x16x1_3_2_12_1_0_0 64 rfl rfl).symm _).symm.trans (Finset.sum_congr rfl fun k _ => ?_)
  refine congrArg₂ (fun a b : EReal => a * b) (congrArg L (funext fun a => ?_)) (congrArg R (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem dot_out (L : FVec Ideal S128x1x16x4096 .bf16) (R : FVec Ideal S128x4096x512 .bf16) (b : Fin 128) (h : Fin 16) (c : Fin 512) :
    Host.dotGeneral dot_S128x1x16x4096_S128x4096x512_S128x1x16x512_3_1_12_2_0_0 none L R (ix4 b 0 h c) = ∑ k : Fin 4096, L (ix4 b 0 h k) * R (ix3 b k c) := by
  refine (Ideal.dotGeneral_apply _ none _ L R (ix4 b 0 h c)).trans ?_
  refine (Equiv.sum_comp (contrEquiv1 dot_S128x1x16x4096_S128x4096x512_S128x1x16x512_3_1_12_2_0_0 4096 rfl rfl).symm _).symm.trans (Finset.sum_congr rfl fun k _ => ?_)
  refine congrArg₂ (fun a b : EReal => a * b) (congrArg L (funext fun a => ?_)) (congrArg R (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem dot_out_new (L : FVec Ideal S128x1x16x1 .bf16) (R : FVec Ideal S128x1x512 .bf16) (b : Fin 128) (h : Fin 16) (c : Fin 512) :
    Host.dotGeneral dot_S128x1x16x1_S128x1x512_S128x1x16x512_3_1_12_2_0_0 none L R (ix4 b 0 h c) = L (ix4 b 0 h 0) * R (ix3 b 0 c) := by
  refine (Ideal.dotGeneral_apply _ none _ L R (ix4 b 0 h c)).trans ?_
  refine (Equiv.sum_comp (contrEquiv1 dot_S128x1x16x1_S128x1x512_S128x1x16x512_3_1_12_2_0_0 1 rfl rfl).symm _).symm.trans ?_
  rw [Fin.sum_univ_one]
  refine congrArg₂ (fun a b : EReal => a * b) (congrArg L (funext fun a => ?_)) (congrArg R (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-! ## The cached rows -/

/-- The latents: each code times its group's scale. -/
def latents (lat : FVec Ideal S128x4096x512 .bf16) (sc : FVec Ideal S128x4096x4 .f32) : FVec Ideal S128x4096x512 .bf16 :=
  shapeCast S128x4096x512 (mulf (shapeCast S128x4096x4x128 lat shapeCasts_S128x4096x512_S128x4096x4x128)
    (broadcastInDim S128x4096x4x128 ![0, 1, 2, 3] bcast_S128x4096x4x1_S128x4096x4x128_0_1_2_3
      (broadcastInDim S128x4096x4x1 ![0, 1, 2] bcast_S128x4096x4_S128x4096x4x1_0_1_2 (truncf .bf16 sc bitsLt_bf16_f32))))
    shapeCasts_S128x4096x4x128_S128x4096x512

theorem latents_apply (lat : FVec Ideal S128x4096x512 .bf16) (sc : FVec Ideal S128x4096x4 .f32) (b : Fin 128) (t : Fin 4096) (c : Fin 512) :
    latents lat sc (ix3 b t c) = lat (ix3 b t c) * sc (ix3 b t ⟨c.val / 128, by omega⟩) := by
  have hc := c.isLt
  unfold latents
  refine (shapeCast_apply _ _ _ (ix4 b t (⟨c.val / 128, by omega⟩ : Fin 4) (⟨c.val % 128, by omega⟩ : Fin 128)) ?_).trans ?_
  · rw [Shape.rowMajor_val_four, Shape.rowMajor_val_three]
    show ((b.val * 4096 + t.val) * 4 + c.val / 128) * 128 + c.val % 128 = (b.val * 4096 + t.val) * 512 + c.val
    omega
  rw [mulf_apply]
  refine congrArg₂ (fun a b : EReal => a * b) ?_ ?_
  · refine shapeCast_apply _ _ _ (ix3 b t c) ?_
    rw [Shape.rowMajor_val_four, Shape.rowMajor_val_three]
    show (b.val * 4096 + t.val) * 512 + c.val = ((b.val * 4096 + t.val) * 4 + c.val / 128) * 128 + c.val % 128
    omega
  · refine (broadcastInDim_apply _ _ _ _ (ix4 b t (⟨c.val / 128, by omega⟩ : Fin 4) (0 : Fin 1)) (fun a => ?_)).trans ?_
    · match a with
      | ⟨0, _⟩ => rfl
      | ⟨1, _⟩ => rfl
      | ⟨2, _⟩ => rfl
      | ⟨3, _⟩ => rfl
    refine (broadcastInDim_apply _ _ _ _ (ix3 b t (⟨c.val / 128, by omega⟩ : Fin 4)) (fun a => ?_)).trans ?_
    · match a with
      | ⟨0, _⟩ => rfl
      | ⟨1, _⟩ => rfl
      | ⟨2, _⟩ => rfl
    rfl

/-! ## The scores -/

section
variable (a0 : FVec Ideal S128x1x16x512 .bf16) (a1 : FVec Ideal S128x1x16x64 .bf16) (a2 : FVec Ideal S128x1x512 .bf16) (a3 : FVec Ideal S128x1x64 .bf16)
  (a5 : IVec S128 32) (lat : FVec Ideal S128x4096x512 .bf16) (sc : FVec Ideal S128x4096x4 .f32) (rp : FVec Ideal S128x4096x64 .bf16)

/-- The cached rows' scores, before the rows past the length are left out. -/
def cachedScores : FVec Ideal S128x1x16x4096 .f32 :=
  mulf (addf (Host.dotGeneral dot_S128x1x16x512_S128x4096x512_S128x1x16x4096_3_2_12_1_0_0 none a0 (latents lat sc))
      (Host.dotGeneral dot_S128x1x16x64_S128x4096x64_S128x1x16x4096_3_2_12_1_0_0 none a1 rp))
    (broadcastInDim S128x1x16x4096 ![] bcast_S_S128x1x16x4096 (constant S_ .f32 0x3D93CD3A#32))

/-- Whether a row is below the length. -/
def liveRows : IVec S128x4096 1 :=
  cmpi .slt (broadcastInDim S128x4096 ![0, 1] bcast_S1x4096_S128x4096_0_1 (broadcastInDim S1x4096 ![1] bcast_S4096_S1x4096_1 (iotaInDim S4096 32 0)))
    (broadcastInDim S128x4096 ![0, 1] bcast_S128x1_S128x4096_0_1 (broadcastInDim S128x1 ![0] bcast_S128_S128x1_0 a5))

/-- The scores, minus infinity past the length. -/
def maskedScores : FVec Ideal S128x1x16x4096 .f32 :=
  select (broadcastInDim S128x1x16x4096 ![0, 1, 2, 3] bcast_S128x1x1x4096_S128x1x16x4096_0_1_2_3 (broadcastInDim S128x1x1x4096 ![0, 3] bcast_S128x4096_S128x1x1x4096_0_3 (liveRows a5)))
    (cachedScores a0 a1 lat sc rp) (broadcastInDim S128x1x16x4096 ![] bcast_S_S128x1x16x4096 (constant S_ .f32 0xFF800000#32))

/-- The new token's score. -/
def newScores : FVec Ideal S128x1x16x1 .f32 :=
  select (broadcastInDim S128x1x16x1 ![0, 1, 2, 3] bcast_S1x1x1x1_S128x1x16x1_0_1_2_3 (broadcastInDim S1x1x1x1 ![1, 3] bcast_S1x1_S1x1x1x1_1_3
      (cmpi .sle (broadcastInDim S1x1 ![1] bcast_S1_S1x1_1 (iotaInDim S1 32 0)) (broadcastInDim S1x1 ![0] bcast_S1_S1x1_0 (iotaInDim S1 32 0)))))
    (mulf (addf (Host.dotGeneral dot_S128x1x16x512_S128x1x512_S128x1x16x1_3_2_12_1_0_0 none a0 a2)
        (Host.dotGeneral dot_S128x1x16x64_S128x1x64_S128x1x16x1_3_2_12_1_0_0 none a1 a3))
      (broadcastInDim S128x1x16x1 ![] bcast_S_S128x1x16x1 (constant S_ .f32 0x3D93CD3A#32)))
    (broadcastInDim S128x1x16x1 ![] bcast_S_S128x1x16x1 (constant S_ .f32 0xFF800000#32))

def allScores : FVec Ideal S128x1x16x4097 .f32 :=
  concatenate S128x1x16x4097 3 [⟨S128x1x16x4096, maskedScores a0 a1 a5 lat sc rp⟩, ⟨S128x1x16x1, newScores a0 a1 a2 a3⟩] concatenates_S128x1x16x4096_S128x1x16x1_S128x1x16x4097_d3

/-- The shares the rows and the new token get. -/
def expAll (S : FVec Ideal S128x1x16x4097 .f32) : FVec Ideal S128x1x16x4097 .f32 :=
  Host.exp (subf S (broadcastInDim S128x1x16x4097 ![0, 1, 2, 3] bcast_S128x1x16x1_S128x1x16x4097_0_1_2_3 (broadcastInDim S128x1x16x1 ![0, 1, 2] bcast_S128x1x16_S128x1x16x1_0_1_2
    (maximumf (broadcastInDim S128x1x16 ![] bcast_S_S128x1x16 (constant S_ .f32 0xFF800000#32))
      (Host.reduce FloatOps.maximumf S (constant S_ .f32 0xFF800000#32) reducesTo_S128x1x16x4097_S128x1x16_d3 h_S_)))))

def shares (E : FVec Ideal S128x1x16x4097 .f32) : FVec Ideal S128x1x16x4097 .bf16 :=
  truncf .bf16 (Host.divf E (broadcastInDim S128x1x16x4097 ![0, 1, 2, 3] bcast_S128x1x16x1_S128x1x16x4097_0_1_2_3 (broadcastInDim S128x1x16x1 ![0, 1, 2] bcast_S128x1x16_S128x1x16x1_0_1_2
    (Host.reduceAdd E (constant S_ .f32 0x00000000#32) reducesTo_S128x1x16x4097_S128x1x16_d3 h_S_)))) bitsLt_bf16_f32

def refOut : FVec Ideal S128x1x16x512 .bf16 :=
  truncf .bf16 (addf
    (Host.dotGeneral dot_S128x1x16x4096_S128x4096x512_S128x1x16x512_3_1_12_2_0_0 none
      (extractStridedSlice S128x1x16x4096 ![0, 0, 0, 0] (shares (expAll (allScores a0 a1 a2 a3 a5 lat sc rp))) slices_S128x1x16x4097_S128x1x16x4096_0_0_0_0) (latents lat sc))
    (Host.dotGeneral dot_S128x1x16x1_S128x1x512_S128x1x16x512_3_1_12_2_0_0 none
      (extractStridedSlice S128x1x16x1 ![0, 0, 0, 4096] (shares (expAll (allScores a0 a1 a2 a3 a5 lat sc rp))) slices_S128x1x16x4097_S128x1x16x1_0_0_0_4096) a2)) bitsLt_bf16_f32

theorem ref_minus_inf : Ideal.ofBits .f32 0xFF800000#32 = (⊥ : EReal) := by simp [Ideal.ofBits, Ideal.ieee]
theorem ref_zero : Ideal.ofBits .f32 0x00000000#32 = (0 : EReal) := by simp [Ideal.ofBits, Ideal.ieee]

theorem row_of_lane {α : Type} (x : S128x1x16x1.Idx → α) (b : Fin 128) (h : Fin 16) (t : Fin 4097) :
    broadcastInDim S128x1x16x4097 ![0, 1, 2, 3] bcast_S128x1x16x1_S128x1x16x4097_0_1_2_3 x (ix4 b 0 h t) = x (ix4 b 0 h 0) :=
  broadcastInDim_apply _ _ _ _ _ fun a => by
    match a with
    | ⟨0, _⟩ => rfl
    | ⟨1, _⟩ => rfl
    | ⟨2, _⟩ => rfl
    | ⟨3, _⟩ => rfl

theorem lane_of_row {α : Type} (x : S128x1x16.Idx → α) (b : Fin 128) (h : Fin 16) :
    broadcastInDim S128x1x16x1 ![0, 1, 2] bcast_S128x1x16_S128x1x16x1_0_1_2 x (ix4 b 0 h 0) = x (ix3 b 0 h) :=
  broadcastInDim_apply _ _ _ _ _ fun a => by
    match a with
    | ⟨0, _⟩ => rfl
    | ⟨1, _⟩ => rfl
    | ⟨2, _⟩ => rfl

theorem cachedScores_apply (b : Fin 128) (h : Fin 16) (t : Fin 4096) :
    cachedScores a0 a1 lat sc rp (ix4 b 0 h t)
      = (∑ k : Fin 512, a0 (ix4 b 0 h k) * (lat (ix3 b t k) * sc (ix3 b t ⟨k.val / 128, by omega⟩)) + ∑ k : Fin 64, a1 (ix4 b 0 h k) * rp (ix3 b t k)) * sm := by
  unfold cachedScores
  rw [mulf_apply, addf_apply, dot_latent, dot_rope, broadcastInDim_scalar_apply, constant_apply]
  refine congrArg (· * sm) (congrArg (· + _) (Finset.sum_congr rfl fun k _ => ?_))
  rw [latents_apply]

theorem liveRows_apply (b : Fin 128) (t : Fin 4096) (ha : (a5 (ix1 b)).toNat ≤ 4096) :
    liveRows a5 (ix2 b t) = if t.val < (a5 (ix1 b)).toNat then 1#1 else 0#1 := by
  have e1 : broadcastInDim S128x4096 ![0, 1] bcast_S1x4096_S128x4096_0_1 (broadcastInDim S1x4096 ![1] bcast_S4096_S1x4096_1 (iotaInDim S4096 32 0)) (ix2 b t) = BitVec.ofNat 32 t.val := by
    refine (broadcastInDim_apply _ _ _ _ (ix2 (0 : Fin 1) t) (fun a => ?_)).trans ?_
    · match a with
      | ⟨0, _⟩ => rfl
      | ⟨1, _⟩ => rfl
    refine (broadcastInDim_apply _ _ _ _ (ix1 t) (fun a => ?_)).trans rfl
    match a with
    | ⟨0, _⟩ => rfl
  have e2 : broadcastInDim S128x4096 ![0, 1] bcast_S128x1_S128x4096_0_1 (broadcastInDim S128x1 ![0] bcast_S128_S128x1_0 a5) (ix2 b t) = a5 (ix1 b) := by
    refine (broadcastInDim_apply _ _ _ _ (ix2 b (0 : Fin 1)) (fun a => ?_)).trans ?_
    · match a with
      | ⟨0, _⟩ => rfl
      | ⟨1, _⟩ => rfl
    refine broadcastInDim_apply _ _ _ _ (ix1 b) (fun a => ?_)
    match a with
    | ⟨0, _⟩ => rfl
  have ht := t.isLt
  show IntOp.cmpi .slt _ _ = _
  rw [e1, e2]
  have hs : (BitVec.ofNat 32 t.val).slt (a5 (ix1 b)) = decide (t.val < (a5 (ix1 b)).toNat) := by
    rw [BitVec.slt_eq_decide, BitVec.toInt_eq_toNat_of_lt (by rw [BitVec.toNat_ofNat]; omega), BitVec.toInt_eq_toNat_of_lt (by omega), BitVec.toNat_ofNat, Nat.mod_eq_of_lt (by omega)]
    congr 1; exact propext Int.ofNat_lt
  show BitVec.ofBool ((BitVec.ofNat 32 t.val).slt (a5 (ix1 b))) = _
  rw [hs]
  by_cases hlt : t.val < (a5 (ix1 b)).toNat <;> simp [hlt]

theorem maskedScores_apply (b : Fin 128) (h : Fin 16) (t : Fin 4096) (ha : (a5 (ix1 b)).toNat ≤ 4096) :
    maskedScores a0 a1 a5 lat sc rp (ix4 b 0 h t) = if t.val < (a5 (ix1 b)).toNat then cachedScores a0 a1 lat sc rp (ix4 b 0 h t) else ⊥ := by
  have e : broadcastInDim S128x1x16x4096 ![0, 1, 2, 3] bcast_S128x1x1x4096_S128x1x16x4096_0_1_2_3 (broadcastInDim S128x1x1x4096 ![0, 3] bcast_S128x4096_S128x1x1x4096_0_3 (liveRows a5)) (ix4 b 0 h t)
      = liveRows a5 (ix2 b t) := by
    refine (broadcastInDim_apply _ _ _ _ (ix4 b (0 : Fin 1) (0 : Fin 1) t) (fun a => ?_)).trans ?_
    · match a with
      | ⟨0, _⟩ => rfl
      | ⟨1, _⟩ => rfl
      | ⟨2, _⟩ => rfl
      | ⟨3, _⟩ => rfl
    refine broadcastInDim_apply _ _ _ _ (ix2 b t) (fun a => ?_)
    match a with
    | ⟨0, _⟩ => rfl
    | ⟨1, _⟩ => rfl
  unfold maskedScores
  rw [select_apply, e, liveRows_apply a5 b t ha, broadcastInDim_scalar_apply, constant_apply]
  by_cases hlt : t.val < (a5 (ix1 b)).toNat
  · rw [if_pos hlt, if_pos hlt, select_one]
  · rw [if_neg hlt, if_neg hlt, select_zero]; exact ref_minus_inf

theorem newScores_apply (b : Fin 128) (h : Fin 16) :
    newScores a0 a1 a2 a3 (ix4 b 0 h 0) = (∑ k : Fin 512, a0 (ix4 b 0 h k) * a2 (ix3 b 0 k) + ∑ k : Fin 64, a1 (ix4 b 0 h k) * a3 (ix3 b 0 k)) * sm := by
  unfold newScores
  rw [select_apply]
  have e : ∀ x : IVec S1x1 1, x = (fun _ => 1#1) → broadcastInDim S128x1x16x1 ![0, 1, 2, 3] bcast_S1x1x1x1_S128x1x16x1_0_1_2_3 (broadcastInDim S1x1x1x1 ![1, 3] bcast_S1x1_S1x1x1x1_1_3 x) (ix4 b 0 h 0) = 1#1 := by
    intro x hx; subst hx; rfl
  rw [e _ (funext fun i => by
    rw [show i = ix2 (0 : Fin 1) (0 : Fin 1) from funext fun a => by
      match a with
      | ⟨0, _⟩ => exact Subsingleton.elim (α := Fin 1) _ _
      | ⟨1, _⟩ => exact Subsingleton.elim (α := Fin 1) _ _]
    rfl), select_one, mulf_apply, addf_apply, dot_new, dot_new_rope, broadcastInDim_scalar_apply, constant_apply]
  rfl

theorem allScores_cached (b : Fin 128) (h : Fin 16) (t : Fin 4096) :
    allScores a0 a1 a2 a3 a5 lat sc rp (ix4 b 0 h ⟨t.val, by omega⟩) = maskedScores a0 a1 a5 lat sc rp (ix4 b 0 h t) :=
  concatenate_pair_apply_left (t := S128x1x16x4097) (s₁ := S128x1x16x4096) (s₂ := S128x1x16x1) 3 _ _ _ _ rfl (ix4 b 0 h t) (by
    intro d; match d with
    | ⟨0, _⟩ => rfl
    | ⟨1, _⟩ => rfl
    | ⟨2, _⟩ => rfl
    | ⟨3, _⟩ => rfl)

theorem allScores_new (b : Fin 128) (h : Fin 16) :
    allScores a0 a1 a2 a3 a5 lat sc rp (ix4 b 0 h ⟨4096, by omega⟩) = newScores a0 a1 a2 a3 (ix4 b 0 h 0) :=
  concatenate_pair_apply_right (t := S128x1x16x4097) (s₁ := S128x1x16x4096) (s₂ := S128x1x16x1) 3 _ _ _ _ rfl rfl (ix4 b 0 h 0) (by
    intro d hd; match d with
    | ⟨0, _⟩ => rfl
    | ⟨1, _⟩ => rfl
    | ⟨2, _⟩ => rfl
    | ⟨3, _⟩ => exact absurd rfl hd) rfl

/-! ## The exponentials and the shares -/

theorem top_apply (S : FVec Ideal S128x1x16x4097 .f32) (b : Fin 128) (h : Fin 16) :
    maximumf (broadcastInDim S128x1x16 ![] bcast_S_S128x1x16 (constant S_ .f32 0xFF800000#32))
      (Host.reduce FloatOps.maximumf S (constant S_ .f32 0xFF800000#32) reducesTo_S128x1x16x4097_S128x1x16_d3 h_S_) (ix3 b 0 h)
      = (Finset.univ : Finset (Fin 4097)).sup fun t => (S (ix4 b 0 h t) : EReal) := by
  have hR : Shape.Reduces S128x1x16x4097 [3] S128x1x16 := by decide
  rw [maximumf_apply, broadcastInDim_scalar_apply, constant_apply,
    hostReduce_maximumf_eq_multiReduction S 0xFF800000#32 reducesTo_S128x1x16x4097_S128x1x16_d3 h_S_ hR (.inl rfl) rfl]
  have e : S ∘ hR.lift (ix3 b 0 h) = fun t : Fin 4097 => S (ix4 b 0 h t) := funext fun t => congrArg S (funext fun a => by
    match a with
    | ⟨0, _⟩ => rfl
    | ⟨1, _⟩ => rfl
    | ⟨2, _⟩ => rfl
    | ⟨3, _⟩ => rfl)
  refine (congrArg (max _) ((Ideal.multiReduction_maximumf_single S _ hR _ _ (ix3 b 0 h)).trans (by rw [e]))).trans ?_
  show max (Ideal.ofBits .f32 0xFF800000#32) ((Finset.univ : Finset (Fin 4097)).fold max (Ideal.ofBits .f32 0xFF800000#32) _) = _
  rw [ref_minus_inf, bot_sup_eq]
  rfl

theorem expAll_apply (S : FVec Ideal S128x1x16x4097 .f32) (b : Fin 128) (h : Fin 16) (t : Fin 4097) :
    expAll S (ix4 b 0 h t) = Ideal.exp (S (ix4 b 0 h t) - (Finset.univ : Finset (Fin 4097)).sup fun t => (S (ix4 b 0 h t) : EReal)) := by
  unfold expAll
  show Ideal.exp (S (ix4 b 0 h t) - _) = _
  rw [row_of_lane, lane_of_row, top_apply]

theorem shares_apply (E : FVec Ideal S128x1x16x4097 .f32) (b : Fin 128) (h : Fin 16) (t : Fin 4097) :
    shares E (ix4 b 0 h t) = Ideal.div (E (ix4 b 0 h t)) (∑ t : Fin 4097, E (ix4 b 0 h t)) := by
  have hR : Shape.Reduces S128x1x16x4097 [3] S128x1x16 := by decide
  unfold shares
  rw [truncf_apply, hostDivf_apply, row_of_lane, lane_of_row, hostReduceAdd_apply, Ideal.hostReduceAdd_single _ hR, constant_apply]
  refine congrArg (Ideal.div _) ?_
  refine (congrArg (· + _) ref_zero).trans ((zero_add _).trans (Finset.sum_congr rfl fun t _ => congrArg E (funext fun a => ?_)))
  match a with
  | ⟨0, _⟩ => rfl
  | ⟨1, _⟩ => rfl
  | ⟨2, _⟩ => rfl
  | ⟨3, _⟩ => rfl

/-! ## The output -/

theorem refOut_apply (b : Fin 128) (h : Fin 16) (c : Fin 512) (H : Head)
    (hx : ∀ k : Fin 512, a0 (ix4 b 0 h k) = H.x k.val) (hq : ∀ k : Fin 64, a1 (ix4 b 0 h k) = H.q k.val)
    (hkn : ∀ k : Fin 512, a2 (ix3 b 0 k) = H.kn k.val) (hrn : ∀ k : Fin 64, a3 (ix3 b 0 k) = H.rn k.val)
    (hlat : ∀ (t : Fin 4096) (k : Fin 512), lat (ix3 b t k) = codeOf (H.row t.val) k.val)
    (hsc : ∀ (t : Fin 4096) (g : Fin 4), sc (ix3 b t g) = scaleOf (H.row t.val) g.val)
    (hrp : ∀ (t : Fin 4096) (k : Fin 64), rp (ix3 b t k) = ropeOf (H.row t.val) k.val)
    (hlen : H.len = (a5 (ix1 b)).toNat) (ha : (a5 (ix1 b)).toNat ≤ 4096) :
    refOut a0 a1 a2 a3 a5 lat sc rp (ix4 b 0 h c) = H.out c.val := by
  have hnew : allScores a0 a1 a2 a3 a5 lat sc rp (ix4 b 0 h ⟨4096, by omega⟩) = H.snew := by
    rw [allScores_new, newScores_apply]
    unfold Head.snew
    rw [Finset.sum_range, Finset.sum_range]
    simp only [hx, hq, hkn, hrn]
  have hsco (t : Fin 4096) : allScores a0 a1 a2 a3 a5 lat sc rp (ix4 b 0 h ⟨t.val, by omega⟩) = H.score t.val := by
    rw [allScores_cached, maskedScores_apply _ _ _ _ _ _ _ _ _ ha, cachedScores_apply]
    unfold Head.score
    rw [hlen, Finset.sum_range, Finset.sum_range]
    simp only [hx, hq, hlat, hsc, hrp]
  have htop : ((Finset.univ : Finset (Fin 4097)).sup fun t => (allScores a0 a1 a2 a3 a5 lat sc rp (ix4 b 0 h t) : EReal)) = H.top := by
    unfold Head.top
    refine le_antisymm (Finset.sup_le fun t _ => ?_) (sup_le ?_ (Finset.sup_le fun t ht => ?_))
    · by_cases ht : t.val < 4096
      · exact (hsco ⟨t.val, ht⟩).le.trans ((Finset.le_sup (f := H.score) (Finset.mem_range.mpr ht)).trans le_sup_right)
      · have e : t = ⟨4096, by decide⟩ := Fin.ext (by show t.val = 4096; omega)
        rw [e]
        exact hnew.le.trans le_sup_left
    · exact hnew.ge.trans (Finset.le_sup (f := fun t => (allScores a0 a1 a2 a3 a5 lat sc rp (ix4 b 0 h t) : EReal)) (Finset.mem_univ _))
    · have ht' := Finset.mem_range.mp ht
      exact (hsco ⟨t, ht'⟩).ge.trans (Finset.le_sup (f := fun t => (allScores a0 a1 a2 a3 a5 lat sc rp (ix4 b 0 h t) : EReal)) (Finset.mem_univ _))
  have hE (t : Fin 4097) : expAll (allScores a0 a1 a2 a3 a5 lat sc rp) (ix4 b 0 h t) = Ideal.exp (allScores a0 a1 a2 a3 a5 lat sc rp (ix4 b 0 h t) - H.top) := by
    rw [expAll_apply, htop]
  have htot : (∑ t : Fin 4097, expAll (allScores a0 a1 a2 a3 a5 lat sc rp) (ix4 b 0 h t)) = H.tot := by
    rw [Fin.sum_univ_castSucc, add_comm]
    unfold Head.tot
    rw [Finset.sum_range]
    refine congrArg₂ (fun a b : EReal => a + b) ?_ (Finset.sum_congr rfl fun t _ => ?_)
    · rw [hE]; exact congrArg (fun z => Ideal.exp (z - H.top)) hnew
    · rw [hE]; exact congrArg (fun z => Ideal.exp (z - H.top)) (hsco t)
  unfold refOut
  rw [truncf_apply, addf_apply, dot_out, dot_out_new]
  unfold Head.out
  rw [Finset.sum_range]
  refine congrArg₂ (fun a b : EReal => a + b) (Finset.sum_congr rfl fun t _ => ?_) ?_
  · rw [latents_apply, hlat, hsc]
    refine congrArg (· * _) ?_
    refine (extractStridedSlice_apply _ _ _ _ (ix4 b 0 h (⟨t.val, by omega⟩ : Fin 4097)) (fun d => ?_)).trans ?_
    · match d with
      | ⟨0, _⟩ => exact (Nat.zero_add _).symm
      | ⟨1, _⟩ => exact (Nat.zero_add _).symm
      | ⟨2, _⟩ => exact (Nat.zero_add _).symm
      | ⟨3, _⟩ => exact (Nat.zero_add _).symm
    rw [shares_apply, htot, hE]
    exact congrArg (fun z => Ideal.div (Ideal.exp (z - H.top)) H.tot) (hsco t)
  · rw [hkn]
    refine congrArg (· * _) ?_
    refine (extractStridedSlice_apply _ _ _ _ (ix4 b 0 h (⟨4096, by omega⟩ : Fin 4097)) (fun d => ?_)).trans ?_
    · match d with
      | ⟨0, _⟩ => exact (Nat.zero_add _).symm
      | ⟨1, _⟩ => exact (Nat.zero_add _).symm
      | ⟨2, _⟩ => exact (Nat.zero_add _).symm
      | ⟨3, _⟩ => rfl
    rw [shares_apply, htot, hE]
    exact congrArg (fun z => Ideal.div (Ideal.exp (z - H.top)) H.tot) hnew

end

end Cert.Value

end
-- ==== Proof.Value.RefRun.lean ====
/-
  The reference's run: what it leaves in its result, from the launched arrays.
-/
module

public import proofs.«01_k».proof.Proof.Value.Reference
public import Idealize.ShloMosaic.Lib.StableHlo.RunRead
public import Idealize.ShloMosaic.Lib.Pipeline.ValueKit.Geometry

@[expose] public section

noncomputable section

open scoped BigOperators

open Idealize.ShloMosaic Idealize.ShloMosaic.ValueIdx Idealize.ShloMosaic.StableHlo

namespace Cert.Value
open Cert.ReferenceIdeal Cert.ReferenceIdeal.Gen

/-! ## The cached bytes as the reference reads them -/

/-- A row's bytes. -/
def cacheRow (a4 : S128x4096x656.Idx → BitVec 8) (b : Fin 128) (t z : ℕ) : BitVec 8 :=
  if h : t < 4096 ∧ z < 656 then a4 (ix3 b ⟨t, h.1⟩ ⟨z, h.2⟩) else 0#8

theorem cacheRow_eq (a4 : S128x4096x656.Idx → BitVec 8) (b : Fin 128) (t : Fin 4096) (z : Fin 656) : cacheRow a4 b t.val z.val = a4 (ix3 b t z) := by
  unfold cacheRow; rw [dif_pos ⟨t.isLt, z.isLt⟩]

/-- The codes, the scales and the position elements of the cache. -/
def refCodes (a4 : S128x4096x656.Idx → BitVec 8) : FVec Ideal S128x4096x512 .fp8e4m3 :=
  bitcastToFloat .fp8e4m3 (extractStridedSlice S128x4096x512 ![0, 0, 0] a4 slices_S128x4096x656_S128x4096x512_0_0_0)
def refScales (a4 : S128x4096x656.Idx → BitVec 8) : FVec Ideal S128x4096x4 .f32 :=
  bitcastToFloat .f32 (Host.bitcastConvertWiden S128x4096x4 32 (shapeCast S128x4096x4x4 (extractStridedSlice S128x4096x16 ![0, 0, 512] a4 slices_S128x4096x656_S128x4096x16_0_0_512)
    shapeCasts_S128x4096x16_S128x4096x4x4) splits_S128x4096x4_w32_S128x4096x4x4_w8)
def refRopes (a4 : S128x4096x656.Idx → BitVec 8) : FVec Ideal S128x4096x64 .bf16 :=
  bitcastToFloat .bf16 (Host.bitcastConvertWiden S128x4096x64 16 (shapeCast S128x4096x64x2 (extractStridedSlice S128x4096x128 ![0, 0, 528] a4 slices_S128x4096x656_S128x4096x128_0_0_528)
    shapeCasts_S128x4096x128_S128x4096x64x2) splits_S128x4096x64_w16_S128x4096x64x2_w8)

theorem slice_lanes {α : Type} {n o : ℕ} (x : S128x4096x656.Idx → α) (h : S128x4096x656.Slices ![0, 0, o] ⟨3, ![128, 4096, n]⟩) (b : Fin 128) (t : Fin 4096) (k : Fin n) (z : Fin 656) (hz : z.val = o + k.val) :
    extractStridedSlice ⟨3, ![128, 4096, n]⟩ ![0, 0, o] x h (ix3 b t k) = x (ix3 b t z) :=
  extractStridedSlice_apply _ _ _ _ (ix3 b t z) fun d => by
    match d with
    | ⟨0, _⟩ => exact (Nat.zero_add _).symm
    | ⟨1, _⟩ => exact (Nat.zero_add _).symm
    | ⟨2, _⟩ => exact hz

theorem refCodes_apply (a4 : S128x4096x656.Idx → BitVec 8) (b : Fin 128) (t : Fin 4096) (k : Fin 512) :
    refCodes a4 (ix3 b t k) = codeOf (cacheRow a4 b t.val) k.val := by
  unfold refCodes codeOf
  show Ideal.ofBits .fp8e4m3 (extractStridedSlice S128x4096x512 ![0, 0, 0] a4 slices_S128x4096x656_S128x4096x512_0_0_0 (ix3 b t k)) = _
  rw [slice_lanes a4 _ b t k ⟨k.val, by omega⟩ (by show k.val = 0 + k.val; omega)]
  exact congrArg _ (cacheRow_eq a4 b t ⟨k.val, by omega⟩).symm

/-- Four bytes joined into a word, the byte of part 0 lowest. -/
theorem widen_four (x : IVec S128x4096x4x4 8) (b : Fin 128) (t : Fin 4096) (g : Fin 4) :
    Host.bitcastConvertWiden S128x4096x4 32 x splits_S128x4096x4_w32_S128x4096x4x4_w8 (ix3 b t g)
      = x (ix4 b t g 3) ++ x (ix4 b t g 2) ++ x (ix4 b t g 1) ++ x (ix4 b t g 0) := by
  refine BitVec.eq_of_getLsbD_eq fun q hq => ?_
  rw [Host.bitcastConvertWiden_getLsbD _ _ _ _ _ q hq]
  have e (p : Fin 4) : (splits_S128x4096x4_w32_S128x4096x4x4_w8 : S128x4096x4.SplitsWords 32 S128x4096x4x4 8).snoc (ix3 b t g) p = ix4 b t g p := funext fun d => by
    match d with
    | ⟨0, _⟩ => rfl
    | ⟨1, _⟩ => rfl
    | ⟨2, _⟩ => rfl
    | ⟨3, _⟩ => rfl
  simp only [BitVec.getLsbD_append]
  rw [show (⟨q / 8, (splits_S128x4096x4_w32_S128x4096x4x4_w8 : S128x4096x4.SplitsWords 32 S128x4096x4x4 8).div_lt hq⟩ : Fin _) = (⟨q / 8, by omega⟩ : Fin 4) from rfl, e]
  by_cases h0 : q < 8
  · rw [if_pos h0, show (⟨q / 8, by omega⟩ : Fin 4) = 0 from Fin.ext (by show q / 8 = 0; omega), show q % 8 = q by omega]
  by_cases h1 : q < 16
  · rw [if_neg h0, if_pos (by omega), show (⟨q / 8, by omega⟩ : Fin 4) = 1 from Fin.ext (by show q / 8 = 1; omega), show q % 8 = q - 8 by omega]
  by_cases h2 : q < 24
  · rw [if_neg h0, if_neg (by omega), if_pos (by omega), show (⟨q / 8, by omega⟩ : Fin 4) = 2 from Fin.ext (by show q / 8 = 2; omega), show q % 8 = q - 8 - 8 by omega]
  · rw [if_neg h0, if_neg (by omega), if_neg (by omega), show (⟨q / 8, by omega⟩ : Fin 4) = 3 from Fin.ext (by show q / 8 = 3; omega), show q % 8 = q - 8 - 8 - 8 by omega]

theorem widen_two (x : IVec S128x4096x64x2 8) (b : Fin 128) (t : Fin 4096) (g : Fin 64) :
    Host.bitcastConvertWiden S128x4096x64 16 x splits_S128x4096x64_w16_S128x4096x64x2_w8 (ix3 b t g)
      = x (ix4 b t g 1) ++ x (ix4 b t g 0) := by
  refine BitVec.eq_of_getLsbD_eq fun q hq => ?_
  rw [Host.bitcastConvertWiden_getLsbD _ _ _ _ _ q hq]
  have e (p : Fin 2) : (splits_S128x4096x64_w16_S128x4096x64x2_w8 : S128x4096x64.SplitsWords 16 S128x4096x64x2 8).snoc (ix3 b t g) p = ix4 b t g p := funext fun d => by
    match d with
    | ⟨0, _⟩ => rfl
    | ⟨1, _⟩ => rfl
    | ⟨2, _⟩ => rfl
    | ⟨3, _⟩ => rfl
  simp only [BitVec.getLsbD_append]
  rw [show (⟨q / 8, (splits_S128x4096x64_w16_S128x4096x64x2_w8 : S128x4096x64.SplitsWords 16 S128x4096x64x2 8).div_lt hq⟩ : Fin _) = (⟨q / 8, by omega⟩ : Fin 2) from rfl, e]
  by_cases h0 : q < 8
  · rw [if_pos h0, show (⟨q / 8, by omega⟩ : Fin 2) = 0 from Fin.ext (by show q / 8 = 0; omega), show q % 8 = q by omega]
  · rw [if_neg h0, show (⟨q / 8, by omega⟩ : Fin 2) = 1 from Fin.ext (by show q / 8 = 1; omega), show q % 8 = q - 8 by omega]

theorem split_lanes {α : Type} {n p N : ℕ} (x : (⟨3, ![128, 4096, N]⟩ : Shape).Idx → α) (h : (⟨3, ![128, 4096, N]⟩ : Shape).ShapeCasts ⟨4, ![128, 4096, n, p]⟩)
    (hN : N = n * p) (b : Fin 128) (t : Fin 4096) (g : Fin n) (j : Fin p) (z : Fin N) (hz : z.val = g.val * p + j.val) :
    shapeCast ⟨4, ![128, 4096, n, p]⟩ x h (ix4 b t g j) = x (ix3 b t z) := by
  refine shapeCast_apply _ _ _ (ix3 b t z) ?_
  rw [Shape.rowMajor_val_four, Shape.rowMajor_val_three]
  show (b.val * 4096 + t.val) * N + z.val = ((b.val * 4096 + t.val) * n + g.val) * p + j.val
  rw [hz, hN]; ring

theorem refScales_apply (a4 : S128x4096x656.Idx → BitVec 8) (b : Fin 128) (t : Fin 4096) (g : Fin 4) :
    refScales a4 (ix3 b t g) = scaleOf (cacheRow a4 b t.val) g.val := by
  have hg := g.isLt
  unfold refScales scaleOf scaleWord
  show Ideal.ofBits .f32 (Host.bitcastConvertWiden S128x4096x4 32 _ _ (ix3 b t g)) = _
  rw [widen_four]
  have e (j : Fin 4) : shapeCast S128x4096x4x4 (extractStridedSlice S128x4096x16 ![0, 0, 512] a4 slices_S128x4096x656_S128x4096x16_0_0_512) shapeCasts_S128x4096x16_S128x4096x4x4 (ix4 b t g j)
      = cacheRow a4 b t.val (512 + 4 * g.val + j.val) := by
    rw [split_lanes (n := 4) (p := 4) (N := 16) _ _ rfl b t g j ⟨g.val * 4 + j.val, by omega⟩ rfl,
      slice_lanes a4 _ b t _ (⟨512 + 4 * g.val + j.val, by omega⟩ : Fin 656) (by show 512 + 4 * g.val + j.val = 512 + (g.val * 4 + j.val); omega)]
    exact (cacheRow_eq a4 b t ⟨512 + 4 * g.val + j.val, by omega⟩).symm
  rw [e 0, e 1, e 2, e 3]; rfl

theorem refRopes_apply (a4 : S128x4096x656.Idx → BitVec 8) (b : Fin 128) (t : Fin 4096) (g : Fin 64) :
    refRopes a4 (ix3 b t g) = ropeOf (cacheRow a4 b t.val) g.val := by
  have hg := g.isLt
  unfold refRopes ropeOf ropeWord
  show Ideal.ofBits .bf16 (Host.bitcastConvertWiden S128x4096x64 16 _ _ (ix3 b t g)) = _
  rw [widen_two]
  have e (j : Fin 2) : shapeCast S128x4096x64x2 (extractStridedSlice S128x4096x128 ![0, 0, 528] a4 slices_S128x4096x656_S128x4096x128_0_0_528) shapeCasts_S128x4096x128_S128x4096x64x2 (ix4 b t g j)
      = cacheRow a4 b t.val (528 + 2 * g.val + j.val) := by
    rw [split_lanes (n := 64) (p := 2) (N := 128) _ _ rfl b t g j ⟨g.val * 2 + j.val, by omega⟩ rfl,
      slice_lanes a4 _ b t _ (⟨528 + 2 * g.val + j.val, by omega⟩ : Fin 656) (by show 528 + 2 * g.val + j.val = 528 + (g.val * 2 + j.val); omega)]
    exact (cacheRow_eq a4 b t ⟨528 + 2 * g.val + j.val, by omega⟩).symm
  rw [e 0, e 1]; rfl

/-! ## The run -/

section
variable (m : (ℓ : Loc nD τ sig) → Buf (Elt Idealize.ShloMosaic.Ideal) ℓ)

/-- The cached and the new scores in one row. -/
def catScores (a : FVec Ideal S128x1x16x4096 .f32) (b : FVec Ideal S128x1x16x1 .f32) : FVec Ideal S128x1x16x4097 .f32 :=
  concatenate S128x1x16x4097 3 [⟨S128x1x16x4096, a⟩, ⟨S128x1x16x1, b⟩] concatenates_S128x1x16x4096_S128x1x16x1_S128x1x16x4097_d3

theorem catScores_fold (a : FVec Ideal S128x1x16x4096 .f32) (b : FVec Ideal S128x1x16x1 .f32) :
    concatenate S128x1x16x4097 3 [⟨S128x1x16x4096, a⟩, ⟨S128x1x16x1, b⟩] concatenates_S128x1x16x4096_S128x1x16x1_S128x1x16x4097_d3 = catScores a b := by
  rw [catScores]

/-- The codes as the region finds them. -/
theorem codes_line (c : Dev nD) : (V m c main_v1 : S128x4096x512.Idx → EReal) = refCodes (m ((c.tc : Thread nD τ).loc main_arg4)) := by
  show after (List.flatten [hostOps0]) (fun b => m (c, b)) (Proc.devRef .tc main_v1) = _
  simp only [List.flatten_cons, List.flatten_nil, List.append_nil]
  after_reads_simp
  rfl

theorem scales_line (c : Dev nD) : (V m c main_v4 : S128x4096x4.Idx → EReal) = refScales (m ((c.tc : Thread nD τ).loc main_arg4)) := by
  show after (List.flatten [hostOps0]) (fun b => m (c, b)) (Proc.devRef .tc main_v4) = _
  simp only [List.flatten_cons, List.flatten_nil, List.append_nil]
  after_reads_simp
  rfl

theorem ropes_line (c : Dev nD) : (V m c main_v7 : S128x4096x64.Idx → EReal) = refRopes (m ((c.tc : Thread nD τ).loc main_arg4)) := by
  show after (List.flatten [hostOps0]) (fun b => m (c, b)) (Proc.devRef .tc main_v7) = _
  simp only [List.flatten_cons, List.flatten_nil, List.append_nil]
  after_reads_simp
  rfl

theorem whole_emb (i : S128x4096x512.Idx) : r0_0.emb i = i := funext fun a => Fin.ext (by
  rw [Rect.emb_apply]
  match a with
  | ⟨0, _⟩ => show 0 + 1 * (i 0 : ℕ) = (i 0 : ℕ); omega
  | ⟨1, _⟩ => show 0 + 1 * (i 1 : ℕ) = (i 1 : ℕ); omega
  | ⟨2, _⟩ => show 0 + 1 * (i 2 : ℕ) = (i 2 : ℕ); omega)

theorem pay1_apply (x : FVec Idealize.ShloMosaic.Ideal S128x4096x512 .fp8e4m3) (i : S128x4096x512.Idx) : k0_pay1 (F := Idealize.ShloMosaic.Ideal) x i = x i := by
  unfold k0_pay1
  show shapeCast S128x4096x512 x shapeCasts_S128x4096x512_S128x4096x512 i = _
  rw [shapeCast_self]

theorem out0_apply (x : FVec Idealize.ShloMosaic.Ideal S128x4096x512 .fp8e4m3) (i : S128x4096x512.Idx) : out0_1 (F := Idealize.ShloMosaic.Ideal) x i = x i := by
  have e := whole_emb i
  have h : out0_1 (F := Idealize.ShloMosaic.Ideal) x (r0_0.emb i) = k0_pay1 (F := Idealize.ShloMosaic.Ideal) (View.ld (Val := Elt Idealize.ShloMosaic.Ideal) x r0_0) i := View.canon_cons_emb _ _ _ _
  rw [e] at h
  rw [h, pay1_apply]
  show x (r0_0.emb i) = x i
  rw [e]

theorem blk0_apply (A : S128x4096x512.Idx → EReal) (t : Fin cfg0.N) (i : S128x4096x512.Idx) :
    ((cfg0.win 0).blk t).view.read (Elt Idealize.ShloMosaic.Ideal) A i = A i := by
  show A (((cfg0.win 0).rect t).emb i) = A i
  exact congrArg A (funext fun a => Fin.ext ((cfg0.win 0).rect_emb_val_of_index_zero t a (by match a with | ⟨0, _⟩ => rfl | ⟨1, _⟩ => rfl | ⟨2, _⟩ => rfl) i))

theorem whole1 : (cfg0.win 1).WholeAt ⟨0, by decide⟩ := by decide +kernel

theorem after1 (c : Dev nD) (t : Fin cfg0.N) (i : S128x4096x512.Idx) : out0_1 (F := Idealize.ShloMosaic.Ideal) (iblk m c 0 t) i = refCodes (m ((c.tc : Thread nD τ).loc main_arg4)) i :=
  (out0_apply (iblk m c 0 t) i).trans ((blk0_apply (V m c main_v1) t i).trans (congrFun (codes_line m c) i))

theorem widened_at (c : Dev nD) (i : S128x4096x512.Idx) : (dats m 0 c).arrAt 1 cfg0.N ((cfg0.win 1).arr.view.emb i) = refCodes (m ((c.tc : Thread nD τ).loc main_arg4)) i :=
  ((dats m 0 c).arrAt_emb_eq_after_last 1 ⟨0, by decide⟩ whole1 i).trans (after1 m c ⟨0, by decide⟩ i)

/-- The widened codes are the codes. -/
theorem widened (c : Dev nD) : (dats m 0 c).arrAt 1 cfg0.N = refCodes (m ((c.tc : Thread nD τ).loc main_arg4)) :=
  funext fun i => widened_at m c i

theorem last_line (Wv : Valuation τ sig (Elt Idealize.ShloMosaic.Ideal)) :
    (StableHlo.after (List.flatten [hostOps1, hostOps1_1, hostOps1_2, hostOps1_3, hostOps1_4]) Wv (Proc.devRef .tc main_v58) : S128x1x16x512.Idx → EReal)
      = refOut (Wv (Proc.devRef .tc main_arg0)) (Wv (Proc.devRef .tc main_arg1)) (Wv (Proc.devRef .tc main_arg2)) (Wv (Proc.devRef .tc main_arg3)) (Wv (Proc.devRef .tc main_arg5))
          (Wv (Proc.devRef .tc main_v8)) (Wv (Proc.devRef .tc main_v4)) (Wv (Proc.devRef .tc main_v7)) := by
  simp only [List.flatten_cons, List.flatten_nil, List.append_nil, StableHlo.after_append]
  after_reads_simp
  simp only [catScores_fold]
  after_reads_simp
  rfl

theorem refOut_congr {a0 b0 : FVec Ideal S128x1x16x512 .bf16} {a1 b1 : FVec Ideal S128x1x16x64 .bf16} {a2 b2 : FVec Ideal S128x1x512 .bf16} {a3 b3 : FVec Ideal S128x1x64 .bf16} {a5 b5 : IVec S128 32}
    {l l' : FVec Ideal S128x4096x512 .bf16} {s s' : FVec Ideal S128x4096x4 .f32} {r r' : FVec Ideal S128x4096x64 .bf16}
    (h0 : a0 = b0) (h1 : a1 = b1) (h2 : a2 = b2) (h3 : a3 = b3) (h5 : a5 = b5) (hl : l = l') (hs : s = s') (hr : r = r') :
    refOut a0 a1 a2 a3 a5 l s r = refOut b0 b1 b2 b3 b5 l' s' r' := by
  rw [h0, h1, h2, h3, h5, hl, hs, hr]

/-- What the run leaves in the result, from the launched arrays. -/
theorem ref_result (c : Dev nD) : (Pipeline.afterTail₀ cfgs (dats m) 0 (V0 m) [hostOps1, hostOps1_1, hostOps1_2, hostOps1_3, hostOps1_4] c main_v58 : S128x1x16x512.Idx → EReal)
    = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
        (refCodes (m ((c.tc : Thread nD τ).loc main_arg4))) (refScales (m ((c.tc : Thread nD τ).loc main_arg4))) (refRopes (m ((c.tc : Thread nD τ).loc main_arg4))) := by
  unfold Pipeline.afterTail₀
  refine (last_line _).trans ?_
  rw [Pipeline.withArrays_of_ne _ c (V0 m c) _ main_arg0 (by exact (by decide : ∀ w, Pipeline.arrRef spec0 w ≠ main_arg0)),
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    Pipeline.withArrays_of_ne _ c (V0 m c) _ main_arg5 (by exact (by decide : ∀ w, Pipeline.arrRef spec0 w ≠ main_arg5)),
    Pipeline.withArrays_of_ne _ c (V0 m c) _ main_v4 (by exact (by decide : ∀ w, Pipeline.arrRef spec0 w ≠ main_v4)),
    Pipeline.withArrays_of_ne _ c (V0 m c) _ main_v7 (by exact (by decide : ∀ w, Pipeline.arrRef spec0 w ≠ main_v7))]
  have e8 := (Pipeline.withArrays_arr spec0 (by decide) c (V0 m c) (fun w => (dats m 0 c).arrAt w cfg0.N) 1).trans (widened m c)
  have e0 := V_main_arg0 m c
  have e1 := V_main_arg1 m c
  have e2 := V_main_arg2 m c
  have e3 := V_main_arg3 m c
  have e5 := V_main_arg5 m c
  have e4 := scales_line m c
  have e7 := ropes_line m c
  exact refOut_congr e0 e1 e2 e3 e5 e8 e4 e7

end

end Cert.Value

end
-- ==== Proof.Value.Equal.lean ====
/-
  A point's block is the reference's result, when the numbers are real: the scratch holds the cached rows below the length, and the
  reference gives the rows past it no weight.
-/
module

public import proofs.«01_k».proof.Proof.Value.Result
public import proofs.«01_k».proof.Proof.Value.RefRun

@[expose] public section

noncomputable section

open scoped BigOperators

open Idealize.ShloMosaic Idealize.ShloMosaic.ValueIdx

namespace Cert.Value

/-! ## The rows past the length do not matter -/

namespace Head
variable {H H' : Head}

section
variable {r r' : ℕ → BitVec 8} (e : ∀ z, z < 656 → r' z = r z)
include e

theorem code_congr (c : ℕ) (hc : c < 512) : codeOf r' c = codeOf r c := by unfold codeOf; rw [e _ (by omega)]

theorem scale_congr (g : ℕ) (hg : g < 4) : scaleOf r' g = scaleOf r g := by
  unfold scaleOf scaleWord; rw [e _ (by omega), e _ (by omega), e _ (by omega), e _ (by omega)]

theorem rope_congr (k : ℕ) (hk : k < 64) : ropeOf r' k = ropeOf r k := by
  unfold ropeOf ropeWord; rw [e _ (by omega), e _ (by omega)]
end

/-- Two heads alike but for the cached rows past the length. -/
structure Alike (H H' : Head) : Prop where
  x : H'.x = H.x
  q : H'.q = H.q
  kn : H'.kn = H.kn
  rn : H'.rn = H.rn
  len : H'.len = H.len
  row : ∀ t, t < H.len → ∀ z, z < 656 → H'.row t z = H.row t z

theorem Alike.real (a : Alike H H') (hr : H.Real) : H'.Real where
  x c := a.x ▸ hr.x c
  q c := a.q ▸ hr.q c
  kn c := a.kn ▸ hr.kn c
  rn c := a.rn ▸ hr.rn c
  code t ht c hc := by
    rw [a.len] at ht; rw [code_congr (a.row t ht) c hc]; exact hr.code t ht c hc
  scale t ht c hc := by
    rw [a.len] at ht; rw [scale_congr (a.row t ht) c hc]; exact hr.scale t ht c hc
  rope t ht c hc := by
    rw [a.len] at ht; rw [rope_congr (a.row t ht) c hc]; exact hr.rope t ht c hc

theorem Alike.snew (a : Alike H H') : H'.snew = H.snew := by unfold Head.snew; rw [a.x, a.q, a.kn, a.rn]

theorem Alike.score (a : Alike H H') (t : ℕ) : H'.score t = H.score t := by
  unfold Head.score
  rw [a.len, a.x, a.q]
  by_cases ht : t < H.len
  · rw [if_pos ht, if_pos ht]
    refine congrArg (· * sm) (congrArg₂ (· + ·) (Finset.sum_congr rfl fun c hc => ?_) (Finset.sum_congr rfl fun k hk => ?_))
    · have := Finset.mem_range.mp hc
      rw [code_congr (a.row t ht) c this, scale_congr (a.row t ht) (c / 128) (by omega)]
    · rw [rope_congr (a.row t ht) k (Finset.mem_range.mp hk)]
  · rw [if_neg ht, if_neg ht]

theorem Alike.out (a : Alike H H') (hr : H.Real) (c : ℕ) (hc : c < 512) : H'.out c = H.out c := by
  have ht : H'.top = H.top := by unfold Head.top; rw [a.snew]; exact congrArg (max _) (congrArg _ (funext a.score))
  have hs : H'.tot = H.tot := by
    unfold Head.tot; rw [ht, a.snew]
    exact congrArg _ (Finset.sum_congr rfl fun t _ => by rw [a.score])
  have hz (t : ℕ) (h : H.len ≤ t) := past_zero hr h
  unfold Head.out
  rw [ht, hs, a.snew, a.kn]
  refine congrArg (· + _) (Finset.sum_congr rfl fun t _ => ?_)
  rw [a.score]
  by_cases h : t < H.len
  · rw [code_congr (a.row t h) c hc, scale_congr (a.row t h) (c / 128) (by omega)]
  · rw [hz t (by omega), zero_mul, zero_mul]

end Head

/-! ## A point's block -/

/-- The inputs are real where they count, and the lengths fit. -/
structure Fit (a0 : FVec Ideal Cert.ReferenceIdeal.S128x1x16x512 .bf16) (a1 : FVec Ideal Cert.ReferenceIdeal.S128x1x16x64 .bf16) (a2 : FVec Ideal Cert.ReferenceIdeal.S128x1x512 .bf16)
    (a3 : FVec Ideal Cert.ReferenceIdeal.S128x1x64 .bf16) (a4 : Cert.ReferenceIdeal.S128x4096x656.Idx → BitVec 8) (a5 : IVec Cert.ReferenceIdeal.S128 32) : Prop where
  len : ∀ b : Fin 128, (a5 (ix1 b)).toNat ≤ 4096
  x : ∀ (b : Fin 128) (h : Fin 16) (c : Fin 512), IsReal (a0 (ix4 b 0 h c))
  q : ∀ (b : Fin 128) (h : Fin 16) (c : Fin 64), IsReal (a1 (ix4 b 0 h c))
  kn : ∀ (b : Fin 128) (c : Fin 512), IsReal (a2 (ix3 b 0 c))
  rn : ∀ (b : Fin 128) (c : Fin 64), IsReal (a3 (ix3 b 0 c))
  code : ∀ (b : Fin 128) (t : Fin 4096), t.val < (a5 (ix1 b)).toNat → ∀ c : Fin 512, IsReal (refCodes a4 (ix3 b t c))
  scale : ∀ (b : Fin 128) (t : Fin 4096), t.val < (a5 (ix1 b)).toNat → ∀ g : Fin 4, IsReal (refScales a4 (ix3 b t g))
  rope : ∀ (b : Fin 128) (t : Fin 4096), t.val < (a5 (ix1 b)).toNat → ∀ r : Fin 64, IsReal (refRopes a4 (ix3 b t r))

section
variable (a0 : FVec Ideal Cert.ReferenceIdeal.S128x1x16x512 .bf16) (a1 : FVec Ideal Cert.ReferenceIdeal.S128x1x16x64 .bf16) (a2 : FVec Ideal Cert.ReferenceIdeal.S128x1x512 .bf16)
    (a3 : FVec Ideal Cert.ReferenceIdeal.S128x1x64 .bf16) (a4 : Cert.ReferenceIdeal.S128x4096x656.Idx → BitVec 8) (a5 : IVec Cert.ReferenceIdeal.S128 32)

/-- What head `h` of sequence `b` is computed from. -/
def cacheHead (b : Fin 128) (h : Fin 16) : Head :=
  ⟨fun c => a0 (ix4 b 0 h ⟨c % 512, Nat.mod_lt _ (by decide)⟩), fun r => a1 (ix4 b 0 h ⟨r % 64, Nat.mod_lt _ (by decide)⟩), fun c => a2 (ix3 b 0 ⟨c % 512, Nat.mod_lt _ (by decide)⟩),
    fun r => a3 (ix3 b 0 ⟨r % 64, Nat.mod_lt _ (by decide)⟩), cacheRow a4 b, (a5 (ix1 b)).toNat⟩

variable {a0 a1 a2 a3 a4 a5}

theorem Fit.head (F : Fit a0 a1 a2 a3 a4 a5) (b : Fin 128) (h : Fin 16) : (cacheHead a0 a1 a2 a3 a4 a5 b h).Real where
  x c := F.x b h _
  q c := F.q b h _
  kn c := F.kn b _
  rn c := F.rn b _
  code t ht c hc := by
    have := F.len b
    have ht' : t < (a5 (ix1 b)).toNat := ht
    have e := F.code b ⟨t, by omega⟩ ht' ⟨c, hc⟩
    rw [refCodes_apply] at e; exact e
  scale t ht c hc := by
    have := F.len b
    have ht' : t < (a5 (ix1 b)).toNat := ht
    have e := F.scale b ⟨t, by omega⟩ ht' ⟨c, hc⟩
    rw [refScales_apply] at e; exact e
  rope t ht c hc := by
    have := F.len b
    have ht' : t < (a5 (ix1 b)).toNat := ht
    have e := F.rope b ⟨t, by omega⟩ ht' ⟨c, hc⟩
    rw [refRopes_apply] at e; exact e

theorem Fit.ref (F : Fit a0 a1 a2 a3 a4 a5) (b : Fin 128) (h : Fin 16) (c : Fin 512) :
    refOut a0 a1 a2 a3 a5 (refCodes a4) (refScales a4) (refRopes a4) (ix4 b 0 h c) = (cacheHead a0 a1 a2 a3 a4 a5 b h).out c.val :=
  refOut_apply (b := b) (h := h) (c := c) (H := cacheHead a0 a1 a2 a3 a4 a5 b h)
    (hx := fun k => congrArg a0 (congrArg (ix4 b 0 h) (Fin.ext (Nat.mod_eq_of_lt k.isLt).symm)))
    (hq := fun k => congrArg a1 (congrArg (ix4 b 0 h) (Fin.ext (Nat.mod_eq_of_lt k.isLt).symm)))
    (hkn := fun k => congrArg a2 (congrArg (ix3 b 0) (Fin.ext (Nat.mod_eq_of_lt k.isLt).symm)))
    (hrn := fun k => congrArg a3 (congrArg (ix3 b 0) (Fin.ext (Nat.mod_eq_of_lt k.isLt).symm)))
    (hlat := fun t k => refCodes_apply a4 b t k) (hsc := fun t g => refScales_apply a4 b t g) (hrp := fun t k => refRopes_apply a4 b t k)
    (hlen := rfl) (ha := F.len b)

end

set_option maxHeartbeats 2000000 in
open Cert.KernelIdeal Cert.KernelIdeal.Gen in
theorem block_eq (m : (ℓ : Loc nD τ sig) → Buf (Elt Idealize.ShloMosaic.Ideal) ℓ) (c : Dev nD)
    (F : Fit (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)))
    (t : Fin (cfgK m).N) (b : Fin 128) (hb : b.val = t.val) (X : S1x1x16x512.Idx → EReal) (hX : leaves m c t X) (h : Fin 16) (k : Fin 512) :
    X (ix4 0 0 h k) = (cacheHead (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) b h).out k.val := by
  obtain ⟨hb', f, hf, rfl⟩ := hX
  have hw : lenAt (lens m c) t.val = (m ((c.tc : Thread nD τ).loc main_arg5) : S128.Idx → BitVec 32) (ix1 b) := by
    unfold lenAt lens
    rw [V_main_arg5]
    refine congrArg _ (funext fun a => ?_)
    match a with
    | ⟨0, _⟩ => exact Fin.ext (by show t.val % 128 = b.val; omega)
  have hlen := F.len b
  have hlen' : (lenAt (lens m c) t.val : BitVec 32).toNat ≤ 4096 := by rw [hw]; exact hlen
  have a : Head.Alike (cacheHead (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) b h)
      (theHead (arg0Blk m c t) (newBlk m c t) h (fun r => m ((c.tc : Thread nD τ).loc main_arg1) (ix4 b 0 h ⟨r % 64, Nat.mod_lt _ (by decide)⟩))
        (fun r => m ((c.tc : Thread nD τ).loc main_arg3) (ix3 b 0 ⟨r % 64, Nat.mod_lt _ (by decide)⟩)) (lenAt (lens m c) t.val) f (t.val % 2)) := {
    x := funext fun y => arg0Blk_apply m c t b hb h _
    q := rfl
    kn := funext fun y => newBlk_apply m c t b hb _
    rn := rfl
    len := congrArg BitVec.toNat hw
    row := fun y hy z hz => by
      have hy' : y < (m ((c.tc : Thread nD τ).loc main_arg5) (ix1 b) : BitVec 32).toNat := hy
      have hl : lenN (lens m c) t.val = (m ((c.tc : Thread nD τ).loc main_arg5) (ix1 b) : BitVec 32).toNat := congrArg BitVec.toNat hw
      refine (hf _ ?_ ?_).trans ?_
      · show t.val % 2 % 2 = t.val % 2
        omega
      · show y % 4096 < 256 * pieces (lenN (lens m c) t.val)
        rw [hl]; unfold pieces; omega
      · show cache m c _ = cacheRow _ b y z
        unfold cacheRow
        rw [dif_pos ⟨by omega, hz⟩]
        unfold cache
        rw [V_main_arg4]
        refine congrArg _ (funext fun a => ?_)
        match a with
        | ⟨0, _⟩ => exact Fin.ext hb.symm
        | ⟨1, _⟩ => exact Fin.ext (Nat.mod_eq_of_lt (by omega))
        | ⟨2, _⟩ => exact Fin.ext (Nat.mod_eq_of_lt hz) }
  have hr := F.head b h
  rw [outVal_apply (hq := ropeBlk_turned m c t b hb h) (hrn := newRopeBlk_turned m c t b hb) (hwt := weightBlk_weights m c t) (hw := hlen') (c := k)]
  have hc1 : (lenAt (lens m c) t.val : BitVec 32).toNat ≤ 512 * chunks (lenAt (lens m c) t.val : BitVec 32).toNat := by unfold chunks; omega
  have hc2 : 512 * chunks (lenAt (lens m c) t.val : BitVec 32).toNat ≤ 4096 := by unfold chunks; omega
  refine (Head.kout_eq (a.real hr) hc1 hc2 k.val).trans ?_
  exact a.out hr k.val k.isLt

end Cert.Value

end
-- ==== Proof.Value.Numbers.lean ====
/-
  What the precondition `numbers` says of the arguments: the lengths lie between 0 and 4096, and every number the attention uses is
  real.
-/
module

public import proofs.«01_k».proof.Proof.Value.Equal
public import proofs.«01_k».proof.Pre_numbers
public import proofs.«01_k».proof.Proof.Gen.Pre_numbers
public import Idealize.ShloMosaic.Lib.ReduceAll
public import Idealize.ShloMosaic.Lib.StableHlo.Predicate

@[expose] public section

noncomputable section

open Idealize.ShloMosaic Idealize.ShloMosaic.ValueIdx

namespace Cert.Value

/-! ## Comparisons read back -/

/-- A word between 0 and 4096 as a signed number is at most 4096 as a natural. -/
theorem fits_of_compare (w : BitVec 32) (h1 : IntOp.cmpi .sge w 0#32 = 1#1) (h2 : IntOp.cmpi .sle w 4096#32 = 1#1) : w.toNat ≤ 4096 := by
  simp only [IntOp.cmpi] at h1 h2
  have h1 : (0#32).sle w = true := by
    cases e : (0#32).sle w
    · rw [e] at h1; exact absurd h1 (by decide)
    · rfl
  have h2 : w.sle 4096#32 = true := by
    cases e : w.sle 4096#32
    · rw [e] at h2; exact absurd h2 (by decide)
    · rfl
  rw [BitVec.sle_eq_decide, decide_eq_true_eq] at h1 h2
  rw [show (0#32).toInt = 0 from by decide] at h1
  rw [show (4096#32).toInt = 4096 from by decide] at h2
  rw [BitVec.toInt_eq_toNat_cond] at h1 h2
  have := w.isLt
  split at h1 <;> omega

/-- A position below a length is below it as a signed word. -/
theorem live_of_lt (w : BitVec 32) (hw : w.toNat ≤ 4096) (t : ℕ) (ht : t < w.toNat) : IntOp.cmpi .slt (BitVec.ofNat 32 t) w = 1#1 := by
  have e : (BitVec.ofNat 32 t).slt w = true := by
    have ht' : (BitVec.ofNat 32 t).toNat = t := by rw [BitVec.toNat_ofNat]; exact Nat.mod_eq_of_lt (by omega)
    rw [BitVec.slt_eq_decide, decide_eq_true_eq, BitVec.toInt_eq_toNat_cond, BitVec.toInt_eq_toNat_cond, ht']
    split <;> split <;> omega
  show BitVec.ofBool _ = 1#1
  rw [e]; rfl

/-- A conjunction of bits that is 1 has both bits 1. -/
theorem bit_split {a b : BitVec 1} (h : IntOp.andi a b = 1#1) : a = 1#1 ∧ b = 1#1 := by
  have h' : a &&& b = 1#1 := h
  revert a b; decide

theorem vand_split {s : Shape} (x y : IVec s 1) (j : s.Idx) (h : andi x y j = 1#1) : x j = 1#1 ∧ y j = 1#1 :=
  bit_split (a := x j) (b := y j) h

theorem vor_right {s : Shape} (x y : IVec s 1) (j : s.Idx) (h : ori x y j = 1#1) (hx : x j = 0#1) : y j = 1#1 := by
  have h' : x j ||| y j = 1#1 := h
  rw [hx] at h'
  generalize y j = b at h'
  revert b; decide

theorem real_of_compare (x y : EReal) (hy : y = ⊤) (h : Ideal.cmp .olt (max x (-x)) y = 1#1) : IsReal x := by
  subst hy
  have h' : max x (-x) < ⊤ := by
    have : BitVec.ofBool (decide (max x (-x) < ⊤)) = 1#1 := h
    by_contra hn
    rw [decide_eq_false hn] at this
    exact absurd this (by decide)
  rw [max_lt_iff] at h'
  refine IsReal.mk h'.1.ne fun e => ?_
  rw [e] at h'
  exact absurd h'.2 (by simp)

theorem inf_bf16 : Ideal.ofBits .bf16 0x7F80#16 = (⊤ : EReal) := by simp [Ideal.ofBits, Ideal.ieee]
theorem inf_f32 : Ideal.ofBits .f32 0x7F800000#32 = (⊤ : EReal) := by simp [Ideal.ofBits, Ideal.ieee]

/-- A code byte that is not a NaN pattern denotes a real. -/
theorem code_real (v : BitVec 8) (h : IntOp.cmpi .ne (IntOp.andi (v.setWidth 32) 127#32) 127#32 = 1#1) : IsReal (Ideal.ofBits .fp8e4m3 v) := by
  have hn : ¬ ((v.extractLsb' 3 4).toNat = 15 ∧ (v.extractLsb' 0 3).toNat = 7) := by
    revert v; decide
  show IsReal (Ideal.e4m3fn v)
  unfold Ideal.e4m3fn
  simp only
  rw [if_neg hn]
  split
  · exact ⟨_, rfl⟩
  · exact ⟨_, rfl⟩

/-! ## The precondition read back -/

section
variable (a0 : FVec Ideal Cert.Pre_numbers.S128x1x16x512 .bf16) (a1 : FVec Ideal Cert.Pre_numbers.S128x1x16x64 .bf16) (a2 : FVec Ideal Cert.Pre_numbers.S128x1x512 .bf16)
    (a3 : FVec Ideal Cert.Pre_numbers.S128x1x64 .bf16) (a4 : IVec Cert.Pre_numbers.S128x4096x656 8) (a5 : IVec Cert.Pre_numbers.S128 32)

open Cert.Pre_numbers

/-- Which rows count, one bit a row. -/
def counted [Cert.Pre_numbers.Facts] : IVec S128x4096x1 1 :=
  broadcastInDim S128x4096x1 ![0, 1] Facts.bcast_S128x4096_S128x4096x1_0_1 (cmpi .slt
    (broadcastInDim S128x4096 ![0, 1] Facts.bcast_S1x4096_S128x4096_0_1 (broadcastInDim S1x4096 ![1] Facts.bcast_S4096_S1x4096_1 (iotaInDim S4096 32 0)))
    (broadcastInDim S128x4096 ![0, 1] Facts.bcast_S128x1_S128x4096_0_1 (broadcastInDim S128x1 ![0] Facts.bcast_S128_S128x1_0 a5)))

theorem counted_apply [Cert.Pre_numbers.Facts] (b : Fin 128) (t : Fin 4096) (u : Fin 1) :
    counted a5 (ix3 b t u) = IntOp.cmpi .slt (BitVec.ofNat 32 t.val) (a5 (ix1 b)) := by
  unfold counted
  refine (broadcastInDim_apply _ _ _ _ (ix2 b t) (fun d => ?_)).trans ?_
  · match d with
    | ⟨0, _⟩ => rfl
    | ⟨1, _⟩ => rfl
  refine congrArg₂ (IntOp.cmpi .slt) ?_ ?_
  · refine (broadcastInDim_apply _ _ _ _ (ix2 (0 : Fin 1) t) (fun d => ?_)).trans ?_
    · match d with
      | ⟨0, _⟩ => rfl
      | ⟨1, _⟩ => rfl
    refine (broadcastInDim_apply _ _ _ _ (ix1 t) (fun d => ?_)).trans ?_
    · match d with
      | ⟨0, _⟩ => rfl
    rfl
  · refine (broadcastInDim_apply _ _ _ _ (ix2 b (0 : Fin 1)) (fun d => ?_)).trans ?_
    · match d with
      | ⟨0, _⟩ => rfl
      | ⟨1, _⟩ => rfl
    refine (broadcastInDim_apply _ _ _ _ (ix1 b) (fun d => ?_)).trans ?_
    · match d with
      | ⟨0, _⟩ => rfl
    rfl

/-- A row below the length counts, so what is asked of the rows that count holds of it. -/
theorem asked [Cert.Pre_numbers.Facts] {n : ℕ} (hB : S128x4096x1.BroadcastsInDim ⟨3, ![128, 4096, n]⟩ (![0, 1, 2] : Fin 3 → Fin 3)) (y : IVec ⟨3, ![128, 4096, n]⟩ 1)
    (hR : (⟨3, ![128, 4096, n]⟩ : Shape).ReducesTo [1, 2] S128) (init : S_.Idx → BitVec 1) (hu : 0 < S_.numel) (b : Fin 128)
    (e : Host.reduce IntOp.andi (ori (broadcastInDim ⟨3, ![128, 4096, n]⟩ ![0, 1, 2] hB (noti (counted a5))) y) init hR hu (ix1 b) = 1#1)
    (hw : (a5 (ix1 b)).toNat ≤ 4096) (t : Fin 4096) (ht : t.val < (a5 (ix1 b)).toNat) (k : Fin n) : y (ix3 b t k) = 1#1 := by
  have h := Host.reduce_andi_eq_one _ _ hR hu _ e (ix3 b t k) (by
    refine funext fun d => ?_
    match d with
    | ⟨0, _⟩ => exact Fin.ext (Shape.ReducesTo.drop_apply_val hR (ix3 b t k) 0))
  refine vor_right _ _ _ h ?_
  refine (broadcastInDim_apply _ _ _ _ (ix3 b t (0 : Fin 1)) (fun d => ?_)).trans ?_
  · match d with
    | ⟨0, _⟩ => rfl
    | ⟨1, _⟩ => rfl
    | ⟨2, _⟩ => rfl
  show ~~~(counted a5 (ix3 b t 0)) = 0#1
  rw [counted_apply, live_of_lt _ hw _ ht]
  decide

theorem all4 {p q r : ℕ} (y : IVec ⟨4, ![128, p, q, r]⟩ 1) (hR : (⟨4, ![128, p, q, r]⟩ : Shape).ReducesTo [1, 2, 3] S128) (init : S_.Idx → BitVec 1) (hu : 0 < S_.numel) (b : Fin 128)
    (e : Host.reduce IntOp.andi y init hR hu (ix1 b) = 1#1) (i : Fin p) (j : Fin q) (k : Fin r) : y (ix4 b i j k) = 1#1 :=
  Host.reduce_andi_eq_one _ _ hR hu _ e (ix4 b i j k) (by
    refine funext fun d => ?_
    match d with
    | ⟨0, _⟩ => exact Fin.ext (Shape.ReducesTo.drop_apply_val hR (ix4 b i j k) 0))

theorem all3 {p q : ℕ} (y : IVec ⟨3, ![128, p, q]⟩ 1) (hR : (⟨3, ![128, p, q]⟩ : Shape).ReducesTo [1, 2] S128) (init : S_.Idx → BitVec 1) (hu : 0 < S_.numel) (b : Fin 128)
    (e : Host.reduce IntOp.andi y init hR hu (ix1 b) = 1#1) (i : Fin p) (j : Fin q) : y (ix3 b i j) = 1#1 :=
  Host.reduce_andi_eq_one _ _ hR hu _ e (ix3 b i j) (by
    refine funext fun d => ?_
    match d with
    | ⟨0, _⟩ => exact Fin.ext (Shape.ReducesTo.drop_apply_val hR (ix3 b i j) 0))

/-- What the precondition says of one sequence, part by part. -/
structure Parts (b : Fin 128) : Prop where
  lo : IntOp.cmpi .sge (a5 (ix1 b)) 0#32 = 1#1
  hi : IntOp.cmpi .sle (a5 (ix1 b)) 4096#32 = 1#1
  code : ∀ t : Fin 4096, t.val < (a5 (ix1 b)).toNat → ∀ k : Fin 512,
    IntOp.cmpi .ne (IntOp.andi ((a4 (ix3 b t ⟨k.val, by omega⟩)).setWidth 32) 127#32) 127#32 = 1#1
  scale : ∀ t : Fin 4096, t.val < (a5 (ix1 b)).toNat → ∀ g : Fin 4,
    Ideal.cmp .olt (max (refScales a4 (ix3 b t g)) (-(refScales a4 (ix3 b t g)))) (Ideal.ofBits .f32 0x7F800000#32) = 1#1
  rope : ∀ t : Fin 4096, t.val < (a5 (ix1 b)).toNat → ∀ g : Fin 64,
    Ideal.cmp .olt (max (refRopes a4 (ix3 b t g)) (-(refRopes a4 (ix3 b t g)))) (Ideal.ofBits .bf16 0x7F80#16) = 1#1
  x : ∀ (h : Fin 16) (k : Fin 512), Ideal.cmp .olt (max (a0 (ix4 b 0 h k)) (-(a0 (ix4 b 0 h k)))) (Ideal.ofBits .bf16 0x7F80#16) = 1#1
  q : ∀ (h : Fin 16) (k : Fin 64), Ideal.cmp .olt (max (a1 (ix4 b 0 h k)) (-(a1 (ix4 b 0 h k)))) (Ideal.ofBits .bf16 0x7F80#16) = 1#1
  kn : ∀ (k : Fin 512), Ideal.cmp .olt (max (a2 (ix3 b 0 k)) (-(a2 (ix3 b 0 k)))) (Ideal.ofBits .bf16 0x7F80#16) = 1#1
  rn : ∀ (k : Fin 64), Ideal.cmp .olt (max (a3 (ix3 b 0 k)) (-(a3 (ix3 b 0 k)))) (Ideal.ofBits .bf16 0x7F80#16) = 1#1

set_option maxHeartbeats 2000000 in
theorem parts [Cert.Pre_numbers.Facts] (b : Fin 128) (e : Cert.Pre_numbers.fn (F := Ideal) a0 a1 a2 a3 a4 a5 (ix1 b) = 1#1) : Parts a0 a1 a2 a3 a4 a5 b := by
  unfold Cert.Pre_numbers.fn Cert.Pre_numbers.fn_part1 Cert.Pre_numbers.fn_part2 Cert.Pre_numbers.fn_part3 at e
  dsimp only at e
  obtain ⟨e, e9⟩ := vand_split _ _ _ e
  obtain ⟨e, e8⟩ := vand_split _ _ _ e
  obtain ⟨e, e7⟩ := vand_split _ _ _ e
  obtain ⟨e, e6⟩ := vand_split _ _ _ e
  obtain ⟨e, e5⟩ := vand_split _ _ _ e
  obtain ⟨e, e4⟩ := vand_split _ _ _ e
  obtain ⟨e, e3⟩ := vand_split _ _ _ e
  obtain ⟨e1, e2⟩ := vand_split _ _ _ e
  have hw : (a5 (ix1 b)).toNat ≤ 4096 := fits_of_compare _ e1 e2
  exact {
    lo := e1
    hi := e2
    code := fun t ht k => by
      have h := asked a5 _ _ _ _ _ b e3 hw t ht k
      have hs := slice_lanes (α := BitVec 8) a4 Facts.slices_S128x4096x656_S128x4096x512_0_0_0 b t k ⟨k.val, by omega⟩ (Nat.zero_add _).symm
      rw [← hs]
      exact h
    scale := fun t ht g => asked a5 _ _ _ _ _ b e4 hw t ht g
    rope := fun t ht g => asked a5 _ _ _ _ _ b e5 hw t ht g
    x := fun h k => all4 _ _ _ _ b e6 0 h k
    q := fun h k => all4 _ _ _ _ b e7 0 h k
    kn := fun k => all3 _ _ _ _ b e8 0 k
    rn := fun k => all3 _ _ _ _ b e9 0 k }

theorem Parts.len {b : Fin 128} (p : Parts a0 a1 a2 a3 a4 a5 b) : (a5 (ix1 b)).toNat ≤ 4096 := fits_of_compare _ p.lo p.hi

/-- The precondition makes every number that counts real. -/
theorem fit [Cert.Pre_numbers.Facts] (e : ∀ b : Fin 128, Cert.Pre_numbers.fn (F := Ideal) a0 a1 a2 a3 a4 a5 (ix1 b) = 1#1) : Fit a0 a1 a2 a3 a4 a5 :=
  have P b := parts a0 a1 a2 a3 a4 a5 b (e b)
  { len := fun b => (P b).len
    x := fun b h c => real_of_compare _ _ inf_bf16 ((P b).x h c)
    q := fun b h c => real_of_compare _ _ inf_bf16 ((P b).q h c)
    kn := fun b c => real_of_compare _ _ inf_bf16 ((P b).kn c)
    rn := fun b c => real_of_compare _ _ inf_bf16 ((P b).rn c)
    code := fun b t ht c => by
      have h := code_real _ ((P b).code t ht c)
      rw [refCodes_apply]
      unfold codeOf
      rw [← cacheRow_eq a4 b t ⟨c.val, by omega⟩] at h
      exact h
    scale := fun b t ht g => real_of_compare _ _ inf_f32 ((P b).scale t ht g)
    rope := fun b t ht g => real_of_compare _ _ inf_bf16 ((P b).rope t ht g) }

end

end Cert.Value

end
-- ==== Proof.Value.Both.lean ====
/-
  Both runs, read over the extended reals, end with the same result: each of them in terms of the launched arrays.
-/
module

public import proofs.«01_k».proof.Proof.Value.Numbers
public import proofs.«01_k».proof.Proof.KernelIdeal.Frame
public import proofs.«01_k».proof.Proof.Gen.ReferenceIdeal.Frame
public import Idealize.ShloMosaic.Lib.Claim

@[expose] public section

noncomputable section

open Idealize.ShloMosaic Idealize.ShloMosaic.TcCoe Idealize.SL.Sem Idealize.ShloMosaic.ValueIdx

namespace Cert.Value

/-- The result both programs end with. -/
def attention (a0 : FVec Ideal Cert.ReferenceIdeal.S128x1x16x512 .bf16) (a1 : FVec Ideal Cert.ReferenceIdeal.S128x1x16x64 .bf16) (a2 : FVec Ideal Cert.ReferenceIdeal.S128x1x512 .bf16)
    (a3 : FVec Ideal Cert.ReferenceIdeal.S128x1x64 .bf16) (a4 : Cert.ReferenceIdeal.S128x4096x656.Idx → BitVec 8) (a5 : IVec Cert.ReferenceIdeal.S128 32) : Cert.ReferenceIdeal.S128x1x16x512.Idx → EReal :=
  refOut a0 a1 a2 a3 a5 (refCodes a4) (refScales a4) (refRopes a4)

section
open Cert.KernelIdeal Cert.KernelIdeal.Gen
variable (m : (ℓ : Loc nD τ sig) → Buf (Elt Idealize.ShloMosaic.Ideal) ℓ) (ρ : Dev nD → PrngReg)

/-- The arrays launched on a device are real where they count, and the lengths fit. -/
abbrev FitAt (c : Dev nD) : Prop :=
  Fit (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

abbrev attentionAt (c : Dev nD) : S128x1x16x512.Idx → EReal :=
  attention (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

theorem fits (hF : ∀ c, FitAt m c) (c : Dev nD) (b : ℕ) : lenN (lens m c) b ≤ 4096 := by
  have h := (hF c).len ⟨b % 128, Nat.mod_lt _ (by decide)⟩
  unfold lenN lenAt lens
  rw [V_main_arg5]
  refine le_of_eq_of_le (congrArg (fun i => BitVec.toNat ((m ((c.tc : Thread nD τ).loc main_arg5) : S128.Idx → BitVec 32) i)) (funext fun a => ?_)) h
  match a with
  | ⟨0, _⟩ => rfl

/-- The array the kernel leaves is the reference's. -/
theorem array_eq (c : Dev nD) (F : FitAt m c) (G : (w : Fin (cfgK m).W) → Buf (Elt Idealize.ShloMosaic.Ideal) (((cfgK m).win w).arr.view.loc (c.tc : Thread nD τ)))
    (hG : ∀ w, (rdat m c).ArrAt w (cfgK m).N (G w)) : (G 5 : S128x1x16x512.Idx → EReal) = attentionAt m c := by
  refine funext fun (i : S128x1x16x512.Idx) => ?_
  obtain ⟨b, z, h, k, rfl⟩ : ∃ (b : Fin 128) (z : Fin 1) (h : Fin 16) (k : Fin 512), i = ix4 b z h k := ⟨i 0, i 1, i 2, i 3, eq_ix4 i⟩
  obtain rfl : z = 0 := Subsingleton.elim _ _
  obtain ⟨X, hX, e⟩ := final_block m c G hG ⟨b.val, b.isLt⟩ b rfl
  refine (e h k).trans ((block_eq m c F ⟨b.val, b.isLt⟩ b rfl X hX h k).trans ?_)
  exact (Fit.ref F b h k).symm

theorem kernel_run (hF : ∀ c, FitAt m c) :
    θ_run (defs (F := Idealize.ShloMosaic.Ideal)) (onTc (τ := τ) (main (F := Idealize.ShloMosaic.Ideal))) ⟨m, fun _ => 0, ρ⟩ (fun r => ∀ c : Dev nD,
      r.2.mem ((c.tc : Thread nD τ).loc main_v83) = attentionAt m c) := by
  refine (θ_run _ _ _).mono (fun r h c => ?_) (run_main m ρ (fits m hF))
  exact array_eq m c (hF c) (fun w => r.2.mem (((cfgK m).win w).arr.view.loc (c.tc : Thread nD τ))) (h.1 c).1

end

section
open Cert.ReferenceIdeal Cert.ReferenceIdeal.Gen
variable (m : (ℓ : Loc nD τ sig) → Buf (Elt Idealize.ShloMosaic.Ideal) ℓ) (ρ : Dev nD → PrngReg)

theorem reference_run :
    θ_run (defs (F := Idealize.ShloMosaic.Ideal)) (onTc (τ := τ) (main (F := Idealize.ShloMosaic.Ideal))) ⟨m, fun _ => 0, ρ⟩ (fun r => ∀ c : Dev nD,
      r.2.mem ((c.tc : Thread nD τ).loc main_v58)
        = attention (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))) :=
  (θ_run _ _ _).mono (fun r h c => ((h c).2 main_v58 (Pipeline.mem_restRefs_of main_v58 (by decide) (by decide))).trans (ref_result m c)) (Cert.ReferenceIdeal.Gen.run_main m ρ)

end

end Cert.Value

end
-- ==== Proof.lean ====
/-
  The proof of `Cert.Claim`: the kernel, and the kernel read over the extended reals, run and leave every argument as it
  was and every semaphore at zero when each cache length lies between 0 and 4096; so does the reference; and over the
  extended reals the two end with the same result when every number the attention uses is real. The run itself is in
  Proof/Kernel/ (and its twin Proof/KernelIdeal/), the reference's in the generated Gen/ReferenceIdeal/Frame, and what
  the two runs compute in Proof/Value/.
-/
module

public import proofs.«01_k».proof.Defs
public import proofs.«01_k».proof.Proof.Kernel.Frame
public import proofs.«01_k».proof.Proof.KernelIdeal.Frame
public import proofs.«01_k».proof.Proof.Gen.ReferenceIdeal.Frame
public import proofs.«01_k».proof.Proof.Gen.Pre_lengths_fit
public import proofs.«01_k».proof.Proof.Gen.Pre_numbers
public import proofs.«01_k».proof.Proof.Value.Both
public import Idealize.ShloMosaic.Lib.StableHlo.Predicate

@[expose] public section

noncomputable section

namespace Cert.Proof

open Idealize.ShloMosaic Idealize.ShloMosaic.TcCoe Idealize.SL.Sem

theorem fits_Kernel (m : (ℓ : Loc Cert.Kernel.nD Cert.Kernel.τ Cert.Kernel.sig) → Buf (Elt Bits) ℓ)
    (h : @Cert.Pre_Kernel Cert.Pre_lengths_fit.Gen.facts m) (c b) : Cert.Kernel.lenN (Cert.Kernel.lens m c) b ≤ 4096 := by
  have e := congrFun (h c) (fun (a : Fin 1) => match a with | 0 => (⟨b % 128, Nat.mod_lt _ (by decide)⟩ : Fin 128))
  unfold Cert.Kernel.lenN Cert.Kernel.lenAt Cert.Kernel.lens
  rw [Cert.Kernel.V_main_arg5]
  exact (Cert.Value.bit_split e).elim (Cert.Value.fits_of_compare _)

theorem fits_KernelIdeal (m : (ℓ : Loc Cert.KernelIdeal.nD Cert.KernelIdeal.τ Cert.KernelIdeal.sig) → Buf (Elt Ideal) ℓ)
    (h : @Cert.Pre_KernelIdeal Cert.Pre_lengths_fit.Gen.facts m) (c b) : Cert.KernelIdeal.lenN (Cert.KernelIdeal.lens m c) b ≤ 4096 := by
  have e := congrFun (h c) (fun (a : Fin 1) => match a with | 0 => (⟨b % 128, Nat.mod_lt _ (by decide)⟩ : Fin 128))
  unfold Cert.KernelIdeal.lenN Cert.KernelIdeal.lenAt Cert.KernelIdeal.lens
  rw [Cert.KernelIdeal.V_main_arg5]
  exact (Cert.Value.bit_split e).elim (Cert.Value.fits_of_compare _)

/-- The precondition `numbers`, device by device. -/
theorem fit_KernelIdeal (m : (ℓ : Loc Cert.KernelIdeal.nD Cert.KernelIdeal.τ Cert.KernelIdeal.sig) → Buf (Elt Ideal) ℓ)
    (h : @Cert.Pre_KernelIdeal_numbers Cert.Pre_numbers.Gen.facts m) (c : Dev Cert.KernelIdeal.nD) : Cert.Value.FitAt m c :=
  letI := Cert.Pre_numbers.Gen.facts
  Cert.Value.fit _ _ _ _ _ _ fun b => congrFun (h c) (ValueIdx.ix1 b)

set_option maxHeartbeats 2000000 in
theorem algebraic : @Cert.algebraic_KernelIdeal_ReferenceIdeal_pre_numbers Cert.KernelIdeal.Gen.facts Cert.ReferenceIdeal.Gen.facts Cert.Pre_numbers.Gen.facts := by
  intro m g m' g' hp he
  have hF := fit_KernelIdeal m hp
  refine ⟨fun c => Cert.Value.attentionAt m c, ?_, ?_⟩
  · exact (θ_run _ _ _).mono (fun r h c => ⟨h.1 c, h.2.1 c⟩) (θ_run_and (Cert.Value.kernel_run m g hF) (Cert.KernelIdeal.frame m g (Cert.Value.fits m hF)))
  · refine (θ_run _ _ _).mono (fun r h c => ⟨(h.1 c).trans ?_, h.2.1 c⟩) (θ_run_and (Cert.Value.reference_run m' g') (Cert.ReferenceIdeal.Gen.frame m' g'))
    obtain ⟨e0, e1, e2, e3, e4, e5⟩ := he c
    rw [e0, e1, e2, e3, e4, e5]

set_option maxHeartbeats 2000000 in
theorem claim : Cert.Claim :=
  ⟨Cert.Kernel.Gen.facts, Cert.KernelIdeal.Gen.facts, Cert.ReferenceIdeal.Gen.facts, Cert.Pre_lengths_fit.Gen.facts, Cert.Pre_numbers.Gen.facts,
    fun m g h => Cert.Kernel.frame m g (fits_Kernel m h),
    fun m g h => Cert.KernelIdeal.frame m g (fits_KernelIdeal m h),
    fun m g h => Cert.KernelIdeal.frame m g (Cert.Value.fits m (fit_KernelIdeal m h)),
    fun m g _ => Cert.ReferenceIdeal.Gen.frame m g,
    fun m g _ => Cert.ReferenceIdeal.Gen.frame m g,
    trivial,
    algebraic⟩

end Cert.Proof

end
